-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gate [hPre_finite_gate : Cert.Pre_finite_gate.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gate [hPre_finite_gate : Cert.Pre_finite_gate.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Kernel27Ideal_finite_dqkv [hPre_finite_dqkv : Cert.Pre_finite_dqkv.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_finite_dqkv.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3))) = (fun _ => 1#1)

def Pre_Reference27Ideal (m : (ℓ : Loc Cert.Reference27Ideal.nD Cert.Reference27Ideal.τ Cert.Reference27Ideal.sig) → Buf (Elt Ideal) ℓ) : Prop :=
  True

def Pre_Reference27Ideal_finite_dqkv [hPre_finite_dqkv : Cert.Pre_finite_dqkv.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_finite_dqkv.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_gate [hKernel2Ideal : Cert.Kernel2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gate m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_gate [hReference2Ideal : Cert.Reference2Ideal.Facts] [hPre_finite_gate : Cert.Pre_finite_gate.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gate m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Kernel27Ideal_pre_finite_dqkv [hKernel27Ideal : Cert.Kernel27Ideal.Facts] [hPre_finite_dqkv : Cert.Pre_finite_dqkv.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal_finite_dqkv m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Reference27Ideal_pre_finite_dqkv [hReference27Ideal : Cert.Reference27Ideal.Facts] [hPre_finite_dqkv : Cert.Pre_finite_dqkv.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_finite_dqkv m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def preserves_Kernel_KernelIdeal : Prop :=
  IdealRules.named_const.Statement Cert.KernelIdeal.κ "dead" .f32 0xC2D20000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_gate [hKernel2Ideal : Cert.Kernel2Ideal.Facts] [hReference2Ideal : Cert.Reference2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gate m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v16) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_v11) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_v16) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_v10) = v1 c
          ∧ r.2.mem ((c.tc : Thread Cert.Reference21Ideal.nD Cert.Reference21Ideal.τ).loc Cert.Reference21Ideal.main_v23) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_v10) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v34) = v0 c
          ∧ r.2.mem ((c.tc : Thread Cert.Reference25Ideal.nD Cert.Reference25Ideal.τ).loc Cert.Reference25Ideal.main_v17) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v13) = v0 c
          ∧ r.2.mem ((c.tc : Thread Cert.Reference26Ideal.nD Cert.Reference26Ideal.τ).loc Cert.Reference26Ideal.main_v14) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal_pre_finite_dqkv [hKernel27Ideal : Cert.Kernel27Ideal.Facts] [hReference27Ideal : Cert.Reference27Ideal.Facts] [hPre_finite_dqkv : Cert.Pre_finite_dqkv.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal_finite_dqkv m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v86) = v0 c
          ∧ r.2.mem ((c.tc : Thread Cert.Reference27Ideal.nD Cert.Reference27Ideal.τ).loc Cert.Reference27Ideal.main_v79) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts) (hPre_finite_gate : Cert.Pre_finite_gate.Facts) (hPre_finite_dqkv : Cert.Pre_finite_dqkv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_gate (hKernel2Ideal := hKernel2Ideal) (hPre_finite_gate := hPre_finite_gate)
    ∧ quiescent_Reference2Ideal (hReference2Ideal := hReference2Ideal)
    ∧ quiescent_Reference2Ideal_pre_finite_gate (hReference2Ideal := hReference2Ideal) (hPre_finite_gate := hPre_finite_gate)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Kernel27Ideal_pre_finite_dqkv (hKernel27Ideal := hKernel27Ideal) (hPre_finite_dqkv := hPre_finite_dqkv)
    ∧ quiescent_Reference27Ideal (hReference27Ideal := hReference27Ideal)
    ∧ quiescent_Reference27Ideal_pre_finite_dqkv (hReference27Ideal := hReference27Ideal) (hPre_finite_dqkv := hPre_finite_dqkv)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_gate (hKernel2Ideal := hKernel2Ideal) (hReference2Ideal := hReference2Ideal) (hPre_finite_gate := hPre_finite_gate)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal_pre_finite_dqkv (hKernel27Ideal := hKernel27Ideal) (hReference27Ideal := hReference27Ideal) (hPre_finite_dqkv := hPre_finite_dqkv)
-- ==== Pre_finite.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .bf16) (main_arg1 : FVec F S4096x1024 .bf16) (main_arg2 : FVec F S4096x1024 .bf16) (main_arg3 : FVec F S4096x1024 .bf16) : IVec S4096x1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S4096x1024 .bf16 := Host.absf main_arg1
  let main_cst_0 : FVec F S_ .bf16 := constant S_ .bf16 0x7F80#16
  let main_v4 : FVec F S4096x1024 .bf16 := broadcastInDim S4096x1024 ![] bcast_S_S4096x1024 main_cst_0
  let main_v5 : IVec S4096x1024 1 := cmpf .olt main_v3 main_v4
  let main_v6 : IVec S4096x1024 1 := andi main_v2 main_v5
  let main_v7 : FVec F S4096x1024 .bf16 := Host.absf main_arg2
  let main_cst_1 : FVec F S_ .bf16 := constant S_ .bf16 0x7F80#16
  let main_v8 : FVec F S4096x1024 .bf16 := broadcastInDim S4096x1024 ![] bcast_S_S4096x1024 main_cst_1
  let main_v9 : IVec S4096x1024 1 := cmpf .olt main_v7 main_v8
  let main_v10 : IVec S4096x1024 1 := andi main_v6 main_v9
  let main_v11 : FVec F S4096x1024 .bf16 := Host.absf main_arg3
  let main_cst_2 : FVec F S_ .bf16 := constant S_ .bf16 0x7F80#16
  let main_v12 : FVec F S4096x1024 .bf16 := broadcastInDim S4096x1024 ![] bcast_S_S4096x1024 main_cst_2
  let main_v13 : IVec S4096x1024 1 := cmpf .olt main_v11 main_v12
  let main_v14 : IVec S4096x1024 1 := andi main_v10 main_v13
  main_v14
-- ==== Pre_finite_dqkv.lean ====
abbrev S4096x4096 : Shape := ⟨2, ![4096, 4096]⟩
abbrev S4x3072 : Shape := ⟨2, ![4, 3072]⟩
abbrev S3x4096x1024 : Shape := ⟨3, ![3, 4096, 1024]⟩
abbrev S_ : Shape := ⟨0, ![]⟩

class Facts : Prop where
  bcast_S_S3x4096x1024 : S_.BroadcastsInDim S3x4096x1024 (![] : Fin 0 → Fin S3x4096x1024.rank)
  reducesTo_S3x4096x1024_S_d0_1_2 : S3x4096x1024.ReducesTo [0, 1, 2] S_
  h_S_ : 0 < S_.numel

variable [Facts]

def fn {F : FTy → Type} [FloatOps F] (main_arg0 : FVec F S4096x4096 .bf16) (main_arg1 : FVec F S4x3072 .f32) (main_arg2 : FVec F S3x4096x1024 .f32) (main_arg3 : FVec F S4096x4096 .bf16) : IVec S_ 1 :=
  let main_v0 : FVec F S3x4096x1024 .f32 := Host.absf main_arg2
  let main_cst : FVec F S_ .f32 := constant S_ .f32 0x7F800000#32
  let main_v1 : FVec F S3x4096x1024 .f32 := broadcastInDim S3x4096x1024 ![] bcast_S_S3x4096x1024 main_cst
  let main_v2 : IVec S3x4096x1024 1 := cmpf .olt main_v0 main_v1
  let main_c : IVec S_ 1 := constantI S_ 1 1#1
  let main_v3 : IVec S_ 1 := (fun x v => Host.reduce IntOp.andi x v reducesTo_S3x4096x1024_S_d0_1_2 h_S_) main_v2 main_c
  main_v3
-- ==== Pre_finite_gate.lean ====
abbrev S4096x1024 : Shape := ⟨2, ![4096, 1024]⟩
abbrev S2816x1024 : Shape := ⟨2, ![2816, 1024]⟩
abbrev S4096x5632 : Shape := ⟨2, ![4096, 5632]⟩
abbrev S_ : Shape := ⟨0, ![]⟩
abbrev S4096x2816 : Shape := ⟨2, ![4096, 2816]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  slices_S4096x5632_S4096x2816_0_2816 : S4096x5632.Slices ![0, 2816] S4096x2816
  bcast_S_S4096x2816 : S_.BroadcastsInDim S4096x2816 (![] : Fin 0 → Fin S4096x2816.rank)
  reducesTo_S4096x2816_S_d0_1 : S4096x2816.ReducesTo [0, 1] S_

variable [Facts]

def fn {F : FTy → Type} [FloatOps F] (main_arg0 : FVec F S4096x1024 .f32) (main_arg1 : FVec F S2816x1024 .bf16) (main_arg2 : FVec F S4096x5632 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2816x1024 .bf16 := Host.absf main_arg1
  let main_cst_0 : FVec F S_ .bf16 := constant S_ .bf16 0x7F80#16
  let main_v5 : FVec F S2816x1024 .bf16 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S4096x2816 .bf16 := (extractStridedSlice S4096x2816 ![0, 2816] · slices_S4096x5632_S4096x2816_0_2816) main_arg2
  let main_v10 : FVec F S4096x2816 .bf16 := Host.absf main_v9
  let main_cst_2 : FVec F S_ .bf16 := constant S_ .bf16 0x7F80#16
  let main_v11 : FVec F S4096x2816 .bf16 := broadcastInDim S4096x2816 ![] bcast_S_S4096x2816 main_cst_2
  let main_v12 : IVec S4096x2816 1 := cmpf .olt main_v10 main_v11
  let main_c_3 : IVec S_ 1 := constantI S_ 1 1#1
  let main_v13 : IVec S_ 1 := (fun x v => Host.reduce IntOp.andi x v reducesTo_S4096x2816_S_d0_1 h_S_) main_v12 main_c_3
  let main_v14 : IVec S_ 1 := andi main_v8 main_v13
  main_v14
-- ==== Kernel.lean ====
abbrev S4096x1024 : Shape := ⟨2, ![4096, 1024]⟩
abbrev S256x256 : Shape := ⟨2, ![256, 256]⟩
abbrev S4096x256 : Shape := ⟨2, ![4096, 256]⟩
abbrev S2x16x256x256 : Shape := ⟨4, ![2, 16, 256, 256]⟩
abbrev S256x128 : Shape := ⟨2, ![256, 128]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1x1x256x256 : Shape := ⟨4, ![1, 1, 256, 256]⟩
abbrev S256 : Shape := ⟨1, ![256]⟩

abbrev nBuf : Space → Nat
  | .hbm => 7
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | .local _ .vmem, ⟨8, _⟩ => ⟨S256x256, .f32⟩
  | .local _ .vmem, ⟨9, _⟩ => ⟨S256x256, .f32⟩
  | .local _ .vmem, ⟨10, _⟩ => ⟨S4096x256, .f32⟩
  | .local _ .vmem, ⟨11, _⟩ => ⟨S4096x256, .f32⟩
  | .local _ .vmem, ⟨12, _⟩ => ⟨S4096x256, .f32⟩
  | .local _ .vmem, ⟨13, _⟩ => ⟨S4096x256, .f32⟩
  | .local _ .vmem, ⟨14, _⟩ => ⟨S2x16x256x256, .f32⟩
  | .local _ .vmem, ⟨15, _⟩ => ⟨S2x16x256x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def k0_mult1 (i : grid0.Coords) (arg11 : BitVec 32) : BitVec 32 :=
  let arg1 : BitVec 32 := BitVec.ofNat 32 (i 1).val
  let v36 : BitVec 32 := Scalar.subi arg1 arg11
  let c256_i32 : BitVec 32 := 256#32
  let v37 : BitVec 32 := Scalar.muli v36 c256_i32
  v37

def k0_off1 (i : grid0.Coords) (arg11 : BitVec 32) : Fin 2 → Nat :=
  let arg1 : BitVec 32 := BitVec.ofNat 32 (i 1).val
  let v36 : BitVec 32 := Scalar.subi arg1 arg11
  let c256_i32 : BitVec 32 := 256#32
  let v37 : BitVec 32 := Scalar.muli v36 c256_i32
  let v38 : BitVec 32 := v37
  let v39 : Index := Scalar.indexCast v38
  let c0_21 : Index := 0#32
  ![v39.toNat, 0]
def k0_off2 (i : grid0.Coords) (arg11 : BitVec 32) : Fin 2 → Nat :=
  let arg1 : BitVec 32 := BitVec.ofNat 32 (i 1).val
  let v36 : BitVec 32 := Scalar.subi arg1 arg11
  let c256_i32 : BitVec 32 := 256#32
  let v37 : BitVec 32 := Scalar.muli v36 c256_i32
  let v38 : BitVec 32 := v37
  let v41 : Index := Scalar.indexCast v38
  let c128_22 : Index := 128#32
  ![v41.toNat, 128]
def k0_off3 (i : grid0.Coords) (arg11 : BitVec 32) : Fin 4 → Nat :=
  let c0_47 : Index := 0#32
  let arg1 : BitVec 32 := BitVec.ofNat 32 (i 1).val
  let v36 : BitVec 32 := Scalar.subi arg1 arg11
  let v118 : Index := Scalar.indexCast v36
  let c0_48 : Index := 0#32
  let c0_49 : Index := 0#32
  ![0, v118.toNat, 0, 0]
def k0_off4 (i : grid0.Coords) (arg11 : BitVec 32) : Fin 4 → Nat :=
  let c1 : Index := 1#32
  let arg1 : BitVec 32 := BitVec.ofNat 32 (i 1).val
  let v36 : BitVec 32 := Scalar.subi arg1 arg11
  let v132 : Index := Scalar.indexCast v36
  let c0_55 : Index := 0#32
  let c0_56 : Index := 0#32
  ![1, v132.toNat, 0, 0]

def k0_chk1 (i : grid0.Coords) (arg11 : BitVec 32) : Prop :=
  (256 ∣ (k0_mult1 i arg11).toNat) ∧
  (∀ a, (k0_off1 i arg11) a + S256x128.size a ≤ S4096x256.size a) ∧
  (∀ a, (k0_off2 i arg11) a + S256x128.size a ≤ S4096x256.size a) ∧
  (∀ a, (k0_off3 i arg11) a + S1x1x256x256.size a ≤ S2x16x256x256.size a) ∧
  (∀ a, (k0_off4 i arg11) a + S1x1x256x256.size a ≤ S2x16x256x256.size a)
theorem k0_mult1_dvd : ∀ (i : grid0.Coords) (arg11 : BitVec 32) (k0_hw1 : k0_chk1 i arg11), 256 ∣ (k0_mult1 i arg11).toNat := fun i arg11 k0_hw1 => k0_hw1.1
theorem k0_off1_inb : ∀ (i : grid0.Coords) (arg11 : BitVec 32) (k0_hw1 : k0_chk1 i arg11), ∀ a, (k0_off1 i arg11) a + S256x128.size a ≤ S4096x256.size a := fun i arg11 k0_hw1 => k0_hw1.2.1
theorem k0_off2_inb : ∀ (i : grid0.Coords) (arg11 : BitVec 32) (k0_hw1 : k0_chk1 i arg11), ∀ a, (k0_off2 i arg11) a + S256x128.size a ≤ S4096x256.size a := fun i arg11 k0_hw1 => k0_hw1.2.2.1
theorem k0_off3_inb : ∀ (i : grid0.Coords) (arg11 : BitVec 32) (k0_hw1 : k0_chk1 i arg11), ∀ a, (k0_off3 i arg11) a + S1x1x256x256.size a ≤ S2x16x256x256.size a := fun i arg11 k0_hw1 => k0_hw1.2.2.2.1
theorem k0_off4_inb : ∀ (i : grid0.Coords) (arg11 : BitVec 32) (k0_hw1 : k0_chk1 i arg11), ∀ a, (k0_off4 i arg11) a + S1x1x256x256.size a ≤ S2x16x256x256.size a := fun i arg11 k0_hw1 => k0_hw1.2.2.2.2

@[reducible] def k0_t1_loop (i : grid0.Coords) (v19_0 : BitVec 32) : Scf.Loop 32 :=
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_9 : BitVec 32 := 1#32
  let v22 : BitVec 32 := Scalar.addi arg1 c1_i32_9
  let v27 : BitVec 32 := Scalar.subi v22 v21
  let c1_i32_14 : BitVec 32 := 1#32
  let v29 : BitVec 32 := Scalar.divsi v27 c1_i32_14
  let v30 : BitVec 32 := Scalar.muli v29 c1_i32_14
  let v31 : BitVec 32 := Scalar.addi v21 v30
  let c1_i32_15 : BitVec 32 := 1#32
  ⟨v21, v31, c1_i32_15⟩

def k0_mult2 (i : grid0.Coords) (v19_0 : BitVec 32) (k0_t1 : Fin (k0_t1_loop i v19_0).trips) : BitVec 32 :=
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_15 : BitVec 32 := 1#32
  let arg11 : BitVec 32 := Scf.iv v21 c1_i32_15 k0_t1
  let c256_i32 : BitVec 32 := 256#32
  let v36 : BitVec 32 := Scalar.muli arg11 c256_i32
  v36
def k0_off5 (i : grid0.Coords) (v19_0 : BitVec 32) (k0_t1 : Fin (k0_t1_loop i v19_0).trips) : Fin 2 → Nat :=
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_15 : BitVec 32 := 1#32
  let arg11 : BitVec 32 := Scf.iv v21 c1_i32_15 k0_t1
  let c256_i32 : BitVec 32 := 256#32
  let v36 : BitVec 32 := Scalar.muli arg11 c256_i32
  let v37 : BitVec 32 := v36
  let v47 : Index := Scalar.indexCast v37
  let c0_23 : Index := 0#32
  ![v47.toNat, 0]
def k0_off6 (i : grid0.Coords) (v19_0 : BitVec 32) (k0_t1 : Fin (k0_t1_loop i v19_0).trips) : Fin 2 → Nat :=
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_15 : BitVec 32 := 1#32
  let arg11 : BitVec 32 := Scf.iv v21 c1_i32_15 k0_t1
  let c256_i32 : BitVec 32 := 256#32
  let v36 : BitVec 32 := Scalar.muli arg11 c256_i32
  let v37 : BitVec 32 := v36
  let v49 : Index := Scalar.indexCast v37
  let c128_24 : Index := 128#32
  ![v49.toNat, 128]
def k0_off7 (i : grid0.Coords) (v19_0 : BitVec 32) (k0_t1 : Fin (k0_t1_loop i v19_0).trips) : Fin 4 → Nat :=
  let c0_25 : Index := 0#32
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_15 : BitVec 32 := 1#32
  let arg11 : BitVec 32 := Scf.iv v21 c1_i32_15 k0_t1
  let v51 : Index := Scalar.indexCast arg11
  let c0_26 : Index := 0#32
  let c0_27 : Index := 0#32
  ![0, v51.toNat, 0, 0]
def k0_off8 (i : grid0.Coords) (v19_0 : BitVec 32) (k0_t1 : Fin (k0_t1_loop i v19_0).trips) : Fin 4 → Nat :=
  let c1 : Index := 1#32
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_15 : BitVec 32 := 1#32
  let arg11 : BitVec 32 := Scf.iv v21 c1_i32_15 k0_t1
  let v54 : Index := Scalar.indexCast arg11
  let c0_28 : Index := 0#32
  let c0_29 : Index := 0#32
  ![1, v54.toNat, 0, 0]
@[reducible] def k0_t2_loop (i : grid0.Coords) (v19_0 : BitVec 32) : Scf.Loop 32 :=
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_9 : BitVec 32 := 1#32
  let v22 : BitVec 32 := Scalar.addi arg1 c1_i32_9
  let v27 : BitVec 32 := Scalar.subi v22 v21
  let c1_i32_14 : BitVec 32 := 1#32
  let v29 : BitVec 32 := Scalar.divsi v27 c1_i32_14
  let v30 : BitVec 32 := Scalar.muli v29 c1_i32_14
  let v31 : BitVec 32 := Scalar.addi v21 v30
  let v28 : BitVec 32 := Scalar.addi v21 v27
  let c1_i32_16 : BitVec 32 := 1#32
  ⟨v31, v28, c1_i32_16⟩
def k0_mult3 (i : grid0.Coords) (v19_0 : BitVec 32) (k0_t2 : Fin (k0_t2_loop i v19_0).trips) : BitVec 32 :=
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_9 : BitVec 32 := 1#32
  let v22 : BitVec 32 := Scalar.addi arg1 c1_i32_9
  let v27 : BitVec 32 := Scalar.subi v22 v21
  let c1_i32_14 : BitVec 32 := 1#32
  let v29 : BitVec 32 := Scalar.divsi v27 c1_i32_14
  let v30 : BitVec 32 := Scalar.muli v29 c1_i32_14
  let v31 : BitVec 32 := Scalar.addi v21 v30
  let c1_i32_16 : BitVec 32 := 1#32
  let arg11 : BitVec 32 := Scf.iv v31 c1_i32_16 k0_t2
  let c256_i32 : BitVec 32 := 256#32
  let v36 : BitVec 32 := Scalar.muli arg11 c256_i32
  v36
def k0_off9 (i : grid0.Coords) (v19_0 : BitVec 32) (k0_t2 : Fin (k0_t2_loop i v19_0).trips) : Fin 2 → Nat :=
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_9 : BitVec 32 := 1#32
  let v22 : BitVec 32 := Scalar.addi arg1 c1_i32_9
  let v27 : BitVec 32 := Scalar.subi v22 v21
  let c1_i32_14 : BitVec 32 := 1#32
  let v29 : BitVec 32 := Scalar.divsi v27 c1_i32_14
  let v30 : BitVec 32 := Scalar.muli v29 c1_i32_14
  let v31 : BitVec 32 := Scalar.addi v21 v30
  let c1_i32_16 : BitVec 32 := 1#32
  let arg11 : BitVec 32 := Scf.iv v31 c1_i32_16 k0_t2
  let c256_i32 : BitVec 32 := 256#32
  let v36 : BitVec 32 := Scalar.muli arg11 c256_i32
  let v37 : BitVec 32 := v36
  let v47 : Index := Scalar.indexCast v37
  let c0_23 : Index := 0#32
  ![v47.toNat, 0]
def k0_off10 (i : grid0.Coords) (v19_0 : BitVec 32) (k0_t2 : Fin (k0_t2_loop i v19_0).trips) : Fin 2 → Nat :=
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_9 : BitVec 32 := 1#32
  let v22 : BitVec 32 := Scalar.addi arg1 c1_i32_9
  let v27 : BitVec 32 := Scalar.subi v22 v21
  let c1_i32_14 : BitVec 32 := 1#32
  let v29 : BitVec 32 := Scalar.divsi v27 c1_i32_14
  let v30 : BitVec 32 := Scalar.muli v29 c1_i32_14
  let v31 : BitVec 32 := Scalar.addi v21 v30
  let c1_i32_16 : BitVec 32 := 1#32
  let arg11 : BitVec 32 := Scf.iv v31 c1_i32_16 k0_t2
  let c256_i32 : BitVec 32 := 256#32
  let v36 : BitVec 32 := Scalar.muli arg11 c256_i32
  let v37 : BitVec 32 := v36
  let v49 : Index := Scalar.indexCast v37
  let c128_24 : Index := 128#32
  ![v49.toNat, 128]
def k0_off11 (i : grid0.Coords) (v19_0 : BitVec 32) (k0_t2 : Fin (k0_t2_loop i v19_0).trips) : Fin 4 → Nat :=
  let c0_25 : Index := 0#32
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_9 : BitVec 32 := 1#32
  let v22 : BitVec 32 := Scalar.addi arg1 c1_i32_9
  let v27 : BitVec 32 := Scalar.subi v22 v21
  let c1_i32_14 : BitVec 32 := 1#32
  let v29 : BitVec 32 := Scalar.divsi v27 c1_i32_14
  let v30 : BitVec 32 := Scalar.muli v29 c1_i32_14
  let v31 : BitVec 32 := Scalar.addi v21 v30
  let c1_i32_16 : BitVec 32 := 1#32
  let arg11 : BitVec 32 := Scf.iv v31 c1_i32_16 k0_t2
  let v51 : Index := Scalar.indexCast arg11
  let c0_26 : Index := 0#32
  let c0_27 : Index := 0#32
  ![0, v51.toNat, 0, 0]
def k0_off12 (i : grid0.Coords) (v19_0 : BitVec 32) (k0_t2 : Fin (k0_t2_loop i v19_0).trips) : Fin 4 → Nat :=
  let c1 : Index := 1#32
  let arg1 : BitVec 32 := BitVec.ofNat 32 (i 1).val
  let c1_i32 : BitVec 32 := 1#32
  let v20 : BitVec 32 := Scalar.addi arg1 c1_i32
  let v21 : BitVec 32 := Scalar.subi v20 v19_0
  let c1_i32_9 : BitVec 32 := 1#32
  let v22 : BitVec 32 := Scalar.addi arg1 c1_i32_9
  let v27 : BitVec 32 := Scalar.subi v22 v21
  let c1_i32_14 : BitVec 32 := 1#32
  let v29 : BitVec 32 := Scalar.divsi v27 c1_i32_14
  let v30 : BitVec 32 := Scalar.muli v29 c1_i32_14
  let v31 : BitVec 32 := Scalar.addi v21 v30
  let c1_i32_16 : BitVec 32 := 1#32
  let arg11 : BitVec 32 := Scf.iv v31 c1_i32_16 k0_t2
  let v54 : Index := Scalar.indexCast arg11
  let c0_28 : Index := 0#32
  let c0_29 : Index := 0#32
  ![1, v54.toNat, 0, 0]

def k0_chk2 (i : grid0.Coords) (v19_0 : BitVec 32) : Prop :=
  ((k0_t1_loop i v19_0).OK) ∧
  (∀ k0_t1 : Fin (k0_t1_loop i v19_0).trips, 256 ∣ (k0_mult2 i v19_0 k0_t1).toNat) ∧
  (∀ k0_t1 : Fin (k0_t1_loop i v19_0).trips, ∀ a, (k0_off5 i v19_0 k0_t1) a + S256x128.size a ≤ S4096x256.size a) ∧
  (∀ k0_t1 : Fin (k0_t1_loop i v19_0).trips, ∀ a, (k0_off6 i v19_0 k0_t1) a + S256x128.size a ≤ S4096x256.size a) ∧
  (∀ k0_t1 : Fin (k0_t1_loop i v19_0).trips, ∀ a, (k0_off7 i v19_0 k0_t1) a + S1x1x256x256.size a ≤ S2x16x256x256.size a) ∧
  (∀ k0_t1 : Fin (k0_t1_loop i v19_0).trips, ∀ a, (k0_off8 i v19_0 k0_t1) a + S1x1x256x256.size a ≤ S2x16x256x256.size a) ∧
  ((k0_t2_loop i v19_0).OK) ∧
  (∀ k0_t2 : Fin (k0_t2_loop i v19_0).trips, 256 ∣ (k0_mult3 i v19_0 k0_t2).toNat) ∧
  (∀ k0_t2 : Fin (k0_t2_loop i v19_0).trips, ∀ a, (k0_off9 i v19_0 k0_t2) a + S256x128.size a ≤ S4096x256.size a) ∧
  (∀ k0_t2 : Fin (k0_t2_loop i v19_0).trips, ∀ a, (k0_off10 i v19_0 k0_t2) a + S256x128.size a ≤ S4096x256.size a) ∧
  (∀ k0_t2 : Fin (k0_t2_loop i v19_0).trips, ∀ a, (k0_off11 i v19_0 k0_t2) a + S1x1x256x256.size a ≤ S2x16x256x256.size a) ∧
  (∀ k0_t2 : Fin (k0_t2_loop i v19_0).trips, ∀ a, (k0_off12 i v19_0 k0_t2) a + S1x1x256x256.size a ≤ S2x16x256x256.size a)
theorem k0_t1_ok : ∀ (i : grid0.Coords) (v19_0 : BitVec 32) (k0_hw2 : k0_chk2 i v19_0), (k0_t1_loop i v19_0).OK := fun i v19_0 k0_hw2 => k0_hw2.1
theorem k0_mult2_dvd : ∀ (i : grid0.Coords) (v19_0 : BitVec 32) (k0_hw2 : k0_chk2 i v19_0) (k0_t1 : Fin (k0_t1_loop i v19_0).trips), 256 ∣ (k0_mult2 i v19_0 k0_t1).toNat := fun i v19_0 k0_hw2 k0_t1 => k0_hw2.2.1 k0_t1
theorem k0_off5_inb : ∀ (i : grid0.Coords) (v19_0 : BitVec 32) (k0_hw2 : k0_chk2 i v19_0) (k0_t1 : Fin (k0_t1_loop i v19_0).trips), ∀ a, (k0_off5 i v19_0 k0_t1) a + S256x128.size a ≤ S4096x256.size a := fun i v19_0 k0_hw2 k0_t1 => k0_hw2.2.2.1 k0_t1
theorem k0_off6_inb : ∀ (i : grid0.Coords) (v19_0 : BitVec 32) (k0_hw2 : k0_chk2 i v19_0) (k0_t1 : Fin (k0_t1_loop i v19_0).trips), ∀ a, (k0_off6 i v19_0 k0_t1) a + S256x128.size a ≤ S4096x256.size a := fun i v19_0 k0_hw2 k0_t1 => k0_hw2.2.2.2.1 k0_t1
theorem k0_off7_inb : ∀ (i : grid0.Coords) (v19_0 : BitVec 32) (k0_hw2 : k0_chk2 i v19_0) (k0_t1 : Fin (k0_t1_loop i v19_0).trips), ∀ a, (k0_off7 i v19_0 k0_t1) a + S1x1x256x256.size a ≤ S2x16x256x256.size a := fun i v19_0 k0_hw2 k0_t1 => k0_hw2.2.2.2.2.1 k0_t1
theorem k0_off8_inb : ∀ (i : grid0.Coords) (v19_0 : BitVec 32) (k0_hw2 : k0_chk2 i v19_0) (k0_t1 : Fin (k0_t1_loop i v19_0).trips), ∀ a, (k0_off8 i v19_0 k0_t1) a + S1x1x256x256.size a ≤ S2x16x256x256.size a := fun i v19_0 k0_hw2 k0_t1 => k0_hw2.2.2.2.2.2.1 k0_t1
theorem k0_t2_ok : ∀ (i : grid0.Coords) (v19_0 : BitVec 32) (k0_hw2 : k0_chk2 i v19_0), (k0_t2_loop i v19_0).OK := fun i v19_0 k0_hw2 => k0_hw2.2.2.2.2.2.2.1
theorem k0_mult3_dvd : ∀ (i : grid0.Coords) (v19_0 : BitVec 32) (k0_hw2 : k0_chk2 i v19_0) (k0_t2 : Fin (k0_t2_loop i v19_0).trips), 256 ∣ (k0_mult3 i v19_0 k0_t2).toNat := fun i v19_0 k0_hw2 k0_t2 => k0_hw2.2.2.2.2.2.2.2.1 k0_t2
theorem k0_off9_inb : ∀ (i : grid0.Coords) (v19_0 : BitVec 32) (k0_hw2 : k0_chk2 i v19_0) (k0_t2 : Fin (k0_t2_loop i v19_0).trips), ∀ a, (k0_off9 i v19_0 k0_t2) a + S256x128.size a ≤ S4096x256.size a := fun i v19_0 k0_hw2 k0_t2 => k0_hw2.2.2.2.2.2.2.2.2.1 k0_t2
theorem k0_off10_inb : ∀ (i : grid0.Coords) (v19_0 : BitVec 32) (k0_hw2 : k0_chk2 i v19_0) (k0_t2 : Fin (k0_t2_loop i v19_0).trips), ∀ a, (k0_off10 i v19_0 k0_t2) a + S256x128.size a ≤ S4096x256.size a := fun i v19_0 k0_hw2 k0_t2 => k0_hw2.2.2.2.2.2.2.2.2.2.1 k0_t2
theorem k0_off11_inb : ∀ (i : grid0.Coords) (v19_0 : BitVec 32) (k0_hw2 : k0_chk2 i v19_0) (k0_t2 : Fin (k0_t2_loop i v19_0).trips), ∀ a, (k0_off11 i v19_0 k0_t2) a + S1x1x256x256.size a ≤ S2x16x256x256.size a := fun i v19_0 k0_hw2 k0_t2 => k0_hw2.2.2.2.2.2.2.2.2.2.2.1 k0_t2
theorem k0_off12_inb : ∀ (i : grid0.Coords) (v19_0 : BitVec 32) (k0_hw2 : k0_chk2 i v19_0) (k0_t2 : Fin (k0_t2_loop i v19_0).trips), ∀ a, (k0_off12 i v19_0 k0_t2) a + S1x1x256x256.size a ≤ S2x16x256x256.size a := fun i v19_0 k0_hw2 k0_t2 => k0_hw2.2.2.2.2.2.2.2.2.2.2.2 k0_t2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "dead" => some ⊥
  | _ => none
-- ==== ReferenceIdeal.lean ====
abbrev S4096x1024 : Shape := ⟨2, ![4096, 1024]⟩
abbrev S1x4096x8x128 : Shape := ⟨4, ![1, 4096, 8, 128]⟩
abbrev S1x8x4096x128 : Shape := ⟨4, ![1, 8, 4096, 128]⟩
abbrev S1x8x4096x4096 : Shape := ⟨4, ![1, 8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x8x128x4096 : Shape := ⟨4, ![1, 8, 128, 4096]⟩

abbrev nBuf : Space → Nat
  | .hbm => 173
  | .vmem => 0
  | .smem => 0
  | _ => 0

abbrev hbmTy0_0 (i : Nat) : BufTy := match i % 128 with
  | 0 => ⟨S4096x1024, .bf16⟩
  | 1 => ⟨S4096x1024, .bf16⟩
  | 2 => ⟨S4096x1024, .bf16⟩
  | 3 => ⟨S4096x1024, .bf16⟩
  | 4 => ⟨S4096x1024, .f32⟩
  | 5 => ⟨S1x4096x8x128, .f32⟩
  | 6 => ⟨S1x8x4096x128, .f32⟩
  | 7 => ⟨S4096x1024, .f32⟩
  | 8 => ⟨S1x4096x8x128, .f32⟩
  | 9 => ⟨S1x8x4096x128, .f32⟩
  | 10 => ⟨S4096x1024, .f32⟩
  | 11 => ⟨S1x4096x8x128, .f32⟩
  | 12 => ⟨S1x8x4096x128, .f32⟩
  | 13 => ⟨S1x8x4096x4096, .f32⟩
  | 14 => ⟨S4096, .i32⟩
  | 15 => ⟨S4096x1, .i32⟩
  | 16 => ⟨S4096, .i32⟩
  | 17 => ⟨S1x4096, .i32⟩
  | 18 => ⟨S4096x4096, .i32⟩
  | 19 => ⟨S4096x4096, .i32⟩
  | 20 => ⟨S4096x4096, .i1⟩
  | 21 => ⟨S1x8x4096x4096, .f32⟩
  | 22 => ⟨S1x8x4096x4096, .f32⟩
  | 23 => ⟨S_, .f32⟩
  | 24 => ⟨S1x8x4096x4096, .f32⟩
  | 25 => ⟨S1x8x4096x4096, .f32⟩
  | 26 => ⟨S1x8x4096x4096, .f32⟩
  | 27 => ⟨S1x8x4096x4096, .f32⟩
  | 28 => ⟨S1x8x4096x4096, .i1⟩
  | 29 => ⟨S1x8x4096x4096, .f32⟩
  | 30 => ⟨S1x8x4096x4096, .f32⟩
  | 31 => ⟨S1x8x4096x4096, .f32⟩
  | 32 => ⟨S1x8x4096x4096, .f32⟩
  | 33 => ⟨S1x8x4096x4096, .f32⟩
  | 34 => ⟨S1x8x4096x4096, .f32⟩
  | 35 => ⟨S1x8x4096x4096, .f32⟩
  | 36 => ⟨S1x8x4096x4096, .f32⟩
  | 37 => ⟨S_, .f32⟩
  | 38 => ⟨S1x8x4096x4096, .f32⟩
  | 39 => ⟨S1x8x4096x4096, .i1⟩
  | 40 => ⟨S_, .f32⟩
  | 41 => ⟨S1x8x4096x4096, .f32⟩
  | 42 => ⟨S1x8x4096x4096, .f32⟩
  | 43 => ⟨S_, .f32⟩
  | 44 => ⟨S1x8x4096x4096, .f32⟩
  | 45 => ⟨S1x8x4096x4096, .i1⟩
  | 46 => ⟨S_, .f32⟩
  | 47 => ⟨S1x8x4096x4096, .f32⟩
  | 48 => ⟨S1x8x4096x4096, .f32⟩
  | 49 => ⟨S1x8x4096x4096, .f32⟩
  | 50 => ⟨S1x8x4096x4096, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S1x8x4096x4096, .f32⟩
  | 59 => ⟨S1x8x4096x4096, .i1⟩
  | 60 => ⟨S_, .f32⟩
  | 61 => ⟨S1x8x4096x4096, .f32⟩
  | 62 => ⟨S1x8x4096x4096, .f32⟩
  | 63 => ⟨S1x8x4096x4096, .f32⟩
  | 64 => ⟨S1x8x4096x4096, .f32⟩
  | 65 => ⟨S1x8x4096x4096, .f32⟩
  | 66 => ⟨S_, .f32⟩
  | 67 => ⟨S1x8x4096x4096, .f32⟩
  | 68 => ⟨S1x8x4096x4096, .f32⟩
  | 69 => ⟨S1x8x4096x4096, .f32⟩
  | 70 => ⟨S_, .f32⟩
  | 71 => ⟨S_, .f32⟩
  | 72 => ⟨S1x8x4096x4096, .i1⟩
  | 73 => ⟨S1x8x4096x4096, .f32⟩
  | 74 => ⟨S1x8x4096x4096, .f32⟩
  | 75 => ⟨S_, .f32⟩
  | 76 => ⟨S1x8x4096x4096, .f32⟩
  | 77 => ⟨S_, .f32⟩
  | 78 => ⟨S_, .f32⟩
  | 79 => ⟨S1x8x4096x4096, .f32⟩
  | 80 => ⟨S1x8x4096x4096, .f32⟩
  | 81 => ⟨S1x8x4096x4096, .f32⟩
  | 82 => ⟨S_, .f32⟩
  | 83 => ⟨S1x8x4096x4096, .f32⟩
  | 84 => ⟨S1x8x4096x4096, .f32⟩
  | 85 => ⟨S1x8x4096x4096, .f32⟩
  | 86 => ⟨S1x8x4096x4096, .f32⟩
  | 87 => ⟨S1x8x4096x4096, .i1⟩
  | 88 => ⟨S1x8x4096x4096, .f32⟩
  | 89 => ⟨S1x8x4096x4096, .f32⟩
  | 90 => ⟨S1x8x4096x4096, .f32⟩
  | 91 => ⟨S1x8x4096x4096, .f32⟩
  | 92 => ⟨S1x8x4096x4096, .f32⟩
  | 93 => ⟨S1x8x4096x4096, .f32⟩
  | 94 => ⟨S1x8x4096x4096, .f32⟩
  | 95 => ⟨S1x8x4096x4096, .f32⟩
  | 96 => ⟨S_, .f32⟩
  | 97 => ⟨S1x8x4096x4096, .f32⟩
  | 98 => ⟨S1x8x4096x4096, .i1⟩
  | 99 => ⟨S_, .f32⟩
  | 100 => ⟨S1x8x4096x4096, .f32⟩
  | 101 => ⟨S1x8x4096x4096, .f32⟩
  | 102 => ⟨S_, .f32⟩
  | 103 => ⟨S1x8x4096x4096, .f32⟩
  | 104 => ⟨S1x8x4096x4096, .i1⟩
  | 105 => ⟨S_, .f32⟩
  | 106 => ⟨S1x8x4096x4096, .f32⟩
  | 107 => ⟨S1x8x4096x4096, .f32⟩
  | 108 => ⟨S1x8x4096x4096, .f32⟩
  | 109 => ⟨S1x8x4096x4096, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S1x8x4096x4096, .f32⟩
  | 118 => ⟨S1x8x4096x4096, .i1⟩
  | 119 => ⟨S_, .f32⟩
  | 120 => ⟨S1x8x4096x4096, .f32⟩
  | 121 => ⟨S1x8x4096x4096, .f32⟩
  | 122 => ⟨S1x8x4096x4096, .f32⟩
  | 123 => ⟨S1x8x4096x4096, .f32⟩
  | 124 => ⟨S1x8x4096x4096, .f32⟩
  | 125 => ⟨S_, .f32⟩
  | 126 => ⟨S1x8x4096x4096, .f32⟩
  | 127 => ⟨S1x8x4096x4096, .f32⟩
  | _ => ⟨S4096x1024, .bf16⟩

abbrev hbmTy0_1 (i : Nat) : BufTy := match i % 128 with
  | 0 => ⟨S1x8x4096x4096, .f32⟩
  | 1 => ⟨S1x8x4096x4096, .f32⟩
  | 2 => ⟨S_, .f32⟩
  | 3 => ⟨S_, .f32⟩
  | 4 => ⟨S1x8x4096x4096, .i1⟩
  | 5 => ⟨S1x8x4096x4096, .f32⟩
  | 6 => ⟨S1x8x4096x4096, .f32⟩
  | 7 => ⟨S_, .f32⟩
  | 8 => ⟨S1x8x4096x4096, .f32⟩
  | 9 => ⟨S1x8x4096x4096, .f32⟩
  | 10 => ⟨S1x8x4096x128, .f32⟩
  | 11 => ⟨S4096x1024, .f32⟩
  | 12 => ⟨S1x4096x8x128, .f32⟩
  | 13 => ⟨S1x8x4096x128, .f32⟩
  | 14 => ⟨S1x8x128x4096, .f32⟩
  | 15 => ⟨S1x8x4096x128, .f32⟩
  | 16 => ⟨S1x8x4096x4096, .f32⟩
  | 17 => ⟨S1x8x4096x4096, .f32⟩
  | 18 => ⟨S_, .f32⟩
  | 19 => ⟨S1x8x4096x4096, .f32⟩
  | 20 => ⟨S1x8x4096x4096, .f32⟩
  | 21 => ⟨S1x8x4096x4096, .f32⟩
  | 22 => ⟨S1x8x4096x4096, .f32⟩
  | 23 => ⟨S1x8x4096x4096, .f32⟩
  | 24 => ⟨S1x8x4096x4096, .f32⟩
  | 25 => ⟨S_, .f32⟩
  | 26 => ⟨S_, .f32⟩
  | 27 => ⟨S1x8x4096x4096, .f32⟩
  | 28 => ⟨S1x8x4096x4096, .f32⟩
  | 29 => ⟨S_, .f32⟩
  | 30 => ⟨S1x8x4096x4096, .f32⟩
  | 31 => ⟨S1x8x4096x4096, .f32⟩
  | 32 => ⟨S1x8x4096x4096, .f32⟩
  | 33 => ⟨S1x8x4096x4096, .f32⟩
  | 34 => ⟨S1x8x4096x4096, .f32⟩
  | 35 => ⟨S1x8x4096x4096, .f32⟩
  | 36 => ⟨S1x8x4096x4096, .f32⟩
  | 37 => ⟨S1x8x4096x128, .f32⟩
  | 38 => ⟨S1x8x4096x128, .f32⟩
  | 39 => ⟨S1x4096x8x128, .f32⟩
  | 40 => ⟨S4096x1024, .f32⟩
  | 41 => ⟨S1x4096x8x128, .f32⟩
  | 42 => ⟨S4096x1024, .f32⟩
  | 43 => ⟨S1x4096x8x128, .f32⟩
  | 44 => ⟨S4096x1024, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v18_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v18_2 : Ref sig .tc := ⟨.hbm, 68, rfl⟩
abbrev main_v18_0 : Ref sig .tc := ⟨.hbm, 69, rfl⟩
abbrev main_cst : Ref sig .tc := ⟨.hbm, 70, rfl⟩
abbrev main_call1_v0 : Ref sig .tc := ⟨.hbm, 71, rfl⟩
abbrev main_v19_1 : Ref sig .tc := ⟨.hbm, 72, rfl⟩
abbrev main_call1_v2 : Ref sig .tc := ⟨.hbm, 73, rfl⟩
abbrev main_v19_0 : Ref sig .tc := ⟨.hbm, 74, rfl⟩
abbrev main_call1_cst : Ref sig .tc := ⟨.hbm, 75, rfl⟩
abbrev main_v19_2 : Ref sig .tc := ⟨.hbm, 76, rfl⟩
abbrev main_call2_cst : Ref sig .tc := ⟨.hbm, 77, rfl⟩
abbrev main_call2_v0 : Ref sig .tc := ⟨.hbm, 78, rfl⟩
abbrev main_v20 : Ref sig .tc := ⟨.hbm, 79, rfl⟩
abbrev main_v21 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v22_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v22_2 : Ref sig .tc := ⟨.hbm, 127, rfl⟩
abbrev main_v22_0 : Ref sig .tc := ⟨.hbm, 128, rfl⟩
abbrev main_v23 : Ref sig .tc := ⟨.hbm, 129, rfl⟩
abbrev main_cst_0 : Ref sig .tc := ⟨.hbm, 130, rfl⟩
abbrev main_call4_v0 : Ref sig .tc := ⟨.hbm, 131, rfl⟩
abbrev main_v24_1 : Ref sig .tc := ⟨.hbm, 132, rfl⟩
abbrev main_call4_v2 : Ref sig .tc := ⟨.hbm, 133, rfl⟩
abbrev main_v24_0 : Ref sig .tc := ⟨.hbm, 134, rfl⟩
abbrev main_call4_cst : Ref sig .tc := ⟨.hbm, 135, rfl⟩
abbrev main_v24_2 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_call5_cst : Ref sig .tc := ⟨.hbm, 146, rfl⟩
abbrev main_call5_v0 : Ref sig .tc := ⟨.hbm, 147, rfl⟩
abbrev main_v34 : Ref sig .tc := ⟨.hbm, 148, rfl⟩
abbrev main_call6_v0 : Ref sig .tc := ⟨.hbm, 149, rfl⟩
abbrev main_call6_v1 : Ref sig .tc := ⟨.hbm, 150, rfl⟩
abbrev main_v35 : Ref sig .tc := ⟨.hbm, 151, rfl⟩
abbrev main_v36 : Ref sig .tc := ⟨.hbm, 152, rfl⟩
abbrev main_call7_cst : Ref sig .tc := ⟨.hbm, 153, rfl⟩
abbrev main_call7_v0 : Ref sig .tc := ⟨.hbm, 154, rfl⟩
abbrev main_v37 : Ref sig .tc := ⟨.hbm, 155, rfl⟩
abbrev main_v38 : Ref sig .tc := ⟨.hbm, 156, rfl⟩
abbrev main_call8_cst : Ref sig .tc := ⟨.hbm, 157, rfl⟩
abbrev main_call8_v0 : Ref sig .tc := ⟨.hbm, 158, rfl⟩
abbrev main_v39 : Ref sig .tc := ⟨.hbm, 159, rfl⟩
abbrev main_call9_v0 : Ref sig .tc := ⟨.hbm, 160, rfl⟩
abbrev main_call9_v1 : Ref sig .tc := ⟨.hbm, 161, rfl⟩
abbrev main_v40 : Ref sig .tc := ⟨.hbm, 162, rfl⟩
abbrev main_v41 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S4096x5632 : Shape := ⟨2, ![4096, 5632]⟩
abbrev S1024x2816 : Shape := ⟨2, ![1024, 2816]⟩
abbrev S256x1024 : Shape := ⟨2, ![256, 1024]⟩
abbrev S256x5632 : Shape := ⟨2, ![256, 5632]⟩
abbrev S256x2816 : Shape := ⟨2, ![256, 2816]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x5632, .bf16⟩
  | .hbm, ⟨3, _⟩ => ⟨S1024x2816, .bf16⟩
  | .hbm, ⟨4, _⟩ => ⟨S4096x5632, .bf16⟩
  | .local _ .vmem, ⟨0, _⟩ => ⟨S256x1024, .f32⟩
  | .local _ .vmem, ⟨1, _⟩ => ⟨S256x1024, .f32⟩
  | .local _ .vmem, ⟨2, _⟩ => ⟨S1024x2816, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | .local _ .vmem, ⟨6, _⟩ => ⟨S256x5632, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S4096x1024 : Shape := ⟨2, ![4096, 1024]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x5632, .bf16⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S2816x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x5632, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x5632, .f32⟩
  | .hbm, ⟨33, _⟩ => ⟨S4096x5632, .f32⟩
  | .hbm, ⟨34, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Kernel3.lean ====
abbrev S4096x5632 : Shape := ⟨2, ![4096, 5632]⟩
abbrev S4x1x1024x1408 : Shape := ⟨4, ![4, 1, 1024, 1408]⟩
abbrev S4096x1024 : Shape := ⟨2, ![4096, 1024]⟩
abbrev S1024x1408 : Shape := ⟨2, ![1024, 1408]⟩
abbrev S1x1x1024x1408 : Shape := ⟨4, ![1, 1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4x1x1024x1408, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x5632 : Shape := ⟨2, ![4096, 5632]⟩
abbrev S4x1x1024x1408 : Shape := ⟨4, ![4, 1, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S_ : Shape := ⟨0, ![]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x1x1024x1408, .bf16⟩
  | .hbm, ⟨2, _⟩ => ⟨S4x1024x1408, .bf16⟩
  | .hbm, ⟨3, _⟩ => ⟨S1024x4x1408, .bf16⟩
  | .hbm, ⟨4, _⟩ => ⟨S1024x5632, .bf16⟩
  | .hbm, ⟨5, _⟩ => ⟨S1024x5632, .f32⟩
  | .hbm, ⟨6, _⟩ => ⟨S_, .f32⟩
  | .hbm, ⟨7, _⟩ => ⟨S4096x1024, .f32⟩
  | .hbm, ⟨8, _⟩ => ⟨S4096x5632, .f32⟩
  | .hbm, ⟨9, _⟩ => ⟨S4096x5632, .f32⟩
  | .hbm, ⟨10, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x1024 : Shape := ⟨2, ![4096, 1024]⟩
abbrev S4096x5632 : Shape := ⟨2, ![4096, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x5632 : Shape := ⟨2, ![4096, 5632]⟩
abbrev S_ : Shape := ⟨0, ![]⟩
abbrev S4x1x1024x1408 : Shape := ⟨4, ![4, 1, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S5632x1024 : Shape := ⟨2, ![5632, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S4x1x1024x1408, .f32⟩
  | .hbm, ⟨4, _⟩ => ⟨S4096x1024, .f32⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S4096x5632, .f32⟩
  | .hbm, ⟨9, _⟩ => ⟨S4096x5632, .f32⟩
  | .hbm, ⟨10, _⟩ => ⟨S5632x1024, .f32⟩
  | .hbm, ⟨11, _⟩ => ⟨S1024x5632, .f32⟩
  | .hbm, ⟨12, _⟩ => ⟨S1024x4x1408, .f32⟩
  | .hbm, ⟨13, _⟩ => ⟨S4x1024x1408, .f32⟩
  | .hbm, ⟨14, _⟩ => ⟨S4x1x1024x1408, .f32⟩
  | .hbm, ⟨15, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S_, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S4096x4096 : Shape := ⟨2, ![4096, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel10Ideal.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference15Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel16.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S4096x1024 : Shape := ⟨2, ![4096, 1024]⟩
abbrev S4x1x1024x1408 : Shape := ⟨4, ![4, 1, 1024, 1408]⟩
abbrev S4096x5632 : Shape := ⟨2, ![4096, 5632]⟩
abbrev S4096x2816 : Shape := ⟨2, ![4096, 2816]⟩
abbrev S512x1024 : Shape := ⟨2, ![512, 1024]⟩
abbrev S512x5632 : Shape := ⟨2, ![512, 5632]⟩
abbrev S512x2816 : Shape := ⟨2, ![512, 2816]⟩
abbrev S1x1x1024x1408 : Shape := ⟨4, ![1, 1, 1024, 1408]⟩
abbrev S1024x1408 : Shape := ⟨2, ![1024, 1408]⟩
abbrev S512x1408 : Shape := ⟨2, ![512, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x1408, .bf16⟩
  | .hbm, ⟨2, _⟩ => ⟨S4096x5632, .bf16⟩
  | .hbm, ⟨3, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S4x1x1024x1408, .bf16⟩
  | .local _ .vmem, ⟨3, _⟩ => ⟨S512x5632, .bf16⟩
  | .local _ .vmem, ⟨4, _⟩ => ⟨S512x5632, .bf16⟩
  | .local _ .vmem, ⟨5, _⟩ => ⟨S512x2816, .bf16⟩
  | .local _ .vmem, ⟨6, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference18Ideal.lean ====
abbrev S4096x1024 : Shape := ⟨2, ![4096, 1024]⟩
abbrev S4x1x1024x1408 : Shape := ⟨4, ![4, 1, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x1408, .bf16⟩
  | .hbm, ⟨2, _⟩ => ⟨S4096x1024, .f32⟩
  | .hbm, ⟨3, _⟩ => ⟨S4x1024x1408, .bf16⟩
  | .hbm, ⟨4, _⟩ => ⟨S1024x4x1408, .bf16⟩
  | .hbm, ⟨5, _⟩ => ⟨S1024x5632, .bf16⟩
  | .hbm, ⟨6, _⟩ => ⟨S1024x5632, .f32⟩
  | .hbm, ⟨7, _⟩ => ⟨S4096x5632, .f32⟩
  | .hbm, ⟨8, _⟩ => ⟨S4096x5632, .bf16⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel19.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference19Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel20.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference21Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel22.lean ====
abbrev S4096x1024 : Shape := ⟨2, ![4096, 1024]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference22Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel23.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S4096x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S256x1024, .f32⟩
  | .hbm, ⟨3, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel24.lean ====
abbrev S4096x256 : Shape := ⟨2, ![4096, 256]⟩
abbrev S4096x1024 : Shape := ⟨2, ![4096, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S256x1024, .f32⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference24Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S1024x256, .f32⟩
  | .hbm, ⟨7, _⟩ => ⟨S256x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v39 : BitVec 1 := Scalar.cmpi .eq arg1 c0_i32
  let arg0 : BitVec 32 := BitVec.ofNat 32 (i 0).val
  let c0_i32_16 : BitVec 32 := 0#32
  let v40 : BitVec 1 := Scalar.cmpi .eq arg0 c0_i32_16
  let v41 : BitVec 1 := Scalar.andi v39 v40
  let v42 : BitVec 32 := Scalar.extui v41
  let c0_i32_17 : BitVec 32 := 0#32
  let v43 : BitVec 1 := Scalar.cmpi .ne v42 c0_i32_17
  v43

def k0_cond2 (i : grid0.Coords) : BitVec 1 :=
  let arg1 : BitVec 32 := BitVec.ofNat 32 (i 1).val
  let c0_i32 : BitVec 32 := 0#32
  let v39 : BitVec 1 := Scalar.cmpi .eq arg1 c0_i32
  let arg0 : BitVec 32 := BitVec.ofNat 32 (i 0).val
  let c0_i32_16 : BitVec 32 := 0#32
  let v40 : BitVec 1 := Scalar.cmpi .eq arg0 c0_i32_16
  let v41 : BitVec 1 := Scalar.andi v39 v40
  let v_true : BitVec 1 := 1#1
  let v44 : BitVec 1 := Scalar.xori v41 v_true
  let v45 : BitVec 32 := Scalar.extui v44
  let c0_i32_18 : BitVec 32 := 0#32
  let v46 : BitVec 1 := Scalar.cmpi .ne v45 c0_i32_18
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference25Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel26.lean ====
abbrev S4096x1024 : Shape := ⟨2, ![4096, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== Reference26Ideal.lean ====
abbrev S4096x1024 : Shape := ⟨2, ![4096, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel27.lean ====
abbrev S4096x4096 : Shape := ⟨2, ![4096, 4096]⟩
abbrev S4x3072 : Shape := ⟨2, ![4, 3072]⟩
abbrev S3x4096x1024 : Shape := ⟨3, ![3, 4096, 1024]⟩
abbrev S4096x256 : Shape := ⟨2, ![4096, 256]⟩
abbrev S4x256 : Shape := ⟨2, ![4, 256]⟩
abbrev S1x4096x256 : Shape := ⟨3, ![1, 4096, 256]⟩
abbrev S1x256 : Shape := ⟨2, ![1, 256]⟩
abbrev S256 : Shape := ⟨1, ![256]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4x3072, .f32⟩
  | .hbm, ⟨2, _⟩ => ⟨S3x4096x1024, .f32⟩
  | .hbm, ⟨3, _⟩ => ⟨S4096x4096, .bf16⟩
  | .hbm, ⟨4, _⟩ => ⟨S4096x4096, .bf16⟩
  | .hbm, ⟨5, _⟩ => ⟨S4x3072, .f32⟩
  | .local _ .vmem, ⟨0, _⟩ => ⟨S4096x256, .bf16⟩
  | .local _ .vmem, ⟨1, _⟩ => ⟨S4096x256, .bf16⟩
  | .local _ .vmem, ⟨2, _⟩ => ⟨S4x256, .f32⟩
  | .local _ .vmem, ⟨3, _⟩ => ⟨S4x256, .f32⟩
  | .local _ .vmem, ⟨4, _⟩ => ⟨S1x4096x256, .f32⟩
  | .local _ .vmem, ⟨5, _⟩ => ⟨S1x4096x256, .f32⟩
  | .local _ .vmem, ⟨6, _⟩ => ⟨S4096x256, .bf16⟩
  | .local _ .vmem, ⟨7, _⟩ => ⟨S4096x256, .bf16⟩
  | .local _ .vmem, ⟨8, _⟩ => ⟨S4x256, .f32⟩
  | .local _ .vmem, ⟨9, _⟩ => ⟨S4x256, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference27Ideal.lean ====
abbrev S4096x4096 : Shape := ⟨2, ![4096, 4096]⟩
abbrev S4x3072 : Shape := ⟨2, ![4, 3072]⟩
abbrev S3x4096x1024 : Shape := ⟨3, ![3, 4096, 1024]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩
abbrev S3072 : Shape := ⟨1, ![3072]⟩
abbrev S4096x3x1024 : Shape := ⟨3, ![4096, 3, 1024]⟩
abbrev S4096x1024 : Shape := ⟨2, ![4096, 1024]⟩

abbrev nBuf : Space → Nat
  | .hbm => 125
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x3072, .f32⟩
  | .hbm, ⟨2, _⟩ => ⟨S3x4096x1024, .f32⟩
  | .hbm, ⟨3, _⟩ => ⟨S4096x4096, .bf16⟩
  | .hbm, ⟨4, _⟩ => ⟨S4096x3072, .bf16⟩
  | .hbm, ⟨5, _⟩ => ⟨S4096x3072, .f32⟩
  | .hbm, ⟨6, _⟩ => ⟨S_, .f32⟩
  | .hbm, ⟨7, _⟩ => ⟨S3x3072, .f32⟩
  | .hbm, ⟨8, _⟩ => ⟨S4099x3072, .f32⟩
  | .hbm, ⟨9, _⟩ => ⟨S_, .f32⟩
  | .hbm, ⟨10, _⟩ => ⟨S3x3072, .f32⟩
  | .hbm, ⟨11, _⟩ => ⟨S4096x3072, .f32⟩
  | .hbm, ⟨12, _⟩ => ⟨S1x3072, .f32⟩
  | .hbm, ⟨13, _⟩ => ⟨S3072, .f32⟩
  | .hbm, ⟨14, _⟩ => ⟨S1x3072, .f32⟩
  | .hbm, ⟨15, _⟩ => ⟨S4096x3072, .f32⟩
  | .hbm, ⟨16, _⟩ => ⟨S4096x3072, .f32⟩
  | .hbm, ⟨17, _⟩ => ⟨S_, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S1x3072, .f32⟩
  | .hbm, ⟨22, _⟩ => ⟨S3072, .f32⟩
  | .hbm, ⟨23, _⟩ => ⟨S1x3072, .f32⟩
  | .hbm, ⟨24, _⟩ => ⟨S4096x3072, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S1x3072, .f32⟩
  | .hbm, ⟨29, _⟩ => ⟨S3072, .f32⟩
  | .hbm, ⟨30, _⟩ => ⟨S1x3072, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S1x3072, .f32⟩
  | .hbm, ⟨36, _⟩ => ⟨S3072, .f32⟩
  | .hbm, ⟨37, _⟩ => ⟨S1x3072, .f32⟩
  | .hbm, ⟨38, _⟩ => ⟨S4096x3072, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S_, .f32⟩
  | .hbm, ⟨44, _⟩ => ⟨S4096x3072, .f32⟩
  | .hbm, ⟨45, _⟩ => ⟨S4096x3072, .f32⟩
  | .hbm, ⟨46, _⟩ => ⟨S_, .f32⟩
  | .hbm, ⟨47, _⟩ => ⟨S4096x3072, .f32⟩
  | .hbm, ⟨48, _⟩ => ⟨S4096x3072, .f32⟩
  | .hbm, ⟨49, _⟩ => ⟨S_, .f32⟩
  | .hbm, ⟨50, _⟩ => ⟨S4096x3072, .f32⟩
  | .hbm, ⟨51, _⟩ => ⟨S4096x3072, .f32⟩
  | .hbm, ⟨52, _⟩ => ⟨S4096x3072, .f32⟩
  | .hbm, ⟨53, _⟩ => ⟨S4096x3072, .f32⟩
  | .hbm, ⟨54, _⟩ => ⟨S4096x3x1024, .f32⟩
  | .hbm, ⟨55, _⟩ => ⟨S3x4096x1024, .f32⟩
  | .hbm, ⟨56, _⟩ => ⟨S4096x3x1024, .f32⟩
  | .hbm, ⟨57, _⟩ => ⟨S4096x3072, .f32⟩
  | .hbm, ⟨58, _⟩ => ⟨S4096x3072, .f32⟩
  | .hbm, ⟨59, _⟩ => ⟨S4096x3072, .f32⟩
  | .hbm, ⟨60, _⟩ => ⟨S4096x3072, .f32⟩
  | .hbm, ⟨61, _⟩ => ⟨S4096x3072, .f32⟩
  | .hbm, ⟨62, _⟩ => ⟨S4096x3072, .f32⟩
  | .hbm, ⟨63, _⟩ => ⟨S_, .f32⟩
  | .hbm, ⟨64, _⟩ => ⟨S3072, .f32⟩
  | .hbm, ⟨65, _⟩ => ⟨S1x3072, .f32⟩
  | .hbm, ⟨66, _⟩ => ⟨S4096x3072, .f32⟩
  | .hbm, ⟨67, _⟩ => ⟨S4096x3072, .f32⟩
  | .hbm, ⟨68, _⟩ => ⟨S_, .f32⟩
  | .hbm, ⟨69, _⟩ => ⟨S3072, .f32⟩
  | .hbm, ⟨70, _⟩ => ⟨S1x3072, .f32⟩
  | .hbm, ⟨71, _⟩ => ⟨S_, .f32⟩
  | .hbm, ⟨72, _⟩ => ⟨S4x3072, .f32⟩
  | .hbm, ⟨73, _⟩ => ⟨S_, .f32⟩
  | .hbm, ⟨74, _⟩ => ⟨S4099x3072, .f32⟩
  | .hbm, ⟨75, _⟩ => ⟨S4096x3072, .f32⟩
  | .hbm, ⟨76, _⟩ => ⟨S_, .f32⟩
  | .hbm, ⟨77, _⟩ => ⟨S3072, .f32⟩
  | .hbm, ⟨78, _⟩ => ⟨S1x3072, .f32⟩
  | .hbm, ⟨79, _⟩ => ⟨S4096x3072, .f32⟩
  | .hbm, ⟨80, _⟩ => ⟨S4096x3072, .f32⟩
  | .hbm, ⟨81, _⟩ => ⟨S_, .f32⟩
  | .hbm, ⟨82, _⟩ => ⟨S3072, .f32⟩
  | .hbm, ⟨83, _⟩ => ⟨S1x3072, .f32⟩
  | .hbm, ⟨84, _⟩ => ⟨S_, .f32⟩
  | .hbm, ⟨85, _⟩ => ⟨S4x3072, .f32⟩
  | .hbm, ⟨86, _⟩ => ⟨S4x3072, .f32⟩
  | .hbm, ⟨87, _⟩ => ⟨S_, .f32⟩
  | .hbm, ⟨88, _⟩ => ⟨S4099x3072, .f32⟩
  | .hbm, ⟨89, _⟩ => ⟨S4099x3072, .f32⟩
  | .hbm, ⟨90, _⟩ => ⟨S4096x3072, .f32⟩
  | .hbm, ⟨91, _⟩ => ⟨S_, .f32⟩
  | .hbm, ⟨92, _⟩ => ⟨S3072, .f32⟩
  | .hbm, ⟨93, _⟩ => ⟨S1x3072, .f32⟩
  | .hbm, ⟨94, _⟩ => ⟨S4096x3072, .f32⟩
  | .hbm, ⟨95, _⟩ => ⟨S4096x3072, .f32⟩
  | .hbm, ⟨96, _⟩ => ⟨S_, .f32⟩
  | .hbm, ⟨97, _⟩ => ⟨S3072, .f32⟩
  | .hbm, ⟨98, _⟩ => ⟨S1x3072, .f32⟩
  | .hbm, ⟨99, _⟩ => ⟨S_, .f32⟩
  | .hbm, ⟨100, _⟩ => ⟨S4x3072, .f32⟩
  | .hbm, ⟨101, _⟩ => ⟨S4x3072, .f32⟩
  | .hbm, ⟨102, _⟩ => ⟨S_, .f32⟩
  | .hbm, ⟨103, _⟩ => ⟨S4099x3072, .f32⟩
  | .hbm, ⟨104, _⟩ => ⟨S4099x3072, .f32⟩
  | .hbm, ⟨105, _⟩ => ⟨S4096x3072, .f32⟩
  | .hbm, ⟨106, _⟩ => ⟨S_, .f32⟩
  | .hbm, ⟨107, _⟩ => ⟨S3072, .f32⟩
  | .hbm, ⟨108, _⟩ => ⟨S1x3072, .f32⟩
  | .hbm, ⟨109, _⟩ => ⟨S4096x3072, .f32⟩
  | .hbm, ⟨110, _⟩ => ⟨S4096x3072, .f32⟩
  | .hbm, ⟨111, _⟩ => ⟨S_, .f32⟩
  | .hbm, ⟨112, _⟩ => ⟨S3072, .f32⟩
  | .hbm, ⟨113, _⟩ => ⟨S1x3072, .f32⟩
  | .hbm, ⟨114, _⟩ => ⟨S_, .f32⟩
  | .hbm, ⟨115, _⟩ => ⟨S4x3072, .f32⟩
  | .hbm, ⟨116, _⟩ => ⟨S4x3072, .f32⟩
  | .hbm, ⟨117, _⟩ => ⟨S_, .f32⟩
  | .hbm, ⟨118, _⟩ => ⟨S4099x3072, .f32⟩
  | .hbm, ⟨119, _⟩ => ⟨S4099x3072, .f32⟩
  | .hbm, ⟨120, _⟩ => ⟨S3x3072, .f32⟩
  | .hbm, ⟨121, _⟩ => ⟨S4096x3072, .f32⟩
  | .hbm, ⟨122, _⟩ => ⟨S4096x3072, .bf16⟩
  | .hbm, ⟨123, _⟩ => ⟨S4096x1024, .bf16⟩
  | .hbm, ⟨124, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v34_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v34_1 : Ref sig .tc := ⟨.hbm, 52, rfl⟩
abbrev main_v34_0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v39 : Ref sig .tc := ⟨.hbm, 61, rfl⟩
abbrev main_v40 : Ref sig .tc := ⟨.hbm, 62, rfl⟩
abbrev main_cst_2 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_cst_12 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_15 : Ref sig .tc := ⟨.hbm, 111, rfl⟩
abbrev main_v76 : Ref sig .tc := ⟨.hbm, 112, rfl⟩
abbrev main_v77 : Ref sig .tc := ⟨.hbm, 113, rfl⟩
abbrev main_cst_16 : Ref sig .tc := ⟨.hbm, 114, rfl⟩
abbrev main_v78 : Ref sig .tc := ⟨.hbm, 115, rfl⟩
abbrev main_v79 : Ref sig .tc := ⟨.hbm, 116, rfl⟩
abbrev main_cst_17 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩

abbrev nD : Nat := 1
abbrev τ : Topo := Topo.v7x

variable {F : FTy → Type} [FloatOps F]
-- ==== Proof.Owns.lean ====
/-
  Loads and stores through a memref whose contents are held as one plain array: `owns c m q X` says that the memref
  reads the array `X`. A load through a rectangle reads `pick r X`, the rectangle's entries of `X`; a store of `w` over a
  rectangle leaves `put r w X`, the array `X` with the rectangle's entries replaced by `w`. With these two rules a run of
  loads and stores is a run of equations between arrays, whichever buffer each memref lies in.
-/
module

public import Idealize.ShloMosaic.Lib.Pipeline.Sound
public import Idealize.ShloMosaic.Lib.Writes
public import Idealize.ShloMosaic.Lib.Memref
public import Idealize.ShloMosaic.Lib.Tactic

@[expose] public section

noncomputable section

namespace Cert.Proof.Owns

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Arrays

variable {s : Shape} {α : Type}

/-- The entries of the array `X` under the rectangle `r`. -/
def pick (r : Rect s) (X : s.Idx → α) : r.shape.Idx → α := fun x => X (r.emb x)

open Classical in
/-- The array `X` with the entries under the rectangle `r` replaced by `w`. -/
def put (r : Rect s) (w : r.shape.Idx → α) (X : s.Idx → α) : s.Idx → α :=
  fun y => if h : ∃ x, r.emb x = y then w h.choose else X y

/-- Under the rectangle the replaced array holds the new entries. -/
theorem put_emb (r : Rect s) (w : r.shape.Idx → α) (X : s.Idx → α) (x : r.shape.Idx) : put r w X (r.emb x) = w x := by
  have h : ∃ x', r.emb x' = r.emb x := ⟨x, rfl⟩
  unfold put; rw [dif_pos h]
  exact congrArg w (r.emb.injective h.choose_spec)

/-- Outside the rectangle the replaced array is what it was. -/
theorem put_of_not_mem (r : Rect s) (w : r.shape.Idx → α) (X : s.Idx → α) (y : s.Idx) (h : ¬∃ x, r.emb x = y) : put r w X y = X y := by
  unfold put; rw [dif_neg h]

/-- The place of an index of the rectangle, told coordinate by coordinate, holds the new entry; -/
theorem put_hit (r : Rect s) (w : r.shape.Idx → α) (X : s.Idx → α) (x : r.shape.Idx) (y : s.Idx)
    (hx : ∀ a, (y a).val = r.off a + r.stride a * (x a).val) : put r w X y = w x := by
  rw [← r.emb_eq_of_coords x y hx]; exact put_emb r w X x

/-- a place that one axis tells apart from the rectangle holds what it held. -/
theorem put_miss (r : Rect s) (w : r.shape.Idx → α) (X : s.Idx → α) (y : s.Idx) (a : Fin s.rank) (ho : r.stride a = 1)
    (h : (y a).val < r.off a ∨ r.off a + r.size a ≤ (y a).val) : put r w X y = X y := by
  refine put_of_not_mem r w X y ?_
  rintro ⟨x, rfl⟩
  have hx : (x a).val < r.size a := (x a).isLt
  have he : ((r.emb x) a).val = r.off a + r.stride a * (x a).val := Rect.emb_apply r x a
  rw [he, ho] at h
  omega

/-- The rectangle's entries at a place told coordinate by coordinate. -/
theorem pick_eq (r : Rect s) (X : s.Idx → α) (x : r.shape.Idx) (y : s.Idx)
    (hx : ∀ a, (y a).val = r.off a + r.stride a * (x a).val) : pick r X x = X y := by
  unfold pick; rw [r.emb_eq_of_coords x y hx]

end Arrays

section Rules

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl

variable [Preorder Lvl] {defs : Defs nD τ sig Val Λ} (𝒱 : Variants) (c : Thread nD τ)
  (bd : Option 𝒱.V) (E : Set Name)
variable {s : Shape} {e : EltTy}
variable {α : Type} {Q : α → sProp (MT nD τ sig Ix Val Name U Lvl)}

/-- A load through the rectangle `r` of a memref holding `X` reads `pick r X` and leaves `X`. -/
theorem wp_load_owns {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k (pick r X)) Q)
        -∗ wp frame (wpE defs 𝒱 c bd) E (.op (.load m r.toLoadRect hl) k) Q) := by
  unfold owns
  iintro ⟨%f, %hf, H⟩ Hk
  iapply (wp_load 𝒱 c bd E (m := m) (r := r.toLoadRect) (View.setOn_subset_set _ _)) $$ H
  iintro H
  have he : m.view.readAt Val r.toLoadRect f = pick r X := by subst hf; rfl
  rw [he]
  iapply Hk
  iexists f
  isplitr
  · ipureintro; exact hf
  · iexact H

/-- A store of `w` over the rectangle `r` of a memref holding `X` leaves `put r w X`. -/
theorem wp_store_owns {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp 𝕄)
      ⊢ iprop((owns c m fullShare (put r w X) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (w := w) (Mk := Finset.univ)
    (by exact (m.setOn_access_subset_setOn r Finset.univ).trans (View.setOn_subset_set _ _))) $$ H
  iintro H
  iapply Hk
  iexists _
  isplitr
  swap
  · iexact H
  · ipureintro
    subst hf
    funext y
    show m.view.read Val (m.view.writes Val f [⟨r, w⟩]) y = _
    by_cases h : ∃ x, r.emb x = y
    · obtain ⟨x, rfl⟩ := h
      rw [put_emb, View.read_writes_cons_emb]
    · rw [put_of_not_mem r w _ y h, View.read_writes_cons_miss _ _ _ _ _ (fun hy => h (r.exists_idx_of_mem hy))]
      rfl

end Rules

end Cert.Proof.Owns

end
-- ==== Proof.Words.lean ====
/-
  The integer words of the kernel as naturals. At grid row `a = i 1` (0 ≤ a < 16) the first loop's counter runs `s = 0, 1, …`
  and its trip `s ≤ a` works on key block `a − s`; once it has stopped after `n ≤ a + 1` trips the second loop makes `n`
  trips, trip `k` on key block `a + 1 − n + k`. The run-time checks the body assumes hold at these words, and the last
  loop of the body (the remainder of a loop unrolled by one) makes no trip.
-/
module

public import proofs.«01_k».proof.KernelIdeal
public import Idealize.ShloMosaic.Lib.Scf

@[expose] public section

set_option maxRecDepth 16384

noncomputable section

namespace Cert.KernelIdeal.Words

open Cert.KernelIdeal
open Idealize.ShloMosaic

/-- The grid's second coordinate is below 16. -/
theorem row_lt (i : grid0.Coords) : (i 1).val < 16 := (i 1).isLt

/-- The key block of trip `s` of the first loop; -/
theorem sub_toNat (i : grid0.Coords) (s : ℕ) (hs : s ≤ (i 1).val) :
    (Scalar.subi (BitVec.ofNat 32 (i 1).val) (BitVec.ofNat 32 s)).toNat = (i 1).val - s := by
  have h : ∀ (a s : Fin 16), s.val ≤ a.val → (Scalar.subi (BitVec.ofNat 32 a.val) (BitVec.ofNat 32 s.val)).toNat = a.val - s.val := by
    decide +kernel
  exact h ⟨_, row_lt i⟩ ⟨s, by have := row_lt i; omega⟩ hs

/-- its first row. -/
theorem mul_toNat (i : grid0.Coords) (s : ℕ) (hs : s ≤ (i 1).val) :
    (Scalar.muli (Scalar.subi (BitVec.ofNat 32 (i 1).val) (BitVec.ofNat 32 s)) 256#32).toNat = ((i 1).val - s) * 256 := by
  have h : ∀ (a s : Fin 16), s.val ≤ a.val →
      (Scalar.muli (Scalar.subi (BitVec.ofNat 32 a.val) (BitVec.ofNat 32 s.val)) 256#32).toNat = (a.val - s.val) * 256 := by
    decide +kernel
  exact h ⟨_, row_lt i⟩ ⟨s, by have := row_lt i; omega⟩ hs

theorem off1_eq (i : grid0.Coords) (s : ℕ) (hs : s ≤ (i 1).val) : k0_off1 i (BitVec.ofNat 32 s) = ![((i 1).val - s) * 256, 0] := by
  rw [← mul_toNat i s hs]; rfl
theorem off2_eq (i : grid0.Coords) (s : ℕ) (hs : s ≤ (i 1).val) : k0_off2 i (BitVec.ofNat 32 s) = ![((i 1).val - s) * 256, 128] := by
  rw [← mul_toNat i s hs]; rfl
theorem off3_eq (i : grid0.Coords) (s : ℕ) (hs : s ≤ (i 1).val) : k0_off3 i (BitVec.ofNat 32 s) = ![0, (i 1).val - s, 0, 0] := by
  rw [← sub_toNat i s hs]; rfl
theorem off4_eq (i : grid0.Coords) (s : ℕ) (hs : s ≤ (i 1).val) : k0_off4 i (BitVec.ofNat 32 s) = ![1, (i 1).val - s, 0, 0] := by
  rw [← sub_toNat i s hs]; rfl

theorem rows_inb (n : ℕ) (hn : n < 16) (c : ℕ) (hc : c + 128 ≤ 256) : ∀ a, (![n * 256, c] : Fin 2 → ℕ) a + S256x128.size a ≤ S4096x256.size a := by
  intro a
  fin_cases a
  · show n * 256 + 256 ≤ 4096; omega
  · show c + 128 ≤ 256; exact hc

theorem slab_inb (h n : ℕ) (hh : h < 2) (hn : n < 16) :
    ∀ a, (![h, n, 0, 0] : Fin 4 → ℕ) a + S1x1x256x256.size a ≤ S2x16x256x256.size a := by
  intro a
  fin_cases a
  · show h + 1 ≤ 2; omega
  · show n + 1 ≤ 16; omega
  · show 0 + 256 ≤ 256; omega
  · show 0 + 256 ≤ 256; omega

/-- The check at the head of the first loop's trip holds while the counter is at most the row. -/
theorem chk1 (i : grid0.Coords) (s : ℕ) (hs : s ≤ (i 1).val) : k0_chk1 i (BitVec.ofNat 32 s) := by
  have hr := row_lt i
  refine ⟨?_, ?_, ?_, ?_, ?_⟩
  · have : (k0_mult1 i (BitVec.ofNat 32 s)).toNat = ((i 1).val - s) * 256 := mul_toNat i s hs
    rw [this]; exact ⟨_, Nat.mul_comm _ _⟩
  · rw [off1_eq i s hs]; exact rows_inb _ (by omega) _ (by omega)
  · rw [off2_eq i s hs]; exact rows_inb _ (by omega) _ (by omega)
  · rw [off3_eq i s hs]; exact slab_inb _ _ (by omega) (by omega)
  · rw [off4_eq i s hs]; exact slab_inb _ _ (by omega) (by omega)

/-- The first loop's test on its counter is `s ≤ a`. -/
theorem sle_eq (i : grid0.Coords) (s : ℕ) (hs : s ≤ 16) :
    Scalar.cmpi .sle (BitVec.ofNat 32 s) (BitVec.ofNat 32 (i 1).val) = if s ≤ (i 1).val then 1#1 else 0#1 := by
  have h : ∀ (a : Fin 16) (s : Fin 17), Scalar.cmpi .sle (BitVec.ofNat 32 s.val) (BitVec.ofNat 32 a.val) = if s.val ≤ a.val then 1#1 else 0#1 := by
    decide +kernel
  exact h ⟨_, row_lt i⟩ ⟨s, by omega⟩

/-- The counter's step. -/
theorem succ_eq (s : ℕ) : Scalar.addi (BitVec.ofNat 32 s) 1#32 = BitVec.ofNat 32 (s + 1) := by
  show BitVec.ofNat 32 s + BitVec.ofNat 32 1 = _
  rw [BitVec.ofNat_add]

/-- The second loop's first key block. -/
abbrev base (i : grid0.Coords) (n : ℕ) : BitVec 32 := Scalar.subi (Scalar.addi (BitVec.ofNat 32 (i 1).val) 1#32) (BitVec.ofNat 32 n)

/-- The key block of its trip `k`; -/
theorem iv_toNat (i : grid0.Coords) (n : ℕ) (hn : n ≤ (i 1).val + 1) (k : ℕ) (hk : k < n) :
    (Scf.iv (base i n) 1#32 k).toNat = (i 1).val + 1 - n + k := by
  have h : ∀ (a : Fin 16) (n : Fin 17) (k : Fin 16), n.val ≤ a.val + 1 → k.val < n.val →
      (Scf.iv (Scalar.subi (Scalar.addi (BitVec.ofNat 32 a.val) 1#32) (BitVec.ofNat 32 n.val)) 1#32 k.val).toNat = a.val + 1 - n.val + k.val := by
    decide +kernel
  have hr := row_lt i
  exact h ⟨_, hr⟩ ⟨n, by omega⟩ ⟨k, by omega⟩ hn hk

/-- its first row. -/
theorem iv_mul_toNat (i : grid0.Coords) (n : ℕ) (hn : n ≤ (i 1).val + 1) (k : ℕ) (hk : k < n) :
    (Scalar.muli (Scf.iv (base i n) 1#32 k) 256#32).toNat = ((i 1).val + 1 - n + k) * 256 := by
  have h : ∀ (a : Fin 16) (n : Fin 17) (k : Fin 16), n.val ≤ a.val + 1 → k.val < n.val →
      (Scalar.muli (Scf.iv (Scalar.subi (Scalar.addi (BitVec.ofNat 32 a.val) 1#32) (BitVec.ofNat 32 n.val)) 1#32 k.val) 256#32).toNat
        = (a.val + 1 - n.val + k.val) * 256 := by
    decide +kernel
  have hr := row_lt i
  exact h ⟨_, hr⟩ ⟨n, by omega⟩ ⟨k, by omega⟩ hn hk

/-- The second loop makes as many trips as the first. -/
theorem t1_trips (i : grid0.Coords) (n : ℕ) (hn : n ≤ (i 1).val + 1) : (k0_t1_loop i (BitVec.ofNat 32 n)).trips = n := by
  have h : ∀ (a : Fin 16) (n : Fin 17), n.val ≤ a.val + 1 →
      Scf.trips (Scalar.subi (Scalar.addi (BitVec.ofNat 32 a.val) 1#32) (BitVec.ofNat 32 n.val))
        (Scalar.addi (Scalar.subi (Scalar.addi (BitVec.ofNat 32 a.val) 1#32) (BitVec.ofNat 32 n.val))
          (Scalar.muli (Scalar.divsi (Scalar.subi (Scalar.addi (BitVec.ofNat 32 a.val) 1#32)
            (Scalar.subi (Scalar.addi (BitVec.ofNat 32 a.val) 1#32) (BitVec.ofNat 32 n.val))) 1#32) 1#32)) 1#32 = n.val := by
    decide +kernel
  have hr := row_lt i
  exact h ⟨_, hr⟩ ⟨n, by omega⟩ hn

theorem t1_OK (i : grid0.Coords) (n : ℕ) (hn : n ≤ (i 1).val + 1) : (k0_t1_loop i (BitVec.ofNat 32 n)).OK := by
  have h : ∀ (a : Fin 16) (n : Fin 17), n.val ≤ a.val + 1 →
      Scf.OK (Scalar.subi (Scalar.addi (BitVec.ofNat 32 a.val) 1#32) (BitVec.ofNat 32 n.val))
        (Scalar.addi (Scalar.subi (Scalar.addi (BitVec.ofNat 32 a.val) 1#32) (BitVec.ofNat 32 n.val))
          (Scalar.muli (Scalar.divsi (Scalar.subi (Scalar.addi (BitVec.ofNat 32 a.val) 1#32)
            (Scalar.subi (Scalar.addi (BitVec.ofNat 32 a.val) 1#32) (BitVec.ofNat 32 n.val))) 1#32) 1#32)) 1#32 := by
    decide +kernel
  have hr := row_lt i
  exact h ⟨_, hr⟩ ⟨n, by omega⟩ hn

/-- The remainder loop makes none. -/
theorem t2_trips (i : grid0.Coords) (n : ℕ) (hn : n ≤ (i 1).val + 1) : (k0_t2_loop i (BitVec.ofNat 32 n)).trips = 0 := by
  have h : ∀ (a : Fin 16) (n : Fin 17), n.val ≤ a.val + 1 →
      Scf.trips (Scalar.addi (Scalar.subi (Scalar.addi (BitVec.ofNat 32 a.val) 1#32) (BitVec.ofNat 32 n.val))
          (Scalar.muli (Scalar.divsi (Scalar.subi (Scalar.addi (BitVec.ofNat 32 a.val) 1#32)
            (Scalar.subi (Scalar.addi (BitVec.ofNat 32 a.val) 1#32) (BitVec.ofNat 32 n.val))) 1#32) 1#32))
        (Scalar.addi (Scalar.subi (Scalar.addi (BitVec.ofNat 32 a.val) 1#32) (BitVec.ofNat 32 n.val))
          (Scalar.subi (Scalar.addi (BitVec.ofNat 32 a.val) 1#32)
            (Scalar.subi (Scalar.addi (BitVec.ofNat 32 a.val) 1#32) (BitVec.ofNat 32 n.val)))) 1#32 = 0 := by
    decide +kernel
  have hr := row_lt i
  exact h ⟨_, hr⟩ ⟨n, by omega⟩ hn

theorem t2_OK (i : grid0.Coords) (n : ℕ) (hn : n ≤ (i 1).val + 1) : (k0_t2_loop i (BitVec.ofNat 32 n)).OK := by
  have h : ∀ (a : Fin 16) (n : Fin 17), n.val ≤ a.val + 1 →
      Scf.OK (Scalar.addi (Scalar.subi (Scalar.addi (BitVec.ofNat 32 a.val) 1#32) (BitVec.ofNat 32 n.val))
          (Scalar.muli (Scalar.divsi (Scalar.subi (Scalar.addi (BitVec.ofNat 32 a.val) 1#32)
            (Scalar.subi (Scalar.addi (BitVec.ofNat 32 a.val) 1#32) (BitVec.ofNat 32 n.val))) 1#32) 1#32))
        (Scalar.addi (Scalar.subi (Scalar.addi (BitVec.ofNat 32 a.val) 1#32) (BitVec.ofNat 32 n.val))
          (Scalar.subi (Scalar.addi (BitVec.ofNat 32 a.val) 1#32)
            (Scalar.subi (Scalar.addi (BitVec.ofNat 32 a.val) 1#32) (BitVec.ofNat 32 n.val)))) 1#32 := by
    decide +kernel
  have hr := row_lt i
  exact h ⟨_, hr⟩ ⟨n, by omega⟩ hn

section Offsets
variable (i : grid0.Coords) (n : ℕ) (hn : n ≤ (i 1).val + 1) (k : Fin (k0_t1_loop i (BitVec.ofNat 32 n)).trips)

theorem k_lt (hn : n ≤ (i 1).val + 1) (k : Fin (k0_t1_loop i (BitVec.ofNat 32 n)).trips) : k.val < n :=
  lt_of_lt_of_eq k.isLt (t1_trips i n hn)

include hn
theorem off5_eq : k0_off5 i (BitVec.ofNat 32 n) k = ![((i 1).val + 1 - n + k.val) * 256, 0] := by
  rw [← iv_mul_toNat i n hn k.val (k_lt i n hn k)]; rfl
theorem off6_eq : k0_off6 i (BitVec.ofNat 32 n) k = ![((i 1).val + 1 - n + k.val) * 256, 128] := by
  rw [← iv_mul_toNat i n hn k.val (k_lt i n hn k)]; rfl
theorem off7_eq : k0_off7 i (BitVec.ofNat 32 n) k = ![0, (i 1).val + 1 - n + k.val, 0, 0] := by
  rw [← iv_toNat i n hn k.val (k_lt i n hn k)]; rfl
theorem off8_eq : k0_off8 i (BitVec.ofNat 32 n) k = ![1, (i 1).val + 1 - n + k.val, 0, 0] := by
  rw [← iv_toNat i n hn k.val (k_lt i n hn k)]; rfl
end Offsets

/-- The check between the loops holds once the first has made `n ≤ a + 1` trips. -/
theorem chk2 (i : grid0.Coords) (n : ℕ) (hn : n ≤ (i 1).val + 1) : k0_chk2 i (BitVec.ofNat 32 n) := by
  have hr := row_lt i
  have h0 := t2_trips i n hn
  have hno : Fin (k0_t2_loop i (BitVec.ofNat 32 n)).trips → False := fun k =>
    absurd (lt_of_lt_of_eq k.isLt h0) (Nat.not_lt_zero _)
  refine ⟨t1_OK i n hn, fun k => ?_, fun k => ?_, fun k => ?_, fun k => ?_, fun k => ?_, t2_OK i n hn, fun k => (hno k).elim, fun k => (hno k).elim,
    fun k => (hno k).elim, fun k => (hno k).elim, fun k => (hno k).elim⟩ <;> have hk := k_lt i n hn k
  · have : (k0_mult2 i (BitVec.ofNat 32 n) k).toNat = ((i 1).val + 1 - n + k.val) * 256 := iv_mul_toNat i n hn k.val hk
    rw [this]; exact ⟨_, Nat.mul_comm _ _⟩
  · rw [off5_eq i n hn k]; exact rows_inb _ (by omega) _ (by omega)
  · rw [off6_eq i n hn k]; exact rows_inb _ (by omega) _ (by omega)
  · rw [off7_eq i n hn k]; exact slab_inb _ _ (by omega) (by omega)
  · rw [off8_eq i n hn k]; exact slab_inb _ _ (by omega) (by omega)

end Cert.KernelIdeal.Words

end
-- ==== Proof.Trip1.lean ====
/-
  The first loop of the kernel body: a `while` that visits the key blocks from the diagonal leftwards. One trip is the map
  `wStep` on what the loop carries and writes (`WSt`): the two running column carries, the two buffers of weights and
  scores, and the block of the third result. `spec_le` runs the loop for any family `W` of facts that a trip preserves: it
  ends after some `n ≤ a + 1` trips with `W n`, and either all `a + 1` blocks were visited or the loop's own test failed.
-/
module

public import proofs.«01_k».proof.Proof.Owns
public import proofs.«01_k».proof.Proof.Words
public import proofs.«01_k».proof.Proof.Gen.KernelIdeal.Skeleton
public import proofs.«01_k».proof.Proof.Gen.KernelIdeal.Points
public import Idealize.ShloMosaic.Lib.Pipeline.Kit

@[expose] public section

set_option maxRecDepth 16384

noncomputable section

namespace Cert.KernelIdeal.Run

open Cert.KernelIdeal Cert.KernelIdeal.Gen Cert.KernelIdeal.Words Cert.Proof.Owns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The loops of the body are entered at a natural: the trips still allowed. -/
abbrev 𝒱₀ : Variants := Variants.nat

/-- What the first loop carries and writes: the two carries, the weights, the scores, the third result's block. -/
structure WSt (F : FTy → Type) where
  c1 : Vec F S256x1 .f32
  c2 : Vec F S256x1 .f32
  P : Vec F S2x16x256x256 .f32
  Z : Vec F S2x16x256x256 .f32
  D : Vec F S4096x256 .f32

section Rects
variable (i : grid0.Coords) (s : ℕ) (hs : s ≤ (i 1).val)

/-- Trip `s`'s key rows at the first head's columns, -/
abbrev rA : Rect S4096x256 := Rect.unit (s := S4096x256) (k0_off1 i (BitVec.ofNat 32 s)) S256x128.size (k0_off1_inb i _ (chk1 i s hs))
/-- at the second head's; -/
abbrev rB : Rect S4096x256 := Rect.unit (s := S4096x256) (k0_off2 i (BitVec.ofNat 32 s)) S256x128.size (k0_off2_inb i _ (chk1 i s hs))
/-- its slab of a scratch buffer at the first head, -/
abbrev rC : Rect S2x16x256x256 := Rect.unit (s := S2x16x256x256) (k0_off3 i (BitVec.ofNat 32 s)) S1x1x256x256.size (k0_off3_inb i _ (chk1 i s hs))
/-- at the second. -/
abbrev rD : Rect S2x16x256x256 := Rect.unit (s := S2x16x256x256) (k0_off4 i (BitVec.ofNat 32 s)) S1x1x256x256.size (k0_off4_inb i _ (chk1 i s hs))

variable (v3 v4 : Vec F S256x128 .bf16) (v12 : FVec F S256x256 .bf16) (v5 v6 : Vec F S256x128 .bf16)
  (K V : Vec F S4096x256 .bf16)

/-- One trip. -/
def wStep (st : WSt F) : WSt F :=
  let v40 : Vec F S256x128 .bf16 := pick (rA i s hs) K
  let v42 : Vec F S256x128 .bf16 := pick (rB i s hs) K
  let v44 : Vec F S256x128 .bf16 := pick (rA i s hs) V
  let v46 : Vec F S256x128 .bf16 := pick (rB i s hs) V
  let v55 := k0_pay47 (BitVec.ofNat 32 s) (BitVec.ofNat 32 (i 1).val)
  let v56 := k0_pay48 v3 v40
  let v57 := k0_pay49 v4 v42
  let v67 := k0_pay50 v3 v40
  let v77 := k0_pay51 v4 v42
  let v78 := k0_pay52 v3 v40
  let z : F .f32 := Scalar.ofBits .f32 0x00000000#32
  let D1 := put (rA i s hs) (k0_pay3 (k0_pay58 v12 v5 st.c1 v55 v67 v78 z) (pick (rA i s hs) st.D)) st.D
  { c1 := k0_pay7 st.c1 (k0_pay53 v55 v78 z)
    c2 := k0_pay8 st.c2 (k0_pay54 v55 v57 v77)
    P := put (rD i s hs) (k0_pay4 (k0_pay57 v12 v6 st.c2 v46 v55 v57 v77))
      (put (rC i s hs) (k0_pay60 v12 v5 st.c1 v44 v55 v67 v78 z) st.P)
    Z := put (rD i s hs) (k0_pay5 v57) (put (rC i s hs) (k0_pay2 v56) st.Z)
    D := put (rB i s hs) (k0_pay6 (k0_pay59 v12 v6 st.c2 v55 v57 v77) (pick (rB i s hs) D1)) D1 }

/-- The array `D` of a trip after the first head's store. -/
def wD1 (st : WSt F) : Vec F S4096x256 .f32 :=
  put (rA i s hs) (k0_pay3 (k0_pay58 v12 v5 st.c1 (k0_pay47 (BitVec.ofNat 32 s) (BitVec.ofNat 32 (i 1).val)) (k0_pay50 v3 (pick (rA i s hs) K))
    (k0_pay52 v3 (pick (rA i s hs) K)) (Scalar.ofBits .f32 0x00000000#32)) (pick (rA i s hs) st.D)) st.D

theorem wStep_c1 (st : WSt F) : (wStep i s hs v3 v4 v12 v5 v6 K V st).c1
    = k0_pay7 st.c1 (k0_pay53 (k0_pay47 (BitVec.ofNat 32 s) (BitVec.ofNat 32 (i 1).val)) (k0_pay52 v3 (pick (rA i s hs) K)) (Scalar.ofBits .f32 0x00000000#32)) := by
  simp only [wStep]
theorem wStep_c2 (st : WSt F) : (wStep i s hs v3 v4 v12 v5 v6 K V st).c2
    = k0_pay8 st.c2 (k0_pay54 (k0_pay47 (BitVec.ofNat 32 s) (BitVec.ofNat 32 (i 1).val)) (k0_pay49 v4 (pick (rB i s hs) K)) (k0_pay51 v4 (pick (rB i s hs) K))) := by
  simp only [wStep]
theorem wStep_P (st : WSt F) : (wStep i s hs v3 v4 v12 v5 v6 K V st).P
    = put (rD i s hs) (k0_pay4 (k0_pay57 v12 v6 st.c2 (pick (rB i s hs) V) (k0_pay47 (BitVec.ofNat 32 s) (BitVec.ofNat 32 (i 1).val))
        (k0_pay49 v4 (pick (rB i s hs) K)) (k0_pay51 v4 (pick (rB i s hs) K))))
      (put (rC i s hs) (k0_pay60 v12 v5 st.c1 (pick (rA i s hs) V) (k0_pay47 (BitVec.ofNat 32 s) (BitVec.ofNat 32 (i 1).val))
        (k0_pay50 v3 (pick (rA i s hs) K)) (k0_pay52 v3 (pick (rA i s hs) K)) (Scalar.ofBits .f32 0x00000000#32)) st.P) := by
  simp only [wStep]
theorem wStep_Z (st : WSt F) : (wStep i s hs v3 v4 v12 v5 v6 K V st).Z
    = put (rD i s hs) (k0_pay5 (k0_pay49 v4 (pick (rB i s hs) K))) (put (rC i s hs) (k0_pay2 (k0_pay48 v3 (pick (rA i s hs) K))) st.Z) := by
  simp only [wStep]
theorem wStep_D (st : WSt F) : (wStep i s hs v3 v4 v12 v5 v6 K V st).D
    = put (rB i s hs) (k0_pay6 (k0_pay59 v12 v6 st.c2 (k0_pay47 (BitVec.ofNat 32 s) (BitVec.ofNat 32 (i 1).val))
        (k0_pay49 v4 (pick (rB i s hs) K)) (k0_pay51 v4 (pick (rB i s hs) K))) (pick (rB i s hs) (wD1 i s hs v3 v12 v5 K st)))
      (wD1 i s hs v3 v12 v5 K st) := by
  simp only [wStep, wD1]

end Rects

/-- The loop's test on its carries: some row is still alive. -/
def alive (c1 c2 : Vec F S256x1 .f32) : BitVec 1 := Scalar.cmpf .ogt (k0_pay1 c1 c2) (Named.named κ "dead" 0xC2D20000#32)

section Label

variable (c : Dev nD) (i : grid0.Coords)
  (arg3 : Memref sig .tc .vmem S4096x256 .bf16) (harg3 : arg3.IsWhole) (arg4 : Memref sig .tc .vmem S4096x256 .bf16) (harg4 : arg4.IsWhole)
  (v3 v4 : Vec F S256x128 .bf16) (v12 : FVec F S256x256 .bf16) (v5 v6 : Vec F S256x128 .bf16)
  (arg9 : Memref sig .tc .vmem S2x16x256x256 .f32) (harg9 : arg9.IsWhole) (arg10 : Memref sig .tc .vmem S2x16x256x256 .f32) (harg10 : arg10.IsWhole)
  (arg8 : Memref sig .tc .vmem S4096x256 .f32) (harg8 : arg8.IsWhole)
  (K V : Vec F S4096x256 .bf16)

/-- The buffers the loop reads and writes, held. -/
def held (st : WSt F) : sProp 𝕄 :=
  iprop(owns (c : Thread nD τ) arg3 fullShare K ∗ owns (c : Thread nD τ) arg4 fullShare V
    ∗ owns (c : Thread nD τ) arg9 fullShare st.P ∗ owns (c : Thread nD τ) arg10 fullShare st.Z
    ∗ owns (c : Thread nD τ) arg8 fullShare st.D)

variable (W : ℕ → WSt F → Prop)

/-- What is known when the loop has stopped: it made `n ≤ a + 1` trips, the facts hold at `n`, and it visited every block or
    its test failed. -/
def Stopped (r : BitVec 32 × FVec F S256x1 .f32 × FVec F S256x1 .f32) (st : WSt F) : Prop :=
  ∃ n : ℕ, r = (BitVec.ofNat 32 n, st.c1, st.c2) ∧ n ≤ (i 1).val + 1 ∧ W n st ∧ (n = (i 1).val + 1 ∨ alive st.c1 st.c2 ≠ 1#1)

/-- The loop's specification from the state `st`. -/
def spec (st : WSt F) : sWPT 𝕄 (BitVec 32 × FVec F S256x1 .f32 × FVec F S256x1 .f32) := do
  sWPT.consume (held c arg3 arg4 arg9 arg10 arg8 K V st)
  let r ← (sWPT.arbitrary : sWPT 𝕄 ((BitVec 32 × FVec F S256x1 .f32 × FVec F S256x1 .f32) × WSt F))
  sWPT.assume (Stopped i W r.1 r.2)
  sWPT.produce (held c arg3 arg4 arg9 arg10 arg8 K V r.2)
  pure r.1

theorem spec_apply (st : WSt F) (Q : BitVec 32 × FVec F S256x1 .f32 × FVec F S256x1 .f32 → sProp 𝕄) :
    spec c i arg3 arg4 arg9 arg10 arg8 K V W st Q
      = iprop(held c arg3 arg4 arg9 arg10 arg8 K V st ∗ ∀ r : (BitVec 32 × FVec F S256x1 .f32 × FVec F S256x1 .f32) × WSt F,
          ⌜Stopped i W r.1 r.2⌝ -∗ (held c arg3 arg4 arg9 arg10 arg8 K V r.2 -∗ Q r.1)) := rfl

theorem andi_one (b : BitVec 1) : Scalar.andi 1#1 b = b := by revert b; decide
theorem andi_zero (b : BitVec 1) : Scalar.andi 0#1 b = 0#1 := by revert b; decide

set_option maxHeartbeats 2000000 in
/-- The loop from trip `s` on, with `k` blocks left to visit, meets its specification. -/
theorem spec_le (E : Set ℕ)
    (hstep : ∀ s (hs : s ≤ (i 1).val) st, W s st → W (s + 1) (wStep i s hs v3 v4 v12 v5 v6 K V st)) :
    ∀ k s, s + k = (i 1).val + 1 → ∀ st, W s st → ∀ Q, spec c i arg3 arg4 arg9 arg10 arg8 K V W st Q
      ⊢ wp frame (wpE (defs₀ (F := F)) 𝒱₀ (c : Thread nD τ) (some k)) E
          (defs₀ (F := F) .tc 1 ⟨i, arg3, harg3, arg4, harg4, v3, v4, v12, v5, v6, arg9, harg9, arg10, harg10, arg8, harg8,
            BitVec.ofNat 32 s, st.c1, st.c2⟩) Q := by
  have hr := row_lt i
  intro k
  induction k with
  | zero =>
    intro s hsk st hW Q
    rw [spec_apply]
    show _ ⊢ wp frame (wpE (defs₀ (F := F)) 𝒱₀ (c : Thread nD τ) (some 0)) E
      (cc0_while1 i arg3 harg3 arg4 harg4 v3 v4 v12 v5 v6 arg9 harg9 arg10 harg10 arg8 harg8 (BitVec.ofNat 32 s) st.c1 st.c2) Q
    simp only [cc0_while1_eq_skeleton]; unfold cc0_while1_skel
    have h0 : ¬ (0#1 : BitVec 1) = 1#1 := by decide
    simp only [sle_eq i s (by omega), if_neg (show ¬ s ≤ (i 1).val by omega), andi_zero, h0, ↓reduceIte, Prog.pure_eq_ret]
    iintro ⟨H, Hk⟩
    rw [wp_ret]; imodintro
    iapply Hk $$ %((BitVec.ofNat 32 s, st.c1, st.c2), st)
    · ipureintro; exact ⟨s, rfl, by omega, hW, Or.inl (by omega)⟩
    · iexact H
  | succ k ih =>
    intro s hsk st hW Q
    have hs : s ≤ (i 1).val := by omega
    rw [spec_apply]
    show _ ⊢ wp frame (wpE (defs₀ (F := F)) 𝒱₀ (c : Thread nD τ) (some (k + 1))) E
      (cc0_while1 i arg3 harg3 arg4 harg4 v3 v4 v12 v5 v6 arg9 harg9 arg10 harg10 arg8 harg8 (BitVec.ofNat 32 s) st.c1 st.c2) Q
    simp only [cc0_while1_eq_skeleton]; unfold cc0_while1_skel
    simp only [sle_eq i s (by omega), if_pos hs, andi_one]
    by_cases ha : alive st.c1 st.c2 = 1#1
    · rw [if_pos (show Scalar.cmpf .ogt (k0_pay1 st.c1 st.c2) (Named.named κ "dead" 0xC2D20000#32) = 1#1 from ha)]
      simp only [k0_part6_eq_skeleton, k0_part7_eq_skeleton]; unfold k0_part6_skel k0_part7_skel
      simp only [Prog.lift, Prog.bind_op, Prog.bind_ret, Prog.pure_eq_ret, succ_eq]
      unfold held
      iintro ⟨⟨H3, H4, H9, H10, H8⟩, Hk⟩
      iapply (wp_assume 𝒱₀ (c : Thread nD τ) (some (k + 1)) E (chk1 i s hs))
      iapply (wp_load_owns 𝒱₀ (c : Thread nD τ) (some (k + 1)) E (r := rA i s hs)) $$ H3; iintro H3
      iapply (wp_load_owns 𝒱₀ (c : Thread nD τ) (some (k + 1)) E (r := rB i s hs)) $$ H3; iintro H3
      iapply (wp_load_owns 𝒱₀ (c : Thread nD τ) (some (k + 1)) E (r := rA i s hs)) $$ H4; iintro H4
      iapply (wp_load_owns 𝒱₀ (c : Thread nD τ) (some (k + 1)) E (r := rB i s hs)) $$ H4; iintro H4
      iapply (wp_load_owns 𝒱₀ (c : Thread nD τ) (some (k + 1)) E (r := rC i s hs)) $$ H9; iintro H9
      iapply (wp_store_owns 𝒱₀ (c : Thread nD τ) (some (k + 1)) E (r := rC i s hs)) $$ H9; iintro H9
      iapply (wp_load_owns 𝒱₀ (c : Thread nD τ) (some (k + 1)) E (r := rC i s hs)) $$ H10; iintro H10
      iapply (wp_store_owns 𝒱₀ (c : Thread nD τ) (some (k + 1)) E (r := rC i s hs)) $$ H10; iintro H10
      iapply (wp_load_owns 𝒱₀ (c : Thread nD τ) (some (k + 1)) E (r := rA i s hs)) $$ H8; iintro H8
      iapply (wp_load_owns 𝒱₀ (c : Thread nD τ) (some (k + 1)) E (r := rA i s hs)) $$ H8; iintro H8
      iapply (wp_store_owns 𝒱₀ (c : Thread nD τ) (some (k + 1)) E (r := rA i s hs)) $$ H8; iintro H8
      iapply (wp_load_owns 𝒱₀ (c : Thread nD τ) (some (k + 1)) E (r := rD i s hs)) $$ H9; iintro H9
      iapply (wp_store_owns 𝒱₀ (c : Thread nD τ) (some (k + 1)) E (r := rD i s hs)) $$ H9; iintro H9
      iapply (wp_load_owns 𝒱₀ (c : Thread nD τ) (some (k + 1)) E (r := rD i s hs)) $$ H10; iintro H10
      iapply (wp_store_owns 𝒱₀ (c : Thread nD τ) (some (k + 1)) E (r := rD i s hs)) $$ H10; iintro H10
      iapply (wp_load_owns 𝒱₀ (c : Thread nD τ) (some (k + 1)) E (r := rB i s hs)) $$ H8; iintro H8
      iapply (wp_load_owns 𝒱₀ (c : Thread nD τ) (some (k + 1)) E (r := rB i s hs)) $$ H8; iintro H8
      iapply (wp_store_owns 𝒱₀ (c : Thread nD τ) (some (k + 1)) E (r := rB i s hs)) $$ H8; iintro H8
      have hW' := hstep s hs st hW
      have ih' := ih (s + 1) (by omega) (wStep i s hs v3 v4 v12 v5 v6 K V st) hW'
      rw [wStep_c1, wStep_c2] at ih'
      iapply (wp_call_spec 𝒱₀ (c : Thread nD τ) (some (k + 1)) E
        (spec c i arg3 arg4 arg9 arg10 arg8 K V W (wStep i s hs v3 v4 v12 v5 v6 K V st)) k
        (fun u hu => by cases hu; exact Nat.lt_succ_self k)
        ih')
      rw [spec_apply]; unfold held; rw [wStep_P, wStep_Z, wStep_D]; unfold wD1
      isplitl [H3 H4 H9 H10 H8]
      · isplitl [H3]; · iexact H3
        isplitl [H4]; · iexact H4
        isplitl [H9]; · iexact H9
        isplitl [H10]; · iexact H10
        iexact H8
      iintro %r %hr' ⟨H3, H4, H9, H10, H8⟩
      rw [wp_ret]; imodintro
      iapply Hk $$ %r
      · ipureintro; exact hr'
      · isplitl [H3]; · iexact H3
        isplitl [H4]; · iexact H4
        isplitl [H9]; · iexact H9
        isplitl [H10]; · iexact H10
        iexact H8
    · rw [if_neg (show ¬ Scalar.cmpf .ogt (k0_pay1 st.c1 st.c2) (Named.named κ "dead" 0xC2D20000#32) = 1#1 from ha)]
      simp only [Prog.pure_eq_ret]
      iintro ⟨H, Hk⟩
      rw [wp_ret]; imodintro
      iapply Hk $$ %((BitVec.ofNat 32 s, st.c1, st.c2), st)
      · ipureintro; exact ⟨s, rfl, by omega, hW, Or.inr ha⟩
      · iexact H

end Label

end Cert.KernelIdeal.Run

end
-- ==== Proof.Trip2.lean ====
/-
  The second loop of the kernel body: over the key blocks the first loop visited, from the leftmost to the diagonal. One trip
  is the map `lStep` on what the loop carries and writes (`LSt`): the two running prefix sums, the two heads' first results,
  and the block of the second result. `trip2` runs one trip.
-/
module

public import proofs.«01_k».proof.Proof.Trip1

@[expose] public section

set_option maxRecDepth 16384

noncomputable section

namespace Cert.KernelIdeal.Run

open Cert.KernelIdeal Cert.KernelIdeal.Gen Cert.KernelIdeal.Words Cert.Proof.Owns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the second loop carries and writes: the two prefix sums, the two heads' rows of the first result, the second
    result's block. -/
structure LSt (F : FTy → Type) where
  r1 : Vec F S256x1 .f32
  r2 : Vec F S256x1 .f32
  q1 : Vec F S256x128 .f32
  q2 : Vec F S256x128 .f32
  D : Vec F S4096x256 .f32

/-- The carried part. -/
abbrev LSt.acc (st : LSt F) : FVec F S256x1 .f32 × FVec F S256x1 .f32 × FVec F S256x128 .f32 × FVec F S256x128 .f32 :=
  (st.r1, st.r2, st.q1, st.q2)

section Rects
variable (i : grid0.Coords) (n : ℕ) (hn : n ≤ (i 1).val + 1) (k : Fin (k0_t1_loop i (BitVec.ofNat 32 n)).trips)

abbrev sA : Rect S4096x256 := Rect.unit (s := S4096x256) (k0_off5 i (BitVec.ofNat 32 n) k) S256x128.size (k0_off5_inb i _ (chk2 i n hn) k)
abbrev sB : Rect S4096x256 := Rect.unit (s := S4096x256) (k0_off6 i (BitVec.ofNat 32 n) k) S256x128.size (k0_off6_inb i _ (chk2 i n hn) k)
abbrev sC : Rect S2x16x256x256 := Rect.unit (s := S2x16x256x256) (k0_off7 i (BitVec.ofNat 32 n) k) S1x1x256x256.size (k0_off7_inb i _ (chk2 i n hn) k)
abbrev sD : Rect S2x16x256x256 := Rect.unit (s := S2x16x256x256) (k0_off8 i (BitVec.ofNat 32 n) k) S1x1x256x256.size (k0_off8_inb i _ (chk2 i n hn) k)

variable (v3 v4 : Vec F S256x128 .bf16) (K : Vec F S4096x256 .bf16) (P Z : Vec F S2x16x256x256 .f32)

/-- The mask of the trip's key block. -/
abbrev lMask : IVec S256x256 1 := k0_pay9 i (BitVec.ofNat 32 (i 1).val) (BitVec.ofNat 32 n) (base i n) 1#32 k

/-- The second result's block after the first head's store of a trip. -/
def lD1 (st : LSt F) : Vec F S4096x256 .f32 :=
  put (sA i n hn k) (k0_pay17 v3 (k0_pay30 (F := F)) st.r1 (lMask i n k) (k0_pay10 (pick (sC i n hn k) P)) (k0_pay12 (pick (sC i n hn k) Z))
    (pick (sA i n hn k) st.D)) st.D

/-- One trip. -/
def lStep (st : LSt F) : LSt F where
  r1 := k0_pay38 st.r1 (k0_pay10 (pick (sC i n hn k) P))
  r2 := k0_pay39 st.r2 (k0_pay11 (pick (sD i n hn k) P))
  q1 := k0_pay40 st.q1 (pick (sA i n hn k) K) (k0_pay14 (k0_pay30 (F := F)) st.r1 (lMask i n k) (k0_pay10 (pick (sC i n hn k) P))
    (k0_pay12 (pick (sC i n hn k) Z)))
  q2 := k0_pay41 st.q2 (pick (sB i n hn k) K) (k0_pay15 (k0_pay30 (F := F)) st.r2 (lMask i n k) (k0_pay11 (pick (sD i n hn k) P))
    (k0_pay13 (pick (sD i n hn k) Z)) (Scalar.ofBits .f32 0x3F800000#32))
  D := put (sB i n hn k) (k0_pay37 (k0_pay16 v4 (k0_pay30 (F := F)) st.r2 (lMask i n k) (k0_pay11 (pick (sD i n hn k) P))
    (k0_pay13 (pick (sD i n hn k) Z)) (Scalar.ofBits .f32 0x3F800000#32)) (pick (sB i n hn k) (lD1 i n hn k v3 P Z st)))
    (lD1 i n hn k v3 P Z st)

theorem lStep_acc (st : LSt F) : (lStep i n hn k v3 v4 K P Z st).acc
    = (k0_pay38 st.r1 (k0_pay10 (pick (sC i n hn k) P)), k0_pay39 st.r2 (k0_pay11 (pick (sD i n hn k) P)),
      k0_pay40 st.q1 (pick (sA i n hn k) K) (k0_pay14 (k0_pay30 (F := F)) st.r1 (lMask i n k) (k0_pay10 (pick (sC i n hn k) P))
        (k0_pay12 (pick (sC i n hn k) Z))),
      k0_pay41 st.q2 (pick (sB i n hn k) K) (k0_pay15 (k0_pay30 (F := F)) st.r2 (lMask i n k) (k0_pay11 (pick (sD i n hn k) P))
        (k0_pay13 (pick (sD i n hn k) Z)) (Scalar.ofBits .f32 0x3F800000#32))) := by
  simp only [lStep, LSt.acc]
theorem lStep_D (st : LSt F) : (lStep i n hn k v3 v4 K P Z st).D
    = put (sB i n hn k) (k0_pay37 (k0_pay16 v4 (k0_pay30 (F := F)) st.r2 (lMask i n k) (k0_pay11 (pick (sD i n hn k) P))
        (k0_pay13 (pick (sD i n hn k) Z)) (Scalar.ofBits .f32 0x3F800000#32)) (pick (sB i n hn k) (lD1 i n hn k v3 P Z st)))
      (lD1 i n hn k v3 P Z st) := by
  simp only [lStep]

end Rects

section Trip
variable (c : Dev nD) (i : grid0.Coords)
  (arg2 : Memref sig .tc .vmem S256x256 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S256x256 .bf16) (harg5 : arg5.IsWhole)
  (arg6 : Memref sig .tc .vmem S256x256 .f32) (harg6 : arg6.IsWhole) (arg7 : Memref sig .tc .vmem S4096x256 .f32) (harg7 : arg7.IsWhole)
  (arg8 : Memref sig .tc .vmem S4096x256 .f32) (harg8 : arg8.IsWhole)
  (arg9 : Memref sig .tc .vmem S2x16x256x256 .f32) (harg9 : arg9.IsWhole) (arg10 : Memref sig .tc .vmem S2x16x256x256 .f32) (harg10 : arg10.IsWhole)
  (v3 v4 : Vec F S256x128 .bf16) (K : Vec F S4096x256 .bf16) (P Z : Vec F S2x16x256x256 .f32)

/-- The buffers the second loop reads and writes, held. -/
def held2 (D : Vec F S4096x256 .f32) : sProp 𝕄 :=
  iprop(owns (c : Thread nD τ) arg3 fullShare K ∗ owns (c : Thread nD τ) arg9 fullShare P
    ∗ owns (c : Thread nD τ) arg10 fullShare Z ∗ owns (c : Thread nD τ) arg7 fullShare D)

set_option maxHeartbeats 2000000 in
/-- One trip of the second loop. -/
theorem trip2 (E : Set ℕ) (n : ℕ) (hn : n ≤ (i 1).val + 1) (k : Fin (k0_t1_loop i (BitVec.ofNat 32 n)).trips) (st : LSt F)
    (acc : FVec F S256x1 .f32 × FVec F S256x1 .f32 × FVec F S256x128 .f32 × FVec F S256x128 .f32) (hacc : acc = st.acc)
    (Q : FVec F S256x1 .f32 × FVec F S256x1 .f32 × FVec F S256x128 .f32 × FVec F S256x128 .f32 → sProp 𝕄) :
    iprop(held2 c arg3 arg7 arg9 arg10 K P Z st.D
        ∗ (held2 c arg3 arg7 arg9 arg10 K P Z (lStep i n hn k v3 v4 K P Z st).D -∗ Q (lStep i n hn k v3 v4 K P Z st).acc))
      ⊢ wp frame (wpE (defs₀ (F := F)) 𝒱₀ (c : Thread nD τ) none) E
          (k0_t1_body i arg2 harg2 arg3 harg3 arg4 harg4 arg5 harg5 arg6 harg6 arg7 harg7 arg8 harg8 arg9 harg9 arg10 harg10
            (BitVec.ofNat 32 (i 1).val) v3 v4 (BitVec.ofNat 32 n) (chk2 i n hn) (base i n) k acc) Q := by
  subst hacc
  rw [lStep_acc, lStep_D]
  unfold k0_t1_body
  simp only [k0_part1_eq_skeleton, k0_part2_eq_skeleton]; unfold k0_part1_skel k0_part2_skel
  simp only [Prog.lift, Prog.bind_op, Prog.bind_ret, Prog.pure_eq_ret]
  unfold held2
  iintro ⟨⟨H3, H9, H10, H7⟩, Hk⟩
  iapply (wp_load_owns 𝒱₀ (c : Thread nD τ) none E (r := sA i n hn k)) $$ H3; iintro H3
  iapply (wp_load_owns 𝒱₀ (c : Thread nD τ) none E (r := sB i n hn k)) $$ H3; iintro H3
  iapply (wp_load_owns 𝒱₀ (c : Thread nD τ) none E (r := sC i n hn k)) $$ H9; iintro H9
  iapply (wp_load_owns 𝒱₀ (c : Thread nD τ) none E (r := sD i n hn k)) $$ H9; iintro H9
  iapply (wp_load_owns 𝒱₀ (c : Thread nD τ) none E (r := sC i n hn k)) $$ H10; iintro H10
  iapply (wp_load_owns 𝒱₀ (c : Thread nD τ) none E (r := sD i n hn k)) $$ H10; iintro H10
  iapply (wp_load_owns 𝒱₀ (c : Thread nD τ) none E (r := sA i n hn k)) $$ H7; iintro H7
  iapply (wp_load_owns 𝒱₀ (c : Thread nD τ) none E (r := sA i n hn k)) $$ H7; iintro H7
  iapply (wp_store_owns 𝒱₀ (c : Thread nD τ) none E (r := sA i n hn k)) $$ H7; iintro H7
  iapply (wp_load_owns 𝒱₀ (c : Thread nD τ) none E (r := sB i n hn k)) $$ H7; iintro H7
  iapply (wp_load_owns 𝒱₀ (c : Thread nD τ) none E (r := sB i n hn k)) $$ H7; iintro H7
  iapply (wp_store_owns 𝒱₀ (c : Thread nD τ) none E (r := sB i n hn k)) $$ H7; iintro H7
  rw [wp_ret]; imodintro
  iapply Hk
  unfold lD1
  isplitl [H3]; · iexact H3
  isplitl [H9]; · iexact H9
  isplitl [H10]; · iexact H10
  iexact H7

end Trip

end Cert.KernelIdeal.Run

end
-- ==== Proof.Body.lean ====
/-
  The kernel body at one grid point, run once for any reading of what it computes: a family `W` of facts that the first
  loop's trips preserve, a family `L` that the second loop's trips preserve, and a fact `R` of the three results' blocks
  that follows from them. With all three `True` this is the body's safety; with `W`, `L`, `R` the mathematics it is its
  value.
-/
module

public import proofs.«01_k».proof.Proof.Trip2

@[expose] public section

set_option maxRecDepth 16384

noncomputable section

namespace Cert.KernelIdeal.Run

open Cert.KernelIdeal Cert.KernelIdeal.Gen Cert.KernelIdeal.Words Cert.Proof.Owns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The first head's columns of a row block, -/
abbrev hA : Rect S256x256 := Rect.unit (s := S256x256) ![0, 0] S256x128.size inb_S256x256_S256x128_0_0
/-- the second's; -/
abbrev hB : Rect S256x256 := Rect.unit (s := S256x256) ![0, 128] S256x128.size inb_S256x256_S256x128_0_128
/-- a whole column block. -/
abbrev rW : Rect S4096x256 := Rect.unit (s := S4096x256) ![0, 0] S4096x256.size inb_S4096x256_S4096x256_0_0

/-- The test of the clearing at the first row. -/
def first (i : grid0.Coords) : Prop :=
  Scalar.cmpi .ne (Scalar.extui (Scalar.cmpi .eq (BitVec.ofNat 32 (i 1).val) 0#32) : BitVec 32) 0#32 = 1#1

instance (i : grid0.Coords) : Decidable (first i) := by unfold first; infer_instance

/-- A result's block as the loops find it: cleared at the first row, else as it was. -/
def init0 (i : grid0.Coords) (w X : Vec F S4096x256 .f32) : Vec F S4096x256 .f32 := if first i then put rW w X else X

variable (i : grid0.Coords) (Qb : Vec F S256x256 .bf16) (K V : Vec F S4096x256 .bf16) (Ob : Vec F S256x256 .bf16) (DK DV : Vec F S4096x256 .f32)

/-- A reading of the body at grid point `i` on the blocks `Qb`, `K`, `V`, `Ob` with the second and third results' blocks at
    `DK`, `DV` before. -/
structure Reading where
  /-- The first loop's facts after `s` trips. -/
  W : ℕ → WSt F → Prop
  /-- The second loop's after `k` of its `n` trips, on the weights and scores. -/
  L : ℕ → WSt F → ℕ → LSt F → Prop
  /-- The results' blocks. -/
  R : Vec F S256x256 .f32 → Vec F S4096x256 .f32 → Vec F S4096x256 .f32 → Prop
  hW0 : ∀ P Z, W 0 ⟨k0_pay31, k0_pay32, P, Z, init0 i k0_pay28 DV⟩
  hW : ∀ s (hs : s ≤ (i 1).val) st, W s st → W (s + 1) (wStep i s hs (pick hA Qb) (pick hB Qb) k0_pay29 (pick hA Ob) (pick hB Ob) K V st)
  hL0 : ∀ n, n ≤ (i 1).val + 1 → ∀ st, W n st → (n = (i 1).val + 1 ∨ alive st.c1 st.c2 ≠ 1#1) →
    L n st 0 ⟨k0_pay33, k0_pay34, k0_pay35, k0_pay36, init0 i k0_pay27 DK⟩
  hL : ∀ n (hn : n ≤ (i 1).val + 1) st k ls, L n st k.val ls →
    L n st (k.val + 1) (lStep i n hn k (pick hA Qb) (pick hB Qb) K st.P st.Z ls)
  hR : ∀ n st ls, n ≤ (i 1).val + 1 → L n st n ls → ∀ X, R (put hB ls.q2 (put hA ls.q1 X)) ls.D st.D

variable (c : Dev nD)
  (arg2 : Memref sig .tc .vmem S256x256 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S256x256 .bf16) (harg5 : arg5.IsWhole)
  (arg6 : Memref sig .tc .vmem S256x256 .f32) (harg6 : arg6.IsWhole) (arg7 : Memref sig .tc .vmem S4096x256 .f32) (harg7 : arg7.IsWhole)
  (arg8 : Memref sig .tc .vmem S4096x256 .f32) (harg8 : arg8.IsWhole)
  (arg9 : Memref sig .tc .vmem S2x16x256x256 .f32) (harg9 : arg9.IsWhole) (arg10 : Memref sig .tc .vmem S2x16x256x256 .f32) (harg10 : arg10.IsWhole)

/-- The second loop's facts on the carried values. -/
def Carried (n : ℕ) (st : WSt F) (Lk : ℕ → LSt F → Prop) (k : ℕ)
    (acc : FVec F S256x1 .f32 × FVec F S256x1 .f32 × FVec F S256x128 .f32 × FVec F S256x128 .f32) : sProp 𝕄 :=
  iprop(∃ ls : LSt F, ⌜acc = ls.acc ∧ Lk k ls⌝ ∗ held2 c arg3 arg7 arg9 arg10 K st.P st.Z ls.D)

set_option maxHeartbeats 4000000 in
/-- The body, from the four blocks it reads, the three results' blocks and the two scratch buffers at anything, to the same
    with the results' blocks as the reading says. -/
theorem body_run (rd : Reading i Qb K V Ob DK DV) (X : Vec F S256x256 .f32) (P Z : Vec F S2x16x256x256 .f32) (T : PUnit → sProp 𝕄) :
    iprop(owns (c : Thread nD τ) arg2 fullShare Qb ∗ owns (c : Thread nD τ) arg3 fullShare K ∗ owns (c : Thread nD τ) arg4 fullShare V
        ∗ owns (c : Thread nD τ) arg5 fullShare Ob ∗ owns (c : Thread nD τ) arg6 fullShare X ∗ owns (c : Thread nD τ) arg7 fullShare DK
        ∗ owns (c : Thread nD τ) arg8 fullShare DV ∗ owns (c : Thread nD τ) arg9 fullShare P ∗ owns (c : Thread nD τ) arg10 fullShare Z
        ∗ (∀ R : (Vec F S256x256 .f32 × Vec F S4096x256 .f32 × Vec F S4096x256 .f32) × (Vec F S2x16x256x256 .f32 × Vec F S2x16x256x256 .f32),
            ⌜rd.R R.1.1 R.1.2.1 R.1.2.2⌝ -∗
            (owns (c : Thread nD τ) arg2 fullShare Qb ∗ owns (c : Thread nD τ) arg3 fullShare K ∗ owns (c : Thread nD τ) arg4 fullShare V
              ∗ owns (c : Thread nD τ) arg5 fullShare Ob ∗ owns (c : Thread nD τ) arg6 fullShare R.1.1
              ∗ owns (c : Thread nD τ) arg7 fullShare R.1.2.1 ∗ owns (c : Thread nD τ) arg8 fullShare R.1.2.2
              ∗ owns (c : Thread nD τ) arg9 fullShare R.2.1 ∗ owns (c : Thread nD τ) arg10 fullShare R.2.2) -∗ T ⟨⟩))
      ⊢ wp frame (wpE (defs₀ (F := F)) 𝒱₀ (c : Thread nD τ) none) Set.univ
          (cc0_sb_bwd i arg2 harg2 arg3 harg3 arg4 harg4 arg5 harg5 arg6 harg6 arg7 harg7 arg8 harg8 arg9 harg9 arg10 harg10) T := by
  obtain ⟨W, L, R, hW0, hW, hL0, hL, hR⟩ := rd
  simp only [cc0_sb_bwd_eq_skeleton]; unfold cc0_sb_bwd_skel
  simp only [k0_part5_eq_skeleton]; unfold k0_part5_skel
  have hb : first i ↔ Scalar.cmpi .ne (Scalar.extui (Scalar.cmpi .eq (BitVec.ofNat 32 (i 1).val) 0#32) : BitVec 32) 0#32 = 1#1 := Iff.rfl
  by_cases hz : first i
  case' pos =>
    simp only [init0, if_pos hz] at hW0 hL0
    rw [dif_pos (hb.mp hz)]
    simp only [Prog.lift, Prog.bind_op, Prog.bind_ret, Prog.pure_eq_ret]
    iintro ⟨H2, H3, H4, H5, H6, H7, H8, H9, H10, Hk⟩
    iapply (wp_load_owns 𝒱₀ (c : Thread nD τ) none Set.univ (r := rW)) $$ H7; iintro H7
    iapply (wp_store_owns 𝒱₀ (c : Thread nD τ) none Set.univ (r := rW)) $$ H7; iintro H7
    iapply (wp_load_owns 𝒱₀ (c : Thread nD τ) none Set.univ (r := rW)) $$ H8; iintro H8
    iapply (wp_store_owns 𝒱₀ (c : Thread nD τ) none Set.univ (r := rW)) $$ H8; iintro H8
  case' neg =>
    simp only [init0, if_neg hz] at hW0 hL0
    rw [dif_neg (fun h => hz (hb.mpr h))]
    simp only [Prog.lift, Prog.bind_op, Prog.bind_ret, Prog.pure_eq_ret]
    iintro ⟨H2, H3, H4, H5, H6, H7, H8, H9, H10, Hk⟩
  all_goals
    iapply (wp_load_owns 𝒱₀ (c : Thread nD τ) none Set.univ (r := hA)) $$ H2; iintro H2
    iapply (wp_load_owns 𝒱₀ (c : Thread nD τ) none Set.univ (r := hB)) $$ H2; iintro H2
    iapply (wp_load_owns 𝒱₀ (c : Thread nD τ) none Set.univ (r := hA)) $$ H5; iintro H5
    iapply (wp_load_owns 𝒱₀ (c : Thread nD τ) none Set.univ (r := hB)) $$ H5; iintro H5
    -- the first loop
    have h1 := spec_le c i arg3 harg3 arg4 harg4 (pick hA Qb) (pick hB Qb) (k0_pay29 (F := F)) (pick hA Ob) (pick hB Ob)
      arg9 harg9 arg10 harg10 arg8 harg8 K V W Set.univ hW ((i 1).val + 1) 0 (by omega) _ (hW0 P Z)
    iapply (wp_call_spec 𝒱₀ (c : Thread nD τ) none Set.univ _ ((i 1).val + 1) (fun u hu => nomatch hu) h1)
    rw [spec_apply]; unfold held
    isplitl [H3 H4 H9 H10 H8]
    · isplitl [H3]; · iexact H3
      isplitl [H4]; · iexact H4
      isplitl [H9]; · iexact H9
      isplitl [H10]; · iexact H10
      iexact H8
    iintro %r %hst ⟨H3, H4, H9, H10, H8⟩
    obtain ⟨r, st⟩ := r
    obtain ⟨n, hr, hn, hWn, hstop⟩ := hst
    dsimp only at hr hWn hstop
    subst hr
    dsimp only
    iapply (wp_assume 𝒱₀ (c : Thread nD τ) none Set.univ (chk2 i n hn))
    -- the second loop
    have hL0' := hL0 n hn st hWn hstop
    ihave HI : (Carried K c arg3 arg7 arg9 arg10 n st (L n st) 0
      (k0_pay33 (F := F), k0_pay34 (F := F), k0_pay35 (F := F), k0_pay36 (F := F))) $$ [H3 H9 H10 H7]
    · unfold Carried
      iexists _
      isplitr
      · ipureintro; exact ⟨rfl, hL0'⟩
      unfold held2
      isplitl [H3]; · iexact H3
      isplitl [H9]; · iexact H9
      isplitl [H10]; · iexact H10
      iexact H7
    rw [wp_bind]
    iapply (Scf.wp_for_bind frame (wpE (defs₀ (F := F)) 𝒱₀ (c : Thread nD τ) none) Set.univ _ _ _ _ _ _
      (Carried K c arg3 arg7 arg9 arg10 n st (L n st)) (fun k acc => by
        unfold Carried
        iintro ⟨%ls, %hls, H⟩
        obtain ⟨hacc, hLk⟩ := hls
        iapply (trip2 c i arg2 harg2 arg3 harg3 arg4 harg4 arg5 harg5 arg6 harg6 arg7 harg7 arg8 harg8 arg9 harg9 arg10 harg10
          (pick hA Qb) (pick hB Qb) K st.P st.Z Set.univ n hn k ls acc hacc)
        isplitl [H]; · iexact H
        iintro H
        iexists (lStep i n hn k (pick hA Qb) (pick hB Qb) K st.P st.Z ls)
        isplitr
        · ipureintro; exact ⟨rfl, hL n hn st k ls hLk⟩
        iexact H)) $$ HI
    iintro %acc HI
    -- the remainder loop makes no trip
    iapply (Scf.wp_for_bind frame (wpE (defs₀ (F := F)) 𝒱₀ (c : Thread nD τ) none) Set.univ _ _ _ _ _ _
      (fun _ acc => Carried K c arg3 arg7 arg9 arg10 n st (L n st) n acc)
      (fun k _ => absurd (lt_of_lt_of_eq k.isLt (t2_trips i n hn)) (Nat.not_lt_zero _))) $$ [HI]
    · rw [show Scf.trips _ _ _ = n from t1_trips i n hn]
      iexact HI
    iintro %acc2 HI
    unfold Carried held2
    icases HI with ⟨%ls, %hls, ⟨H3, H9, H10, H7⟩⟩
    obtain ⟨hacc, hLn⟩ := hls
    subst hacc
    rw [wp_ret]; imodintro
    dsimp only [LSt.acc]
    iapply (wp_load_owns 𝒱₀ (c : Thread nD τ) none Set.univ (r := hA)) $$ H6; iintro H6
    iapply (wp_store_owns 𝒱₀ (c : Thread nD τ) none Set.univ (r := hA)) $$ H6; iintro H6
    iapply (wp_load_owns 𝒱₀ (c : Thread nD τ) none Set.univ (r := hB)) $$ H6; iintro H6
    iapply (wp_store_owns 𝒱₀ (c : Thread nD τ) none Set.univ (r := hB)) $$ H6; iintro H6
    rw [wp_ret]; imodintro
    iapply Hk $$ %((put hB ls.q2 (put hA ls.q1 X), ls.D, st.D), (st.P, st.Z))
    · ipureintro; exact hR n st ls hn hLn X
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.KernelIdeal.Run

end
-- ==== Proof.Frame.lean ====
/-
  The kernel's launch: the windows' arrays as the launch finds them, the body's obligation at every grid point for any
  reading, and the frame — every execution ends, with the four inputs unchanged and every counter at zero — by the reading
  that says nothing, the three results forgotten.
-/
module

public import proofs.«01_k».proof.Proof.Body
public import proofs.«01_k».proof.Proof.Gen.KernelIdeal.Launch
public import proofs.«01_k».proof.Proof.Gen.KernelIdeal.Points
public import Idealize.ShloMosaic.Lib.Pipeline.FrameBody

@[expose] public section

set_option maxRecDepth 16384

noncomputable section

namespace Cert.KernelIdeal.Run

open Cert.KernelIdeal Cert.KernelIdeal.Gen Cert.KernelIdeal.Words Cert.Proof.Owns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Every buffer as the launch finds it. -/
abbrev V (c : Dev nD) (b : Ref sig .tc) : Buf (Elt F) ((c : Thread nD τ).loc b) := m ((c : Thread nD τ).loc b)

theorem hmain (𝒱 : Variants) : Pipeline.HMain (Ix := Unit) (Name := ℕ) (U := UR sig nD τ) (Lvl := ℕ) cfgs 0 defs₀ 𝒱 m (main (F := F)) (V m) :=
  Pipeline.hmain_region cfgs 0 defs₀ 𝒱 m main fun c => (main_chain c).trans rfl

/-- A window's block at a grid point, of its array as the launch finds it. -/
def iblk (c : Dev nD) (w : Fin (cfg0 (F := F)).W) (t : Fin (cfg0 (F := F)).N) :
    (((cfg0 (F := F)).win w).xblock (grid0.coords t)).Idx → (Elt F) ((cfg0 (F := F)).win w).elt :=
  (((cfg0 (F := F)).win w).blk t).view.read (Elt F) (V m c (Pipeline.arrRef spec0 w))

/-- What the three results' blocks hold after each grid point, as a proof says it. -/
structure Outs (F : FTy → Type) [FloatOps F] where
  o4 : Dev nD → Fin (cfg0 (F := F)).N → Vec F S256x256 .f32
  o5 : Dev nD → Fin (cfg0 (F := F)).N → Vec F S4096x256 .f32
  o6 : Dev nD → Fin (cfg0 (F := F)).N → Vec F S4096x256 .f32

variable (o : Outs F)

/-- The launch's proof data: inputs' blocks as fetched, results' blocks as `o` says, the scratch buffers at anything. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => o.o4 c t
    | ⟨5, _⟩ => o.o5 c t
    | ⟨6, _⟩ => o.o6 c t
  Φ _ := Pipeline.ΦA spec0 c
  q _ := fullShare
  owed _ := 0

theorem A_eq (c : Dev nD) (w : Fin (cfg0 (F := F)).W) : (dats m o 0 c).A w = V m c (Pipeline.arrRef spec0 w) := by
  dsimp only [dats]

theorem after0 (c : Dev nD) (t : Fin (cfg0 (F := F)).N) : (dats m o 0 c).after 0 t = iblk m c 0 t := rfl
theorem after1 (c : Dev nD) (t : Fin (cfg0 (F := F)).N) : (dats m o 0 c).after 1 t = iblk m c 1 t := rfl
theorem after2 (c : Dev nD) (t : Fin (cfg0 (F := F)).N) : (dats m o 0 c).after 2 t = iblk m c 2 t := rfl
theorem after3 (c : Dev nD) (t : Fin (cfg0 (F := F)).N) : (dats m o 0 c).after 3 t = iblk m c 3 t := rfl
theorem after4 (c : Dev nD) (t : Fin (cfg0 (F := F)).N) : (dats m o 0 c).after 4 t = o.o4 c t := rfl
theorem after5 (c : Dev nD) (t : Fin (cfg0 (F := F)).N) : (dats m o 0 c).after 5 t = o.o5 c t := rfl
theorem after6 (c : Dev nD) (t : Fin (cfg0 (F := F)).N) : (dats m o 0 c).after 6 t = o.o6 c t := rfl

/-- An input's buffer holds its block at every point, fetched there or not. -/
theorem before0 (c : Dev nD) (t : Fin (cfg0 (F := F)).N) (d) : (dats m o 0 c).before 0 t d = iblk m c 0 t :=
  (dats m o 0 c).before_in_eq_fetched 0 rfl (fun _ => rfl) (fun _ _ _ => rfl) (fun t => by rw [after0]; rfl) t d
theorem before1 (c : Dev nD) (t : Fin (cfg0 (F := F)).N) (d) : (dats m o 0 c).before 1 t d = iblk m c 1 t :=
  (dats m o 0 c).before_in_eq_fetched 1 rfl (fun _ => rfl) (fun _ _ _ => rfl) (fun t => by rw [after1]; rfl) t d
theorem before2 (c : Dev nD) (t : Fin (cfg0 (F := F)).N) (d) : (dats m o 0 c).before 2 t d = iblk m c 2 t :=
  (dats m o 0 c).before_in_eq_fetched 2 rfl (fun _ => rfl) (fun _ _ _ => rfl) (fun t => by rw [after2]; rfl) t d
theorem before3 (c : Dev nD) (t : Fin (cfg0 (F := F)).N) (d) : (dats m o 0 c).before 3 t d = iblk m c 3 t :=
  (dats m o 0 c).before_in_eq_fetched 3 rfl (fun _ => rfl) (fun _ _ _ => rfl) (fun t => by rw [after3]; rfl) t d

/-- The body at a grid point on its blocks, by any reading: the scratch buffers come and go at anything. -/
theorem sound_point (c : Dev nD) (t : Fin (cfg0 (F := F)).N) (X : Vec F S256x256 .f32) (DK DV : Vec F S4096x256 .f32)
    (rd : Reading (grid0.coords t) (iblk m c 0 t) (iblk m c 1 t) (iblk m c 2 t) (iblk m c 3 t) DK DV) (T : PUnit → sProp 𝕄) :
    iprop((Pipeline.ΦA spec0 c : sProp 𝕄) ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare X ∗ owns (c : Thread nD τ) (st0_5 t) fullShare DK ∗ owns (c : Thread nD τ) (st0_6 t) fullShare DV
        ∗ (∀ R : Vec F S256x256 .f32 × Vec F S4096x256 .f32 × Vec F S4096x256 .f32, ⌜rd.R R.1 R.2.1 R.2.2⌝ -∗
            ((Pipeline.ΦA spec0 c : sProp 𝕄) ∗ owns (c : Thread nD τ) (st0_0 t) fullShare (iblk m c 0 t) ∗ owns (c : Thread nD τ) (st0_1 t) fullShare (iblk m c 1 t)
              ∗ owns (c : Thread nD τ) (st0_2 t) fullShare (iblk m c 2 t) ∗ owns (c : Thread nD τ) (st0_3 t) fullShare (iblk m c 3 t)
              ∗ owns (c : Thread nD τ) (st0_4 t) fullShare R.1 ∗ owns (c : Thread nD τ) (st0_5 t) fullShare R.2.1
              ∗ owns (c : Thread nD τ) (st0_6 t) fullShare R.2.2) -∗ T ⟨⟩))
      ⊢ wp frame (wpE (defs₀ (F := F)) 𝒱₀ (c : Thread nD τ) none) Set.univ (bodyAt0 t) T := by
  unfold Pipeline.ΦA
  rw [scopedRest0_eq]
  iintro ⟨⟨⟨⟨%P, HP⟩, %Z, HZ⟩, Hr⟩, H0, H1, H2, H3, H4, H5, H6, Hk⟩
  unfold bodyAt0
  iapply (body_run (grid0.coords t) (iblk m c 0 t) (iblk m c 1 t) (iblk m c 2 t) (iblk m c 3 t) DK DV c _ _ _ _ _ _ _ _ _ _ _ _ _ _ _ _ _ _ rd X P Z T)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HP]; · rw [owns_whole]; iexact HP
  isplitl [HZ]; · rw [owns_whole]; iexact HZ
  iintro %R %hR ⟨H0, H1, H2, H3, H4, H5, H6, HP, HZ⟩
  iapply Hk $$ %R.1 %hR
  isplitl [HP HZ Hr]
  · isplitl [HP HZ]
    · isplitl [HP]
      · iexists R.2.1; rw [← owns_whole]; iexact HP
      · iexists R.2.2; rw [← owns_whole]; iexact HZ
    · iexact Hr
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body. -/
theorem defs₀_row (t : Fin (cfg0 (F := F)).N) : defs₀ (F := F) .tc cfg0.body (cfg0.bodyArgs t (cfg0.slots t)) = bodyAt0 t := by
  unfold defs₀; rw [Defs.onTc_tc]

/-- The reading that says nothing. -/
def nothing (i : grid0.Coords) (Qb : Vec F S256x256 .bf16) (K Vb : Vec F S4096x256 .bf16) (Ob : Vec F S256x256 .bf16) (DK DV : Vec F S4096x256 .f32) :
    Reading i Qb K Vb Ob DK DV where
  W _ _ := True
  L _ _ _ _ := True
  R _ _ _ := True
  hW0 _ _ := trivial
  hW _ _ _ _ := trivial
  hL0 _ _ _ _ _ := trivial
  hL _ _ _ _ _ _ := trivial
  hR _ _ _ _ _ _ := trivial

/-- The windows a frame says nothing of. -/
abbrev forget : Fin 7 → Bool := ![false, false, false, false, true, true, true]

/-- Results' blocks no one names. -/
def noOuts : Outs F := ⟨fun _ _ _ => (Scalar.ofBits .f32 0#32 : F .f32), fun _ _ _ => (Scalar.ofBits .f32 0#32 : F .f32), fun _ _ _ => (Scalar.ofBits .f32 0#32 : F .f32)⟩

/-- The body at a grid point, the results forgotten. -/
theorem sound_forget (c : Dev nD) (t : Fin (cfg0 (F := F)).N) :
    iprop((Pipeline.ΦA spec0 c : sProp 𝕄) ∗ (dats m noOuts 0 c).owesAt () t.castSucc
        ∗ (∃ d, owns (c : Thread nD τ) (st0_0 t) fullShare ((dats m noOuts 0 c).before 0 t d)) ∗ (∃ d, owns (c : Thread nD τ) (st0_1 t) fullShare ((dats m noOuts 0 c).before 1 t d))
        ∗ (∃ d, owns (c : Thread nD τ) (st0_2 t) fullShare ((dats m noOuts 0 c).before 2 t d)) ∗ (∃ d, owns (c : Thread nD τ) (st0_3 t) fullShare ((dats m noOuts 0 c).before 3 t d))
        ∗ (∃ X, owns (c : Thread nD τ) (st0_4 t) fullShare X) ∗ (∃ X, owns (c : Thread nD τ) (st0_5 t) fullShare X) ∗ (∃ X, owns (c : Thread nD τ) (st0_6 t) fullShare X))
      ⊢ wp frame (wpE (defs₀ (F := F)) 𝒱₀ (c : Thread nD τ) none) Set.univ (bodyAt0 t) fun _ =>
        iprop((Pipeline.ΦA spec0 c : sProp 𝕄) ∗ (dats m noOuts 0 c).owesAt () t.succ
        ∗ owns (c : Thread nD τ) (st0_0 t) fullShare ((dats m noOuts 0 c).after 0 t) ∗ owns (c : Thread nD τ) (st0_1 t) fullShare ((dats m noOuts 0 c).after 1 t)
        ∗ owns (c : Thread nD τ) (st0_2 t) fullShare ((dats m noOuts 0 c).after 2 t) ∗ owns (c : Thread nD τ) (st0_3 t) fullShare ((dats m noOuts 0 c).after 3 t)
        ∗ (∃ X, owns (c : Thread nD τ) (st0_4 t) fullShare X) ∗ (∃ X, owns (c : Thread nD τ) (st0_5 t) fullShare X) ∗ (∃ X, owns (c : Thread nD τ) (st0_6 t) fullShare X)) := by
  simp only [before0, before1, before2, before3, after0, after1, after2, after3]
  rw [show (dats m (noOuts (F := F)) 0 c).owesAt () t.succ = (dats m noOuts 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_point m c t d4 d5 d6 (nothing _ _ _ _ _ _ _) _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  iintro %R %hR ⟨HΦ, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

theorem forget_obligation (c : Dev nD) : BodyObligation (dats (F := F) m noOuts 0 c) (defs₀ (F := F)) 𝒱₀ () Set.univ forget := fun t => by
  rw [bigSep_W0, bigSep_W0, defs₀_row]
  exact triple_restated (sound_forget m c t) rfl .rfl fun _ => .rfl

set_option backward.isDefEq.respectTransparency.types false in
/-- The launch, the results forgotten. -/
theorem run_forget : θ_run defs (onTc (τ := τ) (main (F := F))) (s₀ m ρ)
    (fun r => RDat.FramePost cfg0 (fun c => (dats m noOuts 0 c).toRForget forget) (V m) r ∧ r.2.sem = fun _ => 0) :=
  Pipeline.θ_run_frame_forget (Q' := _) cfgs (dats m noOuts) (0 : Fin 1) launch0 defs₀ 𝒱₀ forget m ρ main
    (hbody := fun c => (forget_obligation m c).loose) (hshare := fun c => (dats m noOuts 0 c).share_full fun _ => rfl)
    (howed := fun _ _ => rfl) (V := V m) (hmain := hmain m 𝒱₀) (hA := A_eq m noOuts) (hΦ := fun _ _ => rfl)

/-- The frame: every execution ends, with the four arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(RDat.FramePost.arr_in h.1 c 0 rfl).trans (A_eq m noOuts c 0),
    (RDat.FramePost.arr_in h.1 c 1 rfl).trans (A_eq m noOuts c 1), (RDat.FramePost.arr_in h.1 c 2 rfl).trans (A_eq m noOuts c 2),
    (RDat.FramePost.arr_in h.1 c 3 rfl).trans (A_eq m noOuts c 3)⟩, h.2⟩) (run_forget m ρ)

end Cert.KernelIdeal.Run
-- ==== Proof.Frames.lean ====
/-
  The frames of the three programs and the naming of the kernel's constant.
-/
module

public import proofs.«01_k».proof.Defs
public import proofs.«01_k».proof.Proof.Frame
public import proofs.«01_k».proof.Proof.Bitwise.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Claim

@[expose] public section

set_option maxRecDepth 16384

noncomputable section

namespace Cert.Proof.Frames

open Idealize.ShloMosaic Idealize.ShloMosaic.TcCoe Idealize.SL.Sem

/-- The kernel's frame on the machine's own values. -/
theorem frame_p : Cert.quiescent_Kernel := fun m g _ => Cert.Kernel.Run.frame m g

/-- The kernel's frame over the extended reals, under any precondition. -/
theorem frame_pi : Cert.quiescent_KernelIdeal := fun m g _ => Cert.KernelIdeal.Run.frame m g

/-- The reference's frame over the extended reals. -/
theorem frame_ri : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- The named constant stands for minus infinity. -/
theorem preserves : Cert.preserves_Kernel_KernelIdeal :=
  IdealRules.named_const.statement Cert.KernelIdeal.κ "dead" .f32 0xC2D20000#32 ⊥ rfl

end Cert.Proof.Frames

end
-- ==== Proof.Up.lean ====
/-
  Arrays of real numbers. `up f` is the matrix of extended reals whose entry in row `r` and column `c` is the real number
  `f r c`, whatever its extents. The vector operations of the kernel send such matrices to such matrices, so that a chain
  of them is a chain of equations between real functions of two indices.
-/
module

public import proofs.«01_k».proof.Proof.Owns
public import Idealize.ShloMosaic.Lib.Pointwise
public import Idealize.ShloMosaic.Lib.IdealHost
public import proofs.«01_k».proof.Proof.Gen.KernelIdeal.Skeleton

@[expose] public section

noncomputable section

namespace Cert.Proof.Up

open Idealize.ShloMosaic Cert.Proof.Owns Cert.KernelIdeal
open scoped BigOperators

/-- The matrix of the real numbers `f r c`. -/
def up {m n : ℕ} (f : ℕ → ℕ → ℝ) : (⟨2, ![m, n]⟩ : Shape).Idx → EReal := fun x => ((f (x 0).val (x 1).val : ℝ) : EReal)

variable {m n : ℕ}

theorem up_apply (f : ℕ → ℕ → ℝ) (x : (⟨2, ![m, n]⟩ : Shape).Idx) : up f x = ((f (x 0).val (x 1).val : ℝ) : EReal) := rfl

theorem up_ix2 (f : ℕ → ℕ → ℝ) (r : Fin m) (c : Fin n) : up f (ix2 r c) = ((f r.val c.val : ℝ) : EReal) := rfl

/-- Only the entries inside the extents matter. -/
theorem up_congr {f g : ℕ → ℕ → ℝ} (h : ∀ r, r < m → ∀ c, c < n → f r c = g r c) :
    (up f : (⟨2, ![m, n]⟩ : Shape).Idx → EReal) = up g := by
  funext x; rw [up_apply, up_apply, h _ (x 0).isLt _ (x 1).isLt]

/-- An array all of whose entries are the numbers `f r c`. -/
theorem eq_up {X : (⟨2, ![m, n]⟩ : Shape).Idx → EReal} {f : ℕ → ℕ → ℝ} (h : ∀ (r : Fin m) (c : Fin n), X (ix2 r c) = ((f r.val c.val : ℝ) : EReal)) :
    X = up f := by
  funext x; rw [eq_ix2 x]; exact h _ _

/-! ## Elementwise -/

section Elementwise
variable (f g : ℕ → ℕ → ℝ) {φ ψ : FTy}

theorem addf_up : addf (F := Ideal) (φ := φ) (up f : (⟨2, ![m, n]⟩ : Shape).Idx → EReal) (up g) = up fun r c => f r c + g r c := by
  funext x; exact (EReal.coe_add _ _).symm
theorem subf_up : subf (F := Ideal) (φ := φ) (up f : (⟨2, ![m, n]⟩ : Shape).Idx → EReal) (up g) = up fun r c => f r c - g r c := by
  funext x; exact (EReal.coe_sub _ _).symm
theorem mulf_up : mulf (F := Ideal) (φ := φ) (up f : (⟨2, ![m, n]⟩ : Shape).Idx → EReal) (up g) = up fun r c => f r c * g r c := by
  funext x; exact (EReal.coe_mul _ _).symm
theorem minimumf_up : minimumf (F := Ideal) (φ := φ) (up f : (⟨2, ![m, n]⟩ : Shape).Idx → EReal) (up g) = up fun r c => min (f r c) (g r c) := by
  funext x; exact (EReal.coe_strictMono.monotone.map_min).symm
theorem absf_up : absf (F := Ideal) (φ := φ) (up f : (⟨2, ![m, n]⟩ : Shape).Idx → EReal) = up fun r c => |f r c| := by
  funext x
  exact (congrArg (max _) (EReal.coe_neg _).symm).trans EReal.coe_strictMono.monotone.map_max.symm
theorem exp_up : exp (F := Ideal) (φ := φ) (up f : (⟨2, ![m, n]⟩ : Shape).Idx → EReal) = up fun r c => Real.exp (f r c) := by
  funext x; rfl
theorem log_up : log (F := Ideal) (φ := φ) (up (fun r c => 1 + Real.exp (f r c)) : (⟨2, ![m, n]⟩ : Shape).Idx → EReal)
    = up fun r c => Real.log (1 + Real.exp (f r c)) := by
  funext x
  refine Eq.trans (b := Ideal.log ((1 + Real.exp (f (x 0).val (x 1).val) : ℝ) : EReal)) rfl ?_
  rw [Ideal.log_coe, if_neg (not_le.mpr (by positivity)), up_apply]
theorem divf_up : divf (F := Ideal) (φ := φ) (up g : (⟨2, ![m, n]⟩ : Shape).Idx → EReal) (up (fun r c => 1 + Real.exp (f r c)))
    = up fun r c => g r c / (1 + Real.exp (f r c)) := by
  funext x
  show Ideal.div _ _ = _
  rw [up_apply, up_apply, Ideal.div_coe (by positivity), up_apply, ← EReal.coe_mul]
  congr 1; ring
theorem truncf_up (h : ψ.bits < φ.bits) : (truncf ψ (φ := φ) (up f : FVec Ideal (⟨2, ![m, n]⟩ : Shape) φ) h : FVec Ideal (⟨2, ![m, n]⟩ : Shape) ψ) = up f := rfl
theorem extf_up (h : φ.bits < ψ.bits) : (extf ψ (φ := φ) (up f : FVec Ideal (⟨2, ![m, n]⟩ : Shape) φ) h : FVec Ideal (⟨2, ![m, n]⟩ : Shape) ψ) = up f := rfl

theorem zero_up : (broadcast (⟨2, ![m, n]⟩ : Shape) (Scalar.ofBits .f32 0x00000000#32 : Ideal .f32) : FVec Ideal (⟨2, ![m, n]⟩ : Shape) .f32)
    = up fun _ _ => 0 := by
  funext x; exact Ideal.ofBits_zero_f32
theorem one_up : (broadcast (⟨2, ![m, n]⟩ : Shape) (Scalar.ofBits .f32 0x3F800000#32 : Ideal .f32) : FVec Ideal (⟨2, ![m, n]⟩ : Shape) .f32)
    = up fun _ _ => 1 := by
  funext x; exact Ideal.ofBits_one_f32
theorem constant_up : (constant (F := Ideal) (⟨2, ![m, n]⟩ : Shape) .f32 0x00000000#32) = up fun _ _ => 0 := by
  funext x; exact Ideal.ofBits_zero_f32

/-- The words of the truth values `p r c`. -/
def msk (p : ℕ → ℕ → Prop) [∀ r c, Decidable (p r c)] : IVec (⟨2, ![m, n]⟩ : Shape) 1 :=
  fun x => if p (x 0).val (x 1).val then 1#1 else 0#1

theorem select_up (p : ℕ → ℕ → Prop) [∀ r c, Decidable (p r c)] :
    select (msk p : IVec (⟨2, ![m, n]⟩ : Shape) 1) (up f : (⟨2, ![m, n]⟩ : Shape).Idx → EReal) (up g) = up fun r c => if p r c then f r c else g r c := by
  funext x
  show (if (if p (x 0).val (x 1).val then 1#1 else 0#1 : BitVec 1) = 1#1 then _ else _) = _
  rw [up_apply, up_apply, up_apply]
  by_cases h : p (x 0).val (x 1).val
  · simp only [if_pos h, if_true]
  · simp only [if_neg h]; rfl

end Elementwise

/-! ## Sums -/

section Sums

theorem sum_up {K : ℕ} (f : ℕ → ℝ) : (∑ k : Fin K, ((f k.val : ℝ) : EReal)) = ((∑ k ∈ Finset.range K, f k : ℝ) : EReal) := by
  rw [← Fin.sum_univ_eq_sum_range]
  exact (map_sum (⟨⟨fun x : ℝ => (x : EReal), EReal.coe_zero⟩, EReal.coe_add⟩ : ℝ →+ EReal) _ _).symm

variable (f g : ℕ → ℕ → ℝ)

theorem matmulNT_up (p : Option ContractPrecision) :
    matmul (F := Ideal) dot_S256x128_S256x128_S256x256_1_1_0_0_n_n p (φ₁ := .bf16) (φ₂ := .bf16) (up f) (up g) (up fun _ _ => 0)
      = up fun r c => ∑ k ∈ Finset.range 128, f r k * g c k := by
  refine eq_up fun r c => ?_
  pointwise
  simp only [up_ix2, ← EReal.coe_mul]
  rw [sum_up (fun k => f r.val k * g c.val k), EReal.coe_zero, zero_add]

theorem matmulNN_up (p : Option ContractPrecision) :
    matmul (F := Ideal) dot_S256x256_S256x256_S256x256_1_0_0_1_n_n p (φ₁ := .bf16) (φ₂ := .bf16) (up f) (up g) (up fun _ _ => 0)
      = up fun r c => ∑ k ∈ Finset.range 256, f r k * g k c := by
  refine eq_up fun r c => ?_
  pointwise
  simp only [up_ix2, ← EReal.coe_mul]
  rw [sum_up (fun k => f r.val k * g k c.val), EReal.coe_zero, zero_add]

theorem matmulNN'_up (p : Option ContractPrecision) :
    matmul (F := Ideal) dot_S256x256_S256x128_S256x128_1_0_0_1_n_n p (φ₁ := .bf16) (φ₂ := .bf16) (up f) (up g) (up fun _ _ => 0)
      = up fun r c => ∑ k ∈ Finset.range 256, f r k * g k c := by
  refine eq_up fun r c => ?_
  pointwise
  simp only [up_ix2, ← EReal.coe_mul]
  rw [sum_up (fun k => f r.val k * g k c.val), EReal.coe_zero, zero_add]

theorem matmulTN_up (p : Option ContractPrecision) :
    matmul (F := Ideal) dot_S256x256_S256x128_S256x128_0_0_1_1_n_n p (φ₁ := .bf16) (φ₂ := .bf16) (up f) (up g) (up fun _ _ => 0)
      = up fun r c => ∑ k ∈ Finset.range 256, f k r * g k c := by
  refine eq_up fun r c => ?_
  pointwise
  simp only [up_ix2, ← EReal.coe_mul]
  rw [sum_up (fun k => f k r.val * g k c.val), EReal.coe_zero, zero_add]

/-- A row sum as a column. -/
theorem rowsum_up (h1 : S256x256.Reduces [1] S256) (h2) (h3) (h4 : S256.ShapeCasts S256x1) :
    shapeCast S256x1 (multiReduction (F := Ideal) .add [1] S256 (φ := .f32) (up f : S256x256.Idx → EReal) 0x00000000#32 h1 h2 h3) h4
      = up fun r _ => ∑ k ∈ Finset.range 256, f r k := by
  refine eq_up fun r c => ?_
  pointwise
  simp only [up_ix2]
  rw [sum_up (fun k => f r.val k)]

/-- A column repeated along the rows. -/
theorem broadcastTo_up (h : S256x1.Broadcasts S256x256) :
    broadcastTo S256x256 (up f : S256x1.Idx → EReal) h = (up fun r _ => f r 0 : S256x256.Idx → EReal) := by
  refine eq_up fun r c => ?_
  pointwise
  simp only [up_ix2]; rfl

theorem shapeCast_self_up (h : S256x128.ShapeCasts S256x128) (X : S256x128.Idx → EReal) : shapeCast S256x128 X h = X := by
  funext x; rw [eq_ix2 x]; pointwise

theorem shapeCast_slab (X : S256x256.Idx → EReal) (h : S256x256.ShapeCasts S1x1x256x256) (h' : S1x1x256x256.ShapeCasts S256x256) :
    shapeCast S256x256 (shapeCast S1x1x256x256 X h) h' = X := by
  funext x; rw [eq_ix2 x]; pointwise

end Sums

/-! ## Parts of an array -/

section Parts
variable {M N : ℕ} (off : Fin 2 → ℕ) (a b : ℕ) (hoff : off = ![a, b]) (inb : ∀ x, off x + (![m, n] : Fin 2 → ℕ) x ≤ (![M, N] : Fin 2 → ℕ) x)
  (f w : ℕ → ℕ → ℝ)
include hoff

/-- The part read through a rectangle. -/
theorem pick_up : (pick (Rect.unit (s := (⟨2, ![M, N]⟩ : Shape)) off ![m, n] inb) (up f) : (⟨2, ![m, n]⟩ : Shape).Idx → EReal)
    = up fun r c => f (a + r) (b + c) := by
  subst hoff
  funext x
  refine (pick_eq (Rect.unit (s := (⟨2, ![M, N]⟩ : Shape)) ![a, b] ![m, n] inb) (up f) x
    (ix2 ⟨a + (x 0).val, ?_⟩ ⟨b + (x 1).val, ?_⟩) ?_).trans ?_
  · have h := inb 0; have := (x 0).isLt; simp at h this; omega
  · have h := inb 1; have := (x 1).isLt; simp at h this; omega
  · intro k; fin_cases k <;> simp [Rect.unit]
  · rfl

/-- An array with a part replaced. -/
theorem put_up : put (Rect.unit (s := (⟨2, ![M, N]⟩ : Shape)) off ![m, n] inb) (up w : (⟨2, ![m, n]⟩ : Shape).Idx → EReal) (up f)
    = up fun y x => if (a ≤ y ∧ y < a + m) ∧ b ≤ x ∧ x < b + n then w (y - a) (x - b) else f y x := by
  subst hoff
  funext y
  rw [up_apply]
  by_cases h : (a ≤ (y 0).val ∧ (y 0).val < a + m) ∧ b ≤ (y 1).val ∧ (y 1).val < b + n
  · rw [if_pos h]
    exact put_hit (Rect.unit (s := (⟨2, ![M, N]⟩ : Shape)) ![a, b] ![m, n] inb) (up w) (up f)
      (ix2 ⟨(y 0).val - a, by omega⟩ ⟨(y 1).val - b, by omega⟩) y (by intro k; fin_cases k <;> simp [Rect.unit] <;> omega)
  · rw [if_neg h]
    by_cases h0 : a ≤ (y 0).val ∧ (y 0).val < a + m
    · exact put_miss (Rect.unit (s := (⟨2, ![M, N]⟩ : Shape)) ![a, b] ![m, n] inb) (up w) (up f) y 1 rfl (by simp [Rect.unit]; omega)
    · exact put_miss (Rect.unit (s := (⟨2, ![M, N]⟩ : Shape)) ![a, b] ![m, n] inb) (up w) (up f) y 0 rfl (by simp [Rect.unit]; omega)

end Parts

end Cert.Proof.Up
-- ==== Proof.Math.lean ====
/-
  The gradient of the stick-breaking attention of one head, in real numbers: rows `t`, keys `s`, features `d` are natural
  numbers, the head has 4096 rows and 128 features. Position `s` gets the weight
  `ww t s = σ(z t s) ∏_{s<j<t} (1 - σ(z t j))`, told through logarithms; `dz` is the gradient of the scores, and
  `dq`, `dk`, `dv` the gradients of the three inputs for the gradient `o` of the result.
-/
module

public import Idealize.ShloMosaic.PureOps.Ideal
public import Mathlib.Algebra.BigOperators.Intervals
public import Mathlib.Analysis.SpecialFunctions.Log.Basic

@[expose] public section

noncomputable section

namespace Cert.Proof.Math

open scoped BigOperators

/-- The logarithm of the logistic function. -/
def ls (x : ℝ) : ℝ := min x 0 - Real.log (1 + Real.exp (0 - |x|))

/-- The logistic function. -/
def sg (x : ℝ) : ℝ := 1 / (1 + Real.exp (0 - x))

/-- The product of a row of `a` and a row of `b`. -/
def dotNT (a b : ℕ → ℕ → ℝ) (r c : ℕ) : ℝ := ∑ k ∈ Finset.range 128, a r k * b c k

variable (q k v o : ℕ → ℕ → ℝ)

/-- The logarithm of one minus a position's share, nothing at the positions not seen. -/
def lnm (t s : ℕ) : ℝ := if s < t then ls (dotNT q k t s) - dotNT q k t s else 0

/-- A position's weight. -/
def ww (t s : ℕ) : ℝ := if s < t then Real.exp (ls (dotNT q k t s) + ∑ j ∈ Finset.Ico (s + 1) 4096, lnm q k t j) else 0

/-- The gradient of the logarithm of a position's weight. -/
def pp (t s : ℕ) : ℝ := ww q k t s * dotNT o v t s

/-- The gradient of a position's score. -/
def dz (t s : ℕ) : ℝ :=
  if s < t then pp q k v o t s * (1 - sg (dotNT q k t s)) - sg (dotNT q k t s) * ∑ j ∈ Finset.range s, pp q k v o t j else 0

/-- The first result's partial sums, over the keys before `S`; -/
def dqTo (S t d : ℕ) : ℝ := ∑ s ∈ Finset.range S, dz q k v o t s * k s d
/-- the second's, over the rows before `T`; -/
def dkTo (T s d : ℕ) : ℝ := ∑ t ∈ Finset.range T, dz q k v o t s * q t d
/-- the third's. -/
def dvTo (T s d : ℕ) : ℝ := ∑ t ∈ Finset.range T, ww q k t s * o t d

/-- A sum over the naturals below `a + n`, as the sum below `a` and the next `n`. -/
theorem sum_range_block (f : ℕ → ℝ) (a n : ℕ) :
    ∑ x ∈ Finset.range (a + n), f x = ∑ x ∈ Finset.range a, f x + ∑ x ∈ Finset.range n, f (a + x) :=
  Finset.sum_range_add f a n

/-- The sum of `n` consecutive terms, told from zero. -/
theorem sum_Ico_shift (f : ℕ → ℝ) (a n : ℕ) : ∑ x ∈ Finset.Ico a (a + n), f x = ∑ x ∈ Finset.range n, f (a + x) := by
  rw [Finset.sum_Ico_eq_sum_range]; simp

/-- Within `n` terms, those after the `c`-th. -/
theorem sum_after (f : ℕ → ℝ) (n c : ℕ) (hc : c < n) :
    ∑ x ∈ Finset.range n, f x * (if c < x then 1 else 0) = ∑ x ∈ Finset.Ico (c + 1) n, f x := by
  simp only [mul_ite, mul_one, mul_zero]
  rw [← Finset.sum_filter]
  refine Finset.sum_congr ?_ fun _ _ => rfl
  ext x; simp only [Finset.mem_filter, Finset.mem_range, Finset.mem_Ico]; omega

/-- Within `n` terms, those before the `c`-th. -/
theorem sum_before (f : ℕ → ℝ) (n c : ℕ) (hc : c < n) :
    ∑ x ∈ Finset.range n, f x * (if x < c then 1 else 0) = ∑ x ∈ Finset.range c, f x := by
  simp only [mul_ite, mul_one, mul_zero]
  rw [← Finset.sum_filter]
  refine Finset.sum_congr ?_ fun _ _ => rfl
  ext x; simp only [Finset.mem_filter, Finset.mem_range]; omega

theorem lnm_of_le {t s : ℕ} (h : t ≤ s) : lnm q k t s = 0 := if_neg (by omega)
theorem ww_of_le {t s : ℕ} (h : t ≤ s) : ww q k t s = 0 := if_neg (by omega)
theorem pp_of_le {t s : ℕ} (h : t ≤ s) : pp q k v o t s = 0 := by rw [pp, ww_of_le q k h, zero_mul]
theorem dz_of_le {t s : ℕ} (h : t ≤ s) : dz q k v o t s = 0 := if_neg (by omega)

/-- Past the row nothing is added. -/
theorem sum_lnm (t a T : ℕ) (hT : t ≤ T) (hT' : T ≤ 4096) :
    ∑ j ∈ Finset.Ico a 4096, lnm q k t j = ∑ j ∈ Finset.Ico a T, lnm q k t j := by
  by_cases ha : a ≤ T
  · rw [← Finset.sum_Ico_consecutive _ ha hT', add_eq_left]
    exact Finset.sum_eq_zero fun j hj => lnm_of_le q k (hT.trans (Finset.mem_Ico.mp hj).1)
  · rw [Finset.Ico_eq_empty (by omega : ¬ a < T), Finset.sum_empty]
    exact Finset.sum_eq_zero fun j hj => lnm_of_le q k (by have := (Finset.mem_Ico.mp hj).1; omega)

/-- The first result takes no key past its row; -/
theorem dqTo_full (t d S : ℕ) (hS : t ≤ S) (hS' : S ≤ 4096) : dqTo q k v o 4096 t d = dqTo q k v o S t d := by
  unfold dqTo
  obtain ⟨n, hn⟩ := Nat.exists_eq_add_of_le hS'
  rw [hn, sum_range_block, add_eq_left]
  exact Finset.sum_eq_zero fun j _ => by rw [dz_of_le q k v o (by omega), zero_mul]
/-- the second no row before its key; -/
theorem dkTo_le (T s d : ℕ) (h : T ≤ s + 1) : dkTo q k v o T s d = 0 :=
  Finset.sum_eq_zero fun t ht => by rw [dz_of_le q k v o (by have := Finset.mem_range.mp ht; omega), zero_mul]
/-- nor the third. -/
theorem dvTo_le (T s d : ℕ) (h : T ≤ s + 1) : dvTo q k o T s d = 0 :=
  Finset.sum_eq_zero fun t ht => by rw [ww_of_le q k (by have := Finset.mem_range.mp ht; omega), zero_mul]

/-! ## A block of 256 rows against a block of 256 keys: rows from `256 * i`, keys from `256 * j`, `j ≤ i` -/

section Block
variable (i j : ℕ) (hi : i < 16) (hj : j ≤ i)

/-- The carry of a row when the blocks after `j` have been visited. -/
def carry (r : ℕ) : ℝ := ∑ x ∈ Finset.Ico (256 * (j + 1)) (256 * (i + 1)), lnm q k (256 * i + r) x

theorem carry_top (r : ℕ) : carry q k i i r = 0 := by unfold carry; rw [Finset.Ico_self, Finset.sum_empty]

include hj in
/-- Visiting block `j` adds its row sum. -/
theorem carry_succ (r : ℕ) : carry q k i j r + ∑ c ∈ Finset.range 256, lnm q k (256 * i + r) (256 * j + c)
    = ∑ x ∈ Finset.Ico (256 * j) (256 * (i + 1)), lnm q k (256 * i + r) x := by
  rw [← sum_Ico_shift, carry, add_comm, show 256 * (j + 1) = 256 * j + 256 by ring]
  exact Finset.sum_Ico_consecutive _ (by omega) (by omega)

include hi hj in
/-- The weight the kernel computes from the carry is the position's weight. -/
theorem ww_block (r c : ℕ) (hr : r < 256) (hc : c < 256) :
    (if 256 * j + c < 256 * i + r then
      Real.exp (ls (dotNT q k (256 * i + r) (256 * j + c))
        + (∑ x ∈ Finset.range 256, lnm q k (256 * i + r) (256 * j + x) * (if c < x then 1 else 0)) + carry q k i j r) else 0)
      = ww q k (256 * i + r) (256 * j + c) := by
  unfold ww
  by_cases h : 256 * j + c < 256 * i + r
  · rw [if_pos h, if_pos h, sum_lnm q k _ _ (256 * (i + 1)) (by omega) (by omega), sum_after _ 256 c hc, add_assoc, carry]
    congr 2
    have e : ∑ x ∈ Finset.Ico (c + 1) 256, lnm q k (256 * i + r) (256 * j + x)
        = ∑ x ∈ Finset.Ico (256 * j + c + 1) (256 * (j + 1)), lnm q k (256 * i + r) x := by
      rw [Finset.sum_Ico_eq_sum_range, Finset.sum_Ico_eq_sum_range]
      refine Finset.sum_congr (by congr 1; omega) fun x _ => by congr 1; omega
    rw [e]
    exact Finset.sum_Ico_consecutive _ (by omega) (by omega)
  · rw [if_neg h, if_neg h]

/-- The running sum of `pp` before block `j`. -/
def pre (t j : ℕ) : ℝ := ∑ s ∈ Finset.range (256 * j), pp q k v o t s

theorem pre_zero (t : ℕ) : pre q k v o t 0 = 0 := by unfold pre; simp

theorem pre_succ (t : ℕ) : pre q k v o t j + ∑ c ∈ Finset.range 256, pp q k v o t (256 * j + c) = pre q k v o t (j + 1) := by
  unfold pre; rw [show 256 * (j + 1) = 256 * j + 256 by ring, sum_range_block]

/-- The score's gradient the kernel computes from the running sum is the position's. -/
theorem dz_block (r c : ℕ) (hc : c < 256) :
    (if 256 * j + c < 256 * i + r then
      pp q k v o (256 * i + r) (256 * j + c) * (1 - sg (dotNT q k (256 * i + r) (256 * j + c)))
        - sg (dotNT q k (256 * i + r) (256 * j + c))
          * ((∑ x ∈ Finset.range 256, pp q k v o (256 * i + r) (256 * j + x) * (if x < c then 1 else 0)) + pre q k v o (256 * i + r) j) else 0)
      = dz q k v o (256 * i + r) (256 * j + c) := by
  unfold dz
  by_cases h : 256 * j + c < 256 * i + r
  · rw [if_pos h, if_pos h, sum_before _ 256 c hc, sum_range_block, pre, add_comm (∑ x ∈ Finset.range c, _)]
  · rw [if_neg h, if_neg h]

theorem dqTo_succ (t d : ℕ) : dqTo q k v o (256 * j) t d + ∑ c ∈ Finset.range 256, dz q k v o t (256 * j + c) * k (256 * j + c) d
    = dqTo q k v o (256 * (j + 1)) t d := by
  unfold dqTo; rw [show 256 * (j + 1) = 256 * j + 256 by ring, sum_range_block]
theorem dkTo_succ (s d : ℕ) : dkTo q k v o (256 * i) s d + ∑ r ∈ Finset.range 256, dz q k v o (256 * i + r) s * q (256 * i + r) d
    = dkTo q k v o (256 * (i + 1)) s d := by
  unfold dkTo; rw [show 256 * (i + 1) = 256 * i + 256 by ring, sum_range_block]
theorem dvTo_succ (s d : ℕ) : dvTo q k o (256 * i) s d + ∑ r ∈ Finset.range 256, ww q k (256 * i + r) s * o (256 * i + r) d
    = dvTo q k o (256 * (i + 1)) s d := by
  unfold dvTo; rw [show 256 * (i + 1) = 256 * i + 256 by ring, sum_range_block]

end Block

end Cert.Proof.Math
-- ==== Proof.Pay.lean ====
/-
  The values the kernel computes, on arrays of real numbers: each lemma reads one expression of the body as a real function
  of a row and a column.
-/
module

public import proofs.«01_k».proof.Proof.Up
public import proofs.«01_k».proof.Proof.Math
public import proofs.«01_k».proof.Proof.Trip2

@[expose] public section

noncomputable section

namespace Cert.KernelIdeal.Pay

open Idealize.ShloMosaic Cert.Proof.Owns Cert.Proof.Up Cert.Proof.Math Cert.KernelIdeal Cert.KernelIdeal.Gen Cert.KernelIdeal.Words
open Cert.KernelIdeal.Run
open scoped BigOperators

/-- A small word's comparison is its number's. -/
theorem slt_small (x y : ℕ) (hx : x < 8192) (hy : y < 8192) :
    Scalar.cmpi .slt (BitVec.ofNat 32 x) (BitVec.ofNat 32 y) = if x < y then 1#1 else 0#1 := by
  have e : (BitVec.ofNat 32 x).slt (BitVec.ofNat 32 y) = decide (x < y) := by
    rw [BitVec.slt_eq_ult_of_msb_eq, BitVec.ult, BitVec.toNat_ofNat, BitVec.toNat_ofNat, Nat.mod_eq_of_lt (by omega), Nat.mod_eq_of_lt (by omega)]
    rw [BitVec.msb_eq_false_iff_two_mul_lt.mpr (by rw [BitVec.toNat_ofNat, Nat.mod_eq_of_lt (by omega)]; omega),
      BitVec.msb_eq_false_iff_two_mul_lt.mpr (by rw [BitVec.toNat_ofNat, Nat.mod_eq_of_lt (by omega)]; omega)]
  show BitVec.ofBool ((BitVec.ofNat 32 x).slt (BitVec.ofNat 32 y)) = _
  rw [e]; by_cases h : x < y <;> simp [h]

theorem eq_ofNat_of_toNat {w : BitVec 32} {n : ℕ} (h : w.toNat = n) : w = BitVec.ofNat 32 n := by
  rw [← h]; simp

variable (i : grid0.Coords)

theorem muli_row : Scalar.muli (BitVec.ofNat 32 (i 1).val) 256#32 = BitVec.ofNat 32 (256 * (i 1).val) := by
  rw [mul_comm]; show BitVec.ofNat 32 (i 1).val * BitVec.ofNat 32 256 = _
  rw [BitVec.ofNat_mul]

/-- The first loop's mask: the keys before the row. -/
theorem pay47_eq (s : ℕ) (hs : s ≤ (i 1).val) :
    k0_pay47 (BitVec.ofNat 32 s) (BitVec.ofNat 32 (i 1).val) = (msk fun r c => 256 * ((i 1).val - s) + c < 256 * (i 1).val + r : IVec S256x256 1) := by
  have hr := row_lt i
  funext x
  rw [eq_ix2 x]
  have e1 := eq_ofNat_of_toNat (mul_toNat i s hs)
  have e2 := muli_row i
  have h0 : (x 0).val < 256 := (x 0).isLt
  have h1 : (x 1).val < 256 := (x 1).isLt
  have key := slt_small (256 * ((i 1).val - s) + (x 1).val) (256 * (i 1).val + (x 0).val) (by omega) (by omega)
  refine Eq.trans ?_ key
  pointwise [k0_pay47]
  show Scalar.cmpi .slt (Scalar.addi (Scalar.muli (Scalar.subi (BitVec.ofNat 32 (i 1).val) (BitVec.ofNat 32 s)) 256#32) (BitVec.ofNat 32 (x 1).val))
    (Scalar.addi (Scalar.muli (BitVec.ofNat 32 (i 1).val) 256#32) (BitVec.ofNat 32 (x 0).val)) = _
  rw [e1, e2, mul_comm _ 256, BitVec.ofNat_add, BitVec.ofNat_add]; rfl

/-- The second loop's mask. -/
theorem lMask_eq (n : ℕ) (hn : n ≤ (i 1).val + 1) (k : Fin (k0_t1_loop i (BitVec.ofNat 32 n)).trips) :
    lMask i n k = (msk fun r c => 256 * ((i 1).val + 1 - n + k.val) + c < 256 * (i 1).val + r : IVec S256x256 1) := by
  have hr := row_lt i
  have hk := k_lt i n hn k
  funext x
  rw [eq_ix2 x]
  have e1 := eq_ofNat_of_toNat (iv_mul_toNat i n hn k.val hk)
  have e2 := muli_row i
  have h0 : (x 0).val < 256 := (x 0).isLt
  have h1 : (x 1).val < 256 := (x 1).isLt
  have key := slt_small (256 * ((i 1).val + 1 - n + k.val) + (x 1).val) (256 * (i 1).val + (x 0).val) (by omega) (by omega)
  refine Eq.trans ?_ key
  pointwise [lMask, k0_pay9]
  show Scalar.cmpi .slt (Scalar.addi (Scalar.muli (Scf.iv (base i n) 1#32 k.val) 256#32) (BitVec.ofNat 32 (x 1).val))
    (Scalar.addi (Scalar.muli (BitVec.ofNat 32 (i 1).val) 256#32) (BitVec.ofNat 32 (x 0).val)) = _
  rw [e1, e2, mul_comm _ 256, BitVec.ofNat_add, BitVec.ofNat_add]; rfl

/-- A truth value as a number. -/
theorem sitofp_bit (p : Prop) [Decidable p] :
    FloatOps.sitofp (F := Ideal) .f32 (BitVec.setWidth 32 (if p then 1#1 else 0#1)) = (((if p then 1 else 0 : ℝ)) : EReal) := by
  by_cases h : p
  · rw [if_pos h, if_pos h]
    show (((BitVec.setWidth 32 1#1).toInt : ℝ) : EReal) = _
    rw [show (BitVec.setWidth 32 1#1).toInt = 1 by decide]; norm_num
  · rw [if_neg h, if_neg h]
    show (((BitVec.setWidth 32 0#1).toInt : ℝ) : EReal) = _
    rw [show (BitVec.setWidth 32 0#1).toInt = 0 by decide]; norm_num

/-- The matrix that keeps what comes after, -/
theorem pay29_up : k0_pay29 (F := Ideal) = (up fun k c => if c < k then 1 else 0 : S256x256.Idx → EReal) := by
  refine eq_up fun r c => ?_
  have hr := r.isLt
  have hc := c.isLt
  have key := slt_small c.val r.val (by omega) (by omega)
  pointwise [k0_pay29]
  rw [show IntOp.cmpi CmpIPredicate.sgt (BitVec.ofNat 32 r.val) (BitVec.ofNat 32 c.val) = if c.val < r.val then 1#1 else 0#1 from key]
  exact sitofp_bit _
/-- and the one that keeps what came before. -/
theorem pay30_up : k0_pay30 (F := Ideal) = (up fun k c => if k < c then 1 else 0 : S256x256.Idx → EReal) := by
  refine eq_up fun r c => ?_
  have hr := r.isLt
  have hc := c.isLt
  have key := slt_small r.val c.val (by omega) (by omega)
  pointwise [k0_pay30]
  rw [show IntOp.cmpi CmpIPredicate.slt (BitVec.ofNat 32 r.val) (BitVec.ofNat 32 c.val) = if r.val < c.val then 1#1 else 0#1 from key]
  exact sitofp_bit _

theorem zero_word : (Scalar.ofBits .f32 0x00000000#32 : Ideal .f32) = ((0 : ℝ) : EReal) := Ideal.ofBits_zero_f32

/-! ## The first loop -/

section First
variable (a b x l w c1 : ℕ → ℕ → ℝ) (p : ℕ → ℕ → Prop) [∀ r c, Decidable (p r c)]

theorem pay48_up : k0_pay48 (F := Ideal) (up a) (up b) = up fun r c => dotNT a b r c := by
  simp only [k0_pay48, constant_up, matmulNT_up, dotNT]
theorem pay49_up : k0_pay49 (F := Ideal) (up a) (up b) = up fun r c => dotNT a b r c := by
  simp only [k0_pay49, constant_up, matmulNT_up, dotNT]
theorem pay50_up : k0_pay50 (F := Ideal) (up a) (up b) = up fun r c => ls (dotNT a b r c) := by
  simp only [k0_pay50, pay48_up, zero_up, one_up, minimumf_up, absf_up, subf_up, exp_up, addf_up, log_up, ls]
theorem pay51_up : k0_pay51 (F := Ideal) (up a) (up b) = up fun r c => ls (dotNT a b r c) := by
  simp only [k0_pay51, pay49_up, zero_up, one_up, minimumf_up, absf_up, subf_up, exp_up, addf_up, log_up, ls]
theorem pay52_up : k0_pay52 (F := Ideal) (up a) (up b) = up fun r c => ls (dotNT a b r c) - dotNT a b r c := by
  simp only [k0_pay52, pay48_up, pay50_up, subf_up]
theorem pay53_up : k0_pay53 (F := Ideal) (msk p) (up x) (Scalar.ofBits .f32 0x00000000#32) = up fun r c => if p r c then x r c else 0 := by
  simp only [k0_pay53, zero_up, select_up]
theorem pay54_up : k0_pay54 (F := Ideal) (msk p) (up x) (up l) = up fun r c => if p r c then l r c - x r c else 0 := by
  simp only [k0_pay54, zero_up, subf_up, select_up]
theorem pay55_up : k0_pay55 (F := Ideal) (up w) (up c1) (msk p) (up l) (up x) (Scalar.ofBits .f32 0x00000000#32)
    = up fun r c => if p r c then Real.exp (l r c + (∑ k ∈ Finset.range 256, (if p r k then x r k else 0) * w k c) + c1 r 0) else 0 := by
  simp only [k0_pay55, pay53_up, truncf_up, extf_up, subf_up, constant_up, matmulNN_up, addf_up, broadcastTo_up, exp_up, zero_up, select_up,
    sub_self, zero_mul, Finset.sum_const_zero, add_zero]
theorem pay56_up : k0_pay56 (F := Ideal) (up w) (up c1) (msk p) (up x) (up l)
    = up fun r c => if p r c then Real.exp (l r c + (∑ k ∈ Finset.range 256, (if p r k then l r k - x r k else 0) * w k c) + c1 r 0) else 0 := by
  simp only [k0_pay56, pay54_up, truncf_up, extf_up, subf_up, constant_up, matmulNN_up, addf_up, broadcastTo_up, exp_up, zero_up, select_up,
    sub_self, zero_mul, Finset.sum_const_zero, add_zero]
theorem pay7_up : k0_pay7 (F := Ideal) (up c1) (up x) = up fun r _ => c1 r 0 + ∑ k ∈ Finset.range 256, x r k := by
  refine ((congrArg (addf (F := Ideal) (φ := .f32) (up c1)) (rowsum_up x reduces_S256x256_S256 (.inl rfl) rfl shapeCasts_S256_S256x1)).trans (addf_up c1 _)).trans ?_
  exact up_congr fun r _ c hc => by rw [show c = 0 by omega]
theorem pay8_up : k0_pay8 (F := Ideal) (up c1) (up x) = up fun r _ => c1 r 0 + ∑ k ∈ Finset.range 256, x r k := by
  refine ((congrArg (addf (F := Ideal) (φ := .f32) (up c1)) (rowsum_up x reduces_S256x256_S256 (.inl rfl) rfl shapeCasts_S256_S256x1)).trans (addf_up c1 _)).trans ?_
  exact up_congr fun r _ c hc => by rw [show c = 0 by omega]
theorem pay3_up : k0_pay3 (F := Ideal) (up a) (up b) = up fun r c => b r c + a r c := by
  simp only [k0_pay3, shapeCast_self_up, addf_up]
theorem pay6_up : k0_pay6 (F := Ideal) (up a) (up b) = up fun r c => b r c + a r c := by
  simp only [k0_pay6, shapeCast_self_up, addf_up]

/-- A slab of a scratch buffer as a matrix. -/
theorem pay10_pay2 (X : S256x256.Idx → EReal) : k0_pay10 (F := Ideal) (k0_pay2 (F := Ideal) X) = X := by
  simp only [k0_pay10, k0_pay2, shapeCast_slab]
theorem pay10_pay4 (X : S256x256.Idx → EReal) : k0_pay10 (F := Ideal) (k0_pay4 (F := Ideal) X) = X := by
  simp only [k0_pay10, k0_pay4, shapeCast_slab]
theorem pay10_pay5 (X : S256x256.Idx → EReal) : k0_pay10 (F := Ideal) (k0_pay5 (F := Ideal) X) = X := by
  simp only [k0_pay10, k0_pay5, shapeCast_slab]

end First

/-- The weights of one block of rows against one block of keys, from the carry. -/
theorem weight_up (i j : ℕ) (hi : i < 16) (hj : j ≤ i) (q k : ℕ → ℕ → ℝ) :
    (up fun r c => if 256 * j + c < 256 * i + r then
        Real.exp (ls (dotNT q k (256 * i + r) (256 * j + c))
          + (∑ x ∈ Finset.range 256, lnm q k (256 * i + r) (256 * j + x) * (if c < x then 1 else 0)) + carry q k i j r) else 0 : S256x256.Idx → EReal)
      = up fun r c => ww q k (256 * i + r) (256 * j + c) :=
  up_congr fun r hr c hc => ww_block q k i j hi hj r c hr hc

/-! ## The second loop -/

section Second
variable (a b x z w c1 : ℕ → ℕ → ℝ) (p : ℕ → ℕ → Prop) [∀ r c, Decidable (p r c)]

theorem pay12_up (Z : S1x1x256x256.Idx → EReal) (hZ : k0_pay10 (F := Ideal) Z = up z) : k0_pay12 (F := Ideal) Z = up fun r c => sg (z r c) := by
  have hZ' : shapeCast S256x256 Z shapeCasts_S1x1x256x256_S256x256 = (up z : S256x256.Idx → EReal) := hZ
  simp only [k0_pay12, hZ', zero_up, one_up, subf_up, exp_up, addf_up, divf_up, sg]
theorem pay13_up (Z : S1x1x256x256.Idx → EReal) (hZ : k0_pay10 (F := Ideal) Z = up z) : k0_pay13 (F := Ideal) Z = up fun r c => Real.exp (0 - z r c) := by
  have hZ' : shapeCast S256x256 Z shapeCasts_S1x1x256x256_S256x256 = (up z : S256x256.Idx → EReal) := hZ
  simp only [k0_pay13, hZ', zero_up, subf_up, exp_up]
theorem pay14_up : k0_pay14 (F := Ideal) (up w) (up c1) (msk p) (up x) (up fun r c => sg (z r c))
    = up fun r c => if p r c then x r c * (1 - sg (z r c)) - sg (z r c) * ((∑ k ∈ Finset.range 256, x r k * w k c) + c1 r 0) else 0 := by
  simp only [k0_pay14, truncf_up, extf_up, subf_up, constant_up, matmulNN_up, addf_up, mulf_up, broadcastTo_up, zero_up, one_up, select_up,
    sub_self, zero_mul, Finset.sum_const_zero, add_zero]
theorem pay15_up : k0_pay15 (F := Ideal) (up w) (up c1) (msk p) (up x) (up fun r c => Real.exp (0 - z r c)) (Scalar.ofBits .f32 0x3F800000#32)
    = up fun r c => if p r c then x r c * (1 - sg (z r c)) - sg (z r c) * ((∑ k ∈ Finset.range 256, x r k * w k c) + c1 r 0) else 0 := by
  simp only [k0_pay15, truncf_up, extf_up, subf_up, constant_up, matmulNN_up, addf_up, mulf_up, broadcastTo_up, zero_up, one_up, select_up, divf_up,
    sub_self, zero_mul, Finset.sum_const_zero, add_zero, sg]
theorem pay38_up : k0_pay38 (F := Ideal) (up c1) (up x) = up fun r _ => c1 r 0 + ∑ k ∈ Finset.range 256, x r k := by
  refine ((congrArg (addf (F := Ideal) (φ := .f32) (up c1)) (rowsum_up x reduces_S256x256_S256 (.inl rfl) rfl shapeCasts_S256_S256x1)).trans (addf_up c1 _)).trans ?_
  exact up_congr fun r _ c hc => by rw [show c = 0 by omega]
theorem pay39_up : k0_pay39 (F := Ideal) (up c1) (up x) = up fun r _ => c1 r 0 + ∑ k ∈ Finset.range 256, x r k := by
  refine ((congrArg (addf (F := Ideal) (φ := .f32) (up c1)) (rowsum_up x reduces_S256x256_S256 (.inl rfl) rfl shapeCasts_S256_S256x1)).trans (addf_up c1 _)).trans ?_
  exact up_congr fun r _ c hc => by rw [show c = 0 by omega]
theorem pay40_up : k0_pay40 (F := Ideal) (up a) (up b) (up x) = up fun r c => a r c + ∑ k ∈ Finset.range 256, x r k * b k c := by
  simp only [k0_pay40, truncf_up, constant_up, matmulNN'_up, addf_up]
theorem pay41_up : k0_pay41 (F := Ideal) (up a) (up b) (up x) = up fun r c => a r c + ∑ k ∈ Finset.range 256, x r k * b k c := by
  simp only [k0_pay41, truncf_up, constant_up, matmulNN'_up, addf_up]
theorem pay37_up : k0_pay37 (F := Ideal) (up a) (up b) = up fun r c => b r c + a r c := by
  simp only [k0_pay37, shapeCast_self_up, addf_up]

end Second

end Cert.KernelIdeal.Pay
-- ==== Proof.Value.lean ====
/-
  What one trip of each loop computes, on blocks of real numbers: `Q`, `K`, `V`, `O` are the rows of two heads side by side
  (256 columns), `hd X h` the columns of head `h`.
-/
module

public import proofs.«01_k».proof.Proof.Pay

@[expose] public section

noncomputable section

namespace Cert.KernelIdeal.Value

open Idealize.ShloMosaic Cert.Proof.Owns Cert.Proof.Up Cert.Proof.Math Cert.KernelIdeal Cert.KernelIdeal.Gen Cert.KernelIdeal.Words
open Cert.KernelIdeal.Run Cert.KernelIdeal.Pay
open scoped BigOperators

/-- The columns of head `h`. -/
def hd (X : ℕ → ℕ → ℝ) (h : ℕ) : ℕ → ℕ → ℝ := fun t d => X t (128 * h + d)

/-! ## The slabs of the scratch buffers -/

/-- Head `h`'s slab for key block `J`. -/
abbrev slab (h J : ℕ) (hh : h < 2) (hJ : J < 16) : Rect S2x16x256x256 :=
  Rect.unit (s := S2x16x256x256) ![h, J, 0, 0] S1x1x256x256.size (slab_inb h J hh hJ)

section Slabs
variable {α : Type} (h J : ℕ) (hh : h < 2) (hJ : J < 16) (off : Fin 4 → ℕ) (h' J' : ℕ) (hoff : off = ![h', J', 0, 0])
  (inb : ∀ x, off x + S1x1x256x256.size x ≤ S2x16x256x256.size x) (w : S1x1x256x256.Idx → α) (X : S2x16x256x256.Idx → α)
include hoff

theorem pick_slab_eq (hh' : h' < 2) (hJ' : J' < 16) : (pick (Rect.unit (s := S2x16x256x256) off S1x1x256x256.size inb) X : S1x1x256x256.Idx → α) = pick (slab h' J' hh' hJ') X := by
  subst hoff; rfl

theorem pick_slab_hit (e : h = h') (e' : J = J') : (pick (slab h J hh hJ) (put (Rect.unit (s := S2x16x256x256) off S1x1x256x256.size inb) w X) : S1x1x256x256.Idx → α) = w := by
  subst hoff; subst e; subst e'
  funext x
  exact put_emb (Rect.unit (s := S2x16x256x256) ![h, J, 0, 0] S1x1x256x256.size inb) w X x

theorem pick_slab_miss (e : h ≠ h' ∨ J ≠ J') : (pick (slab h J hh hJ) (put (Rect.unit (s := S2x16x256x256) off S1x1x256x256.size inb) w X) : S1x1x256x256.Idx → α)
    = pick (slab h J hh hJ) X := by
  subst hoff
  funext x
  have h0 : (x 0).val < 1 := (x 0).isLt
  have h1 : (x 1).val < 1 := (x 1).isLt
  have e0 : (((slab h J hh hJ).emb x) 0).val = h + 1 * (x 0).val := Rect.emb_apply (slab h J hh hJ) x 0
  have e1 : (((slab h J hh hJ).emb x) 1).val = J + 1 * (x 1).val := Rect.emb_apply (slab h J hh hJ) x 1
  rcases e with e | e
  · refine put_miss (Rect.unit (s := S2x16x256x256) ![h', J', 0, 0] S1x1x256x256.size inb) w X _ 0 rfl ?_
    show _ < h' ∨ h' + 1 ≤ _
    rw [e0]; omega
  · refine put_miss (Rect.unit (s := S2x16x256x256) ![h', J', 0, 0] S1x1x256x256.size inb) w X _ 1 rfl ?_
    show _ < J' ∨ J' + 1 ≤ _
    rw [e1]; omega

end Slabs

/-! ## One trip of the first loop, one head -/

section Trip1
variable (i : grid0.Coords) (s : ℕ) (hs : s ≤ (i 1).val) (q k v o : ℕ → ℕ → ℝ)
include hs

/-- The rows' part of a head, -/
abbrev rowsOf (I : ℕ) (x : ℕ → ℕ → ℝ) : S256x128.Idx → EReal := up fun r c => x (256 * I + r) c

theorem weightsA : k0_pay55 (F := Ideal) k0_pay29 (up fun r _ => carry q k (i 1).val ((i 1).val - s) r) (k0_pay47 (BitVec.ofNat 32 s) (BitVec.ofNat 32 (i 1).val))
      (k0_pay50 (rowsOf (i 1).val q) (rowsOf ((i 1).val - s) k)) (k0_pay52 (rowsOf (i 1).val q) (rowsOf ((i 1).val - s) k)) (Scalar.ofBits .f32 0x00000000#32)
    = up fun r c => ww q k (256 * (i 1).val + r) (256 * ((i 1).val - s) + c) := by
  rw [pay47_eq i s hs, pay29_up, pay50_up, pay52_up, pay55_up]
  exact weight_up (i 1).val ((i 1).val - s) (row_lt i) (by omega) q k

theorem weightsB : k0_pay56 (F := Ideal) k0_pay29 (up fun r _ => carry q k (i 1).val ((i 1).val - s) r) (k0_pay47 (BitVec.ofNat 32 s) (BitVec.ofNat 32 (i 1).val))
      (k0_pay49 (rowsOf (i 1).val q) (rowsOf ((i 1).val - s) k)) (k0_pay51 (rowsOf (i 1).val q) (rowsOf ((i 1).val - s) k))
    = up fun r c => ww q k (256 * (i 1).val + r) (256 * ((i 1).val - s) + c) := by
  rw [pay47_eq i s hs, pay29_up, pay49_up, pay51_up, pay56_up]
  exact weight_up (i 1).val ((i 1).val - s) (row_lt i) (by omega) q k

/-- The carry after one more trip. -/
theorem carryA : k0_pay7 (F := Ideal) (up fun r _ => carry q k (i 1).val ((i 1).val - s) r)
      (k0_pay53 (k0_pay47 (BitVec.ofNat 32 s) (BitVec.ofNat 32 (i 1).val)) (k0_pay52 (rowsOf (i 1).val q) (rowsOf ((i 1).val - s) k)) (Scalar.ofBits .f32 0x00000000#32))
    = up fun r _ => ∑ x ∈ Finset.Ico (256 * ((i 1).val - s)) (256 * ((i 1).val + 1)), lnm q k (256 * (i 1).val + r) x := by
  rw [pay47_eq i s hs, pay52_up, pay53_up, pay7_up]
  exact up_congr fun r _ _ _ => carry_succ q k (i 1).val ((i 1).val - s) (by omega) r
theorem carryB : k0_pay8 (F := Ideal) (up fun r _ => carry q k (i 1).val ((i 1).val - s) r)
      (k0_pay54 (k0_pay47 (BitVec.ofNat 32 s) (BitVec.ofNat 32 (i 1).val)) (k0_pay49 (rowsOf (i 1).val q) (rowsOf ((i 1).val - s) k))
        (k0_pay51 (rowsOf (i 1).val q) (rowsOf ((i 1).val - s) k)))
    = up fun r _ => ∑ x ∈ Finset.Ico (256 * ((i 1).val - s)) (256 * ((i 1).val + 1)), lnm q k (256 * (i 1).val + r) x := by
  rw [pay47_eq i s hs, pay49_up, pay51_up, pay54_up, pay8_up]
  exact up_congr fun r _ _ _ => carry_succ q k (i 1).val ((i 1).val - s) (by omega) r

/-- The third result's part from one block of rows. -/
theorem dvA : k0_pay58 (F := Ideal) k0_pay29 (rowsOf (i 1).val o) (up fun r _ => carry q k (i 1).val ((i 1).val - s) r) (k0_pay47 (BitVec.ofNat 32 s) (BitVec.ofNat 32 (i 1).val))
      (k0_pay50 (rowsOf (i 1).val q) (rowsOf ((i 1).val - s) k)) (k0_pay52 (rowsOf (i 1).val q) (rowsOf ((i 1).val - s) k)) (Scalar.ofBits .f32 0x00000000#32)
    = up fun r c => ∑ x ∈ Finset.range 256, ww q k (256 * (i 1).val + x) (256 * ((i 1).val - s) + r) * o (256 * (i 1).val + x) c := by
  unfold k0_pay58
  rw [weightsA i s hs]
  simp only [truncf_up, constant_up, matmulTN_up]
theorem dvB : k0_pay59 (F := Ideal) k0_pay29 (rowsOf (i 1).val o) (up fun r _ => carry q k (i 1).val ((i 1).val - s) r) (k0_pay47 (BitVec.ofNat 32 s) (BitVec.ofNat 32 (i 1).val))
      (k0_pay49 (rowsOf (i 1).val q) (rowsOf ((i 1).val - s) k)) (k0_pay51 (rowsOf (i 1).val q) (rowsOf ((i 1).val - s) k))
    = up fun r c => ∑ x ∈ Finset.range 256, ww q k (256 * (i 1).val + x) (256 * ((i 1).val - s) + r) * o (256 * (i 1).val + x) c := by
  unfold k0_pay59
  rw [weightsB i s hs]
  simp only [truncf_up, constant_up, matmulTN_up]

/-- The weights' gradients, as the scratch buffer keeps them. -/
theorem ppA : k0_pay10 (F := Ideal) (k0_pay60 (F := Ideal) k0_pay29 (rowsOf (i 1).val o) (up fun r _ => carry q k (i 1).val ((i 1).val - s) r) (rowsOf ((i 1).val - s) v)
      (k0_pay47 (BitVec.ofNat 32 s) (BitVec.ofNat 32 (i 1).val))
      (k0_pay50 (rowsOf (i 1).val q) (rowsOf ((i 1).val - s) k)) (k0_pay52 (rowsOf (i 1).val q) (rowsOf ((i 1).val - s) k)) (Scalar.ofBits .f32 0x00000000#32))
    = up fun r c => pp q k v o (256 * (i 1).val + r) (256 * ((i 1).val - s) + c) := by
  unfold k0_pay60 k0_pay10
  rw [weightsA i s hs]
  simp only [constant_up, matmulNT_up, mulf_up, shapeCast_slab]
  rfl
theorem ppB : k0_pay57 (F := Ideal) k0_pay29 (rowsOf (i 1).val o) (up fun r _ => carry q k (i 1).val ((i 1).val - s) r) (rowsOf ((i 1).val - s) v)
      (k0_pay47 (BitVec.ofNat 32 s) (BitVec.ofNat 32 (i 1).val))
      (k0_pay49 (rowsOf (i 1).val q) (rowsOf ((i 1).val - s) k)) (k0_pay51 (rowsOf (i 1).val q) (rowsOf ((i 1).val - s) k))
    = up fun r c => pp q k v o (256 * (i 1).val + r) (256 * ((i 1).val - s) + c) := by
  unfold k0_pay57
  rw [weightsB i s hs]
  simp only [constant_up, matmulNT_up, mulf_up]
  rfl

end Trip1

/-! ## One trip of the second loop, one head -/

section Trip2
variable (i : grid0.Coords) (n : ℕ) (hn : n ≤ (i 1).val + 1) (kk : Fin (k0_t1_loop i (BitVec.ofNat 32 n)).trips) (J : ℕ)
  (hJ : (i 1).val + 1 - n + kk.val = J) (q k v o : ℕ → ℕ → ℝ)

/-- The running sums of a block's rows. -/
abbrev preOf (I J : ℕ) : S256x1.Idx → EReal := up fun r _ => pre q k v o (256 * I + r) J
abbrev ppOf (I J : ℕ) : S256x256.Idx → EReal := up fun r c => pp q k v o (256 * I + r) (256 * J + c)

include hJ hn
theorem dzA : k0_pay14 (F := Ideal) (k0_pay30 (F := Ideal)) (preOf q k v o (i 1).val J) (lMask i n kk) (ppOf q k v o (i 1).val J)
      (up fun r c => sg (dotNT q k (256 * (i 1).val + r) (256 * J + c)))
    = up fun r c => dz q k v o (256 * (i 1).val + r) (256 * J + c) := by
  rw [lMask_eq i n hn kk, hJ, pay30_up, pay14_up]
  exact up_congr fun r _ c hc => dz_block q k v o (i 1).val J r c hc
theorem dzB : k0_pay15 (F := Ideal) (k0_pay30 (F := Ideal)) (preOf q k v o (i 1).val J) (lMask i n kk) (ppOf q k v o (i 1).val J)
      (up fun r c => Real.exp (0 - dotNT q k (256 * (i 1).val + r) (256 * J + c))) (Scalar.ofBits .f32 0x3F800000#32)
    = up fun r c => dz q k v o (256 * (i 1).val + r) (256 * J + c) := by
  rw [lMask_eq i n hn kk, hJ, pay30_up, pay15_up]
  exact up_congr fun r _ c hc => dz_block q k v o (i 1).val J r c hc

variable (X : ℕ → ℕ → ℝ)
theorem dkA : k0_pay17 (F := Ideal) (rowsOf (i 1).val q) (k0_pay30 (F := Ideal)) (preOf q k v o (i 1).val J) (lMask i n kk) (ppOf q k v o (i 1).val J)
      (up fun r c => sg (dotNT q k (256 * (i 1).val + r) (256 * J + c))) (up X)
    = up fun r c => X r c + ∑ x ∈ Finset.range 256, dz q k v o (256 * (i 1).val + x) (256 * J + r) * q (256 * (i 1).val + x) c := by
  unfold k0_pay17
  rw [dzA i n hn kk J hJ]
  simp only [truncf_up, constant_up, matmulTN_up, shapeCast_self_up, addf_up]
theorem dkB : k0_pay16 (F := Ideal) (rowsOf (i 1).val q) (k0_pay30 (F := Ideal)) (preOf q k v o (i 1).val J) (lMask i n kk) (ppOf q k v o (i 1).val J)
      (up fun r c => Real.exp (0 - dotNT q k (256 * (i 1).val + r) (256 * J + c))) (Scalar.ofBits .f32 0x3F800000#32)
    = up fun r c => ∑ x ∈ Finset.range 256, dz q k v o (256 * (i 1).val + x) (256 * J + r) * q (256 * (i 1).val + x) c := by
  unfold k0_pay16
  rw [dzB i n hn kk J hJ]
  simp only [truncf_up, constant_up, matmulTN_up]

end Trip2

end Cert.KernelIdeal.Value
-- ==== Proof.Reading.lean ====
/-
  The body's value at one grid point: the reading of both loops by the sums of Math.lean. Row block `I = i 1` of a pair of
  heads. After `s` trips of the first loop the carries are the sums over the visited keys, the scratch buffers hold the
  visited blocks and the third result has row block `I` added at the visited keys; after `k` trips of the second the prefix
  sums and the first result are those over the keys before block `k`, and the second result has row block `I` added there.
-/
module

public import proofs.«01_k».proof.Proof.Value
public import proofs.«01_k».proof.Proof.Body

@[expose] public section

noncomputable section

namespace Cert.KernelIdeal.Value

open Idealize.ShloMosaic Cert.Proof.Owns Cert.Proof.Up Cert.Proof.Math Cert.KernelIdeal Cert.KernelIdeal.Gen Cert.KernelIdeal.Words
open Cert.KernelIdeal.Run Cert.KernelIdeal.Pay
open scoped BigOperators

/-- While the carries are numbers, some row is alive. -/
theorem alive_up (a b : ℕ → ℕ → ℝ) : alive (F := Ideal) (up a) (up b) = 1#1 := by
  unfold alive
  rw [show (Named.named (F := Ideal) (φ := .f32) κ "dead" 0xC2D20000#32) = (⊥ : EReal) from IdealRules.named_const.ideal_named_scalar _ _ _ _ rfl]
  pointwise [k0_pay1]
  rw [decide_eq_true (p := _ < _)]
  · rfl
  · exact lt_max_of_lt_left ((Finset.lt_fold_max _).mpr (.inr ⟨⟨0, 0⟩, Finset.mem_univ _, EReal.bot_lt_coe _⟩))

/-! ## Two heads' columns side by side -/

section Pair
variable (Q K V O : ℕ → ℕ → ℝ)

/-- The first result's partial sums at column `x` of the pair; -/
def dqC (S t x : ℕ) : ℝ := dqTo (hd Q (x / 128)) (hd K (x / 128)) (hd V (x / 128)) (hd O (x / 128)) S t (x % 128)
/-- the second's; -/
def dkC (T s x : ℕ) : ℝ := dkTo (hd Q (x / 128)) (hd K (x / 128)) (hd V (x / 128)) (hd O (x / 128)) T s (x % 128)
/-- the third's. -/
def dvC (T s x : ℕ) : ℝ := dvTo (hd Q (x / 128)) (hd K (x / 128)) (hd O (x / 128)) T s (x % 128)

theorem dkC_le (T s x : ℕ) (h : T ≤ s + 1) : dkC Q K V O T s x = 0 := dkTo_le _ _ _ _ _ _ _ h
theorem dvC_le (T s x : ℕ) (h : T ≤ s + 1) : dvC Q K O T s x = 0 := dvTo_le _ _ _ _ _ _ h

theorem divA {x : ℕ} (h : x < 128) : x / 128 = 0 := Nat.div_eq_of_lt h
theorem divB {x : ℕ} (h : 128 ≤ x) (h' : x < 256) : x / 128 = 1 := by omega
theorem modB {x : ℕ} (h : 128 ≤ x) (h' : x < 256) : x % 128 = x - 128 := by omega

end Pair

/-! ## Parts of the arrays -/

section Parts
variable (X : ℕ → ℕ → ℝ)

theorem pick_hA (I : ℕ) : (pick hA (up (fun r x => X (256 * I + r) x)) : S256x128.Idx → EReal) = rowsOf I (hd X 0) := by
  refine (pick_up ![0, 0] 0 0 rfl _ _).trans (up_congr fun r _ c _ => ?_)
  simp only [hd, Nat.zero_add, Nat.mul_zero]
theorem pick_hB (I : ℕ) : (pick hB (up (fun r x => X (256 * I + r) x)) : S256x128.Idx → EReal) = rowsOf I (hd X 1) := by
  refine (pick_up ![0, 128] 0 128 rfl _ _).trans (up_congr fun r _ c _ => ?_)
  simp only [hd, Nat.zero_add, Nat.mul_one]

variable (off : Fin 2 → ℕ) (J : ℕ) (inb : ∀ a, off a + S256x128.size a ≤ S4096x256.size a)

theorem pick_cA (hoff : off = ![J * 256, 0]) : (pick (Rect.unit (s := S4096x256) off S256x128.size inb) (up X) : S256x128.Idx → EReal) = rowsOf J (hd X 0) := by
  refine (pick_up off (J * 256) 0 hoff inb _).trans (up_congr fun r _ c _ => ?_)
  simp only [hd, Nat.zero_add, Nat.mul_zero, Nat.mul_comm J]
theorem pick_cB (hoff : off = ![J * 256, 128]) : (pick (Rect.unit (s := S4096x256) off S256x128.size inb) (up X) : S256x128.Idx → EReal) = rowsOf J (hd X 1) := by
  refine (pick_up off (J * 256) 128 hoff inb _).trans (up_congr fun r _ c _ => ?_)
  simp only [hd, Nat.mul_one, Nat.mul_comm J]

variable (A B : ℕ → ℕ → ℝ) (offB : Fin 2 → ℕ) (inbB : ∀ a, offB a + S256x128.size a ≤ S4096x256.size a)
  (hA' : off = ![J * 256, 0]) (hB' : offB = ![J * 256, 128])
include hA' hB'

/-- The second head's columns are what they were after the first head's store. -/
theorem pick_cB_put : (pick (Rect.unit (s := S4096x256) offB S256x128.size inbB)
      (put (Rect.unit (s := S4096x256) off S256x128.size inb) (up A : S256x128.Idx → EReal) (up X)) : S256x128.Idx → EReal)
    = pick (Rect.unit (s := S4096x256) offB S256x128.size inbB) (up X) := by
  subst hB'
  funext x
  have e1 : (((Rect.unit (s := S4096x256) ![J * 256, 128] S256x128.size inbB).emb x) 1).val = 128 + 1 * (x 1).val :=
    Rect.emb_apply (Rect.unit (s := S4096x256) ![J * 256, 128] S256x128.size inbB) x 1
  refine put_miss (Rect.unit (s := S4096x256) off S256x128.size inb) (up A) (up X) _ 1 rfl ?_
  subst hA'
  show _ < 0 ∨ 0 + 128 ≤ _
  rw [e1]; omega

/-- Both heads' stores. -/
theorem put_pair : put (Rect.unit (s := S4096x256) offB S256x128.size inbB) (up B : S256x128.Idx → EReal)
      (put (Rect.unit (s := S4096x256) off S256x128.size inb) (up A : S256x128.Idx → EReal) (up X))
    = up fun y x => if 256 * J ≤ y ∧ y < 256 * (J + 1) then (if x < 128 then A (y - 256 * J) x else B (y - 256 * J) (x - 128)) else X y x := by
  refine ((congrArg _ (put_up off (J * 256) 0 hA' inb X A)).trans (put_up offB (J * 256) 128 hB' inbB _ B)).trans (up_congr fun y _ x hx => ?_)
  rw [Nat.mul_comm J 256]
  by_cases hy : 256 * J ≤ y ∧ y < 256 * (J + 1)
  · rw [if_pos hy]
    by_cases h : x < 128
    · rw [if_neg (by omega), if_pos (by omega), if_pos h, Nat.sub_zero]
    · rw [if_pos (by omega), if_neg h]
  · rw [if_neg hy, if_neg (by omega), if_neg (by omega)]

end Parts

/-- The first result's two halves. -/
theorem put_halves (A B : ℕ → ℕ → ℝ) (X : S256x256.Idx → EReal) :
    put hB (up B : S256x128.Idx → EReal) (put hA (up A : S256x128.Idx → EReal) X) = up fun r x => if x < 128 then A r x else B r (x - 128) := by
  funext y
  have h0 : (y 0).val < 256 := (y 0).isLt
  have h1 : (y 1).val < 256 := (y 1).isLt
  rw [up_apply]
  by_cases h : (y 1).val < 128
  · rw [if_pos h]
    refine (put_miss hB (up B) _ y 1 rfl (.inl h)).trans ?_
    exact put_hit hA (up A) X (ix2 ⟨(y 0).val, h0⟩ ⟨(y 1).val, h⟩) y (by intro a; fin_cases a <;> simp [Rect.unit])
  · rw [if_neg h]
    exact put_hit hB (up B) _ (ix2 ⟨(y 0).val, h0⟩ ⟨(y 1).val - 128, by omega⟩) y (by intro a; fin_cases a <;> simp [Rect.unit]; omega)

/-! ## The cleared or kept block -/

section Init
variable (i : grid0.Coords)

theorem first_iff : first i ↔ (i 1).val = 0 := by
  have h : ∀ a : Fin 16, (Scalar.cmpi .ne (Scalar.extui (Scalar.cmpi .eq (BitVec.ofNat 32 a.val) 0#32) : BitVec 32) 0#32 = 1#1) ↔ a.val = 0 := by decide +kernel
  exact h ⟨_, row_lt i⟩

theorem put_whole (X : S4096x256.Idx → EReal) (w : S4096x256.Idx → EReal) : put rW w X = w := by
  funext y
  exact put_hit rW w X y y (by intro a; fin_cases a <;> simp [Rect.unit])

variable (f : ℕ → ℕ → ℕ → ℝ) (hf : ∀ s x, f 0 s x = 0) (X : S4096x256.Idx → EReal) (hX : (i 1).val ≠ 0 → X = up (f (256 * (i 1).val)))
include hf hX

theorem init0_up (w : S4096x256.Idx → EReal) (hw : w = up fun _ _ => 0) : init0 (F := Ideal) i w X = up (f (256 * (i 1).val)) := by
  unfold init0
  by_cases h : first i
  · rw [if_pos h, put_whole, hw]
    have h0 := (first_iff i).mp h
    exact up_congr fun y _ x _ => by rw [h0, Nat.mul_zero, hf]
  · rw [if_neg h]; exact hX fun h0 => h ((first_iff i).mpr h0)

end Init

/-! ## The first loop's facts -/

section Loops
variable (i : grid0.Coords) (Q K V O : ℕ → ℕ → ℝ)

/-- Head `h`'s carries after `s` trips. -/
def carryS (h s r : ℕ) : ℝ := ∑ x ∈ Finset.Ico (256 * ((i 1).val + 1 - s)) (256 * ((i 1).val + 1)), lnm (hd Q h) (hd K h) (256 * (i 1).val + r) x

theorem carryS_eq (h s : ℕ) (hs : s ≤ (i 1).val) (r : ℕ) : carryS i Q K h s r = carry (hd Q h) (hd K h) (i 1).val ((i 1).val - s) r := by
  unfold carryS carry; rw [show (i 1).val + 1 - s = (i 1).val - s + 1 by omega]

/-- The scratch buffers at the blocks visited in `s` trips. -/
def Kept (s : ℕ) (P Z : Vec Ideal S2x16x256x256 .f32) : Prop := ∀ h (hh : h < 2) J (hJ : J < 16), (i 1).val + 1 - s ≤ J → J ≤ (i 1).val →
  k0_pay10 (F := Ideal) (pick (slab h J hh hJ) P) = ppOf (hd Q h) (hd K h) (hd V h) (hd O h) (i 1).val J
  ∧ k0_pay10 (F := Ideal) (pick (slab h J hh hJ) Z) = up fun r c => dotNT (hd Q h) (hd K h) (256 * (i 1).val + r) (256 * J + c)

/-- What the first loop has done after `s` trips. -/
structure WI (s : ℕ) (st : WSt Ideal) : Prop where
  c1 : st.c1 = (up fun r _ => carryS i Q K 0 s r : S256x1.Idx → EReal)
  c2 : st.c2 = (up fun r _ => carryS i Q K 1 s r : S256x1.Idx → EReal)
  kept : Kept i Q K V O s st.P st.Z
  D : st.D = (up fun y x => dvC Q K O (if 256 * ((i 1).val + 1 - s) ≤ y then 256 * ((i 1).val + 1) else 256 * (i 1).val) y x : S4096x256.Idx → EReal)

theorem WI.zero (P Z : Vec Ideal S2x16x256x256 .f32) (DV : Vec Ideal S4096x256 .f32)
    (hDV : (i 1).val ≠ 0 → DV = (up (dvC Q K O (256 * (i 1).val)) : S4096x256.Idx → EReal)) :
    WI i Q K V O 0 ⟨k0_pay31 (F := Ideal), k0_pay32 (F := Ideal), P, Z, init0 i (k0_pay28 (F := Ideal)) DV⟩ where
  c1 := by
    refine (zero_up (m := 256) (n := 1)).trans (up_congr fun r _ c _ => ?_)
    simp only [carryS, Nat.sub_zero, Finset.Ico_self, Finset.sum_empty]
  c2 := by
    refine (zero_up (m := 256) (n := 1)).trans (up_congr fun r _ c _ => ?_)
    simp only [carryS, Nat.sub_zero, Finset.Ico_self, Finset.sum_empty]
  kept h hh J hJ h1 h2 := by omega
  D := by
    refine (init0_up i (dvC Q K O) (fun s x => dvC_le _ _ _ _ _ _ (by omega)) DV hDV _ zero_up).trans (up_congr fun y _ x _ => ?_)
    by_cases h : 256 * ((i 1).val + 1 - 0) ≤ y
    · rw [if_pos h, dvC_le _ _ _ _ _ _ (by omega), dvC_le _ _ _ _ _ _ (by omega)]
    · rw [if_neg h]

/-- One trip of the first loop. -/
theorem WI.step (s : ℕ) (hs : s ≤ (i 1).val) (st : WSt Ideal) (w : WI i Q K V O s st) :
    WI i Q K V O (s + 1) (wStep i s hs (rowsOf (i 1).val (hd Q 0)) (rowsOf (i 1).val (hd Q 1)) k0_pay29
      (rowsOf (i 1).val (hd O 0)) (rowsOf (i 1).val (hd O 1)) (up K) (up V) st) := by
  have hI := row_lt i
  have c1 : st.c1 = (up fun r _ => carry (hd Q 0) (hd K 0) (i 1).val ((i 1).val - s) r : S256x1.Idx → EReal) := by
    rw [w.c1]; simp only [carryS_eq i Q K _ s hs]
  have c2 : st.c2 = (up fun r _ => carry (hd Q 1) (hd K 1) (i 1).val ((i 1).val - s) r : S256x1.Idx → EReal) := by
    rw [w.c2]; simp only [carryS_eq i Q K _ s hs]
  have kA : (pick (rA i s hs) (up K) : S256x128.Idx → EReal) = rowsOf ((i 1).val - s) (hd K 0) := pick_cA K _ _ _ (off1_eq i s hs)
  have kB : (pick (rB i s hs) (up K) : S256x128.Idx → EReal) = rowsOf ((i 1).val - s) (hd K 1) := pick_cB K _ _ _ (off2_eq i s hs)
  have vA : (pick (rA i s hs) (up V) : S256x128.Idx → EReal) = rowsOf ((i 1).val - s) (hd V 0) := pick_cA V _ _ _ (off1_eq i s hs)
  have vB : (pick (rB i s hs) (up V) : S256x128.Idx → EReal) = rowsOf ((i 1).val - s) (hd V 1) := pick_cB V _ _ _ (off2_eq i s hs)
  have e : (i 1).val + 1 - (s + 1) = (i 1).val - s := by omega
  refine ⟨?_, ?_, ?_, ?_⟩
  · rw [wStep_c1, c1, kA]
    refine (carryA i s hs (hd Q 0) (hd K 0)).trans ?_
    unfold carryS; rw [e]
  · rw [wStep_c2, c2, kB]
    refine (carryB i s hs (hd Q 1) (hd K 1)).trans ?_
    unfold carryS; rw [e]
  · rw [wStep_P, wStep_Z, c1, c2, kA, kB, vA, vB]
    intro h hh J hJ h1 h2
    by_cases hJs : J = (i 1).val - s
    · subst hJs
      by_cases h0 : h = 0
      · subst h0
        rw [pick_slab_miss 0 _ hh hJ _ 1 _ (off4_eq i s hs) _ _ _ (.inl (by omega)), pick_slab_miss 0 _ hh hJ _ 1 _ (off4_eq i s hs) _ _ _ (.inl (by omega)),
          pick_slab_hit 0 _ hh hJ _ 0 _ (off3_eq i s hs) _ _ _ rfl rfl, pick_slab_hit 0 _ hh hJ _ 0 _ (off3_eq i s hs) _ _ _ rfl rfl]
        exact ⟨ppA i s hs _ _ _ _, (pay10_pay2 _).trans (pay48_up _ _)⟩
      · obtain rfl : h = 1 := by omega
        rw [pick_slab_hit 1 _ hh hJ _ 1 _ (off4_eq i s hs) _ _ _ rfl rfl, pick_slab_hit 1 _ hh hJ _ 1 _ (off4_eq i s hs) _ _ _ rfl rfl]
        exact ⟨(pay10_pay4 _).trans (ppB i s hs _ _ _ _), (pay10_pay5 _).trans (pay49_up _ _)⟩
    · rw [pick_slab_miss h _ hh hJ _ 1 _ (off4_eq i s hs) _ _ _ (.inr hJs), pick_slab_miss h _ hh hJ _ 1 _ (off4_eq i s hs) _ _ _ (.inr hJs),
        pick_slab_miss h _ hh hJ _ 0 _ (off3_eq i s hs) _ _ _ (.inr hJs), pick_slab_miss h _ hh hJ _ 0 _ (off3_eq i s hs) _ _ _ (.inr hJs)]
      exact w.kept h hh J hJ (by omega) h2
  · have d1 : wD1 i s hs (rowsOf (i 1).val (hd Q 0)) k0_pay29 (rowsOf (i 1).val (hd O 0)) (up K) st
        = put (rA i s hs) (k0_pay3 (up fun r c => ∑ x ∈ Finset.range 256, ww (hd Q 0) (hd K 0) (256 * (i 1).val + x) (256 * ((i 1).val - s) + r) * hd O 0 (256 * (i 1).val + x) c)
          (pick (rA i s hs) st.D)) st.D := by
      unfold wD1; rw [c1, kA, dvA i s hs]
    rw [wStep_D, d1, c2, kB, dvB i s hs, w.D]
    rw [pick_cA _ _ ((i 1).val - s) _ (off1_eq i s hs), pay3_up, pick_cB_put _ _ ((i 1).val - s) _ _ _ _ (off1_eq i s hs) (off2_eq i s hs),
      pick_cB _ _ ((i 1).val - s) _ (off2_eq i s hs), pay6_up, put_pair _ _ ((i 1).val - s) _ _ _ _ _ (off1_eq i s hs) (off2_eq i s hs)]
    refine up_congr fun y hy x hx => ?_
    rw [e]
    by_cases hJ : 256 * ((i 1).val - s) ≤ y ∧ y < 256 * ((i 1).val - s + 1)
    · rw [if_pos hJ, if_pos hJ.1]
      have ey : 256 * ((i 1).val - s) + (y - 256 * ((i 1).val - s)) = y := by omega
      by_cases hx1 : x < 128
      · rw [if_pos hx1]
        simp only [hd, ey]
        rw [if_neg (by omega)]
        simp only [dvC, Nat.mul_zero, Nat.zero_add, divA hx1, Nat.mod_eq_of_lt hx1]
        exact dvTo_succ (hd Q 0) (hd K 0) (hd O 0) (i 1).val y x |> fun h => by simpa only [hd, Nat.mul_zero, Nat.zero_add] using h
      · rw [if_neg hx1]
        have hx2 : 128 ≤ x := by omega
        simp only [hd, ey]
        rw [if_neg (by omega)]
        simp only [dvC, Nat.mul_one, show 128 + (x - 128) = x by omega, divB hx2 hx, modB hx2 hx]
        exact dvTo_succ (hd Q 1) (hd K 1) (hd O 1) (i 1).val y (x - 128) |> fun h => by simpa only [hd, Nat.mul_one, show 128 + (x - 128) = x by omega] using h
    · rw [if_neg hJ]
      by_cases hy2 : 256 * ((i 1).val + 1 - s) ≤ y
      · rw [if_pos hy2, if_pos (by omega)]
      · rw [if_neg hy2, if_neg (by omega)]

/-! ## The second loop's facts -/

/-- What the second loop has done after `k` trips. -/
structure LI (n : ℕ) (st : WSt Ideal) (k : ℕ) (ls : LSt Ideal) : Prop where
  all : n = (i 1).val + 1
  kept : Kept i Q K V O ((i 1).val + 1) st.P st.Z
  V3 : st.D = (up (dvC Q K O (256 * ((i 1).val + 1))) : S4096x256.Idx → EReal)
  r1 : ls.r1 = preOf (hd Q 0) (hd K 0) (hd V 0) (hd O 0) (i 1).val k
  r2 : ls.r2 = preOf (hd Q 1) (hd K 1) (hd V 1) (hd O 1) (i 1).val k
  q1 : ls.q1 = rowsOf (i 1).val (dqTo (hd Q 0) (hd K 0) (hd V 0) (hd O 0) (256 * k))
  q2 : ls.q2 = rowsOf (i 1).val (dqTo (hd Q 1) (hd K 1) (hd V 1) (hd O 1) (256 * k))
  D : ls.D = (up fun y x => dkC Q K V O (if y < 256 * k then 256 * ((i 1).val + 1) else 256 * (i 1).val) y x : S4096x256.Idx → EReal)

theorem LI.zero (n : ℕ) (hn : n ≤ (i 1).val + 1) (st : WSt Ideal) (w : WI i Q K V O n st) (hx : n = (i 1).val + 1 ∨ alive st.c1 st.c2 ≠ 1#1)
    (DK : Vec Ideal S4096x256 .f32) (hDK : (i 1).val ≠ 0 → DK = (up (dkC Q K V O (256 * (i 1).val)) : S4096x256.Idx → EReal)) :
    LI i Q K V O n st 0 ⟨k0_pay33 (F := Ideal), k0_pay34 (F := Ideal), k0_pay35 (F := Ideal), k0_pay36 (F := Ideal), init0 i (k0_pay27 (F := Ideal)) DK⟩ := by
  have hall : n = (i 1).val + 1 := by
    rcases hx with h | h
    · exact h
    · exact absurd (by rw [w.c1, w.c2]; exact alive_up _ _) h
  subst hall
  refine ⟨rfl, w.kept, ?_, ?_, ?_, ?_, ?_, ?_⟩
  · rw [w.D]; exact up_congr fun y _ x _ => by rw [if_pos (by omega)]
  · exact (zero_up (m := 256) (n := 1)).trans (up_congr fun r _ c _ => (pre_zero _ _ _ _ _).symm)
  · exact (zero_up (m := 256) (n := 1)).trans (up_congr fun r _ c _ => (pre_zero _ _ _ _ _).symm)
  · exact (zero_up (m := 256) (n := 128)).trans (up_congr fun r _ c _ => by simp only [dqTo, Nat.mul_zero, Finset.range_zero, Finset.sum_empty])
  · exact (zero_up (m := 256) (n := 128)).trans (up_congr fun r _ c _ => by simp only [dqTo, Nat.mul_zero, Finset.range_zero, Finset.sum_empty])
  · refine (init0_up i (dkC Q K V O) (fun s x => dkC_le _ _ _ _ _ _ _ (by omega)) DK hDK _ zero_up).trans (up_congr fun y _ x _ => ?_)
    rw [if_neg (by omega)]

/-- One trip of the second loop. -/
theorem LI.step (n : ℕ) (hn : n ≤ (i 1).val + 1) (st : WSt Ideal) (k : Fin (k0_t1_loop i (BitVec.ofNat 32 n)).trips) (ls : LSt Ideal)
    (l : LI i Q K V O n st k.val ls) :
    LI i Q K V O n st (k.val + 1) (lStep i n hn k (rowsOf (i 1).val (hd Q 0)) (rowsOf (i 1).val (hd Q 1)) (up K) st.P st.Z ls) := by
  have hI := row_lt i
  have hk := k_lt i n hn k
  have hJ : (i 1).val + 1 - n + k.val = k.val := by have := l.all; omega
  have hk16 : k.val < 16 := by omega
  have pA : k0_pay10 (F := Ideal) (pick (sC i n hn k) st.P) = ppOf (hd Q 0) (hd K 0) (hd V 0) (hd O 0) (i 1).val k.val := by
    rw [pick_slab_eq _ 0 k.val ((off7_eq i n hn k).trans (by rw [hJ])) _ _ (by omega) hk16]
    exact (l.kept 0 (by omega) k.val hk16 (by omega) (by omega)).1
  have pB : k0_pay11 (F := Ideal) (pick (sD i n hn k) st.P) = ppOf (hd Q 1) (hd K 1) (hd V 1) (hd O 1) (i 1).val k.val := by
    rw [pick_slab_eq _ 1 k.val ((off8_eq i n hn k).trans (by rw [hJ])) _ _ (by omega) hk16]
    exact (l.kept 1 (by omega) k.val hk16 (by omega) (by omega)).1
  have zA : k0_pay12 (F := Ideal) (pick (sC i n hn k) st.Z) = up fun r c => sg (dotNT (hd Q 0) (hd K 0) (256 * (i 1).val + r) (256 * k.val + c)) := by
    rw [pick_slab_eq _ 0 k.val ((off7_eq i n hn k).trans (by rw [hJ])) _ _ (by omega) hk16]
    exact pay12_up _ _ (l.kept 0 (by omega) k.val hk16 (by omega) (by omega)).2
  have zB : k0_pay13 (F := Ideal) (pick (sD i n hn k) st.Z) = up fun r c => Real.exp (0 - dotNT (hd Q 1) (hd K 1) (256 * (i 1).val + r) (256 * k.val + c)) := by
    rw [pick_slab_eq _ 1 k.val ((off8_eq i n hn k).trans (by rw [hJ])) _ _ (by omega) hk16]
    exact pay13_up _ _ (l.kept 1 (by omega) k.val hk16 (by omega) (by omega)).2
  have oA : k0_off5 i (BitVec.ofNat 32 n) k = ![k.val * 256, 0] := (off5_eq i n hn k).trans (by rw [hJ])
  have oB : k0_off6 i (BitVec.ofNat 32 n) k = ![k.val * 256, 128] := (off6_eq i n hn k).trans (by rw [hJ])
  have kA : (pick (sA i n hn k) (up K) : S256x128.Idx → EReal) = rowsOf k.val (hd K 0) := pick_cA K _ _ _ oA
  have kB : (pick (sB i n hn k) (up K) : S256x128.Idx → EReal) = rowsOf k.val (hd K 1) := pick_cB K _ _ _ oB
  have acc := lStep_acc i n hn k (rowsOf (i 1).val (hd Q 0)) (rowsOf (i 1).val (hd Q 1)) (up K) st.P st.Z ls
  obtain ⟨a1, a2, a3, a4⟩ : _ ∧ _ ∧ _ ∧ _ := by simpa only [LSt.acc, Prod.mk.injEq] using acc
  refine ⟨l.all, l.kept, l.V3, ?_, ?_, ?_, ?_, ?_⟩
  · rw [a1, pA, l.r1, pay38_up]; exact up_congr fun r _ _ _ => pre_succ _ _ _ _ _ _
  · rw [a2, pB, l.r2, pay39_up]; exact up_congr fun r _ _ _ => pre_succ _ _ _ _ _ _
  · rw [a3, pA, zA, l.r1, kA, dzA i n hn k k.val hJ, l.q1, pay40_up]; exact up_congr fun r _ c _ => dqTo_succ _ _ _ _ _ _ _
  · rw [a4, pB, zB, l.r2, kB, dzB i n hn k k.val hJ, l.q2, pay41_up]; exact up_congr fun r _ c _ => dqTo_succ _ _ _ _ _ _ _
  · have d1 : lD1 i n hn k (rowsOf (i 1).val (hd Q 0)) st.P st.Z ls
        = put (sA i n hn k) (k0_pay17 (rowsOf (i 1).val (hd Q 0)) (k0_pay30 (F := Ideal)) (preOf (hd Q 0) (hd K 0) (hd V 0) (hd O 0) (i 1).val k.val) (lMask i n k)
          (ppOf (hd Q 0) (hd K 0) (hd V 0) (hd O 0) (i 1).val k.val) (up fun r c => sg (dotNT (hd Q 0) (hd K 0) (256 * (i 1).val + r) (256 * k.val + c)))
          (pick (sA i n hn k) ls.D)) ls.D := by
      unfold lD1; rw [pA, zA, l.r1]
    rw [lStep_D, d1, pB, zB, l.r2, dkB i n hn k k.val hJ, l.D]
    rw [pick_cA _ _ k.val _ oA, dkA i n hn k k.val hJ, pick_cB_put _ _ k.val _ _ _ _ oA oB, pick_cB _ _ k.val _ oB, pay37_up, put_pair _ _ k.val _ _ _ _ _ oA oB]
    refine up_congr fun y hy x hx => ?_
    by_cases hy1 : 256 * k.val ≤ y ∧ y < 256 * (k.val + 1)
    · rw [if_pos hy1, if_pos hy1.2]
      have ey : 256 * k.val + (y - 256 * k.val) = y := by omega
      by_cases hx1 : x < 128
      · rw [if_pos hx1]
        simp only [hd, ey]
        rw [if_neg (by omega)]
        simp only [dkC, Nat.mul_zero, Nat.zero_add, divA hx1, Nat.mod_eq_of_lt hx1]
        exact dkTo_succ (hd Q 0) (hd K 0) (hd V 0) (hd O 0) (i 1).val y x |> fun h => by simpa only [hd, Nat.mul_zero, Nat.zero_add] using h
      · rw [if_neg hx1]
        have hx2 : 128 ≤ x := by omega
        simp only [hd, ey]
        rw [if_neg (by omega)]
        simp only [dkC, Nat.mul_one, show 128 + (x - 128) = x by omega, divB hx2 hx, modB hx2 hx]
        exact dkTo_succ (hd Q 1) (hd K 1) (hd V 1) (hd O 1) (i 1).val y (x - 128) |> fun h => by simpa only [hd, Nat.mul_one, show 128 + (x - 128) = x by omega] using h
    · rw [if_neg hy1]
      by_cases hy2 : y < 256 * k.val
      · rw [if_pos hy2, if_pos (by omega)]
      · rw [if_neg hy2, if_neg (by omega)]

/-- The body's reading at a grid point on blocks of real numbers. -/
def reading (Qb : Vec Ideal S256x256 .bf16) (Kb Vb : Vec Ideal S4096x256 .bf16) (Ob : Vec Ideal S256x256 .bf16) (DK DV : Vec Ideal S4096x256 .f32)
    (hQ : Qb = (up fun r x => Q (256 * (i 1).val + r) x : S256x256.Idx → EReal)) (hK : Kb = (up K : S4096x256.Idx → EReal))
    (hV : Vb = (up V : S4096x256.Idx → EReal)) (hO : Ob = (up fun r x => O (256 * (i 1).val + r) x : S256x256.Idx → EReal))
    (hDK : (i 1).val ≠ 0 → DK = (up (dkC Q K V O (256 * (i 1).val)) : S4096x256.Idx → EReal))
    (hDV : (i 1).val ≠ 0 → DV = (up (dvC Q K O (256 * (i 1).val)) : S4096x256.Idx → EReal)) : Reading i Qb Kb Vb Ob DK DV where
  W := WI i Q K V O
  L := LI i Q K V O
  R d4 d5 d6 := d4 = (up fun r x => dqC Q K V O 4096 (256 * (i 1).val + r) x : S256x256.Idx → EReal)
    ∧ d5 = (up (dkC Q K V O (256 * ((i 1).val + 1))) : S4096x256.Idx → EReal)
    ∧ d6 = (up (dvC Q K O (256 * ((i 1).val + 1))) : S4096x256.Idx → EReal)
  hW0 P Z := WI.zero i Q K V O P Z DV hDV
  hW s hs st w := by
    subst hQ hK hV hO
    rw [pick_hA Q, pick_hB Q, pick_hA O, pick_hB O]
    exact WI.step i Q K V O s hs st w
  hL0 n hn st w hx := LI.zero i Q K V O n hn st w hx DK hDK
  hL n hn st k ls l := by
    subst hQ hK
    rw [pick_hA Q, pick_hB Q]
    exact LI.step i Q K V O n hn st k ls l
  hR n st ls hn l X := by
    have hI := row_lt i
    refine ⟨?_, ?_, l.V3⟩
    · rw [l.q1, l.q2, l.all, put_halves]
      refine up_congr fun r hr x hx => ?_
      by_cases hx1 : x < 128
      · rw [if_pos hx1]
        simp only [dqC, divA hx1, Nat.mod_eq_of_lt hx1]
        exact (dqTo_full _ _ _ _ _ _ _ (by omega) (by omega)).symm
      · rw [if_neg hx1]
        have hx2 : 128 ≤ x := by omega
        simp only [dqC, divB hx2 hx, modB hx2 hx]
        exact (dqTo_full _ _ _ _ _ _ _ (by omega) (by omega)).symm
    · rw [l.D, l.all]
      refine up_congr fun y hy x hx => ?_
      by_cases h : y < 256 * ((i 1).val + 1)
      · rw [if_pos h]
      · rw [if_neg h, dkC_le _ _ _ _ _ _ _ (by omega), dkC_le _ _ _ _ _ _ _ (by omega)]

end Loops

end Cert.KernelIdeal.Value
-- ==== Proof.Blocks.lean ====
/-
  The launch's values: what the three results' blocks hold after each grid point when the four arguments are arrays of real
  numbers. Grid point `t` is row block `t mod 16` of the pair of heads `t / 16`, whose 256 columns are a block's columns.
  The launch ends with the three results at the sums of Math.lean over all rows or keys.
-/
module

public import proofs.«01_k».proof.Proof.Reading
public import proofs.«01_k».proof.Proof.Frame
public import Idealize.ShloMosaic.Lib.Pipeline.Value

@[expose] public section

set_option maxRecDepth 16384

noncomputable section

namespace Cert.KernelIdeal.Value

open Cert.KernelIdeal Cert.KernelIdeal.Gen Cert.KernelIdeal.Words Cert.KernelIdeal.Run
open Cert.Proof.Owns Cert.Proof.Up Cert.Proof.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation)

local notation "𝕄" => MT nD τ sig Unit (Elt Ideal) ℕ (UR sig nD τ) ℕ

/-- The columns of pair `g`. -/
def sh (X : ℕ → ℕ → ℝ) (g t x : ℕ) : ℝ := X t (256 * g + x)

theorem hd_sh (X : ℕ → ℕ → ℝ) (g h : ℕ) : hd (sh X g) h = hd X (2 * g + h) := by
  funext t d; simp only [hd, sh]; congr 1; omega

section Shift
variable (Q K V O : ℕ → ℕ → ℝ) (g S t x : ℕ)

theorem dqC_sh : dqC (sh Q g) (sh K g) (sh V g) (sh O g) S t x = dqC Q K V O S t (256 * g + x) := by
  simp only [dqC, hd_sh, show (256 * g + x) / 128 = 2 * g + x / 128 by omega, show (256 * g + x) % 128 = x % 128 by omega]
theorem dkC_sh : dkC (sh Q g) (sh K g) (sh V g) (sh O g) S t x = dkC Q K V O S t (256 * g + x) := by
  simp only [dkC, hd_sh, show (256 * g + x) / 128 = 2 * g + x / 128 by omega, show (256 * g + x) % 128 = x % 128 by omega]
theorem dvC_sh : dvC (sh Q g) (sh K g) (sh O g) S t x = dvC Q K O S t (256 * g + x) := by
  simp only [dvC, hd_sh, show (256 * g + x) / 128 = 2 * g + x / 128 by omega, show (256 * g + x) % 128 = x % 128 by omega]

end Shift

theorem coords_0 (t : Fin grid0.N) : ((grid0.coords t) 0).val = t.val / 16 := by
  revert t; decide +kernel
theorem coords_1 (t : Fin grid0.N) : ((grid0.coords t) 1).val = t.val % 16 := by
  revert t; decide +kernel
theorem pair_lt (t : Fin grid0.N) : t.val / 16 < 4 := by
  have : t.val < 64 := t.isLt.trans_eq N_0
  omega

theorem tr_rows (t : Fin grid0.N) : cc0_transform_0 (grid0.coords t) = ![t.val % 16, t.val / 16] := by
  have h0 := coords_0 t; have h1 := coords_1 t; have h2 := pair_lt t
  have e : cc0_transform_0 (grid0.coords t) = ![((grid0.coords t) 1).val % 2 ^ 32, ((grid0.coords t) 0).val % 2 ^ 32] := rfl
  rw [e, h0, h1, Nat.mod_eq_of_lt (a := t.val % 16) (by omega), Nat.mod_eq_of_lt (a := t.val / 16) (by omega)]
theorem tr_all (t : Fin grid0.N) : cc0_transform_1 (grid0.coords t) = ![0, t.val / 16] := by
  have h0 := coords_0 t; have h2 := pair_lt t
  have e : cc0_transform_1 (grid0.coords t) = ![0, ((grid0.coords t) 0).val % 2 ^ 32] := rfl
  rw [e, h0, Nat.mod_eq_of_lt (a := t.val / 16) (by omega)]

variable (m : (ℓ : Loc nD τ sig) → Buf (Elt Ideal) ℓ) (ρ : Dev nD → PrngReg)

/-- The four arguments are arrays of real numbers. -/
structure Reals (Q K V O : Dev nD → ℕ → ℕ → ℝ) : Prop where
  q : ∀ c : Dev nD, m ((c.tc : Thread nD τ).loc main_arg0) = (up (Q c) : S4096x1024.Idx → EReal)
  k : ∀ c : Dev nD, m ((c.tc : Thread nD τ).loc main_arg1) = (up (K c) : S4096x1024.Idx → EReal)
  v : ∀ c : Dev nD, m ((c.tc : Thread nD τ).loc main_arg2) = (up (V c) : S4096x1024.Idx → EReal)
  o : ∀ c : Dev nD, m ((c.tc : Thread nD τ).loc main_arg3) = (up (O c) : S4096x1024.Idx → EReal)

/-- A row block of a pair's columns of an array of real numbers; -/
theorem read_rows (X : ℕ → ℕ → ℝ) (t : Fin (cfg0 (F := Ideal)).N) :
    ((win0_0.blk t).view.read (Elt Ideal) (up X : S4096x1024.Idx → EReal) : S256x256.Idx → EReal)
      = up fun r x => sh X (t.val / 16) (256 * (t.val % 16) + r) x := by
  funext j
  rw [View.read_apply]
  have e0 : (((win0_0.blk t).view.emb j) 0).val = cc0_transform_0 (grid0.coords t) 0 * 256 + 1 * (j 0).val := rfl
  have e1 : (((win0_0.blk t).view.emb j) 1).val = cc0_transform_0 (grid0.coords t) 1 * 256 + 1 * (j 1).val := rfl
  rw [tr_rows] at e0 e1
  refine congrArg ((↑) : ℝ → EReal) (congrArg₂ X (e0.trans ?_) (e1.trans ?_))
  · show t.val % 16 * 256 + 1 * (j 0).val = 256 * (t.val % 16) + (j 0).val; omega
  · show t.val / 16 * 256 + 1 * (j 1).val = 256 * (t.val / 16) + (j 1).val; omega
/-- a pair's columns. -/
theorem read_all (X : ℕ → ℕ → ℝ) (t : Fin (cfg0 (F := Ideal)).N) :
    ((win0_1.blk t).view.read (Elt Ideal) (up X : S4096x1024.Idx → EReal) : S4096x256.Idx → EReal) = up (sh X (t.val / 16)) := by
  funext j
  rw [View.read_apply]
  have e0 : (((win0_1.blk t).view.emb j) 0).val = cc0_transform_1 (grid0.coords t) 0 * 4096 + 1 * (j 0).val := rfl
  have e1 : (((win0_1.blk t).view.emb j) 1).val = cc0_transform_1 (grid0.coords t) 1 * 256 + 1 * (j 1).val := rfl
  rw [tr_all] at e0 e1
  refine congrArg ((↑) : ℝ → EReal) (congrArg₂ X (e0.trans ?_) (e1.trans ?_))
  · show 0 * 4096 + 1 * (j 0).val = (j 0).val; omega
  · show t.val / 16 * 256 + 1 * (j 1).val = 256 * (t.val / 16) + (j 1).val; omega

variable (Q K V O : Dev nD → ℕ → ℕ → ℝ) (H : Reals m Q K V O)

section Input
include H
variable (c : Dev nD) (t : Fin (cfg0 (F := Ideal)).N)

theorem blk_q : (iblk m c 0 t : S256x256.Idx → EReal) = up fun r x => sh (Q c) (t.val / 16) (256 * (t.val % 16) + r) x :=
  (congrArg _ (H.q c)).trans (read_rows (Q c) t)
theorem blk_k : (iblk m c 1 t : S4096x256.Idx → EReal) = up (sh (K c) (t.val / 16)) := (congrArg _ (H.k c)).trans (read_all (K c) t)
theorem blk_v : (iblk m c 2 t : S4096x256.Idx → EReal) = up (sh (V c) (t.val / 16)) := (congrArg _ (H.v c)).trans (read_all (V c) t)
theorem blk_o : (iblk m c 3 t : S256x256.Idx → EReal) = up fun r x => sh (O c) (t.val / 16) (256 * (t.val % 16) + r) x :=
  (congrArg _ (H.o c)).trans (read_rows (O c) t)

end Input

/-- What the three results' blocks hold after each grid point. -/
def outs : Outs Ideal where
  o4 c t := (up fun r x => dqC (Q c) (K c) (V c) (O c) 4096 (256 * (t.val % 16) + r) (256 * (t.val / 16) + x) : S256x256.Idx → EReal)
  o5 c t := (up fun y x => dkC (Q c) (K c) (V c) (O c) (256 * (t.val % 16 + 1)) y (256 * (t.val / 16) + x) : S4096x256.Idx → EReal)
  o6 c t := (up fun y x => dvC (Q c) (K c) (O c) (256 * (t.val % 16 + 1)) y (256 * (t.val / 16) + x) : S4096x256.Idx → EReal)

section Kept
variable (c : Dev nD) (t : Fin (cfg0 (F := Ideal)).N) (h : t.val % 16 ≠ 0)
include h

theorem not_first : t.val ≠ 0 := fun h0 => h (by rw [h0])

/-- Within a pair of heads the second result's block is what the row block before left; -/
theorem before5 (d) : ((dats m (outs Q K V O) 0 c).before 5 t d : S4096x256.Idx → EReal)
    = up fun y x => dkC (Q c) (K c) (V c) (O c) (256 * (t.val % 16)) y (256 * (t.val / 16) + x) := by
  have hf : (cfg0.win 5).flush (⟨t.val - 1, Nat.lt_of_le_of_lt (Nat.sub_le _ _) t.isLt⟩ : Fin (cfg0 (F := Ideal)).N) = false := by
    rw [Bool.eq_false_iff]; intro hx
    have := (flush0_5 (F := Ideal) _).mp hx
    have := not_first t h
    dsimp only at *
    omega
  refine ((dats m (outs Q K V O) 0 c).before_out_kept 5 rfl t (not_first t h) hf (fun _ => rfl) (fun _ _ => rfl) d).trans ?_
  rw [after5]
  have := not_first t h
  simp only [outs]
  rw [show (t.val - 1) % 16 + 1 = t.val % 16 by omega, show (t.val - 1) / 16 = t.val / 16 by omega]
/-- and the third's. -/
theorem before6 (d) : ((dats m (outs Q K V O) 0 c).before 6 t d : S4096x256.Idx → EReal)
    = up fun y x => dvC (Q c) (K c) (O c) (256 * (t.val % 16)) y (256 * (t.val / 16) + x) := by
  have hf : (cfg0.win 6).flush (⟨t.val - 1, Nat.lt_of_le_of_lt (Nat.sub_le _ _) t.isLt⟩ : Fin (cfg0 (F := Ideal)).N) = false := by
    rw [Bool.eq_false_iff]; intro hx
    have := (flush0_6 (F := Ideal) _).mp hx
    have := not_first t h
    dsimp only at *
    omega
  refine ((dats m (outs Q K V O) 0 c).before_out_kept 6 rfl t (not_first t h) hf (fun _ => rfl) (fun _ _ => rfl) d).trans ?_
  rw [after6]
  have := not_first t h
  simp only [outs]
  rw [show (t.val - 1) % 16 + 1 = t.val % 16 by omega, show (t.val - 1) / 16 = t.val / 16 by omega]

end Kept

/-- The reading at a grid point. -/
def readingAt (H : Reals m Q K V O) (c : Dev nD) (t : Fin (cfg0 (F := Ideal)).N) (d5 d6 : Vec Ideal S4096x256 .f32) :
    Reading (grid0.coords t) (iblk m c 0 t) (iblk m c 1 t) (iblk m c 2 t) (iblk m c 3 t)
      ((dats m (outs Q K V O) 0 c).before 5 t d5) ((dats m (outs Q K V O) 0 c).before 6 t d6) :=
  reading (grid0.coords t) (sh (Q c) (t.val / 16)) (sh (K c) (t.val / 16)) (sh (V c) (t.val / 16)) (sh (O c) (t.val / 16)) _ _ _ _ _ _
    (by rw [coords_1]; exact blk_q m Q K V O H c t) (blk_k m Q K V O H c t) (blk_v m Q K V O H c t) (by rw [coords_1]; exact blk_o m Q K V O H c t)
    (by rw [coords_1]; intro h; rw [before5 m Q K V O c t h]; exact up_congr fun y _ x _ => (dkC_sh _ _ _ _ _ _ _ _).symm)
    (by rw [coords_1]; intro h; rw [before6 m Q K V O c t h]; exact up_congr fun y _ x _ => (dvC_sh _ _ _ _ _ _ _).symm)

/-- What the reading says of the blocks the body leaves. -/
theorem readingAt_R (H : Reals m Q K V O) (c : Dev nD) (t : Fin (cfg0 (F := Ideal)).N) (d5 d6 : Vec Ideal S4096x256 .f32) (R4 R5 R6)
    (h : (readingAt m Q K V O H c t d5 d6).R R4 R5 R6) :
    R4 = (outs Q K V O).o4 c t ∧ R5 = (outs Q K V O).o5 c t ∧ R6 = (outs Q K V O).o6 c t := by
  obtain ⟨h4, h5, h6⟩ := h
  rw [coords_1] at h4 h5 h6
  refine ⟨h4.trans ?_, h5.trans ?_, h6.trans ?_⟩
  · exact up_congr fun r _ x _ => dqC_sh _ _ _ _ _ _ _ _
  · exact up_congr fun r _ x _ => dkC_sh _ _ _ _ _ _ _ _
  · exact up_congr fun r _ x _ => dvC_sh _ _ _ _ _ _ _

/-- The body at a grid point. -/
theorem sound (H : Reals m Q K V O) (c : Dev nD) (t : Fin (cfg0 (F := Ideal)).N) :
    iprop((Pipeline.ΦA spec0 c : sProp 𝕄) ∗ (dats m (outs Q K V O) 0 c).owesAt () t.castSucc
        ∗ (∃ d, owns (c : Thread nD τ) (st0_0 t) fullShare ((dats m (outs Q K V O) 0 c).before 0 t d)) ∗ (∃ d, owns (c : Thread nD τ) (st0_1 t) fullShare ((dats m (outs Q K V O) 0 c).before 1 t d))
        ∗ (∃ d, owns (c : Thread nD τ) (st0_2 t) fullShare ((dats m (outs Q K V O) 0 c).before 2 t d)) ∗ (∃ d, owns (c : Thread nD τ) (st0_3 t) fullShare ((dats m (outs Q K V O) 0 c).before 3 t d))
        ∗ (∃ d, owns (c : Thread nD τ) (st0_4 t) fullShare ((dats m (outs Q K V O) 0 c).before 4 t d)) ∗ (∃ d, owns (c : Thread nD τ) (st0_5 t) fullShare ((dats m (outs Q K V O) 0 c).before 5 t d))
        ∗ (∃ d, owns (c : Thread nD τ) (st0_6 t) fullShare ((dats m (outs Q K V O) 0 c).before 6 t d)))
      ⊢ wp frame (wpE (defs₀ (F := Ideal)) 𝒱₀ (c : Thread nD τ) none) Set.univ (bodyAt0 t) fun _ =>
        iprop((Pipeline.ΦA spec0 c : sProp 𝕄) ∗ (dats m (outs Q K V O) 0 c).owesAt () t.succ
        ∗ owns (c : Thread nD τ) (st0_0 t) fullShare ((dats m (outs Q K V O) 0 c).after 0 t) ∗ owns (c : Thread nD τ) (st0_1 t) fullShare ((dats m (outs Q K V O) 0 c).after 1 t)
        ∗ owns (c : Thread nD τ) (st0_2 t) fullShare ((dats m (outs Q K V O) 0 c).after 2 t) ∗ owns (c : Thread nD τ) (st0_3 t) fullShare ((dats m (outs Q K V O) 0 c).after 3 t)
        ∗ owns (c : Thread nD τ) (st0_4 t) fullShare ((dats m (outs Q K V O) 0 c).after 4 t) ∗ owns (c : Thread nD τ) (st0_5 t) fullShare ((dats m (outs Q K V O) 0 c).after 5 t)
        ∗ owns (c : Thread nD τ) (st0_6 t) fullShare ((dats m (outs Q K V O) 0 c).after 6 t)) := by
  simp only [before0, before1, before2, before3, after0, after1, after2, after3, after4, after5, after6]
  rw [show (dats m (outs Q K V O) 0 c).owesAt () t.succ = (dats m (outs Q K V O) 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_point m c t ((dats m (outs Q K V O) 0 c).before 4 t d4) ((dats m (outs Q K V O) 0 c).before 5 t d5) ((dats m (outs Q K V O) 0 c).before 6 t d6)
    (readingAt m Q K V O H c t d5 d6) _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  iintro %R %hR ⟨HΦ, H0, H1, H2, H3, H4, H5, H6⟩
  obtain ⟨R4, R5, R6⟩ := R
  obtain ⟨rfl, rfl, rfl⟩ := readingAt_R m Q K V O H c t d5 d6 R4 R5 R6 hR
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem obligation (H : Reals m Q K V O) (c : Dev nD) : BodyObligation (dats m (outs Q K V O) 0 c) (defs₀ (F := Ideal)) 𝒱₀ () Set.univ := fun t => by
  rw [bigSep_W0, bigSep_W0, defs₀_row]
  exact triple_restated (sound m Q K V O H c t) rfl .rfl fun _ => .rfl

set_option backward.isDefEq.respectTransparency.types false in
/-- The launch. -/
theorem run_values (H : Reals m Q K V O) : θ_run defs (onTc (τ := τ) (main (F := Ideal))) (s₀ m ρ)
    (Pipeline.FramePost cfgs (dats m (outs Q K V O)) 0 (Run.V m)) :=
  Pipeline.θ_run_frame (Q' := _) cfgs (dats m (outs Q K V O)) (0 : Fin 1) launch0 defs₀ 𝒱₀ m ρ main
    (hbody := fun c => (obligation m Q K V O H c).loose) (hshare := fun c => (dats m (outs Q K V O) 0 c).share_full fun _ => rfl)
    (howed := fun _ _ => rfl) (V := Run.V m) (hmain := hmain m 𝒱₀) (hA := A_eq m (outs Q K V O)) (hΦ := fun _ _ => rfl)

/-! ## The results' arrays -/

section Results
variable (c : Dev nD)

/-- Every entry is in the block of its row block and pair of heads. -/
theorem cover_rows (i : S4096x1024.Idx) : ∃ t : Fin (cfg0 (F := Ideal)).N,
    ∀ a, cc0_transform_0 (grid0.coords t) a * S256x256.size a ≤ (i a).val ∧ (i a).val < cc0_transform_0 (grid0.coords t) a * S256x256.size a + S256x256.size a := by
  have h0 : (i 0).val < 4096 := (i 0).isLt
  have h1 : (i 1).val < 1024 := (i 1).isLt
  have ht : (i 1).val / 256 * 16 + (i 0).val / 256 < (cfg0 (F := Ideal)).N := by rw [show (cfg0 (F := Ideal)).N = 64 from N_0]; omega
  refine ⟨⟨_, ht⟩, fun a => ?_⟩
  rw [tr_rows ⟨_, ht⟩]
  match a with
  | ⟨0, _⟩ =>
    show ((i 1).val / 256 * 16 + (i 0).val / 256) % 16 * 256 ≤ (i 0).val ∧ (i 0).val < ((i 1).val / 256 * 16 + (i 0).val / 256) % 16 * 256 + 256
    omega
  | ⟨1, _⟩ =>
    show ((i 1).val / 256 * 16 + (i 0).val / 256) / 16 * 256 ≤ (i 1).val ∧ (i 1).val < ((i 1).val / 256 * 16 + (i 0).val / 256) / 16 * 256 + 256
    omega

theorem whole_4 : (dats m (outs Q K V O) 0 c).arrAt 4 (cfg0 (F := Ideal)).N = (up (dqC (Q c) (K c) (V c) (O c) 4096) : S4096x1024.Idx → EReal) := by
  refine (dats m (outs Q K V O) 0 c).arrAt_eq_of_cover 4 (up (dqC (Q c) (K c) (V c) (O c) 4096) : S4096x1024.Idx → EReal) (fun t _ => ?_) fun i => ?_
  · refine Eq.trans (b := (outs Q K V O).o4 c t) rfl ?_
    exact (read_rows (dqC (Q c) (K c) (V c) (O c) 4096) t).symm
  · obtain ⟨t, hi⟩ := cover_rows i
    refine ⟨t, flush0_4 t, ?_⟩
    show i ∈ ((View.whole main_v0_0).slice (win0_4.rect t)).set
    rw [View.set_slice_whole, Rect.mem_set_unit]
    exact hi

/-- The last row block of a pair of heads leaves the sums over all rows. -/
theorem last_row (t : Fin (cfg0 (F := Ideal)).N) (h : t.val % 16 = 15) : 256 * (t.val % 16 + 1) = 4096 := by omega

/-- Every column is in the block of the last row block of its pair of heads. -/
theorem cover_all (i : S4096x1024.Idx) : ∃ t : Fin (cfg0 (F := Ideal)).N, t.val % 16 = 15
    ∧ ∀ a, cc0_transform_1 (grid0.coords t) a * S4096x256.size a ≤ (i a).val ∧ (i a).val < cc0_transform_1 (grid0.coords t) a * S4096x256.size a + S4096x256.size a := by
  have h0 : (i 0).val < 4096 := (i 0).isLt
  have h1 : (i 1).val < 1024 := (i 1).isLt
  have ht : (i 1).val / 256 * 16 + 15 < (cfg0 (F := Ideal)).N := by rw [show (cfg0 (F := Ideal)).N = 64 from N_0]; omega
  refine ⟨⟨_, ht⟩, by show ((i 1).val / 256 * 16 + 15) % 16 = 15; omega, fun a => ?_⟩
  rw [tr_all ⟨_, ht⟩]
  match a with
  | ⟨0, _⟩ => show 0 * 4096 ≤ (i 0).val ∧ (i 0).val < 0 * 4096 + 4096; omega
  | ⟨1, _⟩ =>
    show ((i 1).val / 256 * 16 + 15) / 16 * 256 ≤ (i 1).val ∧ (i 1).val < ((i 1).val / 256 * 16 + 15) / 16 * 256 + 256
    omega

theorem whole_5 : (dats m (outs Q K V O) 0 c).arrAt 5 (cfg0 (F := Ideal)).N = (up (dkC (Q c) (K c) (V c) (O c) 4096) : S4096x1024.Idx → EReal) := by
  refine (dats m (outs Q K V O) 0 c).arrAt_eq_of_cover 5 (up (dkC (Q c) (K c) (V c) (O c) 4096) : S4096x1024.Idx → EReal) (fun t hf => ?_) fun i => ?_
  · refine Eq.trans (b := (outs Q K V O).o5 c t) rfl ?_
    refine Eq.trans ?_ (read_all (dkC (Q c) (K c) (V c) (O c) 4096) t).symm
    simp only [outs, last_row t ((flush0_5 t).mp hf)]; rfl
  · obtain ⟨t, h15, hi⟩ := cover_all i
    refine ⟨t, (flush0_5 t).mpr h15, ?_⟩
    show i ∈ ((View.whole main_v0_1).slice (win0_5.rect t)).set
    rw [View.set_slice_whole, Rect.mem_set_unit]
    exact hi

theorem whole_6 : (dats m (outs Q K V O) 0 c).arrAt 6 (cfg0 (F := Ideal)).N = (up (dvC (Q c) (K c) (O c) 4096) : S4096x1024.Idx → EReal) := by
  refine (dats m (outs Q K V O) 0 c).arrAt_eq_of_cover 6 (up (dvC (Q c) (K c) (O c) 4096) : S4096x1024.Idx → EReal) (fun t hf => ?_) fun i => ?_
  · refine Eq.trans (b := (outs Q K V O).o6 c t) rfl ?_
    refine Eq.trans ?_ (read_all (dvC (Q c) (K c) (O c) 4096) t).symm
    simp only [outs, last_row t ((flush0_6 t).mp hf)]; rfl
  · obtain ⟨t, h15, hi⟩ := cover_all i
    refine ⟨t, (flush0_6 t).mpr h15, ?_⟩
    show i ∈ ((View.whole main_v0_2).slice (win0_6.rect t)).set
    rw [View.set_slice_whole, Rect.mem_set_unit]
    exact hi

end Results

/-- The kernel's run: the three results are the gradients' sums, the arguments are unchanged. -/
theorem run (H : Reals m Q K V O) : θ_run defs (onTc (τ := τ) (main (F := Ideal))) ⟨m, fun _ => 0, ρ⟩ fun r => ∀ c : Dev nD,
      r.2.mem ((c.tc : Thread nD τ).loc main_v0_0) = (up (dqC (Q c) (K c) (V c) (O c) 4096) : S4096x1024.Idx → EReal)
      ∧ r.2.mem ((c.tc : Thread nD τ).loc main_v0_1) = (up (dkC (Q c) (K c) (V c) (O c) 4096) : S4096x1024.Idx → EReal)
      ∧ r.2.mem ((c.tc : Thread nD τ).loc main_v0_2) = (up (dvC (Q c) (K c) (O c) 4096) : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (whole_4 m Q K V O c), ((h c).1 5).trans (whole_5 m Q K V O c), ((h c).1 6).trans (whole_6 m Q K V O c),
    ((h c).1 0).trans (((dats m (outs Q K V O) 0 c).arrAt_in 0 rfl _).trans (A_eq m (outs Q K V O) c 0)),
    ((h c).1 1).trans (((dats m (outs Q K V O) 0 c).arrAt_in 1 rfl _).trans (A_eq m (outs Q K V O) c 1)),
    ((h c).1 2).trans (((dats m (outs Q K V O) 0 c).arrAt_in 2 rfl _).trans (A_eq m (outs Q K V O) c 2)),
    ((h c).1 3).trans (((dats m (outs Q K V O) 0 c).arrAt_in 3 rfl _).trans (A_eq m (outs Q K V O) c 3))⟩) (run_values m ρ Q K V O H)

end Cert.KernelIdeal.Value
-- ==== Proof.Tensor.lean ====
/-
  Arrays of four axes of real numbers, the reference's. `tns f` has at `(x, h, r, c)` the real number `f h r c`: the leading
  axis is the batch, of one member. The reference's operations send such arrays to such arrays.
-/
module

public import proofs.«01_k».proof.Proof.Math
public import proofs.«01_k».proof.Proof.Up
public import proofs.«01_k».proof.Proof.Gen.ReferenceIdeal.Run

@[expose] public section

noncomputable section

namespace Cert.Proof.Tensor

open Idealize.ShloMosaic Cert.Proof.Up Cert.Proof.Math Cert.ReferenceIdeal Cert.ReferenceIdeal.Facts₀
open scoped BigOperators

/-- The array of the real numbers `f h r c`. -/
def tns {a b m n : ℕ} (f : ℕ → ℕ → ℕ → ℝ) : (⟨4, ![a, b, m, n]⟩ : Shape).Idx → EReal :=
  fun x => ((f (x 1).val (x 2).val (x 3).val : ℝ) : EReal)

variable {a b m n : ℕ}

theorem tns_ix4 (f : ℕ → ℕ → ℕ → ℝ) (x : Fin a) (h : Fin b) (r : Fin m) (c : Fin n) :
    tns f (ix4 x h r c) = ((f h.val r.val c.val : ℝ) : EReal) := rfl

theorem eq_tns {X : (⟨4, ![a, b, m, n]⟩ : Shape).Idx → EReal} {f : ℕ → ℕ → ℕ → ℝ}
    (H : ∀ (x : Fin a) (h : Fin b) (r : Fin m) (c : Fin n), X (ix4 x h r c) = ((f h.val r.val c.val : ℝ) : EReal)) : X = tns f := by
  funext x; rw [eq_ix4 x]; exact H _ _ _ _

theorem tns_congr {f g : ℕ → ℕ → ℕ → ℝ} (H : ∀ h, h < b → ∀ r, r < m → ∀ c, c < n → f h r c = g h r c) :
    (tns f : (⟨4, ![a, b, m, n]⟩ : Shape).Idx → EReal) = tns g := by
  funext x
  show ((f _ _ _ : ℝ) : EReal) = ((g _ _ _ : ℝ) : EReal)
  rw [H _ (x 1).isLt _ (x 2).isLt _ (x 3).isLt]

/-! ## Window sums -/

/-- A left fold that adds is the start plus the sum. -/
theorem foldl_add {ι : Type} (l : List ι) (H : ι → EReal) (v : EReal) : l.foldl (fun r i => r + H i) v = v + (l.map H).sum := by
  induction l generalizing v with
  | nil => simp
  | cons x l ih => rw [List.foldl_cons, ih, List.map_cons, List.sum_cons, add_assoc]

/-- The entry of a window's sum: the start plus the sum over the window of the operand's entries, the start where the window
    leaves the operand. -/
theorem window_sum {s t : Shape} (window strides lo hi : Fin s.rank → ℕ) (x : s.Idx → EReal) (v : EReal)
    (h : s.ReduceWindows window strides lo hi t) (j : t.Idx) :
    Ideal.hostReduceWindowAdd window strides lo hi h x v j
      = v + ∑ w : (⟨s.rank, window⟩ : Shape).Idx,
          (if hin : ∀ a, lo a ≤ (j (a.cast h.1.symm)).val * strides a + (w a).val ∧ (j (a.cast h.1.symm)).val * strides a + (w a).val - lo a < s.size a
            then x (fun a => ⟨(j (a.cast h.1.symm)).val * strides a + (w a).val - lo a, (hin a).2⟩) else v) := by
  unfold Ideal.hostReduceWindowAdd Host.reduceWindow
  simp only [foldl_add]
  congr 1
  rw [← Equiv.sum_comp (⟨s.rank, window⟩ : Shape).rowMajor.symm, Fin.sum_univ_def]

/-- Each entry plus all later ones in its row. -/
theorem suffix_tns (f : ℕ → ℕ → ℕ → ℝ) (h) (j : S1x8x4096x4096.Idx) :
    Ideal.hostReduceWindowAdd (s := S1x8x4096x4096) (t := S1x8x4096x4096) ![1, 1, 1, 4096] ![1, 1, 1, 1] ![0, 0, 0, 0] ![0, 0, 0, 4095] h (tns f) 0 j
      = ((∑ k ∈ Finset.Ico (j 3).val 4096, f (j 1).val (j 2).val k : ℝ) : EReal) := by
  rw [window_sum, zero_add]
  refine (sum_idx4 (n0 := 1) (n1 := 1) (n2 := 1) (n3 := 4096) _).trans ?_
  simp only [Finset.univ_unique, Finset.sum_singleton, Fin.default_eq_zero]
  have hj : (j 3).val < 4096 := (j 3).isLt
  refine (Finset.sum_congr rfl fun e _ => ?_ : _ = ∑ e : Fin 4096, (((if (j 3).val + e.val < 4096 then f (j 1).val (j 2).val ((j 3).val + e.val) else 0 : ℝ) : ℝ) : EReal)).trans ?_
  · by_cases hin : (j 3).val + e.val < 4096
    · rw [if_pos hin, dif_pos]
      · show ((f _ _ _ : ℝ) : EReal) = _
        congr 2 <;> simp [ix4]
      · intro a
        have h0 : (j 0).val < 1 := (j 0).isLt
        have h1 : (j 1).val < 8 := (j 1).isLt
        have h2 : (j 2).val < 4096 := (j 2).isLt
        fin_cases a <;> simp [ix4] <;> omega
    · rw [if_neg hin, dif_neg]
      · rfl
      · intro H
        have := (H 3).2
        simp [ix4] at this
        omega
  · rw [sum_up (fun e => if (j 3).val + e < 4096 then f (j 1).val (j 2).val ((j 3).val + e) else 0)]
    congr 1
    rw [← Finset.sum_filter]
    refine (Finset.sum_nbij (fun e => (j 3).val + e) (fun e he => ?_) (fun e _ e' _ h => by simpa using h) (fun y hy => ?_) fun _ _ => rfl)
    · rw [Finset.mem_filter, Finset.mem_range] at he
      exact Finset.mem_Ico.mpr ⟨Nat.le_add_right _ _, he.2⟩
    · rw [Finset.mem_coe, Finset.mem_Ico] at hy
      refine ⟨y - (j 3).val, ?_, by show (j 3).val + (y - (j 3).val) = y; omega⟩
      rw [Finset.mem_coe, Finset.mem_filter, Finset.mem_range]
      constructor <;> omega

/-- Each entry plus all earlier ones in its row. -/
theorem prefix_tns (f : ℕ → ℕ → ℕ → ℝ) (h) (j : S1x8x4096x4096.Idx) :
    Ideal.hostReduceWindowAdd (s := S1x8x4096x4096) (t := S1x8x4096x4096) ![1, 1, 1, 4096] ![1, 1, 1, 1] ![0, 0, 0, 4095] ![0, 0, 0, 0] h (tns f) 0 j
      = ((∑ k ∈ Finset.range ((j 3).val + 1), f (j 1).val (j 2).val k : ℝ) : EReal) := by
  rw [window_sum, zero_add]
  refine (sum_idx4 (n0 := 1) (n1 := 1) (n2 := 1) (n3 := 4096) _).trans ?_
  simp only [Finset.univ_unique, Finset.sum_singleton, Fin.default_eq_zero]
  have hj : (j 3).val < 4096 := (j 3).isLt
  refine (Finset.sum_congr rfl fun e _ => ?_ : _ = ∑ e : Fin 4096, (((if 4095 ≤ (j 3).val + e.val then f (j 1).val (j 2).val ((j 3).val + e.val - 4095) else 0 : ℝ) : ℝ) : EReal)).trans ?_
  · by_cases hin : 4095 ≤ (j 3).val + e.val
    · rw [if_pos hin, dif_pos]
      · show ((f ((j 1).val * 1 + 0 - 0) ((j 2).val * 1 + 0 - 0) ((j 3).val * 1 + e.val - 4095) : ℝ) : EReal) = _
        rw [Nat.mul_one, Nat.mul_one, Nat.mul_one]; rfl
      · intro a
        have he := e.isLt
        have h0 : (j 0).val < 1 := (j 0).isLt
        have h1 : (j 1).val < 8 := (j 1).isLt
        have h2 : (j 2).val < 4096 := (j 2).isLt
        fin_cases a <;> simp [ix4] <;> omega
    · rw [if_neg hin, dif_neg]
      · rfl
      · intro H
        have := (H 3).1
        simp [ix4] at this
        omega
  · rw [sum_up (fun e => if 4095 ≤ (j 3).val + e then f (j 1).val (j 2).val ((j 3).val + e - 4095) else 0)]
    congr 1
    rw [← Finset.sum_filter]
    refine (Finset.sum_nbij (fun e => (j 3).val + e - 4095) (fun e he => ?_) (fun e he e' he' h => ?_) (fun y hy => ?_) fun _ _ => rfl)
    · rw [Finset.mem_filter, Finset.mem_range] at he
      exact Finset.mem_range.mpr (by omega)
    · rw [Finset.mem_coe, Finset.mem_filter, Finset.mem_range] at he he'
      have h' : (j 3).val + e - 4095 = (j 3).val + e' - 4095 := h
      omega
    · rw [Finset.mem_coe, Finset.mem_range] at hy
      refine ⟨y + 4095 - (j 3).val, ?_, by show (j 3).val + (y + 4095 - (j 3).val) - 4095 = y; omega⟩
      rw [Finset.mem_coe, Finset.mem_filter, Finset.mem_range]
      constructor <;> omega

/-! ## The contractions -/

section Contractions
variable (f g : ℕ → ℕ → ℕ → ℝ)

/-- The scores: each row against each row. -/
theorem scores_tns :
    Host.dotGeneral (F := Ideal) (φ₁ := .f32) (φ₂ := .f32) dot_S1x8x4096x128_S1x8x4096x128_S1x8x4096x4096_3_3_2_2_01_01 none (tns f) (tns g)
      = tns fun h r c => ∑ k ∈ Finset.range 128, f h r k * g h c k := by
  refine eq_tns fun x h r c => ?_
  pointwise
  simp only [tns_ix4, ← EReal.coe_mul]
  exact sum_up (fun k => f h.val r.val k * g h.val c.val k)

/-- A square array times the rows. -/
theorem rows_tns :
    Host.dotGeneral (F := Ideal) (φ₁ := .f32) (φ₂ := .f32) dot_S1x8x4096x4096_S1x8x4096x128_S1x8x4096x128_3_2_2_3_01_01 none (tns f) (tns g)
      = tns fun h r c => ∑ k ∈ Finset.range 4096, f h r k * g h k c := by
  refine eq_tns fun x h r c => ?_
  pointwise
  simp only [tns_ix4, ← EReal.coe_mul]
  exact sum_up (fun k => f h.val r.val k * g h.val k c.val)

/-- A square array's transpose times the rows. -/
theorem columns_tns :
    Host.dotGeneral (F := Ideal) (φ₁ := .f32) (φ₂ := .f32) dot_S1x8x4096x4096_S1x8x4096x128_S1x8x4096x128_2_2_3_3_01_01 none (tns f) (tns g)
      = tns fun h r c => ∑ k ∈ Finset.range 4096, f h k r * g h k c := by
  refine eq_tns fun x h r c => ?_
  pointwise
  simp only [tns_ix4, ← EReal.coe_mul]
  exact sum_up (fun k => f h.val k r.val * g h.val k c.val)

/-- The transpose of the rows times a square array. -/
theorem across_tns :
    Host.dotGeneral (F := Ideal) (φ₁ := .f32) (φ₂ := .f32) dot_S1x8x4096x128_S1x8x4096x4096_S1x8x128x4096_2_2_3_3_01_01 none (tns f) (tns g)
      = tns fun h r c => ∑ k ∈ Finset.range 4096, f h k r * g h k c := by
  refine eq_tns fun x h r c => ?_
  pointwise
  simp only [tns_ix4, ← EReal.coe_mul]
  exact sum_up (fun k => f h.val k r.val * g h.val k c.val)

end Contractions

/-! ## Heads and columns -/

/-- The heads of an array of 1024 columns: head `h` is its columns `128 h` to `128 h + 127`. -/
def heads (a : FVec Ideal S4096x1024 .bf16) : FVec Ideal S1x8x4096x128 .f32 :=
  transpose S1x8x4096x128 [0, 2, 1, 3] (shapeCast S1x4096x8x128 (extf .f32 a bitsLt_bf16_f32) shapeCasts_S4096x1024_S1x4096x8x128)
    transposes_S1x4096x8x128_S1x8x4096x128_0_2_1_3

theorem heads_up (X : ℕ → ℕ → ℝ) : heads (up X) = tns fun h t d => X t (128 * h + d) := by
  refine eq_tns fun x h r c => ?_
  pointwise [heads]
  rw [up_ix2, Nat.mul_comm 128]

/-- The columns of an array of heads, back side by side. -/
def columns (a : FVec Ideal S1x8x4096x128 .f32) : FVec Ideal S4096x1024 .f32 :=
  shapeCast S4096x1024 (transpose S1x4096x8x128 [0, 2, 1, 3] a transposes_S1x8x4096x128_S1x4096x8x128_0_2_1_3) shapeCasts_S1x4096x8x128_S4096x1024

theorem columns_tns' (f : ℕ → ℕ → ℕ → ℝ) : columns (tns f) = up fun t x => f (x / 128) t (x % 128) := by
  refine eq_up fun r c => ?_
  pointwise [columns]
  rw [tns_ix4]

end Cert.Proof.Tensor

end
-- ==== Proof.Stages.lean ====
/-
  The reference's operations, stage by stage, on arrays of real numbers. Each stage is the printed operations of one step of the
  text; over real entries each is an array of real numbers, in closed form.
-/
module

public import proofs.«01_k».proof.Proof.Tensor
public import proofs.«01_k».proof.Proof.Reading

@[expose] public section

noncomputable section

namespace Cert.Proof.Stages

open Idealize.ShloMosaic Cert.Proof.Up Cert.Proof.Math Cert.Proof.Tensor Cert.ReferenceIdeal Cert.ReferenceIdeal.Facts₀
open Cert.KernelIdeal.Value (hd dqC dkC dvC)
open scoped BigOperators

/-- A square of numbers for every head. -/
abbrev Sq : Type := FVec Ideal S1x8x4096x4096 .f32

/-! ## Constants and elementwise operations -/

/-- The same number everywhere. -/
def splat (w : BitVec 32) : Sq := broadcastInDim S1x8x4096x4096 ![] bcast_S_S1x8x4096x4096 (constant S_ .f32 w)

theorem splat_apply (w : BitVec 32) (x : S1x8x4096x4096.Idx) : splat w x = Ideal.ofBits .f32 w := rfl

theorem splat_zero : splat 0x00000000#32 = tns fun _ _ _ => 0 := by
  funext x; exact Ideal.ofBits_zero_f32

theorem ofBits_inf : Ideal.ofBits .f32 0x7F800000#32 = ⊤ := by
  simp [Ideal.ofBits, Ideal.ieee]

theorem ofBits_neg_inf : Ideal.ofBits .f32 0xFF800000#32 = ⊥ := by
  simp [Ideal.ofBits, Ideal.ieee]

section Elementwise
variable (f g : ℕ → ℕ → ℕ → ℝ)

theorem addf_tns : addf (F := Ideal) (φ := .f32) (tns f : S1x8x4096x4096.Idx → EReal) (tns g) = tns fun h r c => f h r c + g h r c := by
  funext x; exact (EReal.coe_add _ _).symm
theorem subf_tns : subf (F := Ideal) (φ := .f32) (tns f : S1x8x4096x4096.Idx → EReal) (tns g) = tns fun h r c => f h r c - g h r c := by
  funext x; exact (EReal.coe_sub _ _).symm
theorem mulf_tns : mulf (F := Ideal) (φ := .f32) (tns f : S1x8x4096x4096.Idx → EReal) (tns g) = tns fun h r c => f h r c * g h r c := by
  funext x; exact (EReal.coe_mul _ _).symm
theorem negf_tns : Host.negf (F := Ideal) (φ := .f32) (tns f : S1x8x4096x4096.Idx → EReal) = tns fun h r c => - f h r c := by
  funext x; exact (EReal.coe_neg _).symm
theorem exp_tns : Host.exp (F := Ideal) (φ := .f32) (tns f : S1x8x4096x4096.Idx → EReal) = tns fun h r c => Real.exp (f h r c) := by
  funext x; rfl

end Elementwise

/-! ## The logarithm of the logistic function, and its slope -/

/-- A choice that is never taken. -/
theorem select_none {s : Shape} {p : IVec s 1} (h : ∀ x, p x = 0#1) (a b : FVec Ideal s .f32) : select p a b = b := by
  funext x
  show (if p x = 1#1 then a x else b x) = b x
  rw [h x]; rfl

/-- No number differs from itself. -/
theorem compare_self (a : Sq) (x : S1x8x4096x4096.Idx) : cmpf .une a a x = 0#1 := by
  refine (congrArg BitVec.ofBool ?_ : _ = BitVec.ofBool false)
  show decide ((a x : EReal) ≠ a x) = false
  simp

/-- `log (1 + exp x)`, as `max x 0 + log (1 + exp (-|x|))`, with the text's test for a number that is not one. -/
def softplus (x : Sq) : Sq :=
  select (cmpf .une (subf x (splat 0x00000000#32)) (subf x (splat 0x00000000#32))) (addf x (splat 0x00000000#32))
    (addf (maximumf x (splat 0x00000000#32)) (Host.log1p (Host.exp (Host.negf (Host.absf (subf x (splat 0x00000000#32)))))))

theorem softplus_real (x : ℝ) : max x 0 + Real.log (1 + Real.exp (-|x|)) = Real.log (1 + Real.exp x) := by
  rcases le_total 0 x with h | h
  · rw [max_eq_left h, abs_of_nonneg h]
    have : 1 + Real.exp x = Real.exp x * (1 + Real.exp (-x)) := by rw [mul_add, ← Real.exp_add]; simp [add_comm]
    rw [this, Real.log_mul (Real.exp_ne_zero _) (by positivity), Real.log_exp]
  · rw [max_eq_right h, abs_of_nonpos h, neg_neg, zero_add]

theorem softplus_tns (f : ℕ → ℕ → ℕ → ℝ) : softplus (tns f) = tns fun h r c => Real.log (1 + Real.exp (f h r c)) := by
  refine eq_tns fun x h r c => ?_
  set z : ℝ := f h.val r.val c.val with hz
  have h0 : (splat 0x00000000#32 : Sq) (ix4 x h r c) = ((0 : ℝ) : EReal) := Ideal.ofBits_zero_f32
  have h1 : subf (F := Ideal) (φ := .f32) (tns f : S1x8x4096x4096.Idx → EReal) (splat 0x00000000#32) (ix4 x h r c) = ((z : ℝ) : EReal) := by
    show ((z : ℝ) : EReal) - (splat 0x00000000#32 : Sq) (ix4 x h r c) = _
    rw [h0, ← EReal.coe_sub, sub_zero]
  have h2 : Host.log1p (F := Ideal) (φ := .f32) (Host.exp (Host.negf (Host.absf (subf (F := Ideal) (φ := .f32) (tns f : S1x8x4096x4096.Idx → EReal) (splat 0x00000000#32))))) (ix4 x h r c)
      = ((Real.log (1 + Real.exp (-|z|)) : ℝ) : EReal) := by
    show Ideal.log (1 + Ideal.exp (- max (subf (F := Ideal) (φ := .f32) (tns f : S1x8x4096x4096.Idx → EReal) (splat 0x00000000#32) (ix4 x h r c))
      (- subf (F := Ideal) (φ := .f32) (tns f : S1x8x4096x4096.Idx → EReal) (splat 0x00000000#32) (ix4 x h r c)))) = _
    rw [h1, ← EReal.coe_neg, ← EReal.coe_strictMono.monotone.map_max, ← EReal.coe_neg, Ideal.exp_coe, ← EReal.coe_one, ← EReal.coe_add, Ideal.log_coe,
      if_neg (not_le.mpr (by positivity))]
    rfl
  unfold softplus
  rw [select_none fun y => compare_self _ y]
  show max ((z : ℝ) : EReal) ((splat 0x00000000#32 : Sq) (ix4 x h r c)) + _ = _
  rw [h0, h2, ← EReal.coe_strictMono.monotone.map_max, ← EReal.coe_add, softplus_real]

/-- `log (logistic x)`, as minus the softplus of `-x`. -/
def logsig (x : Sq) : Sq := Host.negf (softplus (Host.negf x))

theorem logsig_real (x : ℝ) : -Real.log (1 + Real.exp (-x)) = ls x := by
  rw [← softplus_real, ls, abs_neg, zero_sub]
  rcases le_total 0 x with h | h
  · rw [max_eq_right (by linarith), min_eq_right h]; ring
  · rw [max_eq_left (by linarith), min_eq_left h]; ring

theorem ls_neg (x : ℝ) : ls (-x) = ls x - x := by
  rw [← logsig_real, ← logsig_real, neg_neg]
  have : 1 + Real.exp x = Real.exp x * (1 + Real.exp (-x)) := by rw [mul_add, ← Real.exp_add]; simp [add_comm]
  rw [this, Real.log_mul (Real.exp_ne_zero _) (by positivity), Real.log_exp]; ring

theorem sg_neg (x : ℝ) : sg (-x) = 1 - sg x := by
  unfold sg
  rw [zero_sub, zero_sub, neg_neg, Real.exp_neg]
  have := Real.exp_pos x
  field_simp
  ring

theorem logsig_tns (f : ℕ → ℕ → ℕ → ℝ) : logsig (tns f) = tns fun h r c => ls (f h r c) := by
  unfold logsig
  rw [negf_tns, softplus_tns, negf_tns]
  simp only [logsig_real]

/-- A square array's rows and columns exchanged. -/
theorem swap_tns (f : ℕ → ℕ → ℕ → ℝ) :
    transpose S1x8x4096x128 [0, 1, 3, 2] (tns f : S1x8x128x4096.Idx → EReal) transposes_S1x8x128x4096_S1x8x4096x128_0_1_3_2 = tns fun h r c => f h c r := by
  refine eq_tns fun x h r c => ?_
  pointwise
  exact tns_ix4 _ _ _ _ _

/-- The slope of `log (logistic x)`, as the exponential of a difference, either part of it zero where it is infinite. -/
def slope (x : Sq) : Sq :=
  Host.exp (subf (select (cmpf .oeq (Host.negf x) (splat 0x7F800000#32)) (splat 0x00000000#32) (Host.negf x))
    (select (cmpf .oeq (softplus (Host.negf x)) (splat 0x7F800000#32)) (splat 0x00000000#32) (softplus (Host.negf x))))

theorem finite_tns (f : ℕ → ℕ → ℕ → ℝ) (y : Sq) :
    select (cmpf (F := Ideal) (φ := .f32) .oeq (tns f : S1x8x4096x4096.Idx → EReal) (splat 0x7F800000#32)) y (tns f) = tns f := by
  refine select_none (fun x => ?_) _ _
  refine Eq.trans (b := BitVec.ofBool (decide ((tns f x : EReal) = Ideal.ofBits .f32 0x7F800000#32))) rfl ((congrArg BitVec.ofBool ?_ : _ = BitVec.ofBool false))
  show decide ((tns f x : EReal) = Ideal.ofBits .f32 0x7F800000#32) = false
  rw [ofBits_inf, decide_eq_false_iff_not]
  exact EReal.coe_ne_top _

theorem slope_real (x : ℝ) : Real.exp (-x - Real.log (1 + Real.exp (-x))) = 1 - sg x := by
  have h : (0 : ℝ) < 1 + Real.exp (-x) := by positivity
  rw [Real.exp_sub, Real.exp_log h, sg, zero_sub]
  field_simp
  ring

theorem slope_tns (f : ℕ → ℕ → ℕ → ℝ) : slope (tns f) = tns fun h r c => 1 - sg (f h r c) := by
  unfold slope
  rw [negf_tns, softplus_tns, finite_tns, finite_tns, subf_tns, exp_tns]
  simp only [slope_real]

/-! ## The mask -/

/-- The key's place before the query's. -/
def mask : IVec S1x8x4096x4096 1 :=
  broadcastInDim S1x8x4096x4096 ![2, 3] bcast_S4096x4096_S1x8x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

theorem mask_ix4 (x : Fin 1) (h : Fin 8) (r c : Fin 4096) : mask (ix4 x h r c) = if c.val < r.val then 1#1 else 0#1 := by
  pointwise [mask]
  exact Cert.KernelIdeal.Pay.slt_small _ _ (by omega) (by omega)

theorem mask_select (y z : Sq) (x : S1x8x4096x4096.Idx) : select mask y z x = if (x 3).val < (x 2).val then y x else z x := by
  have e : mask x = if (x 3).val < (x 2).val then 1#1 else 0#1 := by rw [eq_ix4 x]; exact mask_ix4 _ _ _ _
  show (if mask x = 1#1 then _ else _) = _
  rw [e]
  by_cases h : (x 3).val < (x 2).val
  · simp only [if_pos h, if_true]
  · simp only [if_neg h]; rfl

/-- The masked entries are those of the first array, the others zero. -/
theorem mask_tns (f : ℕ → ℕ → ℕ → ℝ) : select mask (tns f) (splat 0x00000000#32) = tns fun h r c => if c < r then f h r c else 0 := by
  funext x
  rw [mask_select, splat_zero]
  show _ = (((if _ then _ else 0 : ℝ) : ℝ) : EReal)
  split
  · rfl
  · rfl

/-- The exponential of an array that is minus infinity off the mask. -/
theorem mask_exp_tns (f : ℕ → ℕ → ℕ → ℝ) :
    Host.exp (select mask (tns f) (splat 0xFF800000#32)) = tns fun h r c => if c < r then Real.exp (f h r c) else 0 := by
  funext x
  show Ideal.exp (select mask (tns f) (splat 0xFF800000#32) x) = (((if _ then _ else 0 : ℝ) : ℝ) : EReal)
  rw [mask_select, splat_apply, ofBits_neg_inf]
  split
  · rfl
  · exact Ideal.exp_bot

/-! ## The running sums -/

theorem windowAdd_zero {s t : Shape} (window strides lo hi : Fin s.rank → ℕ) (x : FVec Ideal s .f32) (h : s.ReduceWindows window strides lo hi t) (j : t.Idx) :
    Host.reduceWindowAdd window strides lo hi x (broadcastInDim S_ ![] bcast_S_S_ (constant (F := Ideal) S_ .f32 0x00000000#32)) h h_S_ j
      = Ideal.hostReduceWindowAdd window strides lo hi h x 0 j :=
  Eq.trans (b := Ideal.hostReduceWindowAdd window strides lo hi h x (Ideal.ofBits .f32 0x00000000#32) j) rfl (by rw [Ideal.ofBits_zero_f32])

/-- Every entry plus the later ones of its row. -/
def suffix (x : Sq) : Sq :=
  Host.reduceWindowAdd ![1, 1, 1, 4096] ![1, 1, 1, 1] ![0, 0, 0, 0] ![0, 0, 0, 4095] x
    (broadcastInDim S_ ![] bcast_S_S_ (constant S_ .f32 0x00000000#32)) reduceWindows_S1x8x4096x4096_S1x8x4096x4096_w1s1p0_0_w1s1p0_0_w1s1p0_0_w4096s1p0_4095 h_S_

theorem suffix_eq (f : ℕ → ℕ → ℕ → ℝ) : suffix (tns f) = tns fun h r c => ∑ k ∈ Finset.Ico c 4096, f h r k := by
  funext x
  unfold suffix
  rw [windowAdd_zero, suffix_tns]; rfl

/-- Every entry plus the earlier ones of its row. -/
def pref (x : Sq) : Sq :=
  Host.reduceWindowAdd ![1, 1, 1, 4096] ![1, 1, 1, 1] ![0, 0, 0, 4095] ![0, 0, 0, 0] x
    (broadcastInDim S_ ![] bcast_S_S_ (constant S_ .f32 0x00000000#32)) reduceWindows_S1x8x4096x4096_S1x8x4096x4096_w1s1p0_0_w1s1p0_0_w1s1p0_0_w4096s1p4095_0 h_S_

theorem pref_eq (f : ℕ → ℕ → ℕ → ℝ) : pref (tns f) = tns fun h r c => ∑ k ∈ Finset.range (c + 1), f h r k := by
  funext x
  unfold pref
  rw [windowAdd_zero, prefix_tns]; rfl

/-! ## The text's steps -/

section Steps
variable (q k v o : FVec Ideal S4096x1024 .bf16)

/-- The scores of queries against keys (or of cotangents against values). -/
def scores (a b : FVec Ideal S4096x1024 .bf16) : Sq :=
  Host.dotGeneral dot_S1x8x4096x128_S1x8x4096x128_S1x8x4096x4096_3_3_2_2_01_01 none (heads a) (heads b)

/-- What each key leaves to the earlier ones, in logarithms: zero off the mask. -/
def leaves : Sq := select mask (logsig (Host.negf (scores q k))) (splat 0x00000000#32)

/-- The weights. -/
def weights : Sq :=
  Host.exp (select mask (addf (logsig (scores q k)) (subf (suffix (leaves q k)) (leaves q k))) (splat 0xFF800000#32))

/-- The weights times their cotangents. -/
def flows : Sq := select mask (mulf (scores o v) (weights q k)) (splat 0x00000000#32)

/-- The cotangents of the scores. -/
def cots : Sq :=
  addf (Host.negf (mulf (Host.negf (flows q k v o)) (slope (scores q k))))
    (Host.negf (Host.negf (mulf (Host.negf (select mask (addf (Host.negf (flows q k v o)) (pref (flows q k v o))) (splat 0x00000000#32)))
      (slope (Host.negf (scores q k))))))

/-- The queries' gradient. -/
def outQ : FVec Ideal S4096x1024 .f32 :=
  columns (Host.dotGeneral dot_S1x8x4096x4096_S1x8x4096x128_S1x8x4096x128_3_2_2_3_01_01 none (cots q k v o) (heads k))

/-- The keys' gradient. -/
def outK : FVec Ideal S4096x1024 .f32 :=
  columns (Host.dotGeneral dot_S1x8x4096x4096_S1x8x4096x128_S1x8x4096x128_2_2_3_3_01_01 none (cots q k v o) (heads q))

/-- The values' gradient. -/
def outV : FVec Ideal S4096x1024 .f32 :=
  columns (transpose S1x8x4096x128 [0, 1, 3, 2] (Host.dotGeneral dot_S1x8x4096x128_S1x8x4096x4096_S1x8x128x4096_2_2_3_3_01_01 none (heads o) (weights q k))
    transposes_S1x8x128x4096_S1x8x4096x128_0_1_3_2)

end Steps

theorem res_v50 (m : (ℓ : Loc nD τ sig) → Buf (Elt Ideal) ℓ) (c : Dev nD) :
    Cert.ReferenceIdeal.Value.res_main_v50 m c
      = outV (m ((c.tc : Thread nD τ).loc main_arg0)) (m ((c.tc : Thread nD τ).loc main_arg1)) (m ((c.tc : Thread nD τ).loc main_arg3)) := rfl

theorem res_v48 (m : (ℓ : Loc nD τ sig) → Buf (Elt Ideal) ℓ) (c : Dev nD) :
    Cert.ReferenceIdeal.Value.res_main_v48 m c
      = outK (m ((c.tc : Thread nD τ).loc main_arg0)) (m ((c.tc : Thread nD τ).loc main_arg1)) (m ((c.tc : Thread nD τ).loc main_arg2))
          (m ((c.tc : Thread nD τ).loc main_arg3)) := rfl

theorem res_v46 (m : (ℓ : Loc nD τ sig) → Buf (Elt Ideal) ℓ) (c : Dev nD) :
    Cert.ReferenceIdeal.Value.res_main_v46 m c
      = outQ (m ((c.tc : Thread nD τ).loc main_arg0)) (m ((c.tc : Thread nD τ).loc main_arg1)) (m ((c.tc : Thread nD τ).loc main_arg2))
          (m ((c.tc : Thread nD τ).loc main_arg3)) := rfl

/-! ## The steps over real inputs -/

section Real
variable (Q K V O : ℕ → ℕ → ℝ)

theorem scores_up (A B : ℕ → ℕ → ℝ) : scores (up A) (up B) = tns fun h r c => dotNT (hd A h) (hd B h) r c := by
  unfold scores
  rw [heads_up, heads_up, scores_tns]
  rfl

theorem leaves_up : leaves (up Q) (up K) = tns fun h r c => lnm (hd Q h) (hd K h) r c := by
  unfold leaves
  rw [scores_up, negf_tns, logsig_tns, mask_tns]
  refine tns_congr fun h _ r _ c _ => ?_
  unfold lnm
  split
  · rw [← ls_neg]
  · rfl

theorem weights_up : weights (up Q) (up K) = tns fun h r c => ww (hd Q h) (hd K h) r c := by
  unfold weights
  rw [leaves_up, suffix_eq, scores_up, logsig_tns, subf_tns, addf_tns, mask_exp_tns]
  refine tns_congr fun h _ r _ c hc => ?_
  unfold ww
  rw [Finset.sum_eq_sum_Ico_succ_bot hc, add_sub_cancel_left]

theorem flows_up : flows (up Q) (up K) (up V) (up O) = tns fun h r c => pp (hd Q h) (hd K h) (hd V h) (hd O h) r c := by
  unfold flows
  rw [weights_up, scores_up, mulf_tns, mask_tns]
  refine tns_congr fun h _ r _ c _ => ?_
  split
  · rw [pp, mul_comm]
  · rw [pp_of_le _ _ _ _ (by omega)]

theorem cots_up : cots (up Q) (up K) (up V) (up O) = tns fun h r c => dz (hd Q h) (hd K h) (hd V h) (hd O h) r c := by
  unfold cots
  rw [flows_up, scores_up, negf_tns, negf_tns, pref_eq, slope_tns, slope_tns, addf_tns, mask_tns, mulf_tns, negf_tns, negf_tns, mulf_tns, negf_tns, negf_tns, addf_tns]
  refine tns_congr fun h _ r _ c _ => ?_
  unfold dz
  split
  · rw [Finset.sum_range_succ, sg_neg]; ring
  · rw [pp_of_le _ _ _ _ (by omega)]; ring

theorem outQ_up : outQ (up Q) (up K) (up V) (up O) = up (dqC Q K V O 4096) := by
  unfold outQ
  rw [cots_up, heads_up, rows_tns, columns_tns']
  rfl

theorem outK_up : outK (up Q) (up K) (up V) (up O) = up (dkC Q K V O 4096) := by
  unfold outK
  rw [cots_up, heads_up, Tensor.columns_tns, columns_tns']
  rfl

theorem outV_up : outV (up Q) (up K) (up O) = up (dvC Q K O 4096) := by
  unfold outV
  rw [weights_up, heads_up, across_tns, swap_tns, columns_tns']
  refine up_congr fun r _ c _ => ?_
  show _ = ∑ t ∈ Finset.range 4096, ww _ _ t r * hd O (c / 128) t (c % 128)
  exact Finset.sum_congr rfl fun t _ => mul_comm _ _

end Real

end Cert.Proof.Stages

end
-- ==== Proof.Algebraic.lean ====
/-
  Over the extended reals the kernel and the reference compute the same three gradients, wherever the four inputs are numbers.
-/
module

public import proofs.«01_k».proof.Proof.Frames
public import proofs.«01_k».proof.Proof.Blocks
public import proofs.«01_k».proof.Proof.Stages

@[expose] public section

set_option maxRecDepth 16384

noncomputable section

namespace Cert.Proof.Algebraic

open Idealize.ShloMosaic Idealize.ShloMosaic.TcCoe Idealize.SL.Sem Cert.Proof.Up
open Cert.KernelIdeal.Value (dqC dkC dvC)

/-- The precondition's one shape fact. -/
instance finite_facts : Cert.Pre_finite.Facts := ⟨by decide⟩

/-! ## The precondition says that the inputs are numbers -/

theorem and_ones : ∀ a b : BitVec 1, a &&& b = 1#1 → a = 1#1 ∧ b = 1#1 := by decide

theorem bf16_inf : Ideal.ofBits .bf16 0x7F80#16 = ⊤ := by simp [Ideal.ofBits, Ideal.ieee]

/-- An entry whose absolute value is below infinity is a number. -/
theorem entry_real (x : EReal) (h : BitVec.ofBool (decide (max x (-x) < Ideal.ofBits .bf16 0x7F80#16)) = 1#1) : x = ((x.toReal : ℝ) : EReal) := by
  rw [bf16_inf] at h
  have h' : max x (-x) < ⊤ := by
    by_contra hn
    rw [decide_eq_false hn] at h
    exact absurd h (by decide)
  refine (EReal.coe_toReal ?_ ?_).symm
  · rintro rfl; simp at h'
  · rintro rfl; simp at h'

/-- The numbers of an array. -/
def nums (X : (⟨2, ![4096, 1024]⟩ : Shape).Idx → EReal) (t x : ℕ) : ℝ :=
  if h : t < 4096 ∧ x < 1024 then (X (ix2 (n0 := 4096) (n1 := 1024) ⟨t, h.1⟩ ⟨x, h.2⟩)).toReal else 0

theorem nums_up (X : (⟨2, ![4096, 1024]⟩ : Shape).Idx → EReal) (H : ∀ j, X j = (((X j).toReal : ℝ) : EReal)) : X = up (nums X) := by
  refine eq_up fun r c => ?_
  rw [nums, dif_pos ⟨r.isLt, c.isLt⟩]
  exact H _

section Pre
variable [Cert.Pre_finite.Facts] (a b c d : FVec Ideal Cert.Pre_finite.S4096x1024 .bf16)

theorem pre_entries (h : Cert.Pre_finite.fn (F := Ideal) a b c d = fun _ => 1#1) :
    a = up (nums a) ∧ b = up (nums b) ∧ c = up (nums c) ∧ d = up (nums d) := by
  have key : ∀ j, (a j = (((a j : EReal).toReal : ℝ) : EReal)) ∧ (b j = (((b j : EReal).toReal : ℝ) : EReal))
      ∧ (c j = (((c j : EReal).toReal : ℝ) : EReal)) ∧ (d j = (((d j : EReal).toReal : ℝ) : EReal)) := by
    intro j
    have hj := congrFun h j
    obtain ⟨h1, hd⟩ := and_ones _ _ hj
    obtain ⟨h2, hc⟩ := and_ones _ _ h1
    obtain ⟨ha, hb⟩ := and_ones _ _ h2
    exact ⟨entry_real _ ha, entry_real _ hb, entry_real _ hc, entry_real _ hd⟩
  exact ⟨nums_up _ fun j => (key j).1, nums_up _ fun j => (key j).2.1, nums_up _ fun j => (key j).2.2.1, nums_up _ fun j => (key j).2.2.2⟩

end Pre

/-! ## The two runs -/

section Runs
variable [Cert.Pre_finite.Facts]

theorem frame_pi_finite : Cert.quiescent_KernelIdeal_pre_finite := fun m g _ => Cert.KernelIdeal.Run.frame m g

theorem frame_ri_finite : Cert.quiescent_ReferenceIdeal_pre_finite := fun m g _ => Frames.frame_ri m g trivial

theorem algebraic : Cert.algebraic_KernelIdeal_ReferenceIdeal_pre_finite := by
  intro m g m' g' hpre hargs
  have hp := fun c => pre_entries _ _ _ _ (hpre c)
  refine ⟨_, _, _, Cert.KernelIdeal.Value.run m g _ _ _ _ ⟨fun c => (hp c).1, fun c => (hp c).2.1, fun c => (hp c).2.2.1, fun c => (hp c).2.2.2⟩, ?_⟩
  refine (θ_run Cert.ReferenceIdeal.defs _ _).mono (fun r h c => ?_) (Cert.ReferenceIdeal.Value.run (F := Ideal) m' g')
  obtain ⟨h46, h48, h50, hrest⟩ := h c
  obtain ⟨e0, e1, e2, e3⟩ := hargs c
  obtain ⟨p0, p1, p2, p3⟩ := hp c
  refine ⟨h46.trans ?_, h48.trans ?_, h50.trans ?_, hrest⟩
  · rw [Stages.res_v46, e0.trans p0, e1.trans p1, e2.trans p2, e3.trans p3]
    exact Stages.outQ_up _ _ _ _
  · rw [Stages.res_v48, e0.trans p0, e1.trans p1, e2.trans p2, e3.trans p3]
    exact Stages.outK_up _ _ _ _
  · rw [Stages.res_v50, e0.trans p0, e1.trans p1, e3.trans p3]
    exact Stages.outV_up _ _ _

end Runs

end Cert.Proof.Algebraic

end
-- ==== Proof.Product.lean ====
/-
  Arrays of extended reals, and sums of products cut into parts. `tab f` is the matrix whose entry in row `r` and column `c`
  is `f r c`, whatever its extents; `cell v` reads a matrix at two numbers. A product of matrices over the extended reals
  may be summed in parts, whether or not its entries are finite.
-/
module

public import proofs.«01_k».proof.Proof.Owns
public import Idealize.ShloMosaic.Lib.Pointwise
public import Idealize.ShloMosaic.Lib.IdealHost
public import Idealize.ShloMosaic.Lib.Pipeline.Value
public import Idealize.ShloMosaic.Lib.KernelVsHost

@[expose] public section

noncomputable section

namespace Cert.Proof.Product

open Idealize.ShloMosaic Cert.Proof.Owns
open scoped BigOperators

/-- The matrix with the entries `f r c`. -/
def tab {m n : ℕ} (f : ℕ → ℕ → EReal) : (⟨2, ![m, n]⟩ : Shape).Idx → EReal := fun x => f (x 0).val (x 1).val

variable {m n : ℕ}

theorem tab_apply (f : ℕ → ℕ → EReal) (x : (⟨2, ![m, n]⟩ : Shape).Idx) : tab f x = f (x 0).val (x 1).val := rfl

theorem tab_ix2 (f : ℕ → ℕ → EReal) (r : Fin m) (c : Fin n) : tab f (ix2 r c) = f r.val c.val := rfl

theorem tab_congr {f g : ℕ → ℕ → EReal} (h : ∀ r, r < m → ∀ c, c < n → f r c = g r c) :
    (tab f : (⟨2, ![m, n]⟩ : Shape).Idx → EReal) = tab g := by
  funext x; exact h _ (x 0).isLt _ (x 1).isLt

theorem eq_tab {X : (⟨2, ![m, n]⟩ : Shape).Idx → EReal} {f : ℕ → ℕ → EReal} (h : ∀ (r : Fin m) (c : Fin n), X (ix2 r c) = f r.val c.val) :
    X = tab f := by
  funext x; rw [eq_ix2 x]; exact h _ _

/-- The entry of a matrix in row `r` and column `c`; nothing outside it. -/
def cell (v : (⟨2, ![m, n]⟩ : Shape).Idx → EReal) (r c : ℕ) : EReal := if h : r < m ∧ c < n then v (ix2 ⟨r, h.1⟩ ⟨c, h.2⟩) else 0

theorem cell_val (v : (⟨2, ![m, n]⟩ : Shape).Idx → EReal) (r : Fin m) (c : Fin n) : cell v r.val c.val = v (ix2 r c) :=
  dif_pos (⟨r.isLt, c.isLt⟩ : r.val < m ∧ c.val < n)

theorem cell_apply (v : (⟨2, ![m, n]⟩ : Shape).Idx → EReal) (x : (⟨2, ![m, n]⟩ : Shape).Idx) : v x = cell v (x 0).val (x 1).val :=
  (congrArg v (eq_ix2 x)).trans (cell_val v (x 0) (x 1)).symm

theorem tab_cell (v : (⟨2, ![m, n]⟩ : Shape).Idx → EReal) : tab (cell v) = v := by
  funext x; rw [cell_apply v x]; rfl

/-- A block of a matrix, `p` rows by `q` columns, at the block indices `ix`. -/
theorem block_read {p q : ℕ} (v : (⟨2, ![m, n]⟩ : Shape).Idx → EReal) (e : (⟨2, ![p, q]⟩ : Shape).Idx → (⟨2, ![m, n]⟩ : Shape).Idx)
    (ix : Fin 2 → ℕ) (i0 i1 : ℕ) (hix : ix = ![i0, i1])
    (he : ∀ j, (e j 0).val = ix 0 * p + 1 * (j 0).val ∧ (e j 1).val = ix 1 * q + 1 * (j 1).val) :
    (fun j => v (e j)) = tab fun r k => cell v (p * i0 + r) (q * i1 + k) := by
  subst hix
  funext j
  obtain ⟨h0, h1⟩ := he j
  refine (cell_apply v _).trans (congrArg₂ (cell v) ?_ ?_)
  · rw [h0, Nat.one_mul, Nat.mul_comm]; rfl
  · rw [h1, Nat.one_mul, Nat.mul_comm]; rfl

/-- A block's entry is the whole's, at the place the block puts it. -/
theorem block_write {p q : ℕ} (f : ℕ → ℕ → EReal) (v : (⟨2, ![p, q]⟩ : Shape).Idx → EReal) (y : (⟨2, ![p, q]⟩ : Shape).Idx)
    (e : (⟨2, ![m, n]⟩ : Shape).Idx) (ix : Fin 2 → ℕ) (i0 i1 : ℕ) (hix : ix = ![i0, i1])
    (hv : v = tab fun r x => f (p * i0 + r) (q * i1 + x))
    (he : (e 0).val = ix 0 * p + 1 * (y 0).val ∧ (e 1).val = ix 1 * q + 1 * (y 1).val) : v y = tab f e := by
  subst hix hv
  refine congrArg₂ f ?_ ?_
  · rw [he.1, Nat.one_mul, Nat.mul_comm]; rfl
  · rw [he.2, Nat.one_mul, Nat.mul_comm]; rfl

theorem sum_range {K : ℕ} (f : ℕ → EReal) : (∑ k : Fin K, f k.val) = ∑ k ∈ Finset.range K, f k := Fin.sum_univ_eq_sum_range f K

/-- One more part of a sum cut into parts of `K` terms. -/
theorem sum_part (f : ℕ → EReal) (K j : ℕ) :
    (∑ k ∈ Finset.range (K * j), f k) + (∑ k ∈ Finset.range K, f (K * j + k)) = ∑ k ∈ Finset.range (K * (j + 1)), f k := by
  rw [Nat.mul_succ, Finset.sum_range_add]

theorem sum_first (f : ℕ → EReal) (K : ℕ) : (∑ k ∈ Finset.range K, f (K * 0 + k)) = ∑ k ∈ Finset.range (K * (0 + 1)), f k := by
  rw [← sum_part f K 0, Nat.mul_zero, Finset.range_zero, Finset.sum_empty, zero_add]

/-- The first `n` terms of an entry's sum. -/
def upTo (f : ℕ → ℕ → ℕ → EReal) (n r x : ℕ) : EReal := ∑ k ∈ Finset.range n, f r x k

/-- One more part of every entry's sum, in a block whose first entry is in row `R` and column `C`. -/
theorem next_part (f : ℕ → ℕ → ℕ → EReal) (K j R C : ℕ) :
    addf (F := Ideal) (φ := .f32) (tab fun r x => upTo f (K * j) (R + r) (C + x) : (⟨2, ![m, n]⟩ : Shape).Idx → EReal)
        (tab fun r x => ∑ k ∈ Finset.range K, f (R + r) (C + x) (K * j + k))
      = (tab fun r x => upTo f (K * (j + 1)) (R + r) (C + x) : (⟨2, ![m, n]⟩ : Shape).Idx → EReal) :=
  tab_congr (f := fun r x => upTo f (K * j) (R + r) (C + x) + ∑ k ∈ Finset.range K, f (R + r) (C + x) (K * j + k))
    fun r _ x _ => sum_part (f (R + r) (C + x)) K j

/-- The first part of every entry's sum. -/
theorem first_part (f : ℕ → ℕ → ℕ → EReal) (K R C : ℕ) :
    (tab fun r x => ∑ k ∈ Finset.range K, f (R + r) (C + x) (K * 0 + k) : (⟨2, ![m, n]⟩ : Shape).Idx → EReal)
      = tab fun r x => upTo f (K * (0 + 1)) (R + r) (C + x) :=
  tab_congr fun r _ x _ => sum_first (f (R + r) (C + x)) K

/-! ## Products of matrices -/

abbrev Mat (m n : ℕ) : Shape := ⟨2, ![m, n]⟩

variable {M K N : ℕ} {φ₁ φ₂ : FTy}

/-- Rows by columns. -/
theorem host_nn (d : DotDims (Mat M K) (Mat K N) (Mat M N)) (wf) (h : d = ⟨[1], [0], [0], [1], [], [], wf⟩) (a b : ℕ → ℕ → EReal) :
    Host.dotGeneral (F := Ideal) (φ₁ := φ₁) (φ₂ := φ₂) d none (tab a) (tab b) = tab fun r x => ∑ k ∈ Finset.range K, a r k * b k x := by
  subst h
  funext j
  unfold Host.dotGeneral
  rw [Ideal.dotGeneral_apply, DotDims.sum_contr₁ _ rfl rfl]
  exact sum_range (fun k => a (j 0).val k * b k (j 1).val)

/-- Rows by rows. -/
theorem host_nt (d : DotDims (Mat M K) (Mat N K) (Mat M N)) (wf) (h : d = ⟨[1], [1], [0], [0], [], [], wf⟩) (a b : ℕ → ℕ → EReal) :
    Host.dotGeneral (F := Ideal) (φ₁ := φ₁) (φ₂ := φ₂) d none (tab a) (tab b) = tab fun r x => ∑ k ∈ Finset.range K, a r k * b x k := by
  subst h
  funext j
  unfold Host.dotGeneral
  rw [Ideal.dotGeneral_apply, DotDims.sum_contr₁ _ rfl rfl]
  exact sum_range (fun k => a (j 0).val k * b (j 1).val k)

/-- Columns by columns. -/
theorem host_tn (d : DotDims (Mat K M) (Mat K N) (Mat M N)) (wf) (h : d = ⟨[0], [0], [1], [1], [], [], wf⟩) (a b : ℕ → ℕ → EReal) :
    Host.dotGeneral (F := Ideal) (φ₁ := φ₁) (φ₂ := φ₂) d none (tab a) (tab b) = tab fun r x => ∑ k ∈ Finset.range K, a k r * b k x := by
  subst h
  funext j
  unfold Host.dotGeneral
  rw [Ideal.dotGeneral_apply, DotDims.sum_contr₁ _ rfl rfl]
  exact sum_range (fun k => a k (j 0).val * b k (j 1).val)

theorem mxu_nn (d : DotDims (Mat M K) (Mat K N) (Mat M N)) (wf) (h : d = ⟨[1], [0], [0], [1], [], [], wf⟩) (a b : ℕ → ℕ → EReal) :
    matmul (F := Ideal) (φ₁ := φ₁) (φ₂ := φ₂) d none (tab a) (tab b) (constant (Mat M N) .f32 0x00000000#32)
      = tab fun r x => ∑ k ∈ Finset.range K, a r k * b k x :=
  (matmul_zero_eq_dotGeneral ..).trans (host_nn d wf h a b)

theorem mxu_nt (d : DotDims (Mat M K) (Mat N K) (Mat M N)) (wf) (h : d = ⟨[1], [1], [0], [0], [], [], wf⟩) (a b : ℕ → ℕ → EReal) :
    matmul (F := Ideal) (φ₁ := φ₁) (φ₂ := φ₂) d none (tab a) (tab b) (constant (Mat M N) .f32 0x00000000#32)
      = tab fun r x => ∑ k ∈ Finset.range K, a r k * b x k :=
  (matmul_zero_eq_dotGeneral ..).trans (host_nt d wf h a b)

theorem mxu_tn (d : DotDims (Mat K M) (Mat K N) (Mat M N)) (wf) (h : d = ⟨[0], [0], [1], [1], [], [], wf⟩) (a b : ℕ → ℕ → EReal) :
    matmul (F := Ideal) (φ₁ := φ₁) (φ₂ := φ₂) d none (tab a) (tab b) (constant (Mat M N) .f32 0x00000000#32)
      = tab fun r x => ∑ k ∈ Finset.range K, a k r * b k x :=
  (matmul_zero_eq_dotGeneral ..).trans (host_tn d wf h a b)

/-- A matrix turned over. -/
theorem turned (f : ℕ → ℕ → EReal) (h : (Mat m n).Transposes [1, 0] (Mat n m)) :
    transpose (Mat n m) [1, 0] (tab f) h = tab fun r x => f x r := by
  funext j
  rfl

/-- Rows by rows, and rows by columns, of given matrices. -/
theorem host_nt_whole (d : DotDims (Mat M K) (Mat N K) (Mat M N)) (wf) (h : d = ⟨[1], [1], [0], [0], [], [], wf⟩)
    (a : (Mat M K).Idx → EReal) (b : (Mat N K).Idx → EReal) :
    Host.dotGeneral (F := Ideal) (φ₁ := φ₁) (φ₂ := φ₂) d none a b = tab (upTo (fun r x k => cell a r k * cell b x k) K) := by
  refine Eq.trans ?_ (host_nt (φ₁ := φ₁) (φ₂ := φ₂) d wf h (cell a) (cell b))
  rw [tab_cell, tab_cell]

theorem host_nn_whole (d : DotDims (Mat M K) (Mat K N) (Mat M N)) (wf) (h : d = ⟨[1], [0], [0], [1], [], [], wf⟩)
    (a : (Mat M K).Idx → EReal) (b : (Mat K N).Idx → EReal) :
    Host.dotGeneral (F := Ideal) (φ₁ := φ₁) (φ₂ := φ₂) d none a b = tab (upTo (fun r x k => cell a r k * cell b k x) K) := by
  refine Eq.trans ?_ (host_nn (φ₁ := φ₁) (φ₂ := φ₂) d wf h (cell a) (cell b))
  rw [tab_cell, tab_cell]

/-- Columns by columns, turned over: the factors change places. -/
theorem host_tn_turned (d : DotDims (Mat K N) (Mat K M) (Mat N M)) (wf) (h : d = ⟨[0], [0], [1], [1], [], [], wf⟩)
    (a : (Mat K M).Idx → EReal) (b : (Mat K N).Idx → EReal) (ht : (Mat N M).Transposes [1, 0] (Mat M N)) :
    transpose (Mat M N) [1, 0] (Host.dotGeneral (F := Ideal) (φ₁ := φ₁) (φ₂ := φ₂) d none b a) ht
      = tab (upTo (fun r x k => cell a k r * cell b k x) K) := by
  rw [← tab_cell a, ← tab_cell b, host_tn d wf h, turned, tab_cell, tab_cell]
  exact tab_congr fun r _ x _ => Finset.sum_congr rfl fun k _ => mul_comm _ _

/-! ## Where a whole buffer starts -/

theorem zero2 : (![0, 0] : Fin 2 → ℕ) = fun _ => 0 := funext fun a => by fin_cases a <;> rfl
theorem zero3 : (![0, 0, 0] : Fin 3 → ℕ) = fun _ => 0 := funext fun a => by fin_cases a <;> rfl
theorem zero4 : (![0, 0, 0, 0] : Fin 4 → ℕ) = fun _ => 0 := funext fun a => by fin_cases a <;> rfl

end Cert.Proof.Product

end
-- ==== Proof.Ffn.Gate.lean ====
/-
  The feed-forward layer's gate over the extended reals, and the matrices a kernel stores in pieces.
-/
module

public import proofs.«01_k».proof.Proof.Product
public import Idealize.ShloMosaic.Lib.Pipeline.ValueKit

@[expose] public section

noncomputable section

namespace Cert.Proof.Gate

open Idealize.ShloMosaic Cert.Proof.Owns Cert.Proof.Product

/-- The logistic function, and a number times it. -/
def logistic (g : EReal) : EReal := Ideal.div 1 (1 + Ideal.exp (-g))
def silu (g : EReal) : EReal := g * logistic g

variable {m n : ℕ} (f : ℕ → ℕ → EReal)

/-- The logistic function as the kernels write it. -/
theorem kernel_logistic (s : Shape) (v : s.Idx → EReal) :
    divf (F := Ideal) (φ := .f32) (broadcast s (Scalar.ofBits .f32 0x3F800000#32 : Ideal .f32))
        (addf (broadcast s (Scalar.ofBits .f32 0x3F800000#32 : Ideal .f32)) (exp (subf (broadcast s (Scalar.ofBits .f32 0x00000000#32 : Ideal .f32)) v)))
      = fun i => logistic (v i) := by
  funext i
  show Ideal.div (Ideal.ofBits .f32 0x3F800000#32) (Ideal.ofBits .f32 0x3F800000#32
    + Ideal.exp (Ideal.ofBits .f32 0x00000000#32 - v i)) = _
  rw [Ideal.ofBits_one_f32, Ideal.ofBits_zero_f32, zero_sub, logistic]

/-- The logistic function as the reference writes it. -/
theorem host_logistic (s : Shape) (v : s.Idx → EReal) (h : (⟨0, ![]⟩ : Shape).BroadcastsInDim s ![]) :
    Host.divf (F := Ideal) (φ := .f32) (broadcastInDim s ![] h (constant ⟨0, ![]⟩ .f32 0x3F800000#32))
        (addf (broadcastInDim s ![] h (constant ⟨0, ![]⟩ .f32 0x3F800000#32)) (Host.exp (Host.negf v)))
      = fun i => logistic (v i) := by
  funext i
  show Ideal.div (Ideal.ofBits .f32 0x3F800000#32) (Ideal.ofBits .f32 0x3F800000#32 + Ideal.exp (-v i)) = _
  rw [Ideal.ofBits_one_f32, logistic]

/-- A piece of a matrix, all its rows from the column `C` on. -/
theorem piece {p : ℕ} (C : ℕ) (inb) (v : (Mat m p).Idx → EReal) (hv : v = tab fun r x => f r (C + x)) (x : (Mat m p).Idx) :
    v x = tab f ((Rect.unit (s := Mat m n) ![0, C] (Mat m p).size inb).emb x) := by
  subst hv
  show f _ _ = f (0 + 1 * (x 0).val) (C + 1 * (x 1).val)
  rw [Nat.one_mul, Nat.one_mul, Nat.zero_add]

/-- The columns of a matrix from `C` on. -/
theorem columns_from {p : ℕ} (C : ℕ) (h : (Mat m n).Slices ![0, C] (Mat m p)) :
    extractStridedSlice (Mat m p) ![0, C] (tab f) h = tab fun r x => f r (C + x) := by
  funext x
  show f (0 + (x 0).val) (C + (x 1).val) = _
  rw [Nat.zero_add]; rfl

/-! ## Its slope, at numbers -/

/-- The extended real is a number. -/
def Num (x : EReal) : Prop := ∃ a : ℝ, x = (a : EReal)

theorem Num.mul {x y : EReal} : Num x → Num y → Num (x * y) := by
  rintro ⟨a, rfl⟩ ⟨b, rfl⟩
  exact ⟨a * b, (EReal.coe_mul a b).symm⟩

theorem Num.sum (t : ℕ → EReal) (h : ∀ k, Num (t k)) (N : ℕ) : Num (∑ k ∈ Finset.range N, t k) := by
  induction N with
  | zero => exact ⟨0, by rw [Finset.range_zero, Finset.sum_empty, EReal.coe_zero]⟩
  | succ N ih =>
    obtain ⟨a, ha⟩ := ih
    obtain ⟨b, hb⟩ := h N
    exact ⟨a + b, by rw [Finset.sum_range_succ, ha, hb, EReal.coe_add]⟩

theorem Num.cell (v : (Mat m n).Idx → EReal) (h : ∀ i, Num (v i)) (r x : ℕ) : Num (cell v r x) := by
  unfold Product.cell
  split_ifs with hx
  · exact h _
  · exact ⟨0, EReal.coe_zero.symm⟩

theorem logistic_bot : logistic ⊥ = 0 := by
  show Ideal.div 1 (1 + Ideal.exp (-⊥)) = 0
  rw [EReal.neg_bot, show Ideal.exp ⊤ = ⊤ from rfl, show (1 : EReal) + ⊤ = ⊤ from EReal.coe_add_top 1, Ideal.div, if_neg EReal.top_ne_zero, EReal.inv_top, mul_zero]

theorem logistic_top : logistic ⊤ = 1 := by
  show Ideal.div 1 (1 + Ideal.exp (-⊤)) = 1
  rw [EReal.neg_top, show Ideal.exp ⊥ = 0 from rfl, add_zero, Ideal.div, if_neg one_ne_zero, inv_one, mul_one]

theorem logistic_coe (g : ℝ) : logistic (g : EReal) = ((1 / (1 + Real.exp (-g)) : ℝ) : EReal) := by
  show Ideal.div ((1 : ℝ) : EReal) (((1 : ℝ) : EReal) + ((Real.exp (-g) : ℝ) : EReal)) = _
  rw [← EReal.coe_add, Ideal.div_coe (by positivity), ← EReal.coe_mul]
  congr 1; ring

/-- A number times the slope of `silu`, whose two terms it may multiply apart. The gate itself may be infinite. -/
theorem slope (d g : EReal) (hd : Num d) :
    d * (logistic g + g * logistic g * (1 - logistic g)) = d * logistic g + g * d * (logistic g * (1 - logistic g)) := by
  obtain ⟨d, rfl⟩ := hd
  induction g with
  | bot => rw [logistic_bot]; simp only [mul_zero, zero_mul, add_zero]
  | top =>
    rw [logistic_top, show (1 : EReal) - 1 = 0 by rw [← EReal.coe_one, ← EReal.coe_sub, sub_self, EReal.coe_zero], mul_zero, mul_zero, mul_zero,
      add_zero, add_zero]
  | coe g =>
    rw [logistic_coe]
    norm_cast
    ring

end Cert.Proof.Gate

end
-- ==== Proof.Ffn.OutDx.lean ====
/-
  The gradient of the feed-forward layer's gate and value, from the gradient of the layer's output.
-/
module

public import proofs.«01_k».proof.Defs
public import proofs.«01_k».proof.Proof.Algebraic
public import proofs.«01_k».proof.Proof.Ffn.Gate
public import proofs.«01_k».proof.Proof.Gen.Kernel2.Frame
public import proofs.«01_k».proof.Proof.Gen.Kernel2Ideal.Value
public import proofs.«01_k».proof.Proof.Gen.Reference2Ideal.Run
public import Idealize.ShloMosaic.Lib.ReduceAll
public import Idealize.ShloMosaic.Lib.Claim

@[expose] public section

noncomputable section

namespace Cert.Proof.OutDx

open Idealize.ShloMosaic Idealize.ShloMosaic.TcCoe Idealize.SL.Sem Cert.Proof.Owns Cert.Proof.Product Cert.Proof.Gate
open Cert.Kernel2Ideal Cert.Kernel2Ideal.Gen Cert.Kernel2Ideal.Value

/-- The gate's gradient as the kernel writes it, and the value's, from the gradient `p` of their product, the gate and the value. -/
def dgate (p g u : EReal) : EReal := p * u * (logistic g + g * logistic g * (1 - logistic g))
def dvalue (p g : EReal) : EReal := p * (g * logistic g)

/-- The two side by side: the gates in the first 2816 columns of `f`, the values after them. -/
def both (p f : ℕ → ℕ → EReal) (r x : ℕ) : EReal :=
  if x < 2816 then dgate (p r x) (f r x) (f r (2816 + x)) else dvalue (p r (x - 2816)) (f r (x - 2816))

theorem both_left (p f : ℕ → ℕ → EReal) (r x : ℕ) (h : x < 2816) : both p f r x = dgate (p r x) (f r x) (f r (2816 + x)) := if_pos h
theorem both_right (p f : ℕ → ℕ → EReal) (r x : ℕ) : both p f r (2816 + x) = dvalue (p r x) (f r x) := by
  unfold both
  rw [if_neg (by omega), show 2816 + x - 2816 = x by omega]

/-! ## A point of the kernel -/

theorem part (a b : ℕ → ℕ → EReal) :
    k0_pay1 (F := Ideal) (tab a) (tab b) = tab fun r x => ∑ k ∈ Finset.range 1024, a r k * b k x := by
  refine Eq.trans ?_ (mxu_nn (φ₁ := .bf16) (φ₂ := .bf16) dot_S256x1024_S1024x2816_S256x2816_1_0_0_1_n_n _ rfl a b)
  unfold k0_pay1
  dsimp only
  rw [shapeCast_self]
  rfl

theorem logistic_at (g : ℕ → ℕ → EReal) : k0_pay3 (F := Ideal) (tab g) = fun i => logistic ((tab g : S256x2816.Idx → EReal) i) :=
  kernel_logistic S256x2816 (tab g)

theorem left (v : S256x1024.Idx → EReal) (w : S1024x2816.Idx → EReal) (p g u : ℕ → ℕ → EReal) (hp : k0_pay1 (F := Ideal) v w = tab p) :
    k0_pay5 (F := Ideal) v w (tab g) (tab u) = tab fun r x => dgate (p r x) (g r x) (u r x) := by
  unfold k0_pay5 k0_pay4
  dsimp only
  rw [hp, logistic_at]
  funext i
  show tab p i * tab u i * (logistic (tab g i) + tab g i * logistic (tab g i) * (Ideal.ofBits .f32 0x3F800000#32 - logistic (tab g i))) = _
  rw [Ideal.ofBits_one_f32]
  rfl

theorem right (v : S256x1024.Idx → EReal) (w : S1024x2816.Idx → EReal) (p g : ℕ → ℕ → EReal) (hp : k0_pay1 (F := Ideal) v w = tab p) :
    k0_pay6 (F := Ideal) v w (tab g) = tab fun r x => dvalue (p r x) (g r x) := by
  unfold k0_pay6 k0_pay4
  dsimp only
  rw [hp, logistic_at]
  rfl

variable (m : (ℓ : Loc nD τ sig) → Buf (Elt Ideal) ℓ) (c : Dev nD)

/-- The arguments' entries. -/
abbrev dh : ℕ → ℕ → EReal := cell (m := 4096) (n := 1024) (m ((c : Thread nD τ).loc main_arg0))
abbrev w : ℕ → ℕ → EReal := cell (m := 2816) (n := 1024) (m ((c : Thread nD τ).loc main_arg1))
abbrev gu : ℕ → ℕ → EReal := cell (m := 4096) (n := 5632) (m ((c : Thread nD τ).loc main_arg2))

/-- The gradient of the gate times the value. -/
def dact : ℕ → ℕ → EReal := upTo (fun r x k => dh m c r k * w m c x k) 1024

/-- The weights, transposed on the way in. -/
theorem turned_w : (V m c main_v0 : S1024x2816.Idx → EReal) = tab fun k x => w m c x k := by
  have h : (V m c main_v0 : S1024x2816.Idx → EReal)
      = transpose S1024x2816 [1, 0] (m ((c : Thread nD τ).loc main_arg1) : S2816x1024.Idx → EReal) transposes_S2816x1024_S1024x2816_1_0 := by
    show StableHlo.after hostOps0 _ _ = _
    simp only [hostOps0]
    after_results_simp
  rw [h]
  exact (congrArg (transpose S1024x2816 [1, 0] · transposes_S2816x1024_S1024x2816_1_0) (tab_cell (m := 2816) (n := 1024) (m ((c : Thread nD τ).loc main_arg1))).symm).trans
    (turned (m := 2816) (n := 1024) (w m c) _)

theorem index_a : ∀ t : Fin cfg0.N, win0_0.index t = ![t.val, 0] := (by decide +kernel : ∀ t : Fin grid0.N, _)
theorem index_b : ∀ t : Fin cfg0.N, win0_1.index t = ![0, 0] := (by decide +kernel : ∀ t : Fin grid0.N, _)
theorem index_g : ∀ t : Fin cfg0.N, win0_2.index t = ![t.val, 0] := (by decide +kernel : ∀ t : Fin grid0.N, _)
theorem index_o : ∀ t : Fin cfg0.N, win0_3.index t = ![t.val, 0] := (by decide +kernel : ∀ t : Fin grid0.N, _)

theorem block_a (t : Fin cfg0.N) :
    (iblk m c 0 t : S256x1024.Idx → EReal) = tab fun r k => dh m c (256 * t.val + r) (1024 * 0 + k) := by
  unfold dh
  rw [← V_main_arg0 m c]
  exact (funext fun j => View.read_apply ..).trans (block_read _ _ (win0_0.index t) _ _ (index_a t) fun j => ⟨rfl, rfl⟩)

theorem block_b (t : Fin cfg0.N) : (iblk m c 1 t : S1024x2816.Idx → EReal) = tab fun k x => w m c x k := by
  rw [← turned_w]
  refine Eq.trans ((funext fun j => View.read_apply ..).trans (block_read (m := 1024) (n := 2816) (V m c main_v0) _ (win0_1.index t) _ _ (index_b t) fun j => ⟨rfl, rfl⟩))
    (Eq.trans (tab_congr fun k _ x _ => ?_) (tab_cell (m := 1024) (n := 2816) (V m c main_v0)))
  rw [Nat.mul_zero, Nat.zero_add, Nat.zero_add]

theorem block_g (t : Fin cfg0.N) :
    (iblk m c 2 t : S256x5632.Idx → EReal) = tab fun r x => gu m c (256 * t.val + r) (5632 * 0 + x) := by
  unfold gu
  rw [← V_main_arg2 m c]
  exact (funext fun j => View.read_apply ..).trans (block_read _ _ (win0_2.index t) _ _ (index_g t) fun j => ⟨rfl, rfl⟩)

/-- The columns of a block from `C` on. -/
theorem load_g (t : Fin cfg0.N) (C : ℕ) (inb) :
    View.ld (iblk m c 2 t : S256x5632.Idx → EReal) (Rect.unit (s := S256x5632) ![0, C] S256x2816.size inb)
      = tab fun r x => gu m c (256 * t.val + r) (C + x) := by
  rw [block_g, View.ld_unit]
  refine (columns_from _ C _).trans (tab_congr fun r _ x _ => ?_)
  rw [Nat.mul_zero, Nat.zero_add]

theorem part_at (t : Fin cfg0.N) : k0_pay1 (F := Ideal) (View.ld (iblk m c 0 t) r0_0) (View.ld (iblk m c 1 t) r0_1)
    = tab fun r x => dact m c (256 * t.val + r) x := by
  rw [View.ld_unit_zero (S := S256x1024) zero2, View.ld_unit_zero (S := S1024x2816) zero2, block_a, block_b, part]
  refine tab_congr fun r _ x _ => Finset.sum_congr rfl fun k _ => ?_
  rw [Nat.mul_zero, Nat.zero_add]

/-- What a point leaves. -/
theorem out (t : Fin cfg0.N) : (out0_3 (iblk m c 0 t) (iblk m c 1 t) (iblk m c 2 t) : S256x5632.Idx → EReal)
    = tab fun r x => both (dact m c) (gu m c) (256 * t.val + r) (5632 * 0 + x) := by
  funext y
  refine View.canon_apply_of_pieces (Val := Elt Ideal) (tab fun r x => both (dact m c) (gu m c) (256 * t.val + r) (5632 * 0 + x)) _ (fun p hp x => ?_) y (cover0_3 _ _ y)
  simp only [List.mem_cons, List.not_mem_nil, or_false] at hp
  rcases hp with rfl | rfl
  · refine piece (fun r x => both (dact m c) (gu m c) (256 * t.val + r) (5632 * 0 + x)) 2816 (by decide) _ ?_ x
    rw [load_g m c t 0]
    refine (right _ _ _ _ (part_at m c t)).trans (tab_congr fun r _ x _ => ?_)
    rw [Nat.mul_zero, Nat.zero_add, Nat.zero_add, both_right]
  · refine piece (fun r x => both (dact m c) (gu m c) (256 * t.val + r) (5632 * 0 + x)) 0 (by decide) _ ?_ x
    rw [load_g m c t 0, load_g m c t 2816]
    refine (left _ _ _ _ _ (part_at m c t)).trans (tab_congr fun r _ x hx => ?_)
    rw [Nat.mul_zero, Nat.zero_add, Nat.zero_add, both_left _ _ _ _ hx]

/-- The kernel's array. -/
theorem result : (dats m 0 c).arrAt 3 cfg0.N = (tab (both (dact m c) (gu m c)) : S4096x5632.Idx → EReal) := by
  refine (dats m 0 c).arrAt_eq_of_covers 3 _ (by decide +kernel) fun t _ y => ?_
  blk_simp
  rw [after0_3]
  exact block_write _ _ _ _ (win0_3.index t) _ _ (index_o t) (out m c t) ⟨rfl, rfl⟩

/-! ## The reference -/

/-- One of the two halves. -/
abbrev Half : Shape := Mat 4096 2816

/-- Two arrays of 2816 columns side by side, as a sum of the two, each filled up with zeros. -/
theorem joined (a b : ℕ → ℕ → EReal) (h0 : Half.Pads ![0, 2816] ![0, 0] ![0, 0] S4096x5632) (h1 : Half.Pads ![0, 0] ![0, 2816] ![0, 0] S4096x5632)
    (hu : 0 < (⟨0, ![]⟩ : Shape).numel) :
    addf (F := Ideal) (φ := .f32) (pad S4096x5632 ![0, 2816] ![0, 0] ![0, 0] (tab b : Half.Idx → EReal) (constant ⟨0, ![]⟩ .f32 0x00000000#32) h0 hu)
        (pad S4096x5632 ![0, 0] ![0, 2816] ![0, 0] (tab a : Half.Idx → EReal) (constant ⟨0, ![]⟩ .f32 0x00000000#32) h1 hu)
      = tab fun r x => if x < 2816 then a r x else b r (x - 2816) := by
  refine eq_tab fun r x => ?_
  show pad S4096x5632 ![0, 2816] ![0, 0] ![0, 0] (tab b : Half.Idx → EReal) _ h0 hu (ix2 r x) + pad S4096x5632 ![0, 0] ![0, 2816] ![0, 0] (tab a : Half.Idx → EReal) _ h1 hu (ix2 r x) = _
  have hr : r.val < 4096 := r.isLt
  have hx : x.val < 5632 := x.isLt
  by_cases h : x.val < 2816
  · rw [if_pos h]
    unfold pad
    rw [dif_neg (fun hin => by have := (hin 1).1; revert this; show ¬ 2816 ≤ x.val; omega), dif_pos (fun
      | ⟨0, _⟩ => ⟨Nat.zero_le _, Nat.mod_one _, by show (r.val - 0) / 1 < 4096; omega⟩
      | ⟨1, _⟩ => ⟨Nat.zero_le _, Nat.mod_one _, by show (x.val - 0) / 1 < 2816; omega⟩)]
    refine (congrArg (· + _) Ideal.ofBits_zero_f32).trans ((zero_add _).trans ?_)
    show a ((r.val - 0) / 1) ((x.val - 0) / 1) = a r.val x.val
    rw [Nat.div_one, Nat.div_one, Nat.sub_zero, Nat.sub_zero]
  · rw [if_neg h]
    unfold pad
    rw [dif_pos (fun
      | ⟨0, _⟩ => ⟨Nat.zero_le _, Nat.mod_one _, by show (r.val - 0) / 1 < 4096; omega⟩
      | ⟨1, _⟩ => ⟨by show 2816 ≤ x.val; omega, Nat.mod_one _, by show (x.val - 2816) / 1 < 2816; omega⟩),
      dif_neg (fun hin => by have := (hin 1).2.2; revert this; show ¬ (x.val - 0) / 1 < 2816; omega)]
    refine (congrArg (_ + ·) Ideal.ofBits_zero_f32).trans ((add_zero _).trans ?_)
    show b ((r.val - 0) / 1) ((x.val - 2816) / 1) = b r.val (x.val - 2816)
    rw [Nat.div_one, Nat.div_one, Nat.sub_zero]

/-- The reference's logistic function of an array. -/
abbrev sigma (X : Half.Idx → EReal) (hb : (⟨0, ![]⟩ : Shape).BroadcastsInDim Half ![]) : Half.Idx → EReal :=
  Host.divf (F := Ideal) (φ := .f32) (broadcastInDim Half ![] hb (constant ⟨0, ![]⟩ .f32 0x3F800000#32))
    (addf (broadcastInDim Half ![] hb (constant ⟨0, ![]⟩ .f32 0x3F800000#32)) (Host.exp (Host.negf X)))

/-- What the reference makes of the product's gradient, the gate and the value. -/
theorem reference (p f : ℕ → ℕ → EReal) (D X Y : Half.Idx → EReal) (hD : D = tab p) (hX : X = tab f) (hY : Y = tab fun r x => f r (2816 + x))
    (hn : ∀ r x, r < 4096 → x < 2816 → Num (p r x * f r (2816 + x))) (hb) (h0 : Half.Pads ![0, 2816] ![0, 0] ![0, 0] S4096x5632)
    (h1 : Half.Pads ![0, 0] ![0, 2816] ![0, 0] S4096x5632) (hu : 0 < (⟨0, ![]⟩ : Shape).numel) :
    addf (F := Ideal) (φ := .f32)
        (pad S4096x5632 ![0, 2816] ![0, 0] ![0, 0] (mulf (F := Ideal) (φ := .f32) (mulf (F := Ideal) (φ := .f32) X (sigma X hb)) D) (constant ⟨0, ![]⟩ .f32 0x00000000#32) h0 hu)
        (pad S4096x5632 ![0, 0] ![0, 2816] ![0, 0]
          (addf (F := Ideal) (φ := .f32) (mulf (F := Ideal) (φ := .f32) (mulf (F := Ideal) (φ := .f32) D Y) (sigma X hb))
            (mulf (F := Ideal) (φ := .f32) (mulf (F := Ideal) (φ := .f32) X (mulf (F := Ideal) (φ := .f32) D Y))
              (mulf (F := Ideal) (φ := .f32) (sigma X hb) (subf (F := Ideal) (φ := .f32) (broadcastInDim Half ![] hb (constant ⟨0, ![]⟩ .f32 0x3F800000#32)) (sigma X hb)))))
          (constant ⟨0, ![]⟩ .f32 0x00000000#32) h1 hu)
      = tab (both p f) := by
  subst hD hX hY
  have hs : sigma (tab f) hb = fun i => logistic (tab f i) := host_logistic Half (tab f) hb
  rw [hs]
  refine (joined (fun r x => p r x * f r (2816 + x) * logistic (f r x)
      + f r x * (p r x * f r (2816 + x)) * (logistic (f r x) * (Ideal.ofBits .f32 0x3F800000#32 - logistic (f r x))))
    (fun r x => f r x * logistic (f r x) * p r x) h0 h1 hu).trans (tab_congr fun r hr x hx => ?_)
  unfold both
  split_ifs with h
  · rw [Ideal.ofBits_one_f32, ← slope _ _ (hn r x hr h)]
    rfl
  · exact mul_comm _ _

/-! ## The precondition says that what multiplies the gate's slope is a number -/

/-- The precondition's shape facts. -/
instance finite_facts : Cert.Pre_finite_gate.Facts := by constructor <;> decide

theorem entry_num (x : EReal) (h : BitVec.ofBool (decide (max x (-x) < Ideal.ofBits .bf16 0x7F80#16)) = 1#1) : Num x :=
  ⟨_, Algebraic.entry_real x h⟩

theorem f32_inf : Ideal.ofBits .f32 0x7F800000#32 = Ideal.ofBits .bf16 0x7F80#16 := by
  rw [Algebraic.bf16_inf]; simp [Ideal.ofBits, Ideal.ieee]

instance : Subsingleton Cert.Pre_finite_gate.S_.Idx := ⟨fun a b => funext fun i => i.elim0⟩

theorem pre_entries [Cert.Pre_finite_gate.Facts] (a : S4096x1024.Idx → EReal) (b : S2816x1024.Idx → EReal) (v : S4096x5632.Idx → EReal)
    (h : Cert.Pre_finite_gate.fn (F := Ideal) a b v = fun _ => 1#1) :
    (∀ i, Num (a i)) ∧ (∀ i, Num (b i)) ∧ ∀ r x, r < 4096 → x < 2816 → Num (cell (m := 4096) (n := 5632) v r (2816 + x)) := by
  obtain ⟨h1, hv⟩ := Algebraic.and_ones _ _ (congrFun h fun i => i.elim0)
  obtain ⟨ha, hb⟩ := Algebraic.and_ones _ _ h1
  refine ⟨fun i => entry_num _ ?_, fun i => entry_num _ (Host.reduce_andi_all _ _ _ _ _ hb i), fun r x hr hx => ?_⟩
  · rw [← f32_inf]
    exact Host.reduce_andi_all _ _ _ _ _ ha i
  · have e := entry_num _ (Host.reduce_andi_all _ _ _ _ _ hv (ix2 (n0 := 4096) (n1 := 2816) ⟨r, hr⟩ ⟨x, hx⟩))
    have hc : cell (m := 4096) (n := 5632) v r (2816 + x)
        = extractStridedSlice Half ![0, 2816] v (by decide) (ix2 (n0 := 4096) (n1 := 2816) ⟨r, hr⟩ ⟨x, hx⟩) := by
      rw [← tab_cell (m := 4096) (n := 5632) v, columns_from, tab_cell]
      rfl
    rw [hc]
    exact e

/-! ## The claims -/

theorem frame_p : Cert.quiescent_Kernel2 := fun m g _ => Cert.Kernel2.Gen.frame m g
theorem frame_pi : Cert.quiescent_Kernel2Ideal := fun m g _ => Cert.Kernel2Ideal.Gen.frame m g
theorem frame_ri : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

section Runs
variable [Cert.Pre_finite_gate.Facts]

theorem frame_pi_finite : Cert.quiescent_Kernel2Ideal_pre_finite_gate := fun m g _ => Cert.Kernel2Ideal.Gen.frame m g
theorem frame_ri_finite : Cert.quiescent_Reference2Ideal_pre_finite_gate := fun m g _ => frame_ri m g trivial

theorem algebraic : Cert.algebraic_Kernel2Ideal_Reference2Ideal_pre_finite_gate := by
  intro m g m' g' hpre hargs
  refine ⟨_, run_blocks m g, (θ_run Cert.Reference2Ideal.defs _ _).mono (fun r h c => ?_) (Cert.Reference2Ideal.Value.run (F := Ideal) m' g')⟩
  obtain ⟨hres, hrest⟩ := h c
  obtain ⟨e0, e1, e2⟩ := hargs c
  obtain ⟨na, nb, ng⟩ := pre_entries _ _ _ (hpre c)
  rw [e0, e1, e2] at hres
  refine ⟨hres.trans (Eq.trans ?_ (result m c).symm), hrest⟩
  have cols : ∀ C (h : S4096x5632.Slices ![0, C] Half),
      extractStridedSlice Half ![0, C] (m ((c : Thread nD τ).loc main_arg2) : S4096x5632.Idx → EReal) h = tab fun r x => gu m c r (C + x) :=
    fun C h => (congrArg (extractStridedSlice Half ![0, C] · h) (tab_cell (m := 4096) (n := 5632) (m ((c : Thread nD τ).loc main_arg2))).symm).trans
      (columns_from (gu m c) C h)
  exact reference (dact m c) (gu m c) _ _ _ (host_nt_whole (φ₁ := .f32) (φ₂ := .f32) _ _ rfl (m ((c : Thread nD τ).loc main_arg0)) (m ((c : Thread nD τ).loc main_arg1)))
    ((cols 0 _).trans (tab_congr fun r _ x _ => by rw [Nat.zero_add])) (cols 2816 _)
    (fun r x hr hx => Num.mul (Num.sum _ (fun k => Num.mul (Num.cell _ na r k) (Num.cell _ nb x k)) 1024) (ng r x hr hx)) _ _ _ _

end Runs

end Cert.Proof.OutDx

end
-- ==== Proof.Ffn.Columns.lean ====
/-
  The feed-forward layer's input weights: four chips hold the columns of one matrix, and the mathematics sets them side by side.
-/
module

public import proofs.«01_k».proof.Proof.Product

@[expose] public section

noncomputable section

namespace Cert.Proof.Columns

open Idealize.ShloMosaic Cert.Proof.Owns Cert.Proof.Product
open scoped BigOperators

/-- The shapes: by chip, by chip without the axis of extent one, by row and chip, whole. -/
abbrev Chips : Shape := ⟨4, ![4, 1, 1024, 1408]⟩
abbrev Chips3 : Shape := ⟨3, ![4, 1024, 1408]⟩
abbrev Rows : Shape := ⟨3, ![1024, 4, 1408]⟩
abbrev Whole : Shape := ⟨2, ![1024, 5632]⟩

/-- The matrix whose columns the chips hold, read at a row and a column. -/
def wide (w : Chips.Idx → EReal) (r x : ℕ) : EReal :=
  if h : r < 1024 ∧ x < 5632 then w (ix4 ⟨x / 1408, by omega⟩ 0 ⟨r, h.1⟩ ⟨x % 1408, by omega⟩) else 0

theorem wide_val (w : Chips.Idx → EReal) (r : Fin 1024) (x : Fin 5632) :
    wide w r.val x.val = w (ix4 ⟨x.val / 1408, by omega⟩ 0 r ⟨x.val % 1408, by omega⟩) :=
  dif_pos (⟨r.isLt, x.isLt⟩ : r.val < 1024 ∧ x.val < 5632)

/-- The chips' columns, side by side. -/
theorem side_by_side (w : Chips.Idx → EReal) (h1 : Chips.ShapeCasts Chips3) (h2 : Chips3.Transposes [1, 0, 2] Rows) (h3 : Rows.ShapeCasts Whole) :
    (shapeCast Whole (transpose Rows [1, 0, 2] (shapeCast Chips3 w h1) h2) h3 : Whole.Idx → EReal) = tab (wide w) := by
  refine eq_tab fun r x => ?_
  rw [wide_val]
  pointwise []

/-- One chip's columns, without the axes of extent one. -/
theorem slab (v : (⟨4, ![1, 1, 1024, 1408]⟩ : Shape).Idx → EReal) (b : ℕ → ℕ → EReal) (h : (⟨4, ![1, 1, 1024, 1408]⟩ : Shape).ShapeCasts (Mat 1024 1408))
    (hv : ∀ r x, v (ix4 0 0 r x) = b r.val x.val) : shapeCast (Mat 1024 1408) v h = tab b := by
  refine eq_tab fun r x => ?_
  pointwise []
  exact hv r x

/-- A matrix cut into the chips' columns. -/
theorem cut_columns (X : Whole.Idx → EReal) (h1 : Whole.ShapeCasts Rows) (h2 : Rows.Transposes [1, 0, 2] Chips3)
    (hb : Chips3.BroadcastsInDim Chips (![0, 2, 3] : Fin 3 → Fin Chips.rank)) (h3 : Chips.ShapeCasts Chips3) :
    (shapeCast Chips3 (broadcastInDim Chips ![0, 2, 3] hb (transpose Chips3 [1, 0, 2] (shapeCast Rows X h1) h2)) h3 : Chips3.Idx → EReal)
      = fun i => cell X (i 1).val (1408 * (i 0).val + (i 2).val) := by
  funext i
  rw [eq_ix3 i]
  pointwise []
  exact (congrArg (fun n => X (ix2 (i 1) n)) (Fin.ext (by dsimp only; omega))).trans
    (cell_val X (i 1) ⟨1408 * (i 0).val + (i 2).val, by have h0 : (i 0).val < 4 := (i 0).isLt; have h2 : (i 2).val < 1408 := (i 2).isLt; omega⟩).symm

end Cert.Proof.Columns

end
-- ==== Proof.Ffn.InDx.lean ====
/-
  The gradient of the feed-forward layer's input product by its left factor: the kernel's four partial products, one a chip's
  columns, add up to the whole product.
-/
module

public import proofs.«01_k».proof.Defs
public import proofs.«01_k».proof.Proof.Ffn.Columns
public import proofs.«01_k».proof.Proof.Gen.Kernel3Ideal.Value
public import proofs.«01_k».proof.Proof.Gen.Reference3Ideal.Run
public import proofs.«01_k».proof.Proof.Gen.Kernel3.Frame
public import Idealize.ShloMosaic.Lib.Claim

@[expose] public section

noncomputable section

namespace Cert.Proof.InDx

open Idealize.ShloMosaic Idealize.ShloMosaic.TcCoe Idealize.SL.Sem Cert.Proof.Owns Cert.Proof.Product Cert.Proof.Columns
open Cert.Kernel3Ideal Cert.Kernel3Ideal.Gen Cert.Kernel3Ideal.Value
open scoped BigOperators

/-! ## What a point leaves -/

section Cases
variable {F : FTy → Type} [FloatOps F] (c : Dev nD) (i : grid0.Coords)
  (a3 : Memref sig .tc .vmem S1024x1408 .bf16) (h3 : a3.IsWhole) (a4 : Memref sig .tc .vmem S1x1x1024x1408 .bf16) (h4 : a4.IsWhole)
  (a5 : Memref sig .tc .vmem S1024x1024 .f32) (h5 : a5.IsWhole) (a6 : Memref sig .tc .vmem S1024x1024 .f32) (h6 : a6.IsWhole)
  (x0 : Vec F S1024x1408 .bf16) (x1 : Vec F S1x1x1024x1408 .bf16) (xs : Vec F S1024x1024 .f32)

theorem first_acc (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero zero2]
  simp only [View.readAt_eq_ld, h3.read_unread, h4.read_unread, h6.read_unread, View.ld_unit_zero (S := S1024x1408) zero2,
    View.ld_unit_zero (S := S1024x1024) zero2, View.ld_unit_zero (S := S1x1x1024x1408) zero4]

theorem next_acc (hc0 : ¬cond0_0 i) (hc1 : cond0_1 i) (hc2 : ¬cond0_2 i) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero zero2]
  simp only [View.readAt_eq_ld, h3.read_unread, h4.read_unread, h6.read_unread, View.ld_unit_zero (S := S1024x1408) zero2,
    View.ld_unit_zero (S := S1024x1024) zero2, View.ld_unit_zero (S := S1x1x1024x1408) zero4]

theorem last_acc (hc0 : ¬cond0_0 i) (hc1 : cond0_1 i) (hc2 : cond0_2 i) :
    sout0_C_0 c i a3 h3 a4 h4 a5 h5 a6 h6 hc0 hc1 hc2 x0 x1 xs = k0_pay3 x0 x1 xs := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero zero2]
  simp only [View.readAt_eq_ld, h3.read_unread, h4.read_unread, h6.read_unread, View.ld_unit_zero (S := S1024x1408) zero2,
    View.ld_unit_zero (S := S1024x1024) zero2, View.ld_unit_zero (S := S1x1x1024x1408) zero4]

theorem last_out (hc0 : ¬cond0_0 i) (hc1 : cond0_1 i) (hc2 : cond0_2 i) :
    out0_C_2 c i a3 h3 a4 h4 a5 h5 a6 h6 hc0 hc1 hc2 x0 x1 xs = k0_pay3 x0 x1 xs := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero zero2]
  simp only [View.readCov_unit_zero (S := S1024x1024) _ zero2, View.readAt_eq_ld, h3.read_unread, h4.read_unread, h6.read_unread, View.ld_unit_zero (S := S1024x1408) zero2,
    View.ld_unit_zero (S := S1024x1024) zero2, View.ld_unit_zero (S := S1x1x1024x1408) zero4]

end Cases

/-! ## Over the extended reals -/

theorem part (a b : ℕ → ℕ → EReal) (v : S1x1x1024x1408.Idx → EReal) (hv : ∀ r x, v (ix4 0 0 r x) = b r.val x.val) :
    k0_pay1 (F := Ideal) (tab a) v = tab fun r x => ∑ k ∈ Finset.range 1408, a r k * b x k :=
  (congrArg (fun u => matmul (F := Ideal) (φ₁ := .bf16) (φ₂ := .bf16) _ none _ u _) (slab v b _ hv)).trans (mxu_nt _ _ rfl a b)

variable (m : (ℓ : Loc nD τ sig) → Buf (Elt Ideal) ℓ) (c : Dev nD)

/-- The arguments' entries. -/
abbrev dgu : ℕ → ℕ → EReal := cell (m := 4096) (n := 5632) (m ((c : Thread nD τ).loc main_arg0))
abbrev w : ℕ → ℕ → EReal := wide (m ((c : Thread nD τ).loc main_arg1))

theorem index_a : ∀ t : Fin cfg0.N, win0_0.index t = ![t.val / 4, t.val % 4] :=
  (by decide +kernel : ∀ t : Fin grid0.N, _)
theorem index_b : ∀ t : Fin cfg0.N, win0_1.index t = ![t.val % 4, 0, 0, 0] :=
  (by decide +kernel : ∀ t : Fin grid0.N, _)

theorem block_a (t : Fin cfg0.N) :
    (iblk m c 0 t : S1024x1408.Idx → EReal) = tab fun r k => dgu m c (1024 * (t.val / 4) + r) (1408 * (t.val % 4) + k) :=
  (funext fun j => View.read_apply ..).trans (block_read _ _ (win0_0.index t) _ _ (index_a t) fun j => ⟨rfl, rfl⟩)

theorem block_b (t : Fin cfg0.N) (r : Fin 1024) (x : Fin 1408) :
    (iblk m c 1 t : S1x1x1024x1408.Idx → EReal) (ix4 0 0 r x) = w m c r.val (1408 * (t.val % 4) + x.val) := by
  have ht : t.val < 16 := t.isLt.trans_eq N_0
  unfold iblk
  rw [View.read_apply]
  refine Eq.trans ?_ (dif_pos (⟨r.isLt, by omega⟩ : r.val < 1024 ∧ 1408 * (t.val % 4) + x.val < 5632)).symm
  show m ((c : Thread nD τ).loc main_arg1) _ = m ((c : Thread nD τ).loc main_arg1) _
  refine congrArg (m ((c : Thread nD τ).loc main_arg1)) (funext fun a => Fin.ext ?_)
  match a with
  | ⟨0, _⟩ => show win0_1.index t 0 * 1 + 1 * 0 = (1408 * (t.val % 4) + x.val) / 1408
              rw [index_b]; show t.val % 4 * 1 + 1 * 0 = _; omega
  | ⟨1, _⟩ => show win0_1.index t 1 * 1 + 1 * 0 = 0
              rw [index_b]; rfl
  | ⟨2, _⟩ => show win0_1.index t 2 * 1024 + 1 * r.val = r.val
              rw [index_b]; show 0 * 1024 + 1 * r.val = r.val; omega
  | ⟨3, _⟩ => show win0_1.index t 3 * 1408 + 1 * x.val = (1408 * (t.val % 4) + x.val) % 1408
              rw [index_b]; show 0 * 1408 + 1 * x.val = _; omega

/-- The products an entry sums. -/
abbrev terms (r x k : ℕ) : EReal := dgu m c r k * w m c x k

theorem part_at (t : Fin cfg0.N) : k0_pay1 (F := Ideal) (iblk m c 0 t) (iblk m c 1 t)
    = tab fun r x => ∑ k ∈ Finset.range 1408, terms m c (1024 * (t.val / 4) + r) (0 + x) (1408 * (t.val % 4) + k) := by
  rw [block_a]
  exact (part _ (fun x k => w m c x (1408 * (t.val % 4) + k)) _ (block_b m c t)).trans (tab_congr fun r _ x _ => by rw [Nat.zero_add])

theorem next (t : Fin cfg0.N) :
    k0_pay3 (F := Ideal) (iblk m c 0 t) (iblk m c 1 t) (tab fun r x => upTo (terms m c) (1408 * (t.val % 4)) (1024 * (t.val / 4) + r) (0 + x))
      = tab fun r x => upTo (terms m c) (1408 * (t.val % 4 + 1)) (1024 * (t.val / 4) + r) (0 + x) :=
  (shapeCast_self _ _).trans ((congrArg (addf (F := Ideal) _) (part_at m c t)).trans (next_part (terms m c) 1408 (t.val % 4) _ 0))

theorem start (t : Fin cfg0.N) (h0 : t.val % 4 = 0) :
    k0_pay2 (F := Ideal) (iblk m c 0 t) (iblk m c 1 t)
      = tab fun r x => upTo (terms m c) (1408 * (t.val % 4 + 1)) (1024 * (t.val / 4) + r) (0 + x) := by
  refine (shapeCast_self _ _).trans ((part_at m c t).trans ?_)
  rw [h0]
  exact first_part (terms m c) 1408 _ 0

/-- What the scratch holds after a point, by what it held after the one before. -/
theorem acc_step (t : Fin cfg0.N)
    (ih : t.val % 4 ≠ 0 → (outsAt0 m c (t.val - 1) (Nat.lt_of_le_of_lt (Nat.sub_le _ _) t.isLt)).2
      = (tab fun r x => upTo (terms m c) (1408 * (t.val % 4)) (1024 * (t.val / 4) + r) (0 + x) : S1024x1024.Idx → EReal)) :
    (outsAt0 m c t.val t.isLt).2
      = (tab fun r x => upTo (terms m c) (1408 * (t.val % 4 + 1)) (1024 * (t.val / 4) + r) (0 + x) : S1024x1024.Idx → EReal) := by
  by_cases h0 : t.val % 4 = 0
  · rw [outsAt0_A m c t h0 (by omega) (by omega)]
    dsimp only
    rw [first_acc]
    exact start m c t h0
  · by_cases h2 : t.val % 4 = 3
    · rw [outsAt0_C m c t h0 (by omega) h2]
      dsimp only
      rw [last_acc, ih h0]
      exact next m c t
    · rw [outsAt0_B m c t h0 (by omega) h2]
      dsimp only
      rw [next_acc, ih h0]
      exact next m c t

/-- What the scratch holds after a point. -/
theorem acc (n : ℕ) : ∀ h : n < cfg0.N,
    (outsAt0 m c n h).2 = (tab fun r x => upTo (terms m c) (1408 * (n % 4 + 1)) (1024 * (n / 4) + r) (0 + x) : S1024x1024.Idx → EReal) := by
  induction n using Nat.strong_induction_on with
  | _ n ih =>
    intro h
    refine acc_step m c ⟨n, h⟩ fun h0 => (ih (n - 1) (Nat.sub_lt (Nat.pos_of_ne_zero fun e => h0 (by subst e; rfl)) Nat.one_pos) _).trans ?_
    dsimp only at h0 ⊢
    rw [show (n - 1) % 4 + 1 = n % 4 by omega, show (n - 1) / 4 = n / 4 by omega]

/-- What the last point of a block writes. -/
theorem out (t : Fin cfg0.N) (h3 : t.val % 4 = 3) : (outsAt0 m c t.val t.isLt).1
    = (tab fun r x => upTo (terms m c) 5632 (1024 * (t.val / 4) + r) (0 + x) : S1024x1024.Idx → EReal) := by
  rw [outsAt0_C m c t (by omega) (by omega) h3]
  dsimp only
  rw [last_out, acc m c (t.val - 1), show (t.val - 1) % 4 + 1 = t.val % 4 by omega, show (t.val - 1) / 4 = t.val / 4 by omega, next m c t, h3]

/-- The kernel's array: the whole product. -/
theorem result : G2 m c = (tab (upTo (terms m c) 5632) : S4096x1024.Idx → EReal) := by
  funext i
  have h0 : (i 0).val < 4096 := (i 0).isLt
  have h1 : (i 1).val < 1024 := (i 1).isLt
  have hp : pt2Of i = 4 * ((i 0).val / 1024) + 3 := by
    show 4 * (1 * ((i 0).val / 1024 - 0) + 1 * ((i 1).val / 1024 - 0)) + 3 = _; omega
  have hb : pt2Of i < cfg0.N := by rw [hp, show cfg0.N = 16 from N_0]; omega
  unfold G2
  rw [dif_pos hb, ← outsAt0_sweep m c (pt2Of i) hb, out m c ⟨pt2Of i, hb⟩ (by dsimp only; rw [hp]; omega)]
  show upTo (terms m c) 5632 (1024 * (pt2Of i / 4) + (i 0).val % 1024) (0 + (i 1).val % 1024) = upTo (terms m c) 5632 (i 0).val (i 1).val
  congr 1 <;> omega

/-! ## The reference, and the claims -/

theorem reference (a : S4096x5632.Idx → EReal) (b : S4x1x1024x1408.Idx → EReal) (h1 h2 h3) :
    Host.dotGeneral (F := Ideal) (φ₁ := .f32) (φ₂ := .f32) Cert.Reference3Ideal.dot_S4096x5632_S1024x5632_S4096x1024_1_1_0_0_n_n none a
        (shapeCast Whole (transpose Rows [1, 0, 2] (shapeCast Chips3 b h1) h2) h3)
      = (tab (upTo (fun r x k => cell (m := 4096) (n := 5632) a r k * wide b x k) 5632) : S4096x1024.Idx → EReal) :=
  (congrArg₂ (Host.dotGeneral (F := Ideal) (φ₁ := .f32) (φ₂ := .f32) Cert.Reference3Ideal.dot_S4096x5632_S1024x5632_S4096x1024_1_1_0_0_n_n none)
    (tab_cell a).symm (side_by_side b h1 h2 h3)).trans (host_nt _ _ rfl _ _)

theorem frame_p : Cert.quiescent_Kernel3 := fun m g _ => Cert.Kernel3.Gen.frame m g
theorem frame_pi : Cert.quiescent_Kernel3Ideal := fun m g _ => Cert.Kernel3Ideal.Gen.frame m g
theorem frame_ri : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem algebraic : Cert.algebraic_Kernel3Ideal_Reference3Ideal := by
  intro m g m' g' _ hargs
  refine ⟨_, run m g, (θ_run Cert.Reference3Ideal.defs _ _).mono (fun r h c => ?_) (Cert.Reference3Ideal.Value.run (F := Ideal) m' g')⟩
  obtain ⟨h7, hrest⟩ := h c
  obtain ⟨e0, e1⟩ := hargs c
  rw [e0, e1] at h7
  refine ⟨h7.trans (Eq.trans ?_ (result m c).symm), hrest⟩
  exact reference (m ((c : Thread nD τ).loc main_arg0)) (m ((c : Thread nD τ).loc main_arg1)) _ _ _

end Cert.Proof.InDx

end
-- ==== Proof.Ffn.InDw.lean ====
/-
  The gradient of the feed-forward layer's input weights: the kernel's two partial products, one a half of the tokens, add up to
  the whole product, a chip's columns at a time.
-/
module

public import proofs.«01_k».proof.Defs
public import proofs.«01_k».proof.Proof.Ffn.Columns
public import proofs.«01_k».proof.Proof.Gen.Kernel4.Frame
public import proofs.«01_k».proof.Proof.Gen.Kernel4Ideal.Value
public import proofs.«01_k».proof.Proof.Gen.Reference4Ideal.Run
public import Idealize.ShloMosaic.Lib.Claim

@[expose] public section

noncomputable section

namespace Cert.Proof.InDw

open Idealize.ShloMosaic Idealize.ShloMosaic.TcCoe Idealize.SL.Sem Cert.Proof.Owns Cert.Proof.Product Cert.Proof.Columns
open Cert.Kernel4Ideal Cert.Kernel4Ideal.Gen Cert.Kernel4Ideal.Value

/-! ## What a point leaves -/

section Cases
variable {F : FTy → Type} [FloatOps F] (c : Dev nD) (i : grid0.Coords)
  (a3 : Memref sig .tc .vmem S2048x1024 .bf16) (h3 : a3.IsWhole) (a4 : Memref sig .tc .vmem S2048x1408 .bf16) (h4 : a4.IsWhole)
  (a5 : Memref sig .tc .vmem S1x1024x1408 .f32) (h5 : a5.IsWhole) (a6 : Memref sig .tc .vmem S1024x1408 .f32) (h6 : a6.IsWhole)
  (x0 : Vec F S2048x1024 .bf16) (x1 : Vec F S2048x1408 .bf16) (xs : Vec F S1024x1408 .f32)

theorem first_acc (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero zero2]
  simp only [View.readAt_eq_ld, h3.read_unread, h4.read_unread, View.ld_unit_zero (S := S2048x1024) zero2, View.ld_unit_zero (S := S2048x1408) zero2]

theorem last_out (hc0 : ¬cond0_0 i) (hc1 : cond0_1 i) (hc2 : cond0_2 i) :
    out0_B_2 c i a3 h3 a4 h4 a5 h5 a6 h6 hc0 hc1 hc2 x0 x1 xs = k0_pay4 (k0_pay3 x0 x1 xs) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero zero3]
  simp only [View.readCov_unit_zero (S := S1024x1408) _ zero2, View.readAt_eq_ld, h3.read_unread, h4.read_unread, h6.read_unread,
    View.ld_unit_zero (S := S2048x1024) zero2, View.ld_unit_zero (S := S2048x1408) zero2, View.ld_unit_zero (S := S1024x1408) zero2]

end Cases

/-! ## Over the extended reals -/

theorem part (a b : ℕ → ℕ → EReal) :
    k0_pay1 (F := Ideal) (tab a) (tab b) = tab fun r x => ∑ k ∈ Finset.range 2048, a k r * b k x :=
  mxu_tn (φ₁ := .bf16) (φ₂ := .bf16) dot_S2048x1024_S2048x1408_S1024x1408_0_0_1_1_n_n _ rfl a b

variable (m : (ℓ : Loc nD τ sig) → Buf (Elt Ideal) ℓ) (c : Dev nD)

/-- The arguments' entries. -/
abbrev xs : ℕ → ℕ → EReal := cell (m := 4096) (n := 1024) (m ((c : Thread nD τ).loc main_arg0))
abbrev d : ℕ → ℕ → EReal := cell (m := 4096) (n := 5632) (m ((c : Thread nD τ).loc main_arg1))

/-- The products an entry sums. -/
abbrev terms (r x k : ℕ) : EReal := xs m c k r * d m c k x

theorem index_a : ∀ t : Fin cfg0.N, win0_0.index t = ![t.val % 2, 0] :=
  (by decide +kernel : ∀ t : Fin grid0.N, _)
theorem index_b : ∀ t : Fin cfg0.N, win0_1.index t = ![t.val % 2, t.val / 2] :=
  (by decide +kernel : ∀ t : Fin grid0.N, _)

theorem block_a (t : Fin cfg0.N) :
    (iblk m c 0 t : S2048x1024.Idx → EReal) = tab fun k r => xs m c (2048 * (t.val % 2) + k) (1024 * 0 + r) :=
  (funext fun j => View.read_apply ..).trans (block_read _ _ (win0_0.index t) _ _ (index_a t) fun j => ⟨rfl, rfl⟩)

theorem block_b (t : Fin cfg0.N) :
    (iblk m c 1 t : S2048x1408.Idx → EReal) = tab fun k x => d m c (2048 * (t.val % 2) + k) (1408 * (t.val / 2) + x) :=
  (funext fun j => View.read_apply ..).trans (block_read _ _ (win0_1.index t) _ _ (index_b t) fun j => ⟨rfl, rfl⟩)

theorem part_at (t : Fin cfg0.N) : k0_pay1 (F := Ideal) (iblk m c 0 t) (iblk m c 1 t)
    = tab fun r x => ∑ k ∈ Finset.range 2048, terms m c (1024 * 0 + r) (1408 * (t.val / 2) + x) (2048 * (t.val % 2) + k) := by
  rw [block_a, block_b, part]

theorem acc (t : Fin cfg0.N) (h0 : t.val % 2 = 0) : (outsAt0 m c t.val t.isLt).2
    = (tab fun r x => upTo (terms m c) (2048 * (0 + 1)) (1024 * 0 + r) (1408 * (t.val / 2) + x) : S1024x1408.Idx → EReal) := by
  rw [outsAt0_A m c t h0 (by omega) (by omega)]
  dsimp only
  rw [first_acc]
  refine (shapeCast_self _ _).trans ((part_at m c t).trans ?_)
  rw [h0]
  exact first_part (terms m c) 2048 (1024 * 0) _

/-- What the last point of a block writes. -/
theorem out (t : Fin cfg0.N) (h1 : t.val % 2 = 1) : (outsAt0 m c t.val t.isLt).1 = k0_pay4 (F := Ideal)
    (tab fun r x => upTo (terms m c) 4096 (1024 * 0 + r) (1408 * (t.val / 2) + x) : S1024x1408.Idx → EReal) := by
  rw [outsAt0_B m c t (by omega) h1 h1]
  dsimp only
  rw [last_out, acc m c ⟨t.val - 1, by omega⟩ (by dsimp only; omega), show (t.val - 1) / 2 = t.val / 2 by omega]
  refine congrArg (k0_pay4 (F := Ideal)) ((shapeCast_self _ _).trans ((congrArg (addf (F := Ideal) _) (part_at m c t)).trans ?_))
  rw [h1]
  exact next_part (terms m c) 2048 1 (1024 * 0) _

/-- The axis of extent one changes no entry. -/
theorem pay4 (f : ℕ → ℕ → EReal) (j : S1x1024x1408.Idx) : k0_pay4 (F := Ideal) (tab f) j = f (j 1).val (j 2).val := by
  rw [eq_ix3 j]
  pointwise [k0_pay4]
  rfl

/-- The kernel's array: the whole product, its columns by chip. -/
theorem result : G2 m c = fun i : S4x1024x1408.Idx => upTo (terms m c) 4096 (i 1).val (1408 * (i 0).val + (i 2).val) := by
  funext i
  have h0 : (i 0).val < 4 := (i 0).isLt
  have h1 : (i 1).val < 1024 := (i 1).isLt
  have h2 : (i 2).val < 1408 := (i 2).isLt
  have hp : pt2Of i = 2 * (i 0).val + 1 := by
    show 2 * (1 * ((i 0).val / 1 - 0) + 1 * ((i 1).val / 1024 - 0) + 1 * ((i 2).val / 1408 - 0)) + 1 = _; omega
  have hb : pt2Of i < cfg0.N := by rw [hp, show cfg0.N = 8 from N_0]; omega
  unfold G2
  rw [dif_pos hb, ← outsAt0_sweep m c (pt2Of i) hb, out m c ⟨pt2Of i, hb⟩ (by dsimp only; rw [hp]; omega), pay4]
  show upTo (terms m c) 4096 (1024 * 0 + (i 1).val % 1024) (1408 * (pt2Of i / 2) + (i 2).val % 1408) = _
  congr 1 <;> omega

/-- The reference's array. -/
theorem reference (a : S4096x1024.Idx → EReal) (b : S4096x5632.Idx → EReal) (h0 h1 h2 hb h3) :
    shapeCast Chips3 (broadcastInDim Chips ![0, 2, 3] hb (transpose Chips3 [1, 0, 2] (shapeCast Rows (transpose Whole [1, 0]
        (Host.dotGeneral (F := Ideal) (φ₁ := .f32) (φ₂ := .f32) Cert.Reference4Ideal.dot_S4096x5632_S4096x1024_S5632x1024_0_0_1_1_n_n none b a) h0) h1) h2)) h3
      = fun i : Chips3.Idx => upTo (fun r x k => cell (m := 4096) (n := 1024) a k r * cell (m := 4096) (n := 5632) b k x) 4096
          (i 1).val (1408 * (i 0).val + (i 2).val) := by
  have h0 := host_tn_turned (φ₁ := .f32) (φ₂ := .f32) Cert.Reference4Ideal.dot_S4096x5632_S4096x1024_S5632x1024_0_0_1_1_n_n _ rfl a b h0
  refine (cut_columns _ h1 h2 hb h3).trans (funext fun i => ?_)
  have i0 : (i 0).val < 4 := (i 0).isLt
  have i2 : (i 2).val < 1408 := (i 2).isLt
  rw [h0]
  exact cell_val (m := 1024) (n := 5632) (tab _) (i 1) ⟨1408 * (i 0).val + (i 2).val, by omega⟩

/-! ## The claims -/

theorem frame_p : Cert.quiescent_Kernel4 := fun m g _ => Cert.Kernel4.Gen.frame m g
theorem frame_pi : Cert.quiescent_Kernel4Ideal := fun m g _ => Cert.Kernel4Ideal.Gen.frame m g
theorem frame_ri : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem algebraic : Cert.algebraic_Kernel4Ideal_Reference4Ideal := by
  intro m g m' g' _ hargs
  refine ⟨_, run m g, (θ_run Cert.Reference4Ideal.defs _ _).mono (fun r h c => ?_) (Cert.Reference4Ideal.Value.run (F := Ideal) m' g')⟩
  obtain ⟨hres, hrest⟩ := h c
  obtain ⟨e0, e1⟩ := hargs c
  rw [e0, e1] at hres
  refine ⟨hres.trans (Eq.trans ?_ (result m c).symm), hrest⟩
  exact reference (m ((c : Thread nD τ).loc main_arg0)) (m ((c : Thread nD τ).loc main_arg1)) _ _ _ _ _

end Cert.Proof.InDw

end
-- ==== Proof.Ffn.OutDw.lean ====
/-
  The gradient of the feed-forward layer's output weights: the kernel's two partial products, one a half of the tokens, add up
  to the whole product.
-/
module

public import proofs.«01_k».proof.Defs
public import proofs.«01_k».proof.Proof.Product
public import proofs.«01_k».proof.Proof.Gen.Kernel5.Frame
public import proofs.«01_k».proof.Proof.Gen.Kernel5Ideal.Value
public import proofs.«01_k».proof.Proof.Gen.Reference5Ideal.Run
public import Idealize.ShloMosaic.Lib.Claim

@[expose] public section

noncomputable section

namespace Cert.Proof.OutDw

open Idealize.ShloMosaic Idealize.ShloMosaic.TcCoe Idealize.SL.Sem Cert.Proof.Owns Cert.Proof.Product
open Cert.Kernel5Ideal Cert.Kernel5Ideal.Gen Cert.Kernel5Ideal.Value

/-! ## What a point leaves -/

section Cases
variable {F : FTy → Type} [FloatOps F] (c : Dev nD) (i : grid0.Coords)
  (a3 : Memref sig .tc .vmem S2048x1408 .bf16) (h3 : a3.IsWhole) (a4 : Memref sig .tc .vmem S2048x1024 .f32) (h4 : a4.IsWhole)
  (a5 : Memref sig .tc .vmem S1408x1024 .f32) (h5 : a5.IsWhole) (a6 : Memref sig .tc .vmem S1408x1024 .f32) (h6 : a6.IsWhole)
  (x0 : Vec F S2048x1408 .bf16) (x1 : Vec F S2048x1024 .f32) (xs : Vec F S1408x1024 .f32)

theorem first_acc (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero zero2]
  simp only [View.readAt_eq_ld, h3.read_unread, h4.read_unread, View.ld_unit_zero (S := S2048x1408) zero2, View.ld_unit_zero (S := S2048x1024) zero2]

theorem last_out (hc0 : ¬cond0_0 i) (hc1 : cond0_1 i) (hc2 : cond0_2 i) :
    out0_B_2 c i a3 h3 a4 h4 a5 h5 a6 h6 hc0 hc1 hc2 x0 x1 xs = k0_pay3 x0 x1 xs := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero zero2]
  simp only [View.readCov_unit_zero (S := S1408x1024) _ zero2, View.readAt_eq_ld, h3.read_unread, h4.read_unread, h6.read_unread,
    View.ld_unit_zero (S := S2048x1408) zero2, View.ld_unit_zero (S := S2048x1024) zero2, View.ld_unit_zero (S := S1408x1024) zero2]

end Cases

/-! ## Over the extended reals -/

theorem part (a b : ℕ → ℕ → EReal) :
    k0_pay1 (F := Ideal) (tab a) (tab b) = tab fun r x => ∑ k ∈ Finset.range 2048, a k r * b k x :=
  mxu_tn (φ₁ := .bf16) (φ₂ := .bf16) dot_S2048x1408_S2048x1024_S1408x1024_0_0_1_1_n_n _ rfl a b

variable (m : (ℓ : Loc nD τ sig) → Buf (Elt Ideal) ℓ) (c : Dev nD)

/-- The arguments' entries. -/
abbrev act : ℕ → ℕ → EReal := cell (m := 4096) (n := 2816) (m ((c : Thread nD τ).loc main_arg0))
abbrev d : ℕ → ℕ → EReal := cell (m := 4096) (n := 1024) (m ((c : Thread nD τ).loc main_arg1))

/-- The products an entry sums. -/
abbrev terms (r x k : ℕ) : EReal := act m c k r * d m c k x

theorem index_a : ∀ t : Fin cfg0.N, win0_0.index t = ![t.val % 2, t.val / 2] :=
  (by decide +kernel : ∀ t : Fin grid0.N, _)
theorem index_b : ∀ t : Fin cfg0.N, win0_1.index t = ![t.val % 2, 0] :=
  (by decide +kernel : ∀ t : Fin grid0.N, _)

theorem block_a (t : Fin cfg0.N) :
    (iblk m c 0 t : S2048x1408.Idx → EReal) = tab fun k r => act m c (2048 * (t.val % 2) + k) (1408 * (t.val / 2) + r) :=
  (funext fun j => View.read_apply ..).trans (block_read _ _ (win0_0.index t) _ _ (index_a t) fun j => ⟨rfl, rfl⟩)

theorem block_b (t : Fin cfg0.N) :
    (iblk m c 1 t : S2048x1024.Idx → EReal) = tab fun k x => d m c (2048 * (t.val % 2) + k) (1024 * 0 + x) :=
  (funext fun j => View.read_apply ..).trans (block_read _ _ (win0_1.index t) _ _ (index_b t) fun j => ⟨rfl, rfl⟩)

theorem part_at (t : Fin cfg0.N) : k0_pay1 (F := Ideal) (iblk m c 0 t) (iblk m c 1 t)
    = tab fun r x => ∑ k ∈ Finset.range 2048, terms m c (1408 * (t.val / 2) + r) (1024 * 0 + x) (2048 * (t.val % 2) + k) := by
  rw [block_a, block_b, part]

theorem acc (t : Fin cfg0.N) (h0 : t.val % 2 = 0) : (outsAt0 m c t.val t.isLt).2
    = (tab fun r x => upTo (terms m c) (2048 * (0 + 1)) (1408 * (t.val / 2) + r) (1024 * 0 + x) : S1408x1024.Idx → EReal) := by
  rw [outsAt0_A m c t h0 (by omega) (by omega)]
  dsimp only
  rw [first_acc]
  refine (shapeCast_self _ _).trans ((part_at m c t).trans ?_)
  rw [h0]
  exact first_part (terms m c) 2048 _ (1024 * 0)

/-- What the last point of a block writes. -/
theorem out (t : Fin cfg0.N) (h1 : t.val % 2 = 1) : (outsAt0 m c t.val t.isLt).1
    = (tab fun r x => upTo (terms m c) 4096 (1408 * (t.val / 2) + r) (1024 * 0 + x) : S1408x1024.Idx → EReal) := by
  rw [outsAt0_B m c t (by omega) h1 h1]
  dsimp only
  rw [last_out, acc m c ⟨t.val - 1, by omega⟩ (by dsimp only; omega), show (t.val - 1) / 2 = t.val / 2 by omega]
  refine (shapeCast_self _ _).trans ((congrArg (addf (F := Ideal) _) (part_at m c t)).trans ?_)
  rw [h1]
  exact next_part (terms m c) 2048 1 _ (1024 * 0)

/-- The kernel's array: the whole product. -/
theorem result : G2 m c = (tab (upTo (terms m c) 4096) : S2816x1024.Idx → EReal) := by
  funext i
  have h0 : (i 0).val < 2816 := (i 0).isLt
  have h1 : (i 1).val < 1024 := (i 1).isLt
  have hp : pt2Of i = 2 * ((i 0).val / 1408) + 1 := by
    show 2 * (1 * ((i 0).val / 1408 - 0) + 1 * ((i 1).val / 1024 - 0)) + 1 = _; omega
  have hb : pt2Of i < cfg0.N := by rw [hp, show cfg0.N = 4 from N_0]; omega
  unfold G2
  rw [dif_pos hb, ← outsAt0_sweep m c (pt2Of i) hb, out m c ⟨pt2Of i, hb⟩ (by dsimp only; rw [hp]; omega)]
  show upTo (terms m c) 4096 (1408 * (pt2Of i / 2) + (i 0).val % 1408) (1024 * 0 + (i 1).val % 1024) = upTo (terms m c) 4096 (i 0).val (i 1).val
  congr 1 <;> omega

/-! ## The claims -/

theorem frame_p : Cert.quiescent_Kernel5 := fun m g _ => Cert.Kernel5.Gen.frame m g
theorem frame_pi : Cert.quiescent_Kernel5Ideal := fun m g _ => Cert.Kernel5Ideal.Gen.frame m g
theorem frame_ri : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem algebraic : Cert.algebraic_Kernel5Ideal_Reference5Ideal := by
  intro m g m' g' _ hargs
  refine ⟨_, run m g, (θ_run Cert.Reference5Ideal.defs _ _).mono (fun r h c => ?_) (Cert.Reference5Ideal.Value.run (F := Ideal) m' g')⟩
  obtain ⟨hres, hrest⟩ := h c
  obtain ⟨e0, e1⟩ := hargs c
  rw [e0, e1] at hres
  refine ⟨hres.trans (Eq.trans ?_ (result m c).symm), hrest⟩
  exact host_tn_turned _ _ rfl (m ((c : Thread nD τ).loc main_arg0)) (m ((c : Thread nD τ).loc main_arg1)) _

end Cert.Proof.OutDw

end
-- ==== Proof.Products.GdnInDx.lean ====
/-
  The gradient of the gated delta rule's input product by its left factor: the kernel's four partial products add up to the whole
  product.
-/
module

public import proofs.«01_k».proof.Defs
public import proofs.«01_k».proof.Proof.Product
public import proofs.«01_k».proof.Proof.Gen.Kernel6Ideal.Value
public import proofs.«01_k».proof.Proof.Gen.Reference6Ideal.Run
public import proofs.«01_k».proof.Proof.Gen.Kernel6.Frame
public import Idealize.ShloMosaic.Lib.Claim

@[expose] public section

noncomputable section

namespace Cert.Proof.GdnInDx

open Idealize.ShloMosaic Idealize.ShloMosaic.TcCoe Idealize.SL.Sem Cert.Proof.Owns Cert.Proof.Product
open Cert.Kernel6Ideal Cert.Kernel6Ideal.Gen Cert.Kernel6Ideal.Value
open scoped BigOperators

/-! ## What a point leaves -/

section Cases
variable {F : FTy → Type} [FloatOps F] (c : Dev nD) (i : grid0.Coords)
  (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole) (a6 : Memref sig .tc .vmem S1024x1024 .f32) (h6 : a6.IsWhole)
  (x0 : Vec F S1024x1024 .bf16) (x1 : Vec F S1024x1024 .bf16) (xs : Vec F S1024x1024 .f32)

theorem first_acc (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero zero2]
  simp only [View.readAt_eq_ld, h3.read_unread, h4.read_unread, h6.read_unread, View.ld_unit_zero (S := S1024x1024) zero2]

theorem next_acc (hc0 : ¬cond0_0 i) (hc1 : cond0_1 i) (hc2 : ¬cond0_2 i) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero zero2]
  simp only [View.readAt_eq_ld, h3.read_unread, h4.read_unread, h6.read_unread, View.ld_unit_zero (S := S1024x1024) zero2]

theorem last_acc (hc0 : ¬cond0_0 i) (hc1 : cond0_1 i) (hc2 : cond0_2 i) :
    sout0_C_0 c i a3 h3 a4 h4 a5 h5 a6 h6 hc0 hc1 hc2 x0 x1 xs = k0_pay3 x0 x1 xs := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero zero2]
  simp only [View.readAt_eq_ld, h3.read_unread, h4.read_unread, h6.read_unread, View.ld_unit_zero (S := S1024x1024) zero2]

theorem last_out (hc0 : ¬cond0_0 i) (hc1 : cond0_1 i) (hc2 : cond0_2 i) :
    out0_C_2 c i a3 h3 a4 h4 a5 h5 a6 h6 hc0 hc1 hc2 x0 x1 xs = k0_pay3 x0 x1 xs := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero zero2]
  simp only [View.readCov_unit_zero (S := S1024x1024) _ zero2, View.readAt_eq_ld, h3.read_unread, h4.read_unread, h6.read_unread, View.ld_unit_zero (S := S1024x1024) zero2]

end Cases

/-! ## Over the extended reals -/

theorem part (a b : ℕ → ℕ → EReal) :
    k0_pay1 (F := Ideal) (tab a) (tab b) = tab fun r x => ∑ k ∈ Finset.range 1024, a r k * b x k :=
  mxu_nt (φ₁ := .bf16) (φ₂ := .bf16) dot_S1024x1024_S1024x1024_S1024x1024_1_1_0_0_n_n _ rfl a b

variable (m : (ℓ : Loc nD τ sig) → Buf (Elt Ideal) ℓ) (c : Dev nD)

/-- The arguments' entries. -/
abbrev d : ℕ → ℕ → EReal := cell (m := 4096) (n := 4096) (m ((c : Thread nD τ).loc main_arg0))
abbrev w : ℕ → ℕ → EReal := cell (m := 1024) (n := 4096) (m ((c : Thread nD τ).loc main_arg1))

theorem index_a : ∀ t : Fin cfg0.N, win0_0.index t = ![t.val / 4, t.val % 4] :=
  (by decide +kernel : ∀ t : Fin grid0.N, _)
theorem index_b : ∀ t : Fin cfg0.N, win0_1.index t = ![0, t.val % 4] :=
  (by decide +kernel : ∀ t : Fin grid0.N, _)

theorem block_a (t : Fin cfg0.N) :
    (iblk m c 0 t : S1024x1024.Idx → EReal) = tab fun r k => d m c (1024 * (t.val / 4) + r) (1024 * (t.val % 4) + k) :=
  (funext fun j => View.read_apply ..).trans (block_read _ _ (win0_0.index t) _ _ (index_a t) fun j => ⟨rfl, rfl⟩)

theorem block_b (t : Fin cfg0.N) :
    (iblk m c 1 t : S1024x1024.Idx → EReal) = tab fun x k => w m c (1024 * 0 + x) (1024 * (t.val % 4) + k) :=
  (funext fun j => View.read_apply ..).trans (block_read _ _ (win0_1.index t) _ _ (index_b t) fun j => ⟨rfl, rfl⟩)

/-- The products an entry sums. -/
abbrev terms (r x k : ℕ) : EReal := d m c r k * w m c x k

theorem part_at (t : Fin cfg0.N) : k0_pay1 (F := Ideal) (iblk m c 0 t) (iblk m c 1 t)
    = tab fun r x => ∑ k ∈ Finset.range 1024, terms m c (1024 * (t.val / 4) + r) (1024 * 0 + x) (1024 * (t.val % 4) + k) := by
  rw [block_a, block_b, part]

theorem next (t : Fin cfg0.N) :
    k0_pay3 (F := Ideal) (iblk m c 0 t) (iblk m c 1 t) (tab fun r x => upTo (terms m c) (1024 * (t.val % 4)) (1024 * (t.val / 4) + r) (1024 * 0 + x))
      = tab fun r x => upTo (terms m c) (1024 * (t.val % 4 + 1)) (1024 * (t.val / 4) + r) (1024 * 0 + x) :=
  (shapeCast_self _ _).trans ((congrArg (addf (F := Ideal) _) (part_at m c t)).trans (next_part (terms m c) 1024 (t.val % 4) _ (1024 * 0)))

theorem start (t : Fin cfg0.N) (h0 : t.val % 4 = 0) :
    k0_pay2 (F := Ideal) (iblk m c 0 t) (iblk m c 1 t)
      = tab fun r x => upTo (terms m c) (1024 * (t.val % 4 + 1)) (1024 * (t.val / 4) + r) (1024 * 0 + x) := by
  refine (shapeCast_self _ _).trans ((part_at m c t).trans ?_)
  rw [h0]
  exact first_part (terms m c) 1024 _ (1024 * 0)

/-- What the scratch holds after a point, by what it held after the one before. -/
theorem acc_step (t : Fin cfg0.N)
    (ih : t.val % 4 ≠ 0 → (outsAt0 m c (t.val - 1) (Nat.lt_of_le_of_lt (Nat.sub_le _ _) t.isLt)).2
      = (tab fun r x => upTo (terms m c) (1024 * (t.val % 4)) (1024 * (t.val / 4) + r) (1024 * 0 + x) : S1024x1024.Idx → EReal)) :
    (outsAt0 m c t.val t.isLt).2
      = (tab fun r x => upTo (terms m c) (1024 * (t.val % 4 + 1)) (1024 * (t.val / 4) + r) (1024 * 0 + x) : S1024x1024.Idx → EReal) := by
  by_cases h0 : t.val % 4 = 0
  · rw [outsAt0_A m c t h0 (by omega) (by omega)]
    dsimp only
    rw [first_acc]
    exact start m c t h0
  · by_cases h2 : t.val % 4 = 3
    · rw [outsAt0_C m c t h0 (by omega) h2]
      dsimp only
      rw [last_acc, ih h0]
      exact next m c t
    · rw [outsAt0_B m c t h0 (by omega) h2]
      dsimp only
      rw [next_acc, ih h0]
      exact next m c t

/-- What the scratch holds after a point. -/
theorem acc (n : ℕ) : ∀ h : n < cfg0.N,
    (outsAt0 m c n h).2 = (tab fun r x => upTo (terms m c) (1024 * (n % 4 + 1)) (1024 * (n / 4) + r) (1024 * 0 + x) : S1024x1024.Idx → EReal) := by
  induction n using Nat.strong_induction_on with
  | _ n ih =>
    intro h
    refine acc_step m c ⟨n, h⟩ fun h0 => (ih (n - 1) (Nat.sub_lt (Nat.pos_of_ne_zero fun e => h0 (by subst e; rfl)) Nat.one_pos) _).trans ?_
    dsimp only at h0 ⊢
    rw [show (n - 1) % 4 + 1 = n % 4 by omega, show (n - 1) / 4 = n / 4 by omega]

/-- What the last point of a block writes. -/
theorem out (t : Fin cfg0.N) (h3 : t.val % 4 = 3) : (outsAt0 m c t.val t.isLt).1
    = (tab fun r x => upTo (terms m c) 4096 (1024 * (t.val / 4) + r) (1024 * 0 + x) : S1024x1024.Idx → EReal) := by
  rw [outsAt0_C m c t (by omega) (by omega) h3]
  dsimp only
  rw [last_out, acc m c (t.val - 1), show (t.val - 1) % 4 + 1 = t.val % 4 by omega, show (t.val - 1) / 4 = t.val / 4 by omega, next m c t, h3]

/-- The kernel's array: the whole product. -/
theorem result : G2 m c = (tab (upTo (terms m c) 4096) : S4096x1024.Idx → EReal) := by
  funext i
  have h0 : (i 0).val < 4096 := (i 0).isLt
  have h1 : (i 1).val < 1024 := (i 1).isLt
  have hp : pt2Of i = 4 * ((i 0).val / 1024) + 3 := by
    show 4 * (1 * ((i 0).val / 1024 - 0) + 1 * ((i 1).val / 1024 - 0)) + 3 = _; omega
  have hb : pt2Of i < cfg0.N := by rw [hp, show cfg0.N = 16 from N_0]; omega
  unfold G2
  rw [dif_pos hb, ← outsAt0_sweep m c (pt2Of i) hb, out m c ⟨pt2Of i, hb⟩ (by dsimp only; rw [hp]; omega)]
  show upTo (terms m c) 4096 (1024 * (pt2Of i / 4) + (i 0).val % 1024) (1024 * 0 + (i 1).val % 1024) = upTo (terms m c) 4096 (i 0).val (i 1).val
  congr 1 <;> omega

/-! ## The claims -/

theorem frame_p : Cert.quiescent_Kernel6 := fun m g _ => Cert.Kernel6.Gen.frame m g
theorem frame_pi : Cert.quiescent_Kernel6Ideal := fun m g _ => Cert.Kernel6Ideal.Gen.frame m g
theorem frame_ri : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem algebraic : Cert.algebraic_Kernel6Ideal_Reference6Ideal := by
  intro m g m' g' _ hargs
  refine ⟨_, run m g, (θ_run Cert.Reference6Ideal.defs _ _).mono (fun r h c => ?_) (Cert.Reference6Ideal.Value.run (F := Ideal) m' g')⟩
  obtain ⟨h7, hrest⟩ := h c
  obtain ⟨e0, e1⟩ := hargs c
  rw [e0, e1] at h7
  refine ⟨h7.trans (Eq.trans ?_ (result m c).symm), hrest⟩
  exact host_nt_whole _ _ rfl (m ((c : Thread nD τ).loc main_arg0)) (m ((c : Thread nD τ).loc main_arg1))

end Cert.Proof.GdnInDx

end
-- ==== Proof.Products.GdnInDw.lean ====
/-
  The gradient of the gated delta rule's input weights: the kernel's two partial products, one a half of the tokens, add up to
  the whole product.
-/
module

public import proofs.«01_k».proof.Defs
public import proofs.«01_k».proof.Proof.Product
public import proofs.«01_k».proof.Proof.Gen.Kernel7.Frame
public import proofs.«01_k».proof.Proof.Gen.Kernel7Ideal.Value
public import proofs.«01_k».proof.Proof.Gen.Reference7Ideal.Run
public import Idealize.ShloMosaic.Lib.Claim

@[expose] public section

noncomputable section

namespace Cert.Proof.GdnInDw

open Idealize.ShloMosaic Idealize.ShloMosaic.TcCoe Idealize.SL.Sem Cert.Proof.Owns Cert.Proof.Product
open Cert.Kernel7Ideal Cert.Kernel7Ideal.Gen Cert.Kernel7Ideal.Value

/-! ## What a point leaves -/

section Cases
variable {F : FTy → Type} [FloatOps F] (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x0 : Vec F S2048x1024 .bf16) (x1 : Vec F S2048x1024 .bf16) (xs : Vec F S1024x1024 .f32)

theorem first_acc (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero zero2]
  simp only [View.readAt_eq_ld, h3.read_unread, h4.read_unread, View.ld_unit_zero (S := S2048x1024) zero2]

theorem last_out (hc0 : ¬cond0_0 i) (hc1 : cond0_1 i) (hc2 : cond0_2 i) :
    out0_B_2 c i a3 h3 a4 h4 a5 h5 a6 h6 hc0 hc1 hc2 x0 x1 xs = k0_pay3 x0 x1 xs := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero zero2]
  simp only [View.readCov_unit_zero (S := S1024x1024) _ zero2, View.readAt_eq_ld, h3.read_unread, h4.read_unread, h6.read_unread,
    View.ld_unit_zero (S := S2048x1024) zero2, View.ld_unit_zero (S := S2048x1024) zero2, View.ld_unit_zero (S := S1024x1024) zero2]

end Cases

/-! ## Over the extended reals -/

theorem part (a b : ℕ → ℕ → EReal) :
    k0_pay1 (F := Ideal) (tab a) (tab b) = tab fun r x => ∑ k ∈ Finset.range 2048, a k r * b k x :=
  mxu_tn (φ₁ := .bf16) (φ₂ := .bf16) dot_S2048x1024_S2048x1024_S1024x1024_0_0_1_1_n_n _ rfl a b

variable (m : (ℓ : Loc nD τ sig) → Buf (Elt Ideal) ℓ) (c : Dev nD)

/-- The arguments' entries. -/
abbrev xs : ℕ → ℕ → EReal := cell (m := 4096) (n := 1024) (m ((c : Thread nD τ).loc main_arg0))
abbrev d : ℕ → ℕ → EReal := cell (m := 4096) (n := 4096) (m ((c : Thread nD τ).loc main_arg1))

/-- The products an entry sums. -/
abbrev terms (r x k : ℕ) : EReal := xs m c k r * d m c k x

theorem index_a : ∀ t : Fin cfg0.N, win0_0.index t = ![t.val % 2, 0] :=
  (by decide +kernel : ∀ t : Fin grid0.N, _)
theorem index_b : ∀ t : Fin cfg0.N, win0_1.index t = ![t.val % 2, t.val / 2] :=
  (by decide +kernel : ∀ t : Fin grid0.N, _)

theorem block_a (t : Fin cfg0.N) :
    (iblk m c 0 t : S2048x1024.Idx → EReal) = tab fun k r => xs m c (2048 * (t.val % 2) + k) (1024 * 0 + r) :=
  (funext fun j => View.read_apply ..).trans (block_read _ _ (win0_0.index t) _ _ (index_a t) fun j => ⟨rfl, rfl⟩)

theorem block_b (t : Fin cfg0.N) :
    (iblk m c 1 t : S2048x1024.Idx → EReal) = tab fun k x => d m c (2048 * (t.val % 2) + k) (1024 * (t.val / 2) + x) :=
  (funext fun j => View.read_apply ..).trans (block_read _ _ (win0_1.index t) _ _ (index_b t) fun j => ⟨rfl, rfl⟩)

theorem part_at (t : Fin cfg0.N) : k0_pay1 (F := Ideal) (iblk m c 0 t) (iblk m c 1 t)
    = tab fun r x => ∑ k ∈ Finset.range 2048, terms m c (1024 * 0 + r) (1024 * (t.val / 2) + x) (2048 * (t.val % 2) + k) := by
  rw [block_a, block_b, part]

theorem acc (t : Fin cfg0.N) (h0 : t.val % 2 = 0) : (outsAt0 m c t.val t.isLt).2
    = (tab fun r x => upTo (terms m c) (2048 * (0 + 1)) (1024 * 0 + r) (1024 * (t.val / 2) + x) : S1024x1024.Idx → EReal) := by
  rw [outsAt0_A m c t h0 (by omega) (by omega)]
  dsimp only
  rw [first_acc]
  refine (shapeCast_self _ _).trans ((part_at m c t).trans ?_)
  rw [h0]
  exact first_part (terms m c) 2048 (1024 * 0) _

/-- What the last point of a block writes. -/
theorem out (t : Fin cfg0.N) (h1 : t.val % 2 = 1) : (outsAt0 m c t.val t.isLt).1
    = (tab fun r x => upTo (terms m c) 4096 (1024 * 0 + r) (1024 * (t.val / 2) + x) : S1024x1024.Idx → EReal) := by
  rw [outsAt0_B m c t (by omega) h1 h1]
  dsimp only
  rw [last_out, acc m c ⟨t.val - 1, by omega⟩ (by dsimp only; omega), show (t.val - 1) / 2 = t.val / 2 by omega]
  refine (shapeCast_self _ _).trans ((congrArg (addf (F := Ideal) _) (part_at m c t)).trans ?_)
  rw [h1]
  exact next_part (terms m c) 2048 1 (1024 * 0) _

/-- The kernel's array: the whole product. -/
theorem result : G2 m c = (tab (upTo (terms m c) 4096) : S1024x4096.Idx → EReal) := by
  funext i
  have h0 : (i 0).val < 1024 := (i 0).isLt
  have h1 : (i 1).val < 4096 := (i 1).isLt
  have hp : pt2Of i = 2 * ((i 1).val / 1024) + 1 := by
    show 2 * (4 * ((i 0).val / 1024 - 0) + 1 * ((i 1).val / 1024 - 0)) + 1 = _; omega
  have hb : pt2Of i < cfg0.N := by rw [hp, show cfg0.N = 8 from N_0]; omega
  unfold G2
  rw [dif_pos hb, ← outsAt0_sweep m c (pt2Of i) hb, out m c ⟨pt2Of i, hb⟩ (by dsimp only; rw [hp]; omega)]
  show upTo (terms m c) 4096 (1024 * 0 + (i 0).val % 1024) (1024 * (pt2Of i / 2) + (i 1).val % 1024) = upTo (terms m c) 4096 (i 0).val (i 1).val
  congr 1 <;> omega

/-! ## The claims -/

theorem frame_p : Cert.quiescent_Kernel7 := fun m g _ => Cert.Kernel7.Gen.frame m g
theorem frame_pi : Cert.quiescent_Kernel7Ideal := fun m g _ => Cert.Kernel7Ideal.Gen.frame m g
theorem frame_ri : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem algebraic : Cert.algebraic_Kernel7Ideal_Reference7Ideal := by
  intro m g m' g' _ hargs
  refine ⟨_, run m g, (θ_run Cert.Reference7Ideal.defs _ _).mono (fun r h c => ?_) (Cert.Reference7Ideal.Value.run (F := Ideal) m' g')⟩
  obtain ⟨hres, hrest⟩ := h c
  obtain ⟨e0, e1⟩ := hargs c
  rw [e0, e1] at hres
  refine ⟨hres.trans (Eq.trans ?_ (result m c).symm), hrest⟩
  exact host_tn_turned _ _ rfl (m ((c : Thread nD τ).loc main_arg0)) (m ((c : Thread nD τ).loc main_arg1)) _

end Cert.Proof.GdnInDw

end
-- ==== Proof.Products.SquareDx.lean ====
/-
  The gradient of a square projection by its left factor, from a gradient kept in bf16.
-/
module

public import proofs.«01_k».proof.Defs
public import proofs.«01_k».proof.Proof.Product
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit
public import Idealize.ShloMosaic.Lib.Claim

@[expose] public section

noncomputable section

namespace Cert.Proof.SquareDx

open Idealize.ShloMosaic Idealize.ShloMosaic.TcCoe Idealize.SL.Sem Cert.Proof.Owns Cert.Proof.Product
open Cert.Kernel8Ideal Cert.Kernel8Ideal.Gen Cert.Kernel8Ideal.Value

theorem part (a b : ℕ → ℕ → EReal) :
    k0_pay1 (F := Ideal) (tab a) (tab b) = tab fun r x => ∑ k ∈ Finset.range 1024, a r k * b x k :=
  mxu_nt (φ₁ := .bf16) (φ₂ := .bf16) dot_S1024x1024_S1024x1024_S1024x1024_1_1_0_0_n_n _ rfl a b

variable (m : (ℓ : Loc nD τ sig) → Buf (Elt Ideal) ℓ) (c : Dev nD)

/-- The arguments' entries. -/
abbrev d : ℕ → ℕ → EReal := cell (m := 4096) (n := 1024) (m ((c : Thread nD τ).loc main_arg0))
abbrev w : ℕ → ℕ → EReal := cell (m := 1024) (n := 1024) (m ((c : Thread nD τ).loc main_arg1))

/-- The products an entry sums. -/
abbrev terms (r x k : ℕ) : EReal := d m c r k * w m c x k

theorem index_a : ∀ t : Fin cfg0.N, win0_0.index t = ![t.val, 0] := (by decide +kernel : ∀ t : Fin grid0.N, _)
theorem index_b : ∀ t : Fin cfg0.N, win0_1.index t = ![0, 0] := (by decide +kernel : ∀ t : Fin grid0.N, _)
theorem index_o : ∀ t : Fin cfg0.N, win0_2.index t = ![t.val, 0] := (by decide +kernel : ∀ t : Fin grid0.N, _)

theorem block_a (t : Fin cfg0.N) :
    (iblk m c 0 t : S1024x1024.Idx → EReal) = tab fun r k => d m c (1024 * t.val + r) (1024 * 0 + k) :=
  (funext fun j => View.read_apply ..).trans (block_read _ _ (win0_0.index t) _ _ (index_a t) fun j => ⟨rfl, rfl⟩)

theorem block_b (t : Fin cfg0.N) :
    (iblk m c 1 t : S1024x1024.Idx → EReal) = tab fun x k => w m c (1024 * 0 + x) (1024 * 0 + k) :=
  (funext fun j => View.read_apply ..).trans (block_read _ _ (win0_1.index t) _ _ (index_b t) fun j => ⟨rfl, rfl⟩)

/-- What a point leaves. -/
theorem out (t : Fin cfg0.N) : (out0_2 (iblk m c 0 t) (iblk m c 1 t) : S1024x1024.Idx → EReal)
    = tab fun r x => upTo (terms m c) 1024 (1024 * t.val + r) (1024 * 0 + x) := by
  unfold out0_2
  rw [View.canon_unit_zero zero2, View.ld_unit_zero (S := S1024x1024) zero2, View.ld_unit_zero (S := S1024x1024) zero2, block_a, block_b, part]
  exact tab_congr fun r _ x _ => Finset.sum_congr rfl fun k _ => by rw [Nat.mul_zero, Nat.zero_add, Nat.zero_add]

/-- The kernel's array: the whole product. -/
theorem result : (dats m 0 c).arrAt 2 cfg0.N = (tab (upTo (terms m c) 1024) : S4096x1024.Idx → EReal) := by
  refine (dats m 0 c).arrAt_eq_of_covers 2 _ (by decide +kernel) fun t _ y => ?_
  blk_simp
  rw [after0_2]
  exact block_write _ _ _ _ (win0_2.index t) _ _ (index_o t) (out m c t) ⟨rfl, rfl⟩

/-! ## The claims -/

theorem frame_p : Cert.quiescent_Kernel8 := fun m g _ => Cert.Kernel8.Gen.frame m g
theorem frame_pi : Cert.quiescent_Kernel8Ideal := fun m g _ => Cert.Kernel8Ideal.Gen.frame m g
theorem frame_ri : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

theorem algebraic : Cert.algebraic_Kernel8Ideal_Reference8Ideal := by
  intro m g m' g' _ hargs
  refine ⟨_, run_blocks m g, (θ_run Cert.Reference8Ideal.defs _ _).mono (fun r h c => ?_) (Cert.Reference8Ideal.Value.run (F := Ideal) m' g')⟩
  obtain ⟨hres, hrest⟩ := h c
  obtain ⟨e0, e1⟩ := hargs c
  rw [e0, e1] at hres
  refine ⟨hres.trans (Eq.trans ?_ (result m c).symm), hrest⟩
  exact host_nt_whole (φ₁ := .f32) (φ₂ := .f32) _ _ rfl (m ((c : Thread nD τ).loc main_arg0)) (m ((c : Thread nD τ).loc main_arg1))

end Cert.Proof.SquareDx

end
-- ==== Proof.Products.SquareDxF32.lean ====
/-
  The gradient of a square projection by its left factor, from a gradient kept in f32.
-/
module

public import proofs.«01_k».proof.Defs
public import proofs.«01_k».proof.Proof.Product
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.ValueKit
public import Idealize.ShloMosaic.Lib.Claim

@[expose] public section

noncomputable section

namespace Cert.Proof.SquareDxF32

open Idealize.ShloMosaic Idealize.ShloMosaic.TcCoe Idealize.SL.Sem Cert.Proof.Owns Cert.Proof.Product
open Cert.Kernel9Ideal Cert.Kernel9Ideal.Gen Cert.Kernel9Ideal.Value

theorem part (a b : ℕ → ℕ → EReal) :
    k0_pay1 (F := Ideal) (tab a) (tab b) = tab fun r x => ∑ k ∈ Finset.range 1024, a r k * b x k :=
  mxu_nt (φ₁ := .bf16) (φ₂ := .bf16) dot_S1024x1024_S1024x1024_S1024x1024_1_1_0_0_n_n _ rfl a b

variable (m : (ℓ : Loc nD τ sig) → Buf (Elt Ideal) ℓ) (c : Dev nD)

/-- The arguments' entries. -/
abbrev d : ℕ → ℕ → EReal := cell (m := 4096) (n := 1024) (m ((c : Thread nD τ).loc main_arg0))
abbrev w : ℕ → ℕ → EReal := cell (m := 1024) (n := 1024) (m ((c : Thread nD τ).loc main_arg1))

/-- The products an entry sums. -/
abbrev terms (r x k : ℕ) : EReal := d m c r k * w m c x k

theorem index_a : ∀ t : Fin cfg0.N, win0_0.index t = ![t.val, 0] := (by decide +kernel : ∀ t : Fin grid0.N, _)
theorem index_b : ∀ t : Fin cfg0.N, win0_1.index t = ![0, 0] := (by decide +kernel : ∀ t : Fin grid0.N, _)
theorem index_o : ∀ t : Fin cfg0.N, win0_2.index t = ![t.val, 0] := (by decide +kernel : ∀ t : Fin grid0.N, _)

theorem block_a (t : Fin cfg0.N) :
    (iblk m c 0 t : S1024x1024.Idx → EReal) = tab fun r k => d m c (1024 * t.val + r) (1024 * 0 + k) :=
  (funext fun j => View.read_apply ..).trans (block_read _ _ (win0_0.index t) _ _ (index_a t) fun j => ⟨rfl, rfl⟩)

theorem block_b (t : Fin cfg0.N) :
    (iblk m c 1 t : S1024x1024.Idx → EReal) = tab fun x k => w m c (1024 * 0 + x) (1024 * 0 + k) :=
  (funext fun j => View.read_apply ..).trans (block_read _ _ (win0_1.index t) _ _ (index_b t) fun j => ⟨rfl, rfl⟩)

/-- What a point leaves. -/
theorem out (t : Fin cfg0.N) : (out0_2 (iblk m c 0 t) (iblk m c 1 t) : S1024x1024.Idx → EReal)
    = tab fun r x => upTo (terms m c) 1024 (1024 * t.val + r) (1024 * 0 + x) := by
  unfold out0_2
  rw [View.canon_unit_zero zero2, View.ld_unit_zero (S := S1024x1024) zero2, View.ld_unit_zero (S := S1024x1024) zero2, block_a, block_b, part]
  exact tab_congr fun r _ x _ => Finset.sum_congr rfl fun k _ => by rw [Nat.mul_zero, Nat.zero_add, Nat.zero_add]

/-- The kernel's array: the whole product. -/
theorem result : (dats m 0 c).arrAt 2 cfg0.N = (tab (upTo (terms m c) 1024) : S4096x1024.Idx → EReal) := by
  refine (dats m 0 c).arrAt_eq_of_covers 2 _ (by decide +kernel) fun t _ y => ?_
  blk_simp
  rw [after0_2]
  exact block_write _ _ _ _ (win0_2.index t) _ _ (index_o t) (out m c t) ⟨rfl, rfl⟩

/-! ## The claims -/

theorem frame_p : Cert.quiescent_Kernel9 := fun m g _ => Cert.Kernel9.Gen.frame m g
theorem frame_pi : Cert.quiescent_Kernel9Ideal := fun m g _ => Cert.Kernel9Ideal.Gen.frame m g
theorem frame_ri : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

theorem algebraic : Cert.algebraic_Kernel9Ideal_Reference9Ideal := by
  intro m g m' g' _ hargs
  refine ⟨_, run_blocks m g, (θ_run Cert.Reference9Ideal.defs _ _).mono (fun r h c => ?_) (Cert.Reference9Ideal.Value.run (F := Ideal) m' g')⟩
  obtain ⟨hres, hrest⟩ := h c
  obtain ⟨e0, e1⟩ := hargs c
  rw [e0, e1] at hres
  refine ⟨hres.trans (Eq.trans ?_ (result m c).symm), hrest⟩
  exact host_nt_whole (φ₁ := .f32) (φ₂ := .f32) _ _ rfl (m ((c : Thread nD τ).loc main_arg0)) (m ((c : Thread nD τ).loc main_arg1))

end Cert.Proof.SquareDxF32

end
-- ==== Proof.Products.SquareDw.lean ====
/-
  The gradient of a square projection's weights, from a gradient kept in bf16: the kernel's two partial products, one a half of
  the tokens, add up to the whole product.
-/
module

public import proofs.«01_k».proof.Defs
public import proofs.«01_k».proof.Proof.Product
public import proofs.«01_k».proof.Proof.Gen.Kernel10.Frame
public import proofs.«01_k».proof.Proof.Gen.Kernel10Ideal.Value
public import proofs.«01_k».proof.Proof.Gen.Reference10Ideal.Run
public import Idealize.ShloMosaic.Lib.Claim

@[expose] public section

noncomputable section

namespace Cert.Proof.SquareDw

open Idealize.ShloMosaic Idealize.ShloMosaic.TcCoe Idealize.SL.Sem Cert.Proof.Owns Cert.Proof.Product
open Cert.Kernel10Ideal Cert.Kernel10Ideal.Gen Cert.Kernel10Ideal.Value

/-! ## What a point leaves -/

section Cases
variable {F : FTy → Type} [FloatOps F] (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x0 : Vec F S2048x1024 .bf16) (x1 : Vec F S2048x1024 .bf16) (xs : Vec F S1024x1024 .f32)

theorem first_acc (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero zero2]
  simp only [View.readAt_eq_ld, h3.read_unread, h4.read_unread, View.ld_unit_zero (S := S2048x1024) zero2]

theorem last_out (hc0 : ¬cond0_0 i) (hc1 : cond0_1 i) (hc2 : cond0_2 i) :
    out0_B_2 c i a3 h3 a4 h4 a5 h5 a6 h6 hc0 hc1 hc2 x0 x1 xs = k0_pay3 x0 x1 xs := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero zero2]
  simp only [View.readCov_unit_zero (S := S1024x1024) _ zero2, View.readAt_eq_ld, h3.read_unread, h4.read_unread, h6.read_unread,
    View.ld_unit_zero (S := S2048x1024) zero2, View.ld_unit_zero (S := S2048x1024) zero2, View.ld_unit_zero (S := S1024x1024) zero2]

end Cases

/-! ## Over the extended reals -/

theorem part (a b : ℕ → ℕ → EReal) :
    k0_pay1 (F := Ideal) (tab a) (tab b) = tab fun r x => ∑ k ∈ Finset.range 2048, a k r * b k x :=
  mxu_tn (φ₁ := .bf16) (φ₂ := .bf16) dot_S2048x1024_S2048x1024_S1024x1024_0_0_1_1_n_n _ rfl a b

variable (m : (ℓ : Loc nD τ sig) → Buf (Elt Ideal) ℓ) (c : Dev nD)

/-- The arguments' entries. -/
abbrev xs : ℕ → ℕ → EReal := cell (m := 4096) (n := 1024) (m ((c : Thread nD τ).loc main_arg0))
abbrev d : ℕ → ℕ → EReal := cell (m := 4096) (n := 1024) (m ((c : Thread nD τ).loc main_arg1))

/-- The products an entry sums. -/
abbrev terms (r x k : ℕ) : EReal := xs m c k r * d m c k x

theorem index_a : ∀ t : Fin cfg0.N, win0_0.index t = ![t.val % 2, t.val / 2] :=
  (by decide +kernel : ∀ t : Fin grid0.N, _)
theorem index_b : ∀ t : Fin cfg0.N, win0_1.index t = ![t.val % 2, 0] :=
  (by decide +kernel : ∀ t : Fin grid0.N, _)

theorem block_a (t : Fin cfg0.N) :
    (iblk m c 0 t : S2048x1024.Idx → EReal) = tab fun k r => xs m c (2048 * (t.val % 2) + k) (1024 * (t.val / 2) + r) :=
  (funext fun j => View.read_apply ..).trans (block_read _ _ (win0_0.index t) _ _ (index_a t) fun j => ⟨rfl, rfl⟩)

theorem block_b (t : Fin cfg0.N) :
    (iblk m c 1 t : S2048x1024.Idx → EReal) = tab fun k x => d m c (2048 * (t.val % 2) + k) (1024 * 0 + x) :=
  (funext fun j => View.read_apply ..).trans (block_read _ _ (win0_1.index t) _ _ (index_b t) fun j => ⟨rfl, rfl⟩)

theorem part_at (t : Fin cfg0.N) : k0_pay1 (F := Ideal) (iblk m c 0 t) (iblk m c 1 t)
    = tab fun r x => ∑ k ∈ Finset.range 2048, terms m c (1024 * (t.val / 2) + r) (1024 * 0 + x) (2048 * (t.val % 2) + k) := by
  rw [block_a, block_b, part]

theorem acc (t : Fin cfg0.N) (h0 : t.val % 2 = 0) : (outsAt0 m c t.val t.isLt).2
    = (tab fun r x => upTo (terms m c) (2048 * (0 + 1)) (1024 * (t.val / 2) + r) (1024 * 0 + x) : S1024x1024.Idx → EReal) := by
  rw [outsAt0_A m c t h0 (by omega) (by omega)]
  dsimp only
  rw [first_acc]
  refine (shapeCast_self _ _).trans ((part_at m c t).trans ?_)
  rw [h0]
  exact first_part (terms m c) 2048 _ (1024 * 0)

/-- What the last point of a block writes. -/
theorem out (t : Fin cfg0.N) (h1 : t.val % 2 = 1) : (outsAt0 m c t.val t.isLt).1
    = (tab fun r x => upTo (terms m c) 4096 (1024 * (t.val / 2) + r) (1024 * 0 + x) : S1024x1024.Idx → EReal) := by
  rw [outsAt0_B m c t (by omega) h1 h1]
  dsimp only
  rw [last_out, acc m c ⟨t.val - 1, by omega⟩ (by dsimp only; omega), show (t.val - 1) / 2 = t.val / 2 by omega]
  refine (shapeCast_self _ _).trans ((congrArg (addf (F := Ideal) _) (part_at m c t)).trans ?_)
  rw [h1]
  exact next_part (terms m c) 2048 1 _ (1024 * 0)

/-- The kernel's array: the whole product. -/
theorem result : G2 m c = (tab (upTo (terms m c) 4096) : S1024x1024.Idx → EReal) := by
  funext i
  have h0 : (i 0).val < 1024 := (i 0).isLt
  have h1 : (i 1).val < 1024 := (i 1).isLt
  have hp : pt2Of i = 2 * ((i 0).val / 1024) + 1 := by
    show 2 * (1 * ((i 0).val / 1024 - 0) + 1 * ((i 1).val / 1024 - 0)) + 1 = _; omega
  have hb : pt2Of i < cfg0.N := by rw [hp, show cfg0.N = 2 from N_0]; omega
  unfold G2
  rw [dif_pos hb, ← outsAt0_sweep m c (pt2Of i) hb, out m c ⟨pt2Of i, hb⟩ (by dsimp only; rw [hp]; omega)]
  show upTo (terms m c) 4096 (1024 * (pt2Of i / 2) + (i 0).val % 1024) (1024 * 0 + (i 1).val % 1024) = upTo (terms m c) 4096 (i 0).val (i 1).val
  congr 1 <;> omega

/-! ## The claims -/

theorem frame_p : Cert.quiescent_Kernel10 := fun m g _ => Cert.Kernel10.Gen.frame m g
theorem frame_pi : Cert.quiescent_Kernel10Ideal := fun m g _ => Cert.Kernel10Ideal.Gen.frame m g
theorem frame_ri : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

theorem algebraic : Cert.algebraic_Kernel10Ideal_Reference10Ideal := by
  intro m g m' g' _ hargs
  refine ⟨_, run m g, (θ_run Cert.Reference10Ideal.defs _ _).mono (fun r h c => ?_) (Cert.Reference10Ideal.Value.run (F := Ideal) m' g')⟩
  obtain ⟨hres, hrest⟩ := h c
  obtain ⟨e0, e1⟩ := hargs c
  rw [e0, e1] at hres
  refine ⟨hres.trans (Eq.trans ?_ (result m c).symm), hrest⟩
  exact host_tn_turned _ _ rfl (m ((c : Thread nD τ).loc main_arg0)) (m ((c : Thread nD τ).loc main_arg1)) _

end Cert.Proof.SquareDw

end
-- ==== Proof.Products.SquareDwF32.lean ====
/-
  The gradient of a square projection's weights, from a gradient kept in f32: the kernel's two partial products, one a half of
  the tokens, add up to the whole product.
-/
module

public import proofs.«01_k».proof.Defs
public import proofs.«01_k».proof.Proof.Product
public import proofs.«01_k».proof.Proof.Gen.Kernel11.Frame
public import proofs.«01_k».proof.Proof.Gen.Kernel11Ideal.Value
public import proofs.«01_k».proof.Proof.Gen.Reference11Ideal.Run
public import Idealize.ShloMosaic.Lib.Claim

@[expose] public section

noncomputable section

namespace Cert.Proof.SquareDwF32

open Idealize.ShloMosaic Idealize.ShloMosaic.TcCoe Idealize.SL.Sem Cert.Proof.Owns Cert.Proof.Product
open Cert.Kernel11Ideal Cert.Kernel11Ideal.Gen Cert.Kernel11Ideal.Value

/-! ## What a point leaves -/

section Cases
variable {F : FTy → Type} [FloatOps F] (c : Dev nD) (i : grid0.Coords)
  (a3 : Memref sig .tc .vmem S2048x1024 .bf16) (h3 : a3.IsWhole) (a4 : Memref sig .tc .vmem S2048x1024 .f32) (h4 : a4.IsWhole)
  (a5 : Memref sig .tc .vmem S1024x1024 .f32) (h5 : a5.IsWhole) (a6 : Memref sig .tc .vmem S1024x1024 .f32) (h6 : a6.IsWhole)
  (x0 : Vec F S2048x1024 .bf16) (x1 : Vec F S2048x1024 .f32) (xs : Vec F S1024x1024 .f32)

theorem first_acc (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero zero2]
  simp only [View.readAt_eq_ld, h3.read_unread, h4.read_unread, View.ld_unit_zero (S := S2048x1024) zero2]

theorem last_out (hc0 : ¬cond0_0 i) (hc1 : cond0_1 i) (hc2 : cond0_2 i) :
    out0_B_2 c i a3 h3 a4 h4 a5 h5 a6 h6 hc0 hc1 hc2 x0 x1 xs = k0_pay3 x0 x1 xs := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero zero2]
  simp only [View.readCov_unit_zero (S := S1024x1024) _ zero2, View.readAt_eq_ld, h3.read_unread, h4.read_unread, h6.read_unread,
    View.ld_unit_zero (S := S2048x1024) zero2, View.ld_unit_zero (S := S2048x1024) zero2, View.ld_unit_zero (S := S1024x1024) zero2]

end Cases

/-! ## Over the extended reals -/

theorem part (a b : ℕ → ℕ → EReal) :
    k0_pay1 (F := Ideal) (tab a) (tab b) = tab fun r x => ∑ k ∈ Finset.range 2048, a k r * b k x :=
  mxu_tn (φ₁ := .bf16) (φ₂ := .bf16) dot_S2048x1024_S2048x1024_S1024x1024_0_0_1_1_n_n _ rfl a b

variable (m : (ℓ : Loc nD τ sig) → Buf (Elt Ideal) ℓ) (c : Dev nD)

/-- The arguments' entries. -/
abbrev xs : ℕ → ℕ → EReal := cell (m := 4096) (n := 1024) (m ((c : Thread nD τ).loc main_arg0))
abbrev d : ℕ → ℕ → EReal := cell (m := 4096) (n := 1024) (m ((c : Thread nD τ).loc main_arg1))

/-- The products an entry sums. -/
abbrev terms (r x k : ℕ) : EReal := xs m c k r * d m c k x

theorem index_a : ∀ t : Fin cfg0.N, win0_0.index t = ![t.val % 2, t.val / 2] :=
  (by decide +kernel : ∀ t : Fin grid0.N, _)
theorem index_b : ∀ t : Fin cfg0.N, win0_1.index t = ![t.val % 2, 0] :=
  (by decide +kernel : ∀ t : Fin grid0.N, _)

theorem block_a (t : Fin cfg0.N) :
    (iblk m c 0 t : S2048x1024.Idx → EReal) = tab fun k r => xs m c (2048 * (t.val % 2) + k) (1024 * (t.val / 2) + r) :=
  (funext fun j => View.read_apply ..).trans (block_read _ _ (win0_0.index t) _ _ (index_a t) fun j => ⟨rfl, rfl⟩)

theorem block_b (t : Fin cfg0.N) :
    (iblk m c 1 t : S2048x1024.Idx → EReal) = tab fun k x => d m c (2048 * (t.val % 2) + k) (1024 * 0 + x) :=
  (funext fun j => View.read_apply ..).trans (block_read _ _ (win0_1.index t) _ _ (index_b t) fun j => ⟨rfl, rfl⟩)

theorem part_at (t : Fin cfg0.N) : k0_pay1 (F := Ideal) (iblk m c 0 t) (iblk m c 1 t)
    = tab fun r x => ∑ k ∈ Finset.range 2048, terms m c (1024 * (t.val / 2) + r) (1024 * 0 + x) (2048 * (t.val % 2) + k) := by
  rw [block_a, block_b, part]

theorem acc (t : Fin cfg0.N) (h0 : t.val % 2 = 0) : (outsAt0 m c t.val t.isLt).2
    = (tab fun r x => upTo (terms m c) (2048 * (0 + 1)) (1024 * (t.val / 2) + r) (1024 * 0 + x) : S1024x1024.Idx → EReal) := by
  rw [outsAt0_A m c t h0 (by omega) (by omega)]
  dsimp only
  rw [first_acc]
  refine (shapeCast_self _ _).trans ((part_at m c t).trans ?_)
  rw [h0]
  exact first_part (terms m c) 2048 _ (1024 * 0)

/-- What the last point of a block writes. -/
theorem out (t : Fin cfg0.N) (h1 : t.val % 2 = 1) : (outsAt0 m c t.val t.isLt).1
    = (tab fun r x => upTo (terms m c) 4096 (1024 * (t.val / 2) + r) (1024 * 0 + x) : S1024x1024.Idx → EReal) := by
  rw [outsAt0_B m c t (by omega) h1 h1]
  dsimp only
  rw [last_out, acc m c ⟨t.val - 1, by omega⟩ (by dsimp only; omega), show (t.val - 1) / 2 = t.val / 2 by omega]
  refine (shapeCast_self _ _).trans ((congrArg (addf (F := Ideal) _) (part_at m c t)).trans ?_)
  rw [h1]
  exact next_part (terms m c) 2048 1 _ (1024 * 0)

/-- The kernel's array: the whole product. -/
theorem result : G2 m c = (tab (upTo (terms m c) 4096) : S1024x1024.Idx → EReal) := by
  funext i
  have h0 : (i 0).val < 1024 := (i 0).isLt
  have h1 : (i 1).val < 1024 := (i 1).isLt
  have hp : pt2Of i = 2 * ((i 0).val / 1024) + 1 := by
    show 2 * (1 * ((i 0).val / 1024 - 0) + 1 * ((i 1).val / 1024 - 0)) + 1 = _; omega
  have hb : pt2Of i < cfg0.N := by rw [hp, show cfg0.N = 2 from N_0]; omega
  unfold G2
  rw [dif_pos hb, ← outsAt0_sweep m c (pt2Of i) hb, out m c ⟨pt2Of i, hb⟩ (by dsimp only; rw [hp]; omega)]
  show upTo (terms m c) 4096 (1024 * (pt2Of i / 2) + (i 0).val % 1024) (1024 * 0 + (i 1).val % 1024) = upTo (terms m c) 4096 (i 0).val (i 1).val
  congr 1 <;> omega

/-! ## The claims -/

theorem frame_p : Cert.quiescent_Kernel11 := fun m g _ => Cert.Kernel11.Gen.frame m g
theorem frame_pi : Cert.quiescent_Kernel11Ideal := fun m g _ => Cert.Kernel11Ideal.Gen.frame m g
theorem frame_ri : Cert.quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)

theorem algebraic : Cert.algebraic_Kernel11Ideal_Reference11Ideal := by
  intro m g m' g' _ hargs
  refine ⟨_, run m g, (θ_run Cert.Reference11Ideal.defs _ _).mono (fun r h c => ?_) (Cert.Reference11Ideal.Value.run (F := Ideal) m' g')⟩
  obtain ⟨hres, hrest⟩ := h c
  obtain ⟨e0, e1⟩ := hargs c
  rw [e0, e1] at hres
  refine ⟨hres.trans (Eq.trans ?_ (result m c).symm), hrest⟩
  exact host_tn_turned _ _ rfl (m ((c : Thread nD τ).loc main_arg0)) (m ((c : Thread nD τ).loc main_arg1)) _

end Cert.Proof.SquareDwF32

end
-- ==== Proof.Products.SbOutDx.lean ====
/-
  The gradient of the sigmoid attention's output product by its left factor.
-/
module

public import proofs.«01_k».proof.Defs
public import proofs.«01_k».proof.Proof.Product
public import proofs.«01_k».proof.Proof.Gen.Kernel12.Frame
public import proofs.«01_k».proof.Proof.Gen.Kernel12Ideal.Value
public import proofs.«01_k».proof.Proof.Gen.Reference12Ideal.Run
public import Idealize.ShloMosaic.Lib.Pipeline.ValueKit
public import Idealize.ShloMosaic.Lib.Claim

@[expose] public section

noncomputable section

namespace Cert.Proof.SbOutDx

open Idealize.ShloMosaic Idealize.ShloMosaic.TcCoe Idealize.SL.Sem Cert.Proof.Owns Cert.Proof.Product
open Cert.Kernel12Ideal Cert.Kernel12Ideal.Gen Cert.Kernel12Ideal.Value

theorem part (a b : ℕ → ℕ → EReal) :
    k0_pay1 (F := Ideal) (tab a) (tab b) = tab fun r x => ∑ k ∈ Finset.range 1024, a r k * b x k :=
  mxu_nt (φ₁ := .bf16) (φ₂ := .bf16) dot_S1024x1024_S1024x1024_S1024x1024_1_1_0_0_n_n _ rfl a b

variable (m : (ℓ : Loc nD τ sig) → Buf (Elt Ideal) ℓ) (c : Dev nD)

/-- The arguments' entries. -/
abbrev d : ℕ → ℕ → EReal := cell (m := 4096) (n := 1024) (m ((c : Thread nD τ).loc main_arg0))
abbrev w : ℕ → ℕ → EReal := cell (m := 1024) (n := 1024) (m ((c : Thread nD τ).loc main_arg1))

/-- The products an entry sums. -/
abbrev terms (r x k : ℕ) : EReal := d m c r k * w m c x k

theorem index_a : ∀ t : Fin cfg0.N, win0_0.index t = ![t.val, 0] := (by decide +kernel : ∀ t : Fin grid0.N, _)
theorem index_b : ∀ t : Fin cfg0.N, win0_1.index t = ![0, 0] := (by decide +kernel : ∀ t : Fin grid0.N, _)
theorem index_o : ∀ t : Fin cfg0.N, win0_2.index t = ![t.val, 0] := (by decide +kernel : ∀ t : Fin grid0.N, _)

theorem block_a (t : Fin cfg0.N) :
    (iblk m c 0 t : S1024x1024.Idx → EReal) = tab fun r k => d m c (1024 * t.val + r) (1024 * 0 + k) :=
  (funext fun j => View.read_apply ..).trans (block_read _ _ (win0_0.index t) _ _ (index_a t) fun j => ⟨rfl, rfl⟩)

theorem block_b (t : Fin cfg0.N) :
    (iblk m c 1 t : S1024x1024.Idx → EReal) = tab fun x k => w m c (1024 * 0 + x) (1024 * 0 + k) :=
  (funext fun j => View.read_apply ..).trans (block_read _ _ (win0_1.index t) _ _ (index_b t) fun j => ⟨rfl, rfl⟩)

/-- What a point leaves. -/
theorem out (t : Fin cfg0.N) : (out0_2 (iblk m c 0 t) (iblk m c 1 t) : S1024x1024.Idx → EReal)
    = tab fun r x => upTo (terms m c) 1024 (1024 * t.val + r) (1024 * 0 + x) := by
  unfold out0_2
  rw [View.canon_unit_zero zero2, View.ld_unit_zero (S := S1024x1024) zero2, View.ld_unit_zero (S := S1024x1024) zero2, block_a, block_b, part]
  exact tab_congr fun r _ x _ => Finset.sum_congr rfl fun k _ => by rw [Nat.mul_zero, Nat.zero_add, Nat.zero_add]

/-- The kernel's array: the whole product. -/
theorem result : (dats m 0 c).arrAt 2 cfg0.N = (tab (upTo (terms m c) 1024) : S4096x1024.Idx → EReal) := by
  refine (dats m 0 c).arrAt_eq_of_covers 2 _ (by decide +kernel) fun t _ y => ?_
  blk_simp
  rw [after0_2]
  exact block_write _ _ _ _ (win0_2.index t) _ _ (index_o t) (out m c t) ⟨rfl, rfl⟩

/-! ## The claims -/

theorem frame_p : Cert.quiescent_Kernel12 := fun m g _ => Cert.Kernel12.Gen.frame m g
theorem frame_pi : Cert.quiescent_Kernel12Ideal := fun m g _ => Cert.Kernel12Ideal.Gen.frame m g
theorem frame_ri : Cert.quiescent_Reference12Ideal := fun m g _ =>
  (θ_run Cert.Reference12Ideal.defs _ _).mono (fun r h => ⟨fun c => (h c).2, sem_eq_zero_of_no_sems (by decide) r.2⟩)
    (Cert.Reference12Ideal.Value.run (F := Ideal) m g)

theorem algebraic : Cert.algebraic_Kernel12Ideal_Reference12Ideal := by
  intro m g m' g' _ hargs
  refine ⟨_, run_blocks m g, (θ_run Cert.Reference12Ideal.defs _ _).mono (fun r h c => ?_) (Cert.Reference12Ideal.Value.run (F := Ideal) m' g')⟩
  obtain ⟨hres, hrest⟩ := h c
  obtain ⟨e0, e1⟩ := hargs c
  rw [e0, e1] at hres
  refine ⟨hres.trans (Eq.trans ?_ (result m c).symm), hrest⟩
  exact host_nt_whole (φ₁ := .f32) (φ₂ := .f32) _ _ rfl (m ((c : Thread nD τ).loc main_arg0)) (m ((c : Thread nD τ).loc main_arg1))

end Cert.Proof.SbOutDx

end
-- ==== Proof.Products.KvDx.lean ====
/-
  The gradient of the rows that keys and values were projected from: the products with the two halves of the key and value
  columns add up to the whole product.
-/
module

public import proofs.«01_k».proof.Defs
public import proofs.«01_k».proof.Proof.Product
public import proofs.«01_k».proof.Proof.Gen.Kernel13.Frame
public import proofs.«01_k».proof.Proof.Gen.Kernel13Ideal.Value
public import proofs.«01_k».proof.Proof.Gen.Reference13Ideal.Run
public import Idealize.ShloMosaic.Lib.Claim

@[expose] public section

noncomputable section

namespace Cert.Proof.KvDx

open Idealize.ShloMosaic Idealize.ShloMosaic.TcCoe Idealize.SL.Sem Cert.Proof.Owns Cert.Proof.Product
open Cert.Kernel13Ideal Cert.Kernel13Ideal.Gen Cert.Kernel13Ideal.Value

/-! ## What a point leaves -/

section Cases
variable {F : FTy → Type} [FloatOps F] (c : Dev nD) (i : grid0.Coords)
  (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole) (a6 : Memref sig .tc .vmem S1024x1024 .f32) (h6 : a6.IsWhole)
  (x0 : Vec F S1024x1024 .bf16) (x1 : Vec F S1024x1024 .bf16) (xs : Vec F S1024x1024 .f32)

theorem first_acc (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero zero2]
  simp only [View.readAt_eq_ld, h3.read_unread, h4.read_unread, View.ld_unit_zero (S := S1024x1024) zero2]

theorem last_out (hc0 : ¬cond0_0 i) (hc1 : cond0_1 i) (hc2 : cond0_2 i) :
    out0_B_2 c i a3 h3 a4 h4 a5 h5 a6 h6 hc0 hc1 hc2 x0 x1 xs = k0_pay3 x0 x1 xs := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero zero2]
  simp only [View.readCov_unit_zero (S := S1024x1024) _ zero2, View.readAt_eq_ld, h3.read_unread, h4.read_unread, h6.read_unread,
    View.ld_unit_zero (S := S1024x1024) zero2]

end Cases

/-! ## Over the extended reals -/

theorem part (a b : ℕ → ℕ → EReal) :
    k0_pay1 (F := Ideal) (tab a) (tab b) = tab fun r x => ∑ k ∈ Finset.range 1024, a r k * b x k :=
  mxu_nt (φ₁ := .bf16) (φ₂ := .bf16) dot_S1024x1024_S1024x1024_S1024x1024_1_1_0_0_n_n _ rfl a b

variable (m : (ℓ : Loc nD τ sig) → Buf (Elt Ideal) ℓ) (c : Dev nD)

/-- The arguments' entries. -/
abbrev d : ℕ → ℕ → EReal := cell (m := 4096) (n := 2048) (m ((c : Thread nD τ).loc main_arg0))
abbrev w : ℕ → ℕ → EReal := cell (m := 1024) (n := 2048) (m ((c : Thread nD τ).loc main_arg1))

/-- The products an entry sums. -/
abbrev terms (r x k : ℕ) : EReal := d m c r k * w m c x k

theorem index_a : ∀ t : Fin cfg0.N, win0_0.index t = ![t.val / 2, t.val % 2] := (by decide +kernel : ∀ t : Fin grid0.N, _)
theorem index_b : ∀ t : Fin cfg0.N, win0_1.index t = ![0, t.val % 2] := (by decide +kernel : ∀ t : Fin grid0.N, _)

theorem block_a (t : Fin cfg0.N) :
    (iblk m c 0 t : S1024x1024.Idx → EReal) = tab fun r k => d m c (1024 * (t.val / 2) + r) (1024 * (t.val % 2) + k) :=
  (funext fun j => View.read_apply ..).trans (block_read _ _ (win0_0.index t) _ _ (index_a t) fun j => ⟨rfl, rfl⟩)
theorem block_b (t : Fin cfg0.N) :
    (iblk m c 1 t : S1024x1024.Idx → EReal) = tab fun x k => w m c (1024 * 0 + x) (1024 * (t.val % 2) + k) :=
  (funext fun j => View.read_apply ..).trans (block_read _ _ (win0_1.index t) _ _ (index_b t) fun j => ⟨rfl, rfl⟩)

theorem part_at (t : Fin cfg0.N) : k0_pay1 (F := Ideal) (iblk m c 0 t) (iblk m c 1 t)
    = tab fun r x => ∑ k ∈ Finset.range 1024, terms m c (1024 * (t.val / 2) + r) (1024 * 0 + x) (1024 * (t.val % 2) + k) := by
  rw [block_a, block_b, part]

theorem acc (t : Fin cfg0.N) (h0 : t.val % 2 = 0) : (outsAt0 m c t.val t.isLt).2
    = (tab fun r x => upTo (terms m c) (1024 * (0 + 1)) (1024 * (t.val / 2) + r) (1024 * 0 + x) : S1024x1024.Idx → EReal) := by
  rw [outsAt0_A m c t h0 (by omega) (by omega)]
  dsimp only
  rw [first_acc]
  refine (shapeCast_self _ _).trans ((part_at m c t).trans ?_)
  rw [h0]
  exact first_part (terms m c) 1024 _ (1024 * 0)

/-- What the last point of a block of rows writes. -/
theorem out (t : Fin cfg0.N) (h1 : t.val % 2 = 1) : (outsAt0 m c t.val t.isLt).1
    = (tab fun r x => upTo (terms m c) 2048 (1024 * (t.val / 2) + r) (1024 * 0 + x) : S1024x1024.Idx → EReal) := by
  rw [outsAt0_B m c t (by omega) h1 h1]
  dsimp only
  rw [last_out, acc m c ⟨t.val - 1, by omega⟩ (by dsimp only; omega), show (t.val - 1) / 2 = t.val / 2 by omega]
  refine (shapeCast_self _ _).trans ((congrArg (addf (F := Ideal) _) (part_at m c t)).trans ?_)
  rw [h1]
  exact next_part (terms m c) 1024 1 _ (1024 * 0)

/-- The kernel's array: the whole product. -/
theorem result : G2 m c = (tab (upTo (terms m c) 2048) : S4096x1024.Idx → EReal) := by
  funext i
  have h0 : (i 0).val < 4096 := (i 0).isLt
  have h1 : (i 1).val < 1024 := (i 1).isLt
  have hp : pt2Of i = 2 * ((i 0).val / 1024) + 1 := by
    show 2 * (1 * ((i 0).val / 1024 - 0) + 1 * ((i 1).val / 1024 - 0)) + 1 = _; omega
  have hb : pt2Of i < cfg0.N := by rw [hp, show cfg0.N = 8 from N_0]; omega
  unfold G2
  rw [dif_pos hb, ← outsAt0_sweep m c (pt2Of i) hb, out m c ⟨pt2Of i, hb⟩ (by dsimp only; rw [hp]; omega)]
  show upTo (terms m c) 2048 (1024 * (pt2Of i / 2) + (i 0).val % 1024) (1024 * 0 + (i 1).val % 1024) = upTo (terms m c) 2048 (i 0).val (i 1).val
  congr 1 <;> omega

/-! ## The claims -/

theorem frame_p : Cert.quiescent_Kernel13 := fun m g _ => Cert.Kernel13.Gen.frame m g
theorem frame_pi : Cert.quiescent_Kernel13Ideal := fun m g _ => Cert.Kernel13Ideal.Gen.frame m g
theorem frame_ri : Cert.quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)

theorem algebraic : Cert.algebraic_Kernel13Ideal_Reference13Ideal := by
  intro m g m' g' _ hargs
  refine ⟨_, run m g, (θ_run Cert.Reference13Ideal.defs _ _).mono (fun r h c => ?_) (Cert.Reference13Ideal.Value.run (F := Ideal) m' g')⟩
  obtain ⟨hres, hrest⟩ := h c
  obtain ⟨e0, e1⟩ := hargs c
  rw [e0, e1] at hres
  refine ⟨hres.trans (Eq.trans ?_ (result m c).symm), hrest⟩
  exact host_nt_whole (φ₁ := .f32) (φ₂ := .f32) _ _ rfl (m ((c : Thread nD τ).loc main_arg0)) (m ((c : Thread nD τ).loc main_arg1))

end Cert.Proof.KvDx

end
-- ==== Proof.Products.KvDw.lean ====
/-
  The gradient of the key and value weights: two column blocks, each the sum of two halves of the tokens.
-/
module

public import proofs.«01_k».proof.Defs
public import proofs.«01_k».proof.Proof.Product
public import proofs.«01_k».proof.Proof.Gen.Kernel14.Frame
public import proofs.«01_k».proof.Proof.Gen.Kernel14Ideal.Value
public import proofs.«01_k».proof.Proof.Gen.Reference14Ideal.Run
public import Idealize.ShloMosaic.Lib.Claim

@[expose] public section

noncomputable section

namespace Cert.Proof.KvDw

open Idealize.ShloMosaic Idealize.ShloMosaic.TcCoe Idealize.SL.Sem Cert.Proof.Owns Cert.Proof.Product
open Cert.Kernel14Ideal Cert.Kernel14Ideal.Gen Cert.Kernel14Ideal.Value

/-! ## What a point leaves -/

section Cases
variable {F : FTy → Type} [FloatOps F] (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x0 : Vec F S2048x1024 .bf16) (x1 : Vec F S2048x1024 .bf16) (xs : Vec F S1024x1024 .f32)

theorem first_acc (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero zero2]
  simp only [View.readAt_eq_ld, h3.read_unread, h4.read_unread, View.ld_unit_zero (S := S2048x1024) zero2]

theorem last_out (hc0 : ¬cond0_0 i) (hc1 : cond0_1 i) (hc2 : cond0_2 i) :
    out0_B_2 c i a3 h3 a4 h4 a5 h5 a6 h6 hc0 hc1 hc2 x0 x1 xs = k0_pay3 x0 x1 xs := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero zero2]
  simp only [View.readCov_unit_zero (S := S1024x1024) _ zero2, View.readAt_eq_ld, h3.read_unread, h4.read_unread, h6.read_unread,
    View.ld_unit_zero (S := S2048x1024) zero2, View.ld_unit_zero (S := S2048x1024) zero2, View.ld_unit_zero (S := S1024x1024) zero2]

end Cases

/-! ## Over the extended reals -/

theorem part (a b : ℕ → ℕ → EReal) :
    k0_pay1 (F := Ideal) (tab a) (tab b) = tab fun r x => ∑ k ∈ Finset.range 2048, a k r * b k x :=
  mxu_tn (φ₁ := .bf16) (φ₂ := .bf16) dot_S2048x1024_S2048x1024_S1024x1024_0_0_1_1_n_n _ rfl a b

variable (m : (ℓ : Loc nD τ sig) → Buf (Elt Ideal) ℓ) (c : Dev nD)

/-- The arguments' entries. -/
abbrev xs : ℕ → ℕ → EReal := cell (m := 4096) (n := 1024) (m ((c : Thread nD τ).loc main_arg0))
abbrev d : ℕ → ℕ → EReal := cell (m := 4096) (n := 2048) (m ((c : Thread nD τ).loc main_arg1))

/-- The products an entry sums. -/
abbrev terms (r x k : ℕ) : EReal := xs m c k r * d m c k x

theorem index_a : ∀ t : Fin cfg0.N, win0_0.index t = ![t.val % 2, 0] :=
  (by decide +kernel : ∀ t : Fin grid0.N, _)
theorem index_b : ∀ t : Fin cfg0.N, win0_1.index t = ![t.val % 2, t.val / 2] :=
  (by decide +kernel : ∀ t : Fin grid0.N, _)

theorem block_a (t : Fin cfg0.N) :
    (iblk m c 0 t : S2048x1024.Idx → EReal) = tab fun k r => xs m c (2048 * (t.val % 2) + k) (1024 * 0 + r) :=
  (funext fun j => View.read_apply ..).trans (block_read _ _ (win0_0.index t) _ _ (index_a t) fun j => ⟨rfl, rfl⟩)

theorem block_b (t : Fin cfg0.N) :
    (iblk m c 1 t : S2048x1024.Idx → EReal) = tab fun k x => d m c (2048 * (t.val % 2) + k) (1024 * (t.val / 2) + x) :=
  (funext fun j => View.read_apply ..).trans (block_read _ _ (win0_1.index t) _ _ (index_b t) fun j => ⟨rfl, rfl⟩)

theorem part_at (t : Fin cfg0.N) : k0_pay1 (F := Ideal) (iblk m c 0 t) (iblk m c 1 t)
    = tab fun r x => ∑ k ∈ Finset.range 2048, terms m c (1024 * 0 + r) (1024 * (t.val / 2) + x) (2048 * (t.val % 2) + k) := by
  rw [block_a, block_b, part]

theorem acc (t : Fin cfg0.N) (h0 : t.val % 2 = 0) : (outsAt0 m c t.val t.isLt).2
    = (tab fun r x => upTo (terms m c) (2048 * (0 + 1)) (1024 * 0 + r) (1024 * (t.val / 2) + x) : S1024x1024.Idx → EReal) := by
  rw [outsAt0_A m c t h0 (by omega) (by omega)]
  dsimp only
  rw [first_acc]
  refine (shapeCast_self _ _).trans ((part_at m c t).trans ?_)
  rw [h0]
  exact first_part (terms m c) 2048 (1024 * 0) _

/-- What the last point of a block writes. -/
theorem out (t : Fin cfg0.N) (h1 : t.val % 2 = 1) : (outsAt0 m c t.val t.isLt).1
    = (tab fun r x => upTo (terms m c) 4096 (1024 * 0 + r) (1024 * (t.val / 2) + x) : S1024x1024.Idx → EReal) := by
  rw [outsAt0_B m c t (by omega) h1 h1]
  dsimp only
  rw [last_out, acc m c ⟨t.val - 1, by omega⟩ (by dsimp only; omega), show (t.val - 1) / 2 = t.val / 2 by omega]
  refine (shapeCast_self _ _).trans ((congrArg (addf (F := Ideal) _) (part_at m c t)).trans ?_)
  rw [h1]
  exact next_part (terms m c) 2048 1 (1024 * 0) _

/-- The kernel's array: the whole product. -/
theorem result : G2 m c = (tab (upTo (terms m c) 4096) : S1024x2048.Idx → EReal) := by
  funext i
  have h0 : (i 0).val < 1024 := (i 0).isLt
  have h1 : (i 1).val < 2048 := (i 1).isLt
  have hp : pt2Of i = 2 * ((i 1).val / 1024) + 1 := by
    show 2 * (2 * ((i 0).val / 1024 - 0) + 1 * ((i 1).val / 1024 - 0)) + 1 = _; omega
  have hb : pt2Of i < cfg0.N := by rw [hp, show cfg0.N = 4 from N_0]; omega
  unfold G2
  rw [dif_pos hb, ← outsAt0_sweep m c (pt2Of i) hb, out m c ⟨pt2Of i, hb⟩ (by dsimp only; rw [hp]; omega)]
  show upTo (terms m c) 4096 (1024 * 0 + (i 0).val % 1024) (1024 * (pt2Of i / 2) + (i 1).val % 1024) = upTo (terms m c) 4096 (i 0).val (i 1).val
  congr 1 <;> omega

/-! ## The claims -/

theorem frame_p : Cert.quiescent_Kernel14 := fun m g _ => Cert.Kernel14.Gen.frame m g
theorem frame_pi : Cert.quiescent_Kernel14Ideal := fun m g _ => Cert.Kernel14Ideal.Gen.frame m g
theorem frame_ri : Cert.quiescent_Reference14Ideal := fun m g _ =>
  (θ_run Cert.Reference14Ideal.defs _ _).mono (fun r h => ⟨fun c => (h c).2, sem_eq_zero_of_no_sems (by decide) r.2⟩)
    (Cert.Reference14Ideal.Value.run (F := Ideal) m g)

theorem algebraic : Cert.algebraic_Kernel14Ideal_Reference14Ideal := by
  intro m g m' g' _ hargs
  refine ⟨_, run m g, (θ_run Cert.Reference14Ideal.defs _ _).mono (fun r h c => ?_) (Cert.Reference14Ideal.Value.run (F := Ideal) m' g')⟩
  obtain ⟨hres, hrest⟩ := h c
  obtain ⟨e0, e1⟩ := hargs c
  rw [e0, e1] at hres
  refine ⟨hres.trans (Eq.trans ?_ (result m c).symm), hrest⟩
  exact host_tn_turned _ _ rfl (m ((c : Thread nD τ).loc main_arg0)) (m ((c : Thread nD τ).loc main_arg1)) _

end Cert.Proof.KvDw

end
-- ==== Proof.Rms.lean ====
/-
  The root-mean-square normalization of the rows of a matrix of 1024 columns, over the extended reals.
-/
module

public import proofs.«01_k».proof.Proof.Product
public import Idealize.ShloMosaic.Lib.Pointwise

@[expose] public section

noncomputable section

namespace Cert.Proof.Rms

open Idealize.ShloMosaic Cert.Proof.Owns Cert.Proof.Product

/-- A column, and a list. -/
abbrev Col (m : ℕ) : Shape := ⟨2, ![m, 1]⟩
abbrev Lst (m : ℕ) : Shape := ⟨1, ![m]⟩

/-- The reciprocal root of a row's mean square, and the row scaled by it and by the gains `g`. -/
def inv (X : ℕ → ℕ → EReal) (r : ℕ) : EReal :=
  Ideal.rsqrt (Ideal.div (∑ k ∈ Finset.range 1024, X r k * X r k) (Ideal.ofBits .f32 0x44800000#32) + Ideal.ofBits .f32 0x358637BD#32)
def rms (X : ℕ → ℕ → EReal) (g : ℕ → EReal) (r x : ℕ) : EReal := X r x * inv X r * g x

theorem at_entry {m : ℕ} (X : ℕ → ℕ → EReal) (v : (Mat 1 1024).Idx → EReal) (g : ℕ → EReal) (hv : ∀ x : Fin 1024, v (ix2 0 x) = g x.val) (r : Fin m) (x : Fin 1024) :
    (tab X : (Mat m 1024).Idx → EReal) (ix2 r x) * Ideal.rsqrt (Ideal.div (∑ k : Fin 1024, (tab X : (Mat m 1024).Idx → EReal) (ix2 r k) * (tab X : (Mat m 1024).Idx → EReal) (ix2 r k))
        (Ideal.ofBits .f32 0x44800000#32) + Ideal.ofBits .f32 0x358637BD#32) * v (ix2 0 x) = rms X g r x := by
  rw [hv x]
  unfold rms inv
  rw [Finset.sum_range fun k => X r k * X r k]
  rfl

/-- The normalization as a kernel writes it, of 1024 rows. -/
theorem kernel_rms (X : ℕ → ℕ → EReal) (v : (Mat 1 1024).Idx → EReal) (g : ℕ → EReal) (hv : ∀ x : Fin 1024, v (ix2 0 x) = g x.val)
    (h1 : (Mat 1024 1024).Reduces [1] (Lst 1024)) (h2) (h3) (h4 : (Lst 1024).ShapeCasts (Col 1024)) (h5 : (Col 1024).Broadcasts (Mat 1024 1024))
    (h6 : (Mat 1 1024).Broadcasts (Mat 1024 1024)) :
    mulf (F := Ideal) (φ := .f32) (mulf (F := Ideal) (φ := .f32) (tab X) (broadcastTo (Mat 1024 1024) (rsqrt (F := Ideal) (φ := .f32) (addf (F := Ideal) (φ := .f32)
        (divf (F := Ideal) (φ := .f32) (shapeCast (Col 1024) (multiReduction (F := Ideal) .add [1] (Lst 1024) (φ := .f32) (mulf (F := Ideal) (φ := .f32) (tab X) (tab X)) 0x00000000#32 h1 h2 h3) h4)
          (broadcast (Col 1024) (Scalar.ofBits .f32 0x44800000#32 : Ideal .f32)))
        (broadcast (Col 1024) (Scalar.ofBits .f32 0x358637BD#32 : Ideal .f32)))) h5)) (broadcastTo (Mat 1024 1024) v h6)
      = tab (rms X g) := by
  refine eq_tab fun r x => ?_
  pointwise
  exact at_entry X v g hv r x

/-- The normalization as the reference writes it. -/
theorem host_rms (X : ℕ → ℕ → EReal) (Y : (Mat 4096 1024).Idx → EReal) (hY : Y = tab X) (v : (Mat 1 1024).Idx → EReal) (g : ℕ → EReal) (hv : ∀ x : Fin 1024, v (ix2 0 x) = g x.val)
    (h0 : (⟨0, ![]⟩ : Shape).BroadcastsInDim (Col 4096) ![]) (h1 : (Mat 4096 1024).ReducesTo [1] (Lst 4096)) (h2) (h3 : (Lst 4096).BroadcastsInDim (Col 4096) ![0])
    (h4 : (Col 4096).BroadcastsInDim (Mat 4096 1024) ![0, 1]) (h5 : (Mat 1 1024).BroadcastsInDim (Mat 4096 1024) ![0, 1]) :
    mulf (F := Ideal) (φ := .f32) (mulf (F := Ideal) (φ := .f32) Y (broadcastInDim (Mat 4096 1024) ![0, 1] h4 (Host.rsqrt (F := Ideal) (φ := .f32) (addf (F := Ideal) (φ := .f32)
        (Host.divf (F := Ideal) (φ := .f32) (broadcastInDim (Col 4096) ![0] h3 (Host.reduceAdd (F := Ideal) (φ := .f32) (mulf (F := Ideal) (φ := .f32) Y Y) (constant ⟨0, ![]⟩ .f32 0x00000000#32) h1 h2))
          (broadcastInDim (Col 4096) ![] h0 (constant ⟨0, ![]⟩ .f32 0x44800000#32)))
        (broadcastInDim (Col 4096) ![] h0 (constant ⟨0, ![]⟩ .f32 0x358637BD#32)))))) (broadcastInDim (Mat 4096 1024) ![0, 1] h5 v)
      = tab (rms X g) := by
  subst hY
  refine eq_tab fun r x => ?_
  pointwise
  exact at_entry X v g hv r x

end Cert.Proof.Rms

end
-- ==== Proof.Products.MixOut.lean ====
/-
  The mixer's output product added to the residual, and the sum's root-mean-square normalization.
-/
module

public import proofs.«01_k».proof.Defs
public import proofs.«01_k».proof.Proof.Product
public import proofs.«01_k».proof.Proof.Rms
public import proofs.«01_k».proof.Proof.Gen.Kernel15.Frame
public import proofs.«01_k».proof.Proof.Gen.Kernel15Ideal.Value
public import proofs.«01_k».proof.Proof.Gen.Reference15Ideal.Run
public import Idealize.ShloMosaic.Lib.Pipeline.ValueKit
public import Idealize.ShloMosaic.Lib.Claim

@[expose] public section

noncomputable section

namespace Cert.Proof.MixOut

open Idealize.ShloMosaic Idealize.ShloMosaic.TcCoe Idealize.SL.Sem Cert.Proof.Owns Cert.Proof.Product Cert.Proof.Rms
open Cert.Kernel15Ideal Cert.Kernel15Ideal.Gen Cert.Kernel15Ideal.Value

/-- A block of the product with the residual. -/
theorem part (a b u : ℕ → ℕ → EReal) :
    k0_pay1 (F := Ideal) (tab a) (tab b) (tab u) = tab fun r x => (∑ k ∈ Finset.range 1024, a r k * b k x) + u r x :=
  congrArg (fun v => addf (F := Ideal) (φ := .f32) v (tab u)) (mxu_nn (φ₁ := .bf16) (φ₂ := .bf16) dot_S1024x1024_S1024x1024_S1024x1024_1_0_0_1_n_n _ rfl a b)

variable (m : (ℓ : Loc nD τ sig) → Buf (Elt Ideal) ℓ) (c : Dev nD)

/-- The arguments' entries. -/
abbrev y : ℕ → ℕ → EReal := cell (m := 4096) (n := 1024) (m ((c : Thread nD τ).loc main_arg0))
abbrev w : ℕ → ℕ → EReal := cell (m := 1024) (n := 1024) (m ((c : Thread nD τ).loc main_arg1))
abbrev h : ℕ → ℕ → EReal := cell (m := 4096) (n := 1024) (m ((c : Thread nD τ).loc main_arg2))
abbrev gain (x : ℕ) : EReal := cell (m := 1) (n := 1024) (m ((c : Thread nD τ).loc main_arg3)) 0 x

/-- The product's entries with the residual's. -/
def sum (r x : ℕ) : EReal := h m c r x + upTo (fun r x k => y m c r k * w m c k x) 1024 r x

theorem index_a : ∀ t : Fin cfg0.N, win0_0.index t = ![t.val, 0] := (by decide +kernel : ∀ t : Fin grid0.N, _)
theorem index_b : ∀ t : Fin cfg0.N, win0_1.index t = ![0, 0] := (by decide +kernel : ∀ t : Fin grid0.N, _)
theorem index_h : ∀ t : Fin cfg0.N, win0_2.index t = ![t.val, 0] := (by decide +kernel : ∀ t : Fin grid0.N, _)
theorem index_g : ∀ t : Fin cfg0.N, win0_3.index t = ![0, 0] := (by decide +kernel : ∀ t : Fin grid0.N, _)
theorem index_o : ∀ t : Fin cfg0.N, win0_4.index t = ![t.val, 0] := (by decide +kernel : ∀ t : Fin grid0.N, _)
theorem index_o' : ∀ t : Fin cfg0.N, win0_5.index t = ![t.val, 0] := (by decide +kernel : ∀ t : Fin grid0.N, _)

theorem block_a (t : Fin cfg0.N) :
    (iblk m c 0 t : S1024x1024.Idx → EReal) = tab fun r k => y m c (1024 * t.val + r) (1024 * 0 + k) :=
  (funext fun j => View.read_apply ..).trans (block_read _ _ (win0_0.index t) _ _ (index_a t) fun j => ⟨rfl, rfl⟩)
theorem block_b (t : Fin cfg0.N) :
    (iblk m c 1 t : S1024x1024.Idx → EReal) = tab fun k x => w m c (1024 * 0 + k) (1024 * 0 + x) :=
  (funext fun j => View.read_apply ..).trans (block_read _ _ (win0_1.index t) _ _ (index_b t) fun j => ⟨rfl, rfl⟩)
theorem block_h (t : Fin cfg0.N) :
    (iblk m c 2 t : S1024x1024.Idx → EReal) = tab fun r x => h m c (1024 * t.val + r) (1024 * 0 + x) :=
  (funext fun j => View.read_apply ..).trans (block_read _ _ (win0_2.index t) _ _ (index_h t) fun j => ⟨rfl, rfl⟩)
theorem block_g (t : Fin cfg0.N) :
    (iblk m c 3 t : S1x1024.Idx → EReal) = tab fun r x => cell (m := 1) (n := 1024) (m ((c : Thread nD τ).loc main_arg3)) (1 * 0 + r) (1024 * 0 + x) :=
  (funext fun j => View.read_apply ..).trans (block_read _ _ (win0_3.index t) _ _ (index_g t) fun j => ⟨rfl, rfl⟩)

/-- A point's sums. -/
theorem summed (t : Fin cfg0.N) : k0_pay1 (F := Ideal) (iblk m c 0 t) (iblk m c 1 t) (iblk m c 2 t)
    = tab fun r x => sum m c (1024 * t.val + r) (1024 * 0 + x) := by
  rw [block_a, block_b, block_h, part]
  refine tab_congr fun r _ x _ => ?_
  rw [add_comm]
  exact congrArg _ (Finset.sum_congr rfl fun k _ => by rw [Nat.mul_zero, Nat.zero_add])

theorem out (t : Fin cfg0.N) : (out0_4 (iblk m c 0 t) (iblk m c 1 t) (iblk m c 2 t) (iblk m c 3 t) : S1024x1024.Idx → EReal)
    = tab fun r x => sum m c (1024 * t.val + r) (1024 * 0 + x) := by
  unfold out0_4
  rw [View.canon_unit_zero zero2, View.ld_unit_zero (S := S1024x1024) zero2, View.ld_unit_zero (S := S1024x1024) zero2, View.ld_unit_zero (S := S1024x1024) zero2]
  exact summed m c t

theorem out' (t : Fin cfg0.N) : (out0_5 (iblk m c 0 t) (iblk m c 1 t) (iblk m c 2 t) (iblk m c 3 t) : S1024x1024.Idx → EReal)
    = tab fun r x => rms (sum m c) (gain m c) (1024 * t.val + r) (1024 * 0 + x) := by
  unfold out0_5
  rw [View.canon_unit_zero zero2, View.ld_unit_zero (S := S1024x1024) zero2, View.ld_unit_zero (S := S1024x1024) zero2, View.ld_unit_zero (S := S1024x1024) zero2,
    View.ld_unit_zero (S := S1x1024) zero2]
  unfold k0_pay2
  dsimp only
  rw [summed, block_g]
  refine (kernel_rms _ _ (gain m c) (fun x => by rw [tab_ix2]; congr 1; omega) _ _ _ _ _ _).trans (tab_congr fun r _ x _ => ?_)
  simp only [Nat.mul_zero, Nat.zero_add]
  rfl

/-- The kernel's two arrays. -/
theorem result : (dats m 0 c).arrAt 4 cfg0.N = (tab (sum m c) : S4096x1024.Idx → EReal) := by
  refine (dats m 0 c).arrAt_eq_of_covers 4 _ (by decide +kernel) fun t _ y => ?_
  blk_simp
  rw [after0_4]
  exact block_write _ _ _ _ (win0_4.index t) _ _ (index_o t) (out m c t) ⟨rfl, rfl⟩
theorem result' : (dats m 0 c).arrAt 5 cfg0.N = (tab (rms (sum m c) (gain m c)) : S4096x1024.Idx → EReal) := by
  refine (dats m 0 c).arrAt_eq_of_covers 5 _ (by decide +kernel) fun t _ y => ?_
  blk_simp
  rw [after0_5]
  exact block_write _ _ _ _ (win0_5.index t) _ _ (index_o' t) (out' m c t) ⟨rfl, rfl⟩

/-- The reference's sum. -/
theorem reference (a : S4096x1024.Idx → EReal) (b : S1024x1024.Idx → EReal) (u : S4096x1024.Idx → EReal) :
    addf (F := Ideal) (φ := .f32) u (Host.dotGeneral (F := Ideal) (φ₁ := .f32) (φ₂ := .f32)
        Cert.Reference15Ideal.dot_S4096x1024_S1024x1024_S4096x1024_1_0_0_1_n_n none a b)
      = tab fun r x => cell (m := 4096) (n := 1024) u r x
          + upTo (fun r x k => cell (m := 4096) (n := 1024) a r k * cell (m := 1024) (n := 1024) b k x) 1024 r x :=
  congrArg₂ (addf (F := Ideal) (φ := .f32)) (tab_cell u).symm (host_nn_whole (φ₁ := .f32) (φ₂ := .f32) _ _ rfl a b)

/-! ## The claims -/

theorem frame_p : Cert.quiescent_Kernel15 := fun m g _ => Cert.Kernel15.Gen.frame m g
theorem frame_pi : Cert.quiescent_Kernel15Ideal := fun m g _ => Cert.Kernel15Ideal.Gen.frame m g
theorem frame_ri : Cert.quiescent_Reference15Ideal := fun m g _ =>
  (θ_run Cert.Reference15Ideal.defs _ _).mono (fun r h => ⟨fun c => (h c).2.2, sem_eq_zero_of_no_sems (by decide) r.2⟩)
    (Cert.Reference15Ideal.Value.run (F := Ideal) m g)

theorem algebraic : Cert.algebraic_Kernel15Ideal_Reference15Ideal := by
  intro m g m' g' _ hargs
  refine ⟨_, _, run_blocks m g, (θ_run Cert.Reference15Ideal.defs _ _).mono (fun r h c => ?_) (Cert.Reference15Ideal.Value.run (F := Ideal) m' g')⟩
  obtain ⟨hres, hres', hrest⟩ := h c
  obtain ⟨e0, e1, e2, e3⟩ := hargs c
  rw [e0, e1, e2] at hres
  rw [e0, e1, e2, e3] at hres'
  have hs := reference (m ((c : Thread nD τ).loc main_arg0)) (m ((c : Thread nD τ).loc main_arg1)) (m ((c : Thread nD τ).loc main_arg2))
  refine ⟨hres.trans (Eq.trans ?_ (result m c).symm), hres'.trans (Eq.trans ?_ (result' m c).symm), hrest⟩
  · exact hs
  · exact host_rms _ _ hs _ (gain m c) (fun x => (cell_val (m := 1) (n := 1024) _ 0 x).symm) _ _ _ _ _ _

end Cert.Proof.MixOut

end
-- ==== Proof.Products.Kv.lean ====
/-
  The projection to keys and values.
-/
module

public import proofs.«01_k».proof.Defs
public import proofs.«01_k».proof.Proof.Product
public import proofs.«01_k».proof.Proof.Gen.Kernel16.Frame
public import proofs.«01_k».proof.Proof.Gen.Kernel16Ideal.Value
public import proofs.«01_k».proof.Proof.Gen.Reference16Ideal.Run
public import Idealize.ShloMosaic.Lib.Pipeline.ValueKit
public import Idealize.ShloMosaic.Lib.Claim

@[expose] public section

noncomputable section

namespace Cert.Proof.Kv

open Idealize.ShloMosaic Idealize.ShloMosaic.TcCoe Idealize.SL.Sem Cert.Proof.Owns Cert.Proof.Product
open Cert.Kernel16Ideal Cert.Kernel16Ideal.Gen Cert.Kernel16Ideal.Value

theorem part (a b : ℕ → ℕ → EReal) :
    k0_pay1 (F := Ideal) (tab a) (tab b) = tab fun r x => ∑ k ∈ Finset.range 1024, a r k * b k x :=
  mxu_nn (φ₁ := .bf16) (φ₂ := .bf16) dot_S1024x1024_S1024x1024_S1024x1024_1_0_0_1_n_n _ rfl a b

variable (m : (ℓ : Loc nD τ sig) → Buf (Elt Ideal) ℓ) (c : Dev nD)

/-- The arguments' entries. -/
abbrev hn : ℕ → ℕ → EReal := cell (m := 4096) (n := 1024) (m ((c : Thread nD τ).loc main_arg0))
abbrev w : ℕ → ℕ → EReal := cell (m := 1024) (n := 2048) (m ((c : Thread nD τ).loc main_arg1))

/-- The products an entry sums. -/
abbrev terms (r x k : ℕ) : EReal := hn m c r k * w m c k x

theorem index_a : ∀ t : Fin cfg0.N, win0_0.index t = ![t.val / 2, 0] := (by decide +kernel : ∀ t : Fin grid0.N, _)
theorem index_b : ∀ t : Fin cfg0.N, win0_1.index t = ![0, t.val % 2] := (by decide +kernel : ∀ t : Fin grid0.N, _)
theorem index_o : ∀ t : Fin cfg0.N, win0_2.index t = ![t.val / 2, t.val % 2] := (by decide +kernel : ∀ t : Fin grid0.N, _)

theorem block_a (t : Fin cfg0.N) :
    (iblk m c 0 t : S1024x1024.Idx → EReal) = tab fun r k => hn m c (1024 * (t.val / 2) + r) (1024 * 0 + k) :=
  (funext fun j => View.read_apply ..).trans (block_read _ _ (win0_0.index t) _ _ (index_a t) fun j => ⟨rfl, rfl⟩)

theorem block_b (t : Fin cfg0.N) :
    (iblk m c 1 t : S1024x1024.Idx → EReal) = tab fun k x => w m c (1024 * 0 + k) (1024 * (t.val % 2) + x) :=
  (funext fun j => View.read_apply ..).trans (block_read _ _ (win0_1.index t) _ _ (index_b t) fun j => ⟨rfl, rfl⟩)

/-- What a point leaves. -/
theorem out (t : Fin cfg0.N) : (out0_2 (iblk m c 0 t) (iblk m c 1 t) : S1024x1024.Idx → EReal)
    = tab fun r x => upTo (terms m c) 1024 (1024 * (t.val / 2) + r) (1024 * (t.val % 2) + x) := by
  unfold out0_2
  rw [View.canon_unit_zero zero2, View.ld_unit_zero (S := S1024x1024) zero2, View.ld_unit_zero (S := S1024x1024) zero2, block_a, block_b, part]
  exact tab_congr fun r _ x _ => Finset.sum_congr rfl fun k _ => by rw [Nat.mul_zero, Nat.zero_add]

/-- The kernel's array: the whole product. -/
theorem result : (dats m 0 c).arrAt 2 cfg0.N = (tab (upTo (terms m c) 1024) : S4096x2048.Idx → EReal) := by
  refine (dats m 0 c).arrAt_eq_of_covers 2 _ (by decide +kernel) fun t _ y => ?_
  blk_simp
  rw [after0_2]
  exact block_write _ _ _ _ (win0_2.index t) _ _ (index_o t) (out m c t) ⟨rfl, rfl⟩

/-! ## The claims -/

theorem frame_p : Cert.quiescent_Kernel16 := fun m g _ => Cert.Kernel16.Gen.frame m g
theorem frame_pi : Cert.quiescent_Kernel16Ideal := fun m g _ => Cert.Kernel16Ideal.Gen.frame m g
theorem frame_ri : Cert.quiescent_Reference16Ideal := fun m g _ =>
  (θ_run Cert.Reference16Ideal.defs _ _).mono (fun r h => ⟨fun c => (h c).2, sem_eq_zero_of_no_sems (by decide) r.2⟩)
    (Cert.Reference16Ideal.Value.run (F := Ideal) m g)

theorem algebraic : Cert.algebraic_Kernel16Ideal_Reference16Ideal := by
  intro m g m' g' _ hargs
  refine ⟨_, run_blocks m g, (θ_run Cert.Reference16Ideal.defs _ _).mono (fun r h c => ?_) (Cert.Reference16Ideal.Value.run (F := Ideal) m' g')⟩
  obtain ⟨hres, hrest⟩ := h c
  obtain ⟨e0, e1⟩ := hargs c
  rw [e0, e1] at hres
  refine ⟨hres.trans (Eq.trans ?_ (result m c).symm), hrest⟩
  exact host_nn_whole (φ₁ := .f32) (φ₂ := .f32) _ _ rfl (m ((c : Thread nD τ).loc main_arg0)) (m ((c : Thread nD τ).loc main_arg1))

end Cert.Proof.Kv

end
-- ==== Proof.Products.Square.lean ====
/-
  The square product: queries of the rows given.
-/
module

public import proofs.«01_k».proof.Defs
public import proofs.«01_k».proof.Proof.Product
public import proofs.«01_k».proof.Proof.Gen.Kernel17.Frame
public import proofs.«01_k».proof.Proof.Gen.Kernel17Ideal.Value
public import proofs.«01_k».proof.Proof.Gen.Reference17Ideal.Run
public import Idealize.ShloMosaic.Lib.Pipeline.ValueKit
public import Idealize.ShloMosaic.Lib.Claim

@[expose] public section

noncomputable section

namespace Cert.Proof.Square

open Idealize.ShloMosaic Idealize.ShloMosaic.TcCoe Idealize.SL.Sem Cert.Proof.Owns Cert.Proof.Product
open Cert.Kernel17Ideal Cert.Kernel17Ideal.Gen Cert.Kernel17Ideal.Value

theorem part (a b : ℕ → ℕ → EReal) :
    k0_pay1 (F := Ideal) (tab a) (tab b) = tab fun r x => ∑ k ∈ Finset.range 1024, a r k * b k x :=
  mxu_nn (φ₁ := .bf16) (φ₂ := .bf16) dot_S1024x1024_S1024x1024_S1024x1024_1_0_0_1_n_n _ rfl a b

variable (m : (ℓ : Loc nD τ sig) → Buf (Elt Ideal) ℓ) (c : Dev nD)

/-- The arguments' entries. -/
abbrev hn : ℕ → ℕ → EReal := cell (m := 4096) (n := 1024) (m ((c : Thread nD τ).loc main_arg0))
abbrev w : ℕ → ℕ → EReal := cell (m := 1024) (n := 1024) (m ((c : Thread nD τ).loc main_arg1))

/-- The products an entry sums. -/
abbrev terms (r x k : ℕ) : EReal := hn m c r k * w m c k x

theorem index_a : ∀ t : Fin cfg0.N, win0_0.index t = ![t.val, 0] := (by decide +kernel : ∀ t : Fin grid0.N, _)
theorem index_b : ∀ t : Fin cfg0.N, win0_1.index t = ![0, 0] := (by decide +kernel : ∀ t : Fin grid0.N, _)
theorem index_o : ∀ t : Fin cfg0.N, win0_2.index t = ![t.val, 0] := (by decide +kernel : ∀ t : Fin grid0.N, _)

theorem block_a (t : Fin cfg0.N) :
    (iblk m c 0 t : S1024x1024.Idx → EReal) = tab fun r k => hn m c (1024 * t.val + r) (1024 * 0 + k) :=
  (funext fun j => View.read_apply ..).trans (block_read _ _ (win0_0.index t) _ _ (index_a t) fun j => ⟨rfl, rfl⟩)

theorem block_b (t : Fin cfg0.N) :
    (iblk m c 1 t : S1024x1024.Idx → EReal) = tab fun k x => w m c (1024 * 0 + k) (1024 * 0 + x) :=
  (funext fun j => View.read_apply ..).trans (block_read _ _ (win0_1.index t) _ _ (index_b t) fun j => ⟨rfl, rfl⟩)

/-- What a point leaves. -/
theorem out (t : Fin cfg0.N) : (out0_2 (iblk m c 0 t) (iblk m c 1 t) : S1024x1024.Idx → EReal)
    = tab fun r x => upTo (terms m c) 1024 (1024 * t.val + r) (1024 * 0 + x) := by
  unfold out0_2
  rw [View.canon_unit_zero zero2, View.ld_unit_zero (S := S1024x1024) zero2, View.ld_unit_zero (S := S1024x1024) zero2, block_a, block_b, part]
  exact tab_congr fun r _ x _ => Finset.sum_congr rfl fun k _ => by rw [Nat.mul_zero, Nat.zero_add]

/-- The kernel's array: the whole product. -/
theorem result : (dats m 0 c).arrAt 2 cfg0.N = (tab (upTo (terms m c) 1024) : S4096x1024.Idx → EReal) := by
  refine (dats m 0 c).arrAt_eq_of_covers 2 _ (by decide +kernel) fun t _ y => ?_
  blk_simp
  rw [after0_2]
  exact block_write _ _ _ _ (win0_2.index t) _ _ (index_o t) (out m c t) ⟨rfl, rfl⟩

/-! ## The claims -/

theorem frame_p : Cert.quiescent_Kernel17 := fun m g _ => Cert.Kernel17.Gen.frame m g
theorem frame_pi : Cert.quiescent_Kernel17Ideal := fun m g _ => Cert.Kernel17Ideal.Gen.frame m g
theorem frame_ri : Cert.quiescent_Reference17Ideal := fun m g _ =>
  (θ_run Cert.Reference17Ideal.defs _ _).mono (fun r h => ⟨fun c => (h c).2, sem_eq_zero_of_no_sems (by decide) r.2⟩)
    (Cert.Reference17Ideal.Value.run (F := Ideal) m g)

theorem algebraic : Cert.algebraic_Kernel17Ideal_Reference17Ideal := by
  intro m g m' g' _ hargs
  refine ⟨_, run_blocks m g, (θ_run Cert.Reference17Ideal.defs _ _).mono (fun r h c => ?_) (Cert.Reference17Ideal.Value.run (F := Ideal) m' g')⟩
  obtain ⟨hres, hrest⟩ := h c
  obtain ⟨e0, e1⟩ := hargs c
  rw [e0, e1] at hres
  refine ⟨hres.trans (Eq.trans ?_ (result m c).symm), hrest⟩
  exact host_nn_whole (φ₁ := .f32) (φ₂ := .f32) _ _ rfl (m ((c : Thread nD τ).loc main_arg0)) (m ((c : Thread nD τ).loc main_arg1))

end Cert.Proof.Square

end
-- ==== Proof.Ffn.In.lean ====
/-
  The feed-forward layer's input product, kept in bf16, and its gate times its value.
-/
module

public import proofs.«01_k».proof.Defs
public import proofs.«01_k».proof.Proof.Ffn.Columns
public import proofs.«01_k».proof.Proof.Ffn.Gate
public import proofs.«01_k».proof.Proof.Gen.Kernel18.Frame
public import proofs.«01_k».proof.Proof.Gen.Kernel18Ideal.Value
public import proofs.«01_k».proof.Proof.Gen.Reference18Ideal.Run
public import Idealize.ShloMosaic.Lib.Claim

@[expose] public section

noncomputable section

namespace Cert.Proof.In

open Idealize.ShloMosaic Idealize.ShloMosaic.TcCoe Idealize.SL.Sem Cert.Proof.Owns Cert.Proof.Product Cert.Proof.Columns Cert.Proof.Gate
open Cert.Kernel18Ideal Cert.Kernel18Ideal.Gen Cert.Kernel18Ideal.Value

variable (a : ℕ → ℕ → EReal)

/-- The product of a block of rows with one chip's columns. -/
theorem part (b : ℕ → ℕ → EReal) (v : S1x1x1024x1408.Idx → EReal) (hv : ∀ r x, v (ix4 0 0 r x) = b r.val x.val) :
    k0_pay5 (F := Ideal) (tab a) v = tab fun r x => ∑ k ∈ Finset.range 1024, a r k * b k x :=
  (congrArg (fun u => matmul (F := Ideal) (φ₁ := .bf16) (φ₂ := .bf16) _ none _ u _) (slab v b _ hv)).trans (mxu_nn _ _ rfl a b)

/-- Two of those, gated. -/
theorem gated (u : S512x1024.Idx → EReal) (v v' : S1x1x1024x1408.Idx → EReal) (f g : ℕ → ℕ → EReal)
    (hf : k0_pay5 (F := Ideal) u v = tab f) (hg : k0_pay6 (F := Ideal) u v' = tab g) :
    k0_pay9 (F := Ideal) u v v' = tab fun r x => silu (f r x) * g r x := by
  unfold k0_pay9
  dsimp only
  rw [hf, hg, kernel_logistic]
  rfl

variable (m : (ℓ : Loc nD τ sig) → Buf (Elt Ideal) ℓ) (c : Dev nD)

/-- The arguments' entries. -/
abbrev hn : ℕ → ℕ → EReal := cell (m := 4096) (n := 1024) (m ((c : Thread nD τ).loc main_arg0))
abbrev w : ℕ → ℕ → EReal := wide (m ((c : Thread nD τ).loc main_arg1))

/-- The input product, and the gated one. -/
def gu : ℕ → ℕ → EReal := upTo (fun r x k => hn m c r k * w m c k x) 1024
def act (r x : ℕ) : EReal := silu (gu m c r x) * gu m c r (2816 + x)

/-- A gated entry, by the chip `j` it belongs to. -/
theorem act_at (j C R x : ℕ) (hC : C = 1408 * j) :
    silu (gu m c R (1408 * j + x)) * gu m c R (1408 * (j + 2) + x) = act m c R (2816 * 0 + (C + x)) := by
  unfold act
  rw [show 2816 * 0 + (C + x) = 1408 * j + x by omega, show 2816 + (1408 * j + x) = 1408 * (j + 2) + x by omega]

theorem index_a : ∀ t : Fin cfg0.N, win0_0.index t = ![t.val, 0] := (by decide +kernel : ∀ t : Fin grid0.N, _)
theorem index_b : ∀ t : Fin cfg0.N, win0_1.index t = ![0, 0, 0, 0] := (by decide +kernel : ∀ t : Fin grid0.N, _)
theorem index_o : ∀ t : Fin cfg0.N, win0_2.index t = ![t.val, 0] := (by decide +kernel : ∀ t : Fin grid0.N, _)
theorem index_o' : ∀ t : Fin cfg0.N, win0_3.index t = ![t.val, 0] := (by decide +kernel : ∀ t : Fin grid0.N, _)

theorem block_a (t : Fin cfg0.N) :
    (iblk m c 0 t : S512x1024.Idx → EReal) = tab fun r k => hn m c (512 * t.val + r) (1024 * 0 + k) :=
  (funext fun j => View.read_apply ..).trans (block_read _ _ (win0_0.index t) _ _ (index_a t) fun j => ⟨rfl, rfl⟩)

/-- One chip's columns, as a point loads them. -/
theorem load_w (t : Fin cfg0.N) (j : ℕ) (hj : j < 4) (inb) (r : Fin 1024) (x : Fin 1408) :
    View.ld (iblk m c 1 t : S4x1x1024x1408.Idx → EReal) (Rect.unit (s := S4x1x1024x1408) ![j, 0, 0, 0] S1x1x1024x1408.size inb) (ix4 0 0 r x)
      = w m c r.val (1408 * j + x.val) := by
  show (iblk m c 1 t : S4x1x1024x1408.Idx → EReal) _ = _
  unfold iblk
  rw [View.read_apply]
  refine Eq.trans ?_ (dif_pos (⟨r.isLt, by omega⟩ : r.val < 1024 ∧ 1408 * j + x.val < 5632)).symm
  show m ((c : Thread nD τ).loc main_arg1) _ = m ((c : Thread nD τ).loc main_arg1) _
  refine congrArg (m ((c : Thread nD τ).loc main_arg1)) (funext fun a => Fin.ext ?_)
  match a with
  | ⟨0, _⟩ => show win0_1.index t 0 * 4 + 1 * (j + 1 * 0) = (1408 * j + x.val) / 1408
              rw [index_b]; show 0 * 4 + 1 * (j + 1 * 0) = _; omega
  | ⟨1, _⟩ => show win0_1.index t 1 * 1 + 1 * (0 + 1 * 0) = 0
              rw [index_b]; rfl
  | ⟨2, _⟩ => show win0_1.index t 2 * 1024 + 1 * (0 + 1 * r.val) = r.val
              rw [index_b]; show 0 * 1024 + 1 * (0 + 1 * r.val) = r.val; omega
  | ⟨3, _⟩ => show win0_1.index t 3 * 1408 + 1 * (0 + 1 * x.val) = (1408 * j + x.val) % 1408
              rw [index_b]; show 0 * 1408 + 1 * (0 + 1 * x.val) = _; omega

/-- A point's product with a chip's columns: that chip's part of the whole product. -/
theorem part_at (t : Fin cfg0.N) (j : ℕ) (hj : j < 4) (inb) :
    k0_pay5 (F := Ideal) (View.ld (iblk m c 0 t) r0_0) (View.ld (iblk m c 1 t) (Rect.unit (s := S4x1x1024x1408) ![j, 0, 0, 0] S1x1x1024x1408.size inb))
      = tab fun r x => gu m c (512 * t.val + r) (1408 * j + x) := by
  rw [View.ld_unit_zero (S := S512x1024) zero2, block_a]
  refine (part _ (fun k x => w m c k (1408 * j + x)) _ (load_w m c t j hj inb)).trans (tab_congr fun r _ x _ => Finset.sum_congr rfl fun k _ => ?_)
  rw [Nat.mul_zero, Nat.zero_add]

/-- What a point leaves of the product. -/
theorem out (t : Fin cfg0.N) : (out0_2 (iblk m c 0 t) (iblk m c 1 t) : S512x5632.Idx → EReal)
    = tab fun r x => gu m c (512 * t.val + r) (5632 * 0 + x) := by
  funext y
  refine View.canon_apply_of_pieces (Val := Elt Ideal) (tab fun r x => gu m c (512 * t.val + r) (5632 * 0 + x)) _ (fun p hp x => ?_) y (cover0_2 _ _ _ _ y)
  simp only [List.mem_cons, List.not_mem_nil, or_false] at hp
  rcases hp with rfl | rfl | rfl | rfl
  · exact piece (fun r x => gu m c (512 * t.val + r) (5632 * 0 + x)) 4224 (by decide) _ ((part_at m c t 3 (by omega) _).trans (tab_congr fun r _ x _ => by congr 1; omega)) x
  · exact piece (fun r x => gu m c (512 * t.val + r) (5632 * 0 + x)) 1408 (by decide) _ ((part_at m c t 1 (by omega) _).trans (tab_congr fun r _ x _ => by congr 1; omega)) x
  · exact piece (fun r x => gu m c (512 * t.val + r) (5632 * 0 + x)) 2816 (by decide) _ ((part_at m c t 2 (by omega) _).trans (tab_congr fun r _ x _ => by congr 1; omega)) x
  · exact piece (fun r x => gu m c (512 * t.val + r) (5632 * 0 + x)) 0 (by decide) _ ((part_at m c t 0 (by omega) _).trans (tab_congr fun r _ x _ => by congr 1; omega)) x

/-- What a point leaves of the gated product. -/
theorem out' (t : Fin cfg0.N) : (out0_3 (iblk m c 0 t) (iblk m c 1 t) : S512x2816.Idx → EReal)
    = tab fun r x => act m c (512 * t.val + r) (2816 * 0 + x) := by
  funext y
  refine View.canon_apply_of_pieces (Val := Elt Ideal) (tab fun r x => act m c (512 * t.val + r) (2816 * 0 + x)) _ (fun p hp x => ?_) y (cover0_3 _ _ y)
  simp only [List.mem_cons, List.not_mem_nil, or_false] at hp
  rcases hp with rfl | rfl
  · exact piece (fun r x => act m c (512 * t.val + r) (2816 * 0 + x)) 1408 (by decide) _ ((gated _ _ _ _ _ (part_at m c t 1 (by omega) _) (part_at m c t 3 (by omega) _)).trans
      (tab_congr fun r _ x _ => act_at m c 1 1408 _ x rfl)) x
  · exact piece (fun r x => act m c (512 * t.val + r) (2816 * 0 + x)) 0 (by decide) _ ((gated _ _ _ _ _ (part_at m c t 0 (by omega) _) (part_at m c t 2 (by omega) _)).trans
      (tab_congr fun r _ x _ => act_at m c 0 0 _ x rfl)) x

/-- The kernel's two arrays. -/
theorem result : (dats m 0 c).arrAt 2 cfg0.N = (tab (gu m c) : S4096x5632.Idx → EReal) := by
  refine (dats m 0 c).arrAt_eq_of_covers 2 _ (by decide +kernel) fun t _ y => ?_
  blk_simp
  rw [after0_2]
  exact block_write _ _ _ _ (win0_2.index t) _ _ (index_o t) (out m c t) ⟨rfl, rfl⟩
theorem result' : (dats m 0 c).arrAt 3 cfg0.N = (tab (act m c) : S4096x2816.Idx → EReal) := by
  refine (dats m 0 c).arrAt_eq_of_covers 3 _ (by decide +kernel) fun t _ y => ?_
  blk_simp
  rw [after0_3]
  exact block_write _ _ _ _ (win0_3.index t) _ _ (index_o' t) (out' m c t) ⟨rfl, rfl⟩

/-! ## The reference, and the claims -/

/-- The reference's product, as it reads the chips' columns. -/
abbrev product (u : S4096x1024.Idx → EReal) (b : S4x1x1024x1408.Idx → EReal) (h1 : Chips.ShapeCasts Chips3) (h2 : Chips3.Transposes [1, 0, 2] Rows)
    (h3 : Rows.ShapeCasts Whole) : S4096x5632.Idx → EReal :=
  Host.dotGeneral (F := Ideal) (φ₁ := .f32) (φ₂ := .f32) Cert.Reference18Ideal.dot_S4096x1024_S1024x5632_S4096x5632_1_0_0_1_n_n none u
    (shapeCast Whole (transpose Rows [1, 0, 2] (shapeCast Chips3 b h1) h2) h3)

theorem reference (u : S4096x1024.Idx → EReal) (b : S4x1x1024x1408.Idx → EReal) (h1 h2 h3) :
    product u b h1 h2 h3 = tab (upTo (fun r x k => cell (m := 4096) (n := 1024) u r k * wide b k x) 1024) :=
  (congrArg₂ (Host.dotGeneral (F := Ideal) (φ₁ := .f32) (φ₂ := .f32) Cert.Reference18Ideal.dot_S4096x1024_S1024x5632_S4096x5632_1_0_0_1_n_n none)
    (tab_cell u).symm (side_by_side b h1 h2 h3)).trans (host_nn _ _ rfl _ _)

/-- The reference's gate. -/
theorem reference_gated (X : S4096x5632.Idx → EReal) (f : ℕ → ℕ → EReal) (hX : X = tab f) (h0 : S4096x5632.Slices ![0, 0] S4096x2816)
    (h1 : S4096x5632.Slices ![0, 2816] S4096x2816) (hb : (⟨0, ![]⟩ : Shape).BroadcastsInDim S4096x2816 ![]) :
    mulf (F := Ideal) (φ := .f32) (mulf (extractStridedSlice S4096x2816 ![0, 0] X h0)
        (Host.divf (broadcastInDim S4096x2816 ![] hb (constant ⟨0, ![]⟩ .f32 0x3F800000#32))
          (addf (broadcastInDim S4096x2816 ![] hb (constant ⟨0, ![]⟩ .f32 0x3F800000#32)) (Host.exp (Host.negf (extractStridedSlice S4096x2816 ![0, 0] X h0))))))
        (extractStridedSlice S4096x2816 ![0, 2816] X h1)
      = tab fun r x => silu (f r x) * f r (2816 + x) := by
  subst hX
  rw [host_logistic, columns_from, columns_from]
  exact tab_congr (f := fun r x => f r (0 + x) * logistic (f r (0 + x)) * f r (2816 + x)) fun r _ x _ => by rw [Nat.zero_add]; rfl

theorem frame_p : Cert.quiescent_Kernel18 := fun m g _ => Cert.Kernel18.Gen.frame m g
theorem frame_pi : Cert.quiescent_Kernel18Ideal := fun m g _ => Cert.Kernel18Ideal.Gen.frame m g
theorem frame_ri : Cert.quiescent_Reference18Ideal := fun m g _ =>
  (θ_run Cert.Reference18Ideal.defs _ _).mono (fun r h => ⟨fun c => (h c).2.2, sem_eq_zero_of_no_sems (by decide) r.2⟩)
    (Cert.Reference18Ideal.Value.run (F := Ideal) m g)

theorem algebraic : Cert.algebraic_Kernel18Ideal_Reference18Ideal := by
  intro m g m' g' _ hargs
  refine ⟨_, _, run_blocks m g, (θ_run Cert.Reference18Ideal.defs _ _).mono (fun r h c => ?_) (Cert.Reference18Ideal.Value.run (F := Ideal) m' g')⟩
  obtain ⟨hres, hres', hrest⟩ := h c
  obtain ⟨e0, e1⟩ := hargs c
  rw [e0, e1] at hres hres'
  refine ⟨hres.trans (Eq.trans ?_ (result m c).symm), hres'.trans (Eq.trans ?_ (result' m c).symm), hrest⟩
  · exact reference (m ((c : Thread nD τ).loc main_arg0)) (m ((c : Thread nD τ).loc main_arg1)) _ _ _
  · exact reference_gated _ _ (reference (m ((c : Thread nD τ).loc main_arg0)) (m ((c : Thread nD τ).loc main_arg1)) _ _ _) _ _ _

end Cert.Proof.In

end
-- ==== Proof.Ffn.Out.lean ====
/-
  The feed-forward layer's output product, added to the residual, and the sum's root-mean-square normalization: the kernel's two
  partial products, one a half of the hidden units, add up to the whole product.
-/
module

public import proofs.«01_k».proof.Defs
public import proofs.«01_k».proof.Proof.Rms
public import proofs.«01_k».proof.Proof.Gen.Kernel19.Frame
public import proofs.«01_k».proof.Proof.Gen.Kernel19Ideal.Value
public import proofs.«01_k».proof.Proof.Gen.Reference19Ideal.Run
public import Idealize.ShloMosaic.Lib.Claim

@[expose] public section

noncomputable section

namespace Cert.Proof.Out

open Idealize.ShloMosaic Idealize.ShloMosaic.TcCoe Idealize.SL.Sem Cert.Proof.Owns Cert.Proof.Product Cert.Proof.Rms
open Cert.Kernel19Ideal Cert.Kernel19Ideal.Gen Cert.Kernel19Ideal.Value

/-! ## What a point leaves -/

section Cases
variable {F : FTy → Type} [FloatOps F] (c : Dev nD) (i : grid0.Coords)
  (a2 : Memref sig .tc .vmem S1024x1408 .bf16) (h2 : a2.IsWhole) (a3 : Memref sig .tc .vmem S1408x1024 .bf16) (h3 : a3.IsWhole)
  (a4 : Memref sig .tc .vmem S1024x1024 .f32) (h4 : a4.IsWhole) (a5 : Memref sig .tc .vmem S1x1024 .f32) (h5 : a5.IsWhole)
  (a6 : Memref sig .tc .vmem S1024x1024 .f32) (h6 : a6.IsWhole) (a7 : Memref sig .tc .vmem S1024x1024 .bf16) (h7 : a7.IsWhole)
  (a8 : Memref sig .tc .vmem S1024x1024 .f32) (h8 : a8.IsWhole)
  (x0 : Vec F S1024x1408 .bf16) (x1 : Vec F S1408x1024 .bf16) (x2 : Vec F S1024x1024 .f32) (x3 : Vec F S1x1024 .f32) (xs : Vec F S1024x1024 .f32)

theorem first_acc (hc0 : cond0_0 i) (hc1 : ¬cond0_1 i) (hc2 : ¬cond0_2 i) :
    sout0_A_0 c i a2 h2 a3 h3 a4 h4 a5 h5 a6 h6 a7 h7 a8 h8 hc0 hc1 hc2 x0 x1 x2 x3 = k0_pay2 x0 x1 := by
  unfold sout0_A_0
  rw [View.read_writes_eq_canon _ _ _ (scover0_A_0 c i a2 h2 a3 h3 a4 h4 a5 h5 a6 h6 a7 h7 a8 h8 hc0 hc1 hc2 x0 x1 x2 x3)]
  unfold kernelRun0_A
  dsimp only
  sl_unfold_words
  rw [View.canon_unit_zero zero2]
  simp only [View.readAt_eq_ld, h2.read_unread, h3.read_unread, View.ld_unit_zero (S := S1024x1408) zero2, View.ld_unit_zero (S := S1408x1024) zero2]

theorem last_sum (hc0 : ¬cond0_0 i) (hc1 : cond0_1 i) (hc2 : cond0_2 i) :
    out0_B_4 c i a2 h2 a3 h3 a4 h4 a5 h5 a6 h6 a7 h7 a8 h8 hc0 hc1 hc2 x0 x1 x2 x3 xs = k0_pay4 (k0_pay3 x0 x1 xs) x2 := by
  unfold out0_B_4
  rw [View.read_writes_eq_canon _ _ _ (cover0_B_4 c i a2 h2 a3 h3 a4 h4 a5 h5 a6 h6 a7 h7 a8 h8 hc0 hc1 hc2 x0 x1 x2 x3 xs)]
  unfold kernelRun0_B
  dsimp only
  sl_unfold_words
  rw [View.canon_unit_zero zero2]
  simp only [View.readCov_unit_zero (S := S1024x1024) _ zero2, View.readAt_eq_ld, h2.read_unread, h3.read_unread, h4.read_unread, h8.read_unread,
    View.ld_unit_zero (S := S1024x1408) zero2, View.ld_unit_zero (S := S1408x1024) zero2, View.ld_unit_zero (S := S1024x1024) zero2]

theorem last_norm (hc0 : ¬cond0_0 i) (hc1 : cond0_1 i) (hc2 : cond0_2 i) :
    out0_B_5 c i a2 h2 a3 h3 a4 h4 a5 h5 a6 h6 a7 h7 a8 h8 hc0 hc1 hc2 x0 x1 x2 x3 xs = k0_pay5 (k0_pay3 x0 x1 xs) x2 x3 := by
  unfold out0_B_5
  rw [View.read_writes_eq_canon _ _ _ (cover0_B_5 c i a2 h2 a3 h3 a4 h4 a5 h5 a6 h6 a7 h7 a8 h8 hc0 hc1 hc2 x0 x1 x2 x3 xs)]
  unfold kernelRun0_B
  dsimp only
  sl_unfold_words
  rw [View.canon_unit_zero zero2]
  simp only [View.readCov_unit_zero (S := S1024x1024) _ zero2, View.readAt_eq_ld, h2.read_unread, h3.read_unread, h4.read_unread, h5.read_unread, h8.read_unread,
    View.ld_unit_zero (S := S1024x1408) zero2, View.ld_unit_zero (S := S1408x1024) zero2, View.ld_unit_zero (S := S1024x1024) zero2,
    View.ld_unit_zero (S := S1x1024) zero2]

end Cases

/-! ## Over the extended reals -/

theorem part (a b : ℕ → ℕ → EReal) :
    k0_pay1 (F := Ideal) (tab a) (tab b) = tab fun r x => ∑ k ∈ Finset.range 1408, a r k * b k x :=
  mxu_nn (φ₁ := .bf16) (φ₂ := .bf16) dot_S1024x1408_S1408x1024_S1024x1024_1_0_0_1_n_n _ rfl a b

variable (m : (ℓ : Loc nD τ sig) → Buf (Elt Ideal) ℓ) (c : Dev nD)

/-- The arguments' entries. -/
abbrev act : ℕ → ℕ → EReal := cell (m := 4096) (n := 2816) (m ((c : Thread nD τ).loc main_arg0))
abbrev w : ℕ → ℕ → EReal := cell (m := 2816) (n := 1024) (m ((c : Thread nD τ).loc main_arg1))
abbrev h : ℕ → ℕ → EReal := cell (m := 4096) (n := 1024) (m ((c : Thread nD τ).loc main_arg2))
abbrev gain (x : ℕ) : EReal := cell (m := 1) (n := 1024) (m ((c : Thread nD τ).loc main_arg3)) 0 x

/-- The products an entry sums, and the sum with the residual. -/
abbrev terms (r x k : ℕ) : EReal := act m c r k * w m c k x
def sum (r x : ℕ) : EReal := h m c r x + upTo (terms m c) 2816 r x

theorem index_a : ∀ t : Fin cfg0.N, win0_0.index t = ![t.val / 2, t.val % 2] := (by decide +kernel : ∀ t : Fin grid0.N, _)
theorem index_b : ∀ t : Fin cfg0.N, win0_1.index t = ![t.val % 2, 0] := (by decide +kernel : ∀ t : Fin grid0.N, _)
theorem index_h : ∀ t : Fin cfg0.N, win0_2.index t = ![t.val / 2, 0] := (by decide +kernel : ∀ t : Fin grid0.N, _)
theorem index_g : ∀ t : Fin cfg0.N, win0_3.index t = ![0, 0] := (by decide +kernel : ∀ t : Fin grid0.N, _)

theorem block_a (t : Fin cfg0.N) :
    (iblk m c 0 t : S1024x1408.Idx → EReal) = tab fun r k => act m c (1024 * (t.val / 2) + r) (1408 * (t.val % 2) + k) :=
  (funext fun j => View.read_apply ..).trans (block_read _ _ (win0_0.index t) _ _ (index_a t) fun j => ⟨rfl, rfl⟩)
theorem block_b (t : Fin cfg0.N) :
    (iblk m c 1 t : S1408x1024.Idx → EReal) = tab fun k x => w m c (1408 * (t.val % 2) + k) (1024 * 0 + x) :=
  (funext fun j => View.read_apply ..).trans (block_read _ _ (win0_1.index t) _ _ (index_b t) fun j => ⟨rfl, rfl⟩)
theorem block_h (t : Fin cfg0.N) :
    (iblk m c 2 t : S1024x1024.Idx → EReal) = tab fun r x => h m c (1024 * (t.val / 2) + r) (1024 * 0 + x) :=
  (funext fun j => View.read_apply ..).trans (block_read _ _ (win0_2.index t) _ _ (index_h t) fun j => ⟨rfl, rfl⟩)
theorem block_g (t : Fin cfg0.N) :
    (iblk m c 3 t : S1x1024.Idx → EReal) = tab fun r x => cell (m := 1) (n := 1024) (m ((c : Thread nD τ).loc main_arg3)) (1 * 0 + r) (1024 * 0 + x) :=
  (funext fun j => View.read_apply ..).trans (block_read _ _ (win0_3.index t) _ _ (index_g t) fun j => ⟨rfl, rfl⟩)

theorem part_at (t : Fin cfg0.N) : k0_pay1 (F := Ideal) (iblk m c 0 t) (iblk m c 1 t)
    = tab fun r x => ∑ k ∈ Finset.range 1408, terms m c (1024 * (t.val / 2) + r) (1024 * 0 + x) (1408 * (t.val % 2) + k) := by
  rw [block_a, block_b, part]

theorem acc (t : Fin cfg0.N) (h0 : t.val % 2 = 0) : (outsAt0 m c t.val t.isLt).2.2
    = (tab fun r x => upTo (terms m c) (1408 * (0 + 1)) (1024 * (t.val / 2) + r) (1024 * 0 + x) : S1024x1024.Idx → EReal) := by
  rw [outsAt0_A m c t h0 (by omega) (by omega)]
  dsimp only
  rw [first_acc]
  refine (shapeCast_self _ _).trans ((part_at m c t).trans ?_)
  rw [h0]
  exact first_part (terms m c) 1408 _ _

/-- The whole product, when its second half has been added. -/
theorem whole (t : Fin cfg0.N) (h1 : t.val % 2 = 1) (hp : t.val - 1 < cfg0.N) :
    k0_pay3 (F := Ideal) (iblk m c 0 t) (iblk m c 1 t) (outsAt0 m c (t.val - 1) hp).2.2
      = (tab fun r x => upTo (terms m c) 2816 (1024 * (t.val / 2) + r) (1024 * 0 + x) : S1024x1024.Idx → EReal) := by
  rw [acc m c ⟨t.val - 1, hp⟩ (by dsimp only; omega), show (t.val - 1) / 2 = t.val / 2 by omega]
  refine (shapeCast_self _ _).trans ((congrArg (addf (F := Ideal) _) (part_at m c t)).trans ?_)
  rw [h1]
  exact next_part (terms m c) 1408 1 _ _

/-- That with the residual. -/
theorem summed (t : Fin cfg0.N) (h1 : t.val % 2 = 1) (hp : t.val - 1 < cfg0.N) :
    k0_pay4 (F := Ideal) (k0_pay3 (F := Ideal) (iblk m c 0 t) (iblk m c 1 t) (outsAt0 m c (t.val - 1) hp).2.2) (iblk m c 2 t)
      = (tab fun r x => sum m c (1024 * (t.val / 2) + r) x : S1024x1024.Idx → EReal) := by
  rw [whole m c t h1, block_h]
  refine tab_congr (f := fun r x => upTo (terms m c) 2816 (1024 * (t.val / 2) + r) (1024 * 0 + x) + h m c (1024 * (t.val / 2) + r) (1024 * 0 + x)) fun r _ x _ => ?_
  rw [Nat.mul_zero, Nat.zero_add, add_comm]
  rfl

theorem out (t : Fin cfg0.N) (h1 : t.val % 2 = 1) : (outsAt0 m c t.val t.isLt).1
    = (tab fun r x => sum m c (1024 * (t.val / 2) + r) x : S1024x1024.Idx → EReal) := by
  rw [outsAt0_B m c t (by omega) h1 h1]
  dsimp only
  rw [last_sum, summed m c t h1]

theorem out' (t : Fin cfg0.N) (h1 : t.val % 2 = 1) : (outsAt0 m c t.val t.isLt).2.1
    = (tab fun r x => rms (sum m c) (gain m c) (1024 * (t.val / 2) + r) x : S1024x1024.Idx → EReal) := by
  rw [outsAt0_B m c t (by omega) h1 h1]
  dsimp only
  rw [last_norm]
  unfold k0_pay5
  dsimp only
  rw [summed m c t h1, block_g]
  exact kernel_rms _ _ (gain m c) (fun x => by rw [tab_ix2]; congr 1; omega) _ _ _ _ _ _

/-- The kernel's two arrays. -/
theorem result : G4 m c = (tab (sum m c) : S4096x1024.Idx → EReal) := by
  funext i
  have h0 : (i 0).val < 4096 := (i 0).isLt
  have h1 : (i 1).val < 1024 := (i 1).isLt
  have hp : pt4Of i = 2 * ((i 0).val / 1024) + 1 := by
    show 2 * (1 * ((i 0).val / 1024 - 0) + 1 * ((i 1).val / 1024 - 0)) + 1 = _; omega
  have hb : pt4Of i < cfg0.N := by rw [hp, show cfg0.N = 8 from N_0]; omega
  unfold G4
  rw [dif_pos hb, ← outsAt0_sweep m c (pt4Of i) hb, out m c ⟨pt4Of i, hb⟩ (by dsimp only; rw [hp]; omega)]
  show sum m c (1024 * (pt4Of i / 2) + (i 0).val % 1024) ((i 1).val % 1024) = sum m c (i 0).val (i 1).val
  congr 1 <;> omega
theorem result' : G5 m c = (tab (rms (sum m c) (gain m c)) : S4096x1024.Idx → EReal) := by
  funext i
  have h0 : (i 0).val < 4096 := (i 0).isLt
  have h1 : (i 1).val < 1024 := (i 1).isLt
  have hp : pt5Of i = 2 * ((i 0).val / 1024) + 1 := by
    show 2 * (1 * ((i 0).val / 1024 - 0) + 1 * ((i 1).val / 1024 - 0)) + 1 = _; omega
  have hb : pt5Of i < cfg0.N := by rw [hp, show cfg0.N = 8 from N_0]; omega
  unfold G5
  rw [dif_pos hb, ← outsAt0_sweep m c (pt5Of i) hb, out' m c ⟨pt5Of i, hb⟩ (by dsimp only; rw [hp]; omega)]
  show rms (sum m c) (gain m c) (1024 * (pt5Of i / 2) + (i 0).val % 1024) ((i 1).val % 1024) = rms (sum m c) (gain m c) (i 0).val (i 1).val
  congr 1 <;> omega

/-- The reference's sum. -/
theorem reference (a : S4096x2816.Idx → EReal) (b : S2816x1024.Idx → EReal) (u : S4096x1024.Idx → EReal) :
    addf (F := Ideal) (φ := .f32) u (Host.dotGeneral (F := Ideal) (φ₁ := .f32) (φ₂ := .f32)
        Cert.Reference19Ideal.dot_S4096x2816_S2816x1024_S4096x1024_1_0_0_1_n_n none a b)
      = tab fun r x => cell (m := 4096) (n := 1024) u r x
          + upTo (fun r x k => cell (m := 4096) (n := 2816) a r k * cell (m := 2816) (n := 1024) b k x) 2816 r x :=
  congrArg₂ (addf (F := Ideal) (φ := .f32)) (tab_cell u).symm (host_nn_whole (φ₁ := .f32) (φ₂ := .f32) _ _ rfl a b)

/-! ## The claims -/

theorem frame_p : Cert.quiescent_Kernel19 := fun m g _ => Cert.Kernel19.Gen.frame m g
theorem frame_pi : Cert.quiescent_Kernel19Ideal := fun m g _ => Cert.Kernel19Ideal.Gen.frame m g
theorem frame_ri : Cert.quiescent_Reference19Ideal := fun m g _ =>
  (θ_run Cert.Reference19Ideal.defs _ _).mono (fun r h => ⟨fun c => (h c).2.2, sem_eq_zero_of_no_sems (by decide) r.2⟩)
    (Cert.Reference19Ideal.Value.run (F := Ideal) m g)

theorem algebraic : Cert.algebraic_Kernel19Ideal_Reference19Ideal := by
  intro m g m' g' _ hargs
  refine ⟨_, _, run m g, (θ_run Cert.Reference19Ideal.defs _ _).mono (fun r h c => ?_) (Cert.Reference19Ideal.Value.run (F := Ideal) m' g')⟩
  obtain ⟨hres, hres', hrest⟩ := h c
  obtain ⟨e0, e1, e2, e3⟩ := hargs c
  rw [e0, e1, e2] at hres
  rw [e0, e1, e2, e3] at hres'
  have hs := reference (m ((c : Thread nD τ).loc main_arg0)) (m ((c : Thread nD τ).loc main_arg1)) (m ((c : Thread nD τ).loc main_arg2))
  refine ⟨hres.trans (Eq.trans ?_ (result m c).symm), hres'.trans (Eq.trans ?_ (result' m c).symm), hrest⟩
  · exact hs
  · exact host_rms _ _ hs _ (gain m c) (fun x => (cell_val (m := 1) (n := 1024) _ 0 x).symm) _ _ _ _ _ _

end Cert.Proof.Out

end
-- ==== Proof.Products.GdnIn.lean ====
/-
  The gated delta rule's input product.
-/
module

public import proofs.«01_k».proof.Defs
public import proofs.«01_k».proof.Proof.Product
public import proofs.«01_k».proof.Proof.Gen.Kernel20.Frame
public import proofs.«01_k».proof.Proof.Gen.Kernel20Ideal.Value
public import proofs.«01_k».proof.Proof.Gen.Reference20Ideal.Run
public import Idealize.ShloMosaic.Lib.Pipeline.ValueKit
public import Idealize.ShloMosaic.Lib.Claim

@[expose] public section

noncomputable section

namespace Cert.Proof.GdnIn

open Idealize.ShloMosaic Idealize.ShloMosaic.TcCoe Idealize.SL.Sem Cert.Proof.Owns Cert.Proof.Product
open Cert.Kernel20Ideal Cert.Kernel20Ideal.Gen Cert.Kernel20Ideal.Value

theorem part (a b : ℕ → ℕ → EReal) :
    k0_pay1 (F := Ideal) (tab a) (tab b) = tab fun r x => ∑ k ∈ Finset.range 1024, a r k * b k x :=
  mxu_nn (φ₁ := .bf16) (φ₂ := .bf16) dot_S1024x1024_S1024x1024_S1024x1024_1_0_0_1_n_n _ rfl a b

variable (m : (ℓ : Loc nD τ sig) → Buf (Elt Ideal) ℓ) (c : Dev nD)

/-- The arguments' entries. -/
abbrev xs : ℕ → ℕ → EReal := cell (m := 4096) (n := 1024) (m ((c : Thread nD τ).loc main_arg0))
abbrev w : ℕ → ℕ → EReal := cell (m := 1024) (n := 4096) (m ((c : Thread nD τ).loc main_arg1))

/-- The products an entry sums. -/
abbrev terms (r x k : ℕ) : EReal := xs m c r k * w m c k x

theorem index_a : ∀ t : Fin cfg0.N, win0_0.index t = ![t.val / 4, 0] := (by decide +kernel : ∀ t : Fin grid0.N, _)
theorem index_b : ∀ t : Fin cfg0.N, win0_1.index t = ![0, t.val % 4] := (by decide +kernel : ∀ t : Fin grid0.N, _)
theorem index_o : ∀ t : Fin cfg0.N, win0_2.index t = ![t.val / 4, t.val % 4] := (by decide +kernel : ∀ t : Fin grid0.N, _)

theorem block_a (t : Fin cfg0.N) :
    (iblk m c 0 t : S1024x1024.Idx → EReal) = tab fun r k => xs m c (1024 * (t.val / 4) + r) (1024 * 0 + k) :=
  (funext fun j => View.read_apply ..).trans (block_read _ _ (win0_0.index t) _ _ (index_a t) fun j => ⟨rfl, rfl⟩)

theorem block_b (t : Fin cfg0.N) :
    (iblk m c 1 t : S1024x1024.Idx → EReal) = tab fun k x => w m c (1024 * 0 + k) (1024 * (t.val % 4) + x) :=
  (funext fun j => View.read_apply ..).trans (block_read _ _ (win0_1.index t) _ _ (index_b t) fun j => ⟨rfl, rfl⟩)

/-- What a point leaves. -/
theorem out (t : Fin cfg0.N) : (out0_2 (iblk m c 0 t) (iblk m c 1 t) : S1024x1024.Idx → EReal)
    = tab fun r x => upTo (terms m c) 1024 (1024 * (t.val / 4) + r) (1024 * (t.val % 4) + x) := by
  unfold out0_2
  rw [View.canon_unit_zero zero2, View.ld_unit_zero (S := S1024x1024) zero2, View.ld_unit_zero (S := S1024x1024) zero2, block_a, block_b, part]
  exact tab_congr fun r _ x _ => Finset.sum_congr rfl fun k _ => by rw [Nat.mul_zero, Nat.zero_add]

/-- The kernel's array: the whole product. -/
theorem result : (dats m 0 c).arrAt 2 cfg0.N = (tab (upTo (terms m c) 1024) : S4096x4096.Idx → EReal) := by
  refine (dats m 0 c).arrAt_eq_of_covers 2 _ (by decide +kernel) fun t _ y => ?_
  blk_simp
  rw [after0_2]
  exact block_write _ _ _ _ (win0_2.index t) _ _ (index_o t) (out m c t) ⟨rfl, rfl⟩

/-! ## The claims -/

theorem frame_p : Cert.quiescent_Kernel20 := fun m g _ => Cert.Kernel20.Gen.frame m g
theorem frame_pi : Cert.quiescent_Kernel20Ideal := fun m g _ => Cert.Kernel20Ideal.Gen.frame m g
theorem frame_ri : Cert.quiescent_Reference20Ideal := fun m g _ =>
  (θ_run Cert.Reference20Ideal.defs _ _).mono (fun r h => ⟨fun c => (h c).2, sem_eq_zero_of_no_sems (by decide) r.2⟩)
    (Cert.Reference20Ideal.Value.run (F := Ideal) m g)

theorem algebraic : Cert.algebraic_Kernel20Ideal_Reference20Ideal := by
  intro m g m' g' _ hargs
  refine ⟨_, run_blocks m g, (θ_run Cert.Reference20Ideal.defs _ _).mono (fun r h c => ?_) (Cert.Reference20Ideal.Value.run (F := Ideal) m' g')⟩
  obtain ⟨hres, hrest⟩ := h c
  obtain ⟨e0, e1⟩ := hargs c
  rw [e0, e1] at hres
  refine ⟨hres.trans (Eq.trans ?_ (result m c).symm), hrest⟩
  exact host_nn_whole (φ₁ := .f32) (φ₂ := .f32) _ _ rfl (m ((c : Thread nD τ).loc main_arg0)) (m ((c : Thread nD τ).loc main_arg1))

end Cert.Proof.GdnIn

end
-- ==== Proof.Products.PleLast.lean ====
/-
  The last layer's gate product, and the residual with the gated per-layer embedding added.
-/
module

public import proofs.«01_k».proof.Defs
public import proofs.«01_k».proof.Proof.Product
public import proofs.«01_k».proof.Proof.Ffn.Gate
public import proofs.«01_k».proof.Proof.Gen.Kernel22.Frame
public import proofs.«01_k».proof.Proof.Gen.Kernel22Ideal.Value
public import proofs.«01_k».proof.Proof.Gen.Reference22Ideal.Run
public import Idealize.ShloMosaic.Lib.Pipeline.ValueKit
public import Idealize.ShloMosaic.Lib.Claim

@[expose] public section

noncomputable section

namespace Cert.Proof.PleLast

open Idealize.ShloMosaic Idealize.ShloMosaic.TcCoe Idealize.SL.Sem Cert.Proof.Owns Cert.Proof.Product Cert.Proof.Gate
open Cert.Kernel22Ideal Cert.Kernel22Ideal.Gen Cert.Kernel22Ideal.Value

theorem part (a b : ℕ → ℕ → EReal) :
    k0_pay1 (F := Ideal) (tab a) (tab b) = tab fun r x => ∑ k ∈ Finset.range 1024, a r k * b k x :=
  mxu_nn (φ₁ := .bf16) (φ₂ := .bf16) dot_S1024x1024_S1024x1024_S1024x1024_1_0_0_1_n_n _ rfl a b

/-- The gated addition, of a block whose product is known. -/
theorem added (a b : S1024x1024.Idx → EReal) (f h p : ℕ → ℕ → EReal) (hf : k0_pay1 (F := Ideal) a b = tab f) :
    k0_pay2 (F := Ideal) a b (tab h) (tab p) = tab fun r x => h r x + p r x * logistic (f r x) := by
  unfold k0_pay2
  dsimp only
  rw [hf, kernel_logistic]
  rfl

variable (m : (ℓ : Loc nD τ sig) → Buf (Elt Ideal) ℓ) (c : Dev nD)

/-- The arguments' entries. -/
abbrev hn : ℕ → ℕ → EReal := cell (m := 4096) (n := 1024) (m ((c : Thread nD τ).loc main_arg0))
abbrev w : ℕ → ℕ → EReal := cell (m := 1024) (n := 1024) (m ((c : Thread nD τ).loc main_arg1))
abbrev h : ℕ → ℕ → EReal := cell (m := 4096) (n := 1024) (m ((c : Thread nD τ).loc main_arg2))
abbrev pp : ℕ → ℕ → EReal := cell (m := 4096) (n := 1024) (m ((c : Thread nD τ).loc main_arg3))

/-- The gate's product, and the residual with what the gate lets through. -/
def gt : ℕ → ℕ → EReal := upTo (fun r x k => hn m c r k * w m c k x) 1024
def sum (r x : ℕ) : EReal := h m c r x + pp m c r x * logistic (gt m c r x)

theorem index_a : ∀ t : Fin cfg0.N, win0_0.index t = ![t.val, 0] := (by decide +kernel : ∀ t : Fin grid0.N, _)
theorem index_b : ∀ t : Fin cfg0.N, win0_1.index t = ![0, 0] := (by decide +kernel : ∀ t : Fin grid0.N, _)
theorem index_h : ∀ t : Fin cfg0.N, win0_2.index t = ![t.val, 0] := (by decide +kernel : ∀ t : Fin grid0.N, _)
theorem index_p : ∀ t : Fin cfg0.N, win0_3.index t = ![t.val, 0] := (by decide +kernel : ∀ t : Fin grid0.N, _)
theorem index_o : ∀ t : Fin cfg0.N, win0_4.index t = ![t.val, 0] := (by decide +kernel : ∀ t : Fin grid0.N, _)
theorem index_o' : ∀ t : Fin cfg0.N, win0_5.index t = ![t.val, 0] := (by decide +kernel : ∀ t : Fin grid0.N, _)

theorem block_a (t : Fin cfg0.N) :
    (iblk m c 0 t : S1024x1024.Idx → EReal) = tab fun r k => hn m c (1024 * t.val + r) (1024 * 0 + k) :=
  (funext fun j => View.read_apply ..).trans (block_read _ _ (win0_0.index t) _ _ (index_a t) fun j => ⟨rfl, rfl⟩)
theorem block_b (t : Fin cfg0.N) :
    (iblk m c 1 t : S1024x1024.Idx → EReal) = tab fun k x => w m c (1024 * 0 + k) (1024 * 0 + x) :=
  (funext fun j => View.read_apply ..).trans (block_read _ _ (win0_1.index t) _ _ (index_b t) fun j => ⟨rfl, rfl⟩)
theorem block_h (t : Fin cfg0.N) :
    (iblk m c 2 t : S1024x1024.Idx → EReal) = tab fun r x => h m c (1024 * t.val + r) (1024 * 0 + x) :=
  (funext fun j => View.read_apply ..).trans (block_read _ _ (win0_2.index t) _ _ (index_h t) fun j => ⟨rfl, rfl⟩)
theorem block_p (t : Fin cfg0.N) :
    (iblk m c 3 t : S1024x1024.Idx → EReal) = tab fun r x => pp m c (1024 * t.val + r) (1024 * 0 + x) :=
  (funext fun j => View.read_apply ..).trans (block_read _ _ (win0_3.index t) _ _ (index_p t) fun j => ⟨rfl, rfl⟩)

theorem part_at (t : Fin cfg0.N) : k0_pay1 (F := Ideal) (iblk m c 0 t) (iblk m c 1 t) = tab fun r x => gt m c (1024 * t.val + r) (1024 * 0 + x) := by
  rw [block_a, block_b, part]
  exact tab_congr fun r _ x _ => Finset.sum_congr rfl fun k _ => by rw [Nat.mul_zero, Nat.zero_add]

/-- What a point leaves of the product, and of the sum. -/
theorem out (t : Fin cfg0.N) : (out0_4 (iblk m c 0 t) (iblk m c 1 t) (iblk m c 2 t) (iblk m c 3 t) : S1024x1024.Idx → EReal)
    = tab fun r x => gt m c (1024 * t.val + r) (1024 * 0 + x) := by
  unfold out0_4
  rw [View.canon_unit_zero zero2, View.ld_unit_zero (S := S1024x1024) zero2, View.ld_unit_zero (S := S1024x1024) zero2]
  exact part_at m c t
theorem out' (t : Fin cfg0.N) : (out0_5 (iblk m c 0 t) (iblk m c 1 t) (iblk m c 2 t) (iblk m c 3 t) : S1024x1024.Idx → EReal)
    = tab fun r x => sum m c (1024 * t.val + r) (1024 * 0 + x) := by
  unfold out0_5
  rw [View.canon_unit_zero zero2, View.ld_unit_zero (S := S1024x1024) zero2, View.ld_unit_zero (S := S1024x1024) zero2,
    View.ld_unit_zero (S := S1024x1024) zero2, View.ld_unit_zero (S := S1024x1024) zero2, block_h, block_p]
  exact added _ _ _ _ _ (part_at m c t)

/-- The kernel's two arrays. -/
theorem result : (dats m 0 c).arrAt 4 cfg0.N = (tab (gt m c) : S4096x1024.Idx → EReal) := by
  refine (dats m 0 c).arrAt_eq_of_covers 4 _ (by decide +kernel) fun t _ y => ?_
  blk_simp
  rw [after0_4]
  exact block_write _ _ _ _ (win0_4.index t) _ _ (index_o t) (out m c t) ⟨rfl, rfl⟩
theorem result' : (dats m 0 c).arrAt 5 cfg0.N = (tab (sum m c) : S4096x1024.Idx → EReal) := by
  refine (dats m 0 c).arrAt_eq_of_covers 5 _ (by decide +kernel) fun t _ y => ?_
  blk_simp
  rw [after0_5]
  exact block_write _ _ _ _ (win0_5.index t) _ _ (index_o' t) (out' m c t) ⟨rfl, rfl⟩

/-! ## The reference, and the claims -/

/-- The reference's gated addition, of a product that is known. -/
theorem reference (u p d : S4096x1024.Idx → EReal) (f : ℕ → ℕ → EReal) (hd : d = tab f) (hb : (⟨0, ![]⟩ : Shape).BroadcastsInDim S4096x1024 ![]) :
    addf (F := Ideal) (φ := .f32) u (mulf (F := Ideal) (φ := .f32) p (Host.divf (F := Ideal) (φ := .f32) (broadcastInDim S4096x1024 ![] hb (constant ⟨0, ![]⟩ .f32 0x3F800000#32))
        (addf (broadcastInDim S4096x1024 ![] hb (constant ⟨0, ![]⟩ .f32 0x3F800000#32)) (Host.exp (Host.negf d)))))
      = tab fun r x => cell (m := 4096) (n := 1024) u r x + cell (m := 4096) (n := 1024) p r x * logistic (f r x) := by
  subst hd
  rw [host_logistic]
  exact congrArg₂ (fun a b => addf (F := Ideal) (φ := .f32) a (mulf (F := Ideal) (φ := .f32) b fun i => logistic (tab f i))) (tab_cell u).symm (tab_cell p).symm

theorem frame_p : Cert.quiescent_Kernel22 := fun m g _ => Cert.Kernel22.Gen.frame m g
theorem frame_pi : Cert.quiescent_Kernel22Ideal := fun m g _ => Cert.Kernel22Ideal.Gen.frame m g
theorem frame_ri : Cert.quiescent_Reference22Ideal := fun m g _ =>
  (θ_run Cert.Reference22Ideal.defs _ _).mono (fun r h => ⟨fun c => (h c).2.2, sem_eq_zero_of_no_sems (by decide) r.2⟩)
    (Cert.Reference22Ideal.Value.run (F := Ideal) m g)

theorem algebraic : Cert.algebraic_Kernel22Ideal_Reference22Ideal := by
  intro m g m' g' _ hargs
  refine ⟨_, _, run_blocks m g, (θ_run Cert.Reference22Ideal.defs _ _).mono (fun r h c => ?_) (Cert.Reference22Ideal.Value.run (F := Ideal) m' g')⟩
  obtain ⟨hres, hres', hrest⟩ := h c
  obtain ⟨e0, e1, e2, e3⟩ := hargs c
  rw [e0, e1] at hres
  rw [e0, e1, e2, e3] at hres'
  have hg := host_nn_whole (φ₁ := .f32) (φ₂ := .f32) Cert.Reference22Ideal.dot_S4096x1024_S1024x1024_S4096x1024_1_0_0_1_n_n _ rfl
    (m ((c : Thread nD τ).loc main_arg0)) (m ((c : Thread nD τ).loc main_arg1))
  refine ⟨hres.trans (Eq.trans ?_ (result m c).symm), hres'.trans (Eq.trans ?_ (result' m c).symm), hrest⟩
  · exact hg
  · exact reference _ _ _ _ hg _

end Cert.Proof.PleLast

end
-- ==== Proof.Products.PleGate.lean ====
/-
  A layer's gate product, the residual with the gated per-layer embedding added, and that sum's root-mean-square normalization.
-/
module

public import proofs.«01_k».proof.Defs
public import proofs.«01_k».proof.Proof.Rms
public import proofs.«01_k».proof.Proof.Products.PleLast
public import proofs.«01_k».proof.Proof.Gen.Kernel21.Frame
public import proofs.«01_k».proof.Proof.Gen.Kernel21Ideal.Value
public import proofs.«01_k».proof.Proof.Gen.Reference21Ideal.Run
public import Idealize.ShloMosaic.Lib.Pipeline.ValueKit
public import Idealize.ShloMosaic.Lib.Claim

@[expose] public section

noncomputable section

namespace Cert.Proof.PleGate

open Idealize.ShloMosaic Idealize.ShloMosaic.TcCoe Idealize.SL.Sem Cert.Proof.Owns Cert.Proof.Product Cert.Proof.Gate Cert.Proof.Rms
open Cert.Kernel21Ideal Cert.Kernel21Ideal.Gen Cert.Kernel21Ideal.Value

variable (m : (ℓ : Loc nD τ sig) → Buf (Elt Ideal) ℓ) (c : Dev nD)

/-- The arguments' entries. -/
abbrev hn : ℕ → ℕ → EReal := cell (m := 4096) (n := 1024) (m ((c : Thread nD τ).loc main_arg0))
abbrev w : ℕ → ℕ → EReal := cell (m := 1024) (n := 1024) (m ((c : Thread nD τ).loc main_arg1))
abbrev h : ℕ → ℕ → EReal := cell (m := 4096) (n := 1024) (m ((c : Thread nD τ).loc main_arg2))
abbrev pp : ℕ → ℕ → EReal := cell (m := 4096) (n := 1024) (m ((c : Thread nD τ).loc main_arg3))
abbrev gain (x : ℕ) : EReal := cell (m := 1) (n := 1024) (m ((c : Thread nD τ).loc main_arg4)) 0 x

/-- The gate's product, and the residual with what the gate lets through. -/
def gt : ℕ → ℕ → EReal := upTo (fun r x k => hn m c r k * w m c k x) 1024
def sum (r x : ℕ) : EReal := h m c r x + pp m c r x * logistic (gt m c r x)

theorem index_a : ∀ t : Fin cfg0.N, win0_0.index t = ![t.val, 0] := (by decide +kernel : ∀ t : Fin grid0.N, _)
theorem index_b : ∀ t : Fin cfg0.N, win0_1.index t = ![0, 0] := (by decide +kernel : ∀ t : Fin grid0.N, _)
theorem index_h : ∀ t : Fin cfg0.N, win0_2.index t = ![t.val, 0] := (by decide +kernel : ∀ t : Fin grid0.N, _)
theorem index_p : ∀ t : Fin cfg0.N, win0_3.index t = ![t.val, 0] := (by decide +kernel : ∀ t : Fin grid0.N, _)
theorem index_g : ∀ t : Fin cfg0.N, win0_4.index t = ![0, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)

theorem block_a (t : Fin cfg0.N) :
    (iblk m c 0 t : S1024x1024.Idx → EReal) = tab fun r k => hn m c (1024 * t.val + r) (1024 * 0 + k) :=
  (funext fun j => View.read_apply ..).trans (block_read _ _ (win0_0.index t) _ _ (index_a t) fun j => ⟨rfl, rfl⟩)
theorem block_b (t : Fin cfg0.N) :
    (iblk m c 1 t : S1024x1024.Idx → EReal) = tab fun k x => w m c (1024 * 0 + k) (1024 * 0 + x) :=
  (funext fun j => View.read_apply ..).trans (block_read _ _ (win0_1.index t) _ _ (index_b t) fun j => ⟨rfl, rfl⟩)
theorem block_h (t : Fin cfg0.N) :
    (iblk m c 2 t : S1024x1024.Idx → EReal) = tab fun r x => h m c (1024 * t.val + r) (1024 * 0 + x) :=
  (funext fun j => View.read_apply ..).trans (block_read _ _ (win0_2.index t) _ _ (index_h t) fun j => ⟨rfl, rfl⟩)
theorem block_p (t : Fin cfg0.N) :
    (iblk m c 3 t : S1024x1024.Idx → EReal) = tab fun r x => pp m c (1024 * t.val + r) (1024 * 0 + x) :=
  (funext fun j => View.read_apply ..).trans (block_read _ _ (win0_3.index t) _ _ (index_p t) fun j => ⟨rfl, rfl⟩)
theorem block_g (t : Fin cfg0.N) :
    (iblk m c 4 t : S1x1024.Idx → EReal) = tab fun r x => cell (m := 1) (n := 1024) (m ((c : Thread nD τ).loc main_arg4)) (1 * 0 + r) (1024 * 0 + x) :=
  (funext fun j => View.read_apply ..).trans (block_read _ _ (win0_4.index t) _ _ (index_g t) fun j => ⟨rfl, rfl⟩)

/-- A point's product, and its sum. -/
theorem part_at (t : Fin cfg0.N) : k0_pay1 (F := Ideal) (iblk m c 0 t) (iblk m c 1 t) = tab fun r x => gt m c (1024 * t.val + r) (1024 * 0 + x) := by
  rw [block_a, block_b]
  refine (mxu_nn (φ₁ := .bf16) (φ₂ := .bf16) dot_S1024x1024_S1024x1024_S1024x1024_1_0_0_1_n_n _ rfl _ _).trans ?_
  exact tab_congr fun r _ x _ => Finset.sum_congr rfl fun k _ => by rw [Nat.mul_zero, Nat.zero_add]
theorem added (t : Fin cfg0.N) : k0_pay2 (F := Ideal) (iblk m c 0 t) (iblk m c 1 t) (iblk m c 2 t) (iblk m c 3 t)
    = tab fun r x => sum m c (1024 * t.val + r) (1024 * 0 + x) := by
  unfold k0_pay2
  dsimp only
  rw [part_at, kernel_logistic, block_h, block_p]
  rfl

/-- What a point leaves of the product, of the sum, and of the normalized sum. -/
theorem out (t : Fin cfg0.N) : (out0_5 (iblk m c 0 t) (iblk m c 1 t) (iblk m c 2 t) (iblk m c 3 t) (iblk m c 4 t) : S1024x1024.Idx → EReal)
    = tab fun r x => gt m c (1024 * t.val + r) (1024 * 0 + x) := by
  unfold out0_5
  rw [View.canon_unit_zero zero2, View.ld_unit_zero (S := S1024x1024) zero2, View.ld_unit_zero (S := S1024x1024) zero2]
  exact part_at m c t
theorem out' (t : Fin cfg0.N) : (out0_6 (iblk m c 0 t) (iblk m c 1 t) (iblk m c 2 t) (iblk m c 3 t) (iblk m c 4 t) : S1024x1024.Idx → EReal)
    = tab fun r x => sum m c (1024 * t.val + r) (1024 * 0 + x) := by
  unfold out0_6
  rw [View.canon_unit_zero zero2, View.ld_unit_zero (S := S1024x1024) zero2, View.ld_unit_zero (S := S1024x1024) zero2,
    View.ld_unit_zero (S := S1024x1024) zero2, View.ld_unit_zero (S := S1024x1024) zero2]
  exact added m c t
theorem out'' (t : Fin cfg0.N) : (out0_7 (iblk m c 0 t) (iblk m c 1 t) (iblk m c 2 t) (iblk m c 3 t) (iblk m c 4 t) : S1024x1024.Idx → EReal)
    = tab fun r x => rms (sum m c) (gain m c) (1024 * t.val + r) (1024 * 0 + x) := by
  unfold out0_7
  rw [View.canon_unit_zero zero2, View.ld_unit_zero (S := S1024x1024) zero2, View.ld_unit_zero (S := S1024x1024) zero2,
    View.ld_unit_zero (S := S1024x1024) zero2, View.ld_unit_zero (S := S1024x1024) zero2, View.ld_unit_zero (S := S1x1024) zero2]
  unfold k0_pay3
  dsimp only
  rw [added, block_g]
  refine (kernel_rms _ _ (gain m c) (fun x => by rw [tab_ix2]; congr 1; omega) _ _ _ _ _ _).trans (tab_congr fun r _ x _ => ?_)
  simp only [Nat.mul_zero, Nat.zero_add]
  rfl

/-- The kernel's three arrays. -/
theorem result : (dats m 0 c).arrAt 5 cfg0.N = (tab (gt m c) : S4096x1024.Idx → EReal) := by
  refine (dats m 0 c).arrAt_eq_of_covers 5 _ (by decide +kernel) fun t _ y => ?_
  blk_simp
  rw [after0_5]
  exact block_write _ _ _ _ (win0_5.index t) _ _ (index_5 t) (out m c t) ⟨rfl, rfl⟩
theorem result' : (dats m 0 c).arrAt 6 cfg0.N = (tab (sum m c) : S4096x1024.Idx → EReal) := by
  refine (dats m 0 c).arrAt_eq_of_covers 6 _ (by decide +kernel) fun t _ y => ?_
  blk_simp
  rw [after0_6]
  exact block_write _ _ _ _ (win0_6.index t) _ _ (index_6 t) (out' m c t) ⟨rfl, rfl⟩
theorem result'' : (dats m 0 c).arrAt 7 cfg0.N = (tab (rms (sum m c) (gain m c)) : S4096x1024.Idx → EReal) := by
  refine (dats m 0 c).arrAt_eq_of_covers 7 _ (by decide +kernel) fun t _ y => ?_
  blk_simp
  rw [after0_7]
  exact block_write _ _ _ _ (win0_7.index t) _ _ (index_7 t) (out'' m c t) ⟨rfl, rfl⟩

/-! ## The claims -/

theorem frame_p : Cert.quiescent_Kernel21 := fun m g _ => Cert.Kernel21.Gen.frame m g
theorem frame_pi : Cert.quiescent_Kernel21Ideal := fun m g _ => Cert.Kernel21Ideal.Gen.frame m g
theorem frame_ri : Cert.quiescent_Reference21Ideal := fun m g _ =>
  (θ_run Cert.Reference21Ideal.defs _ _).mono (fun r h => ⟨fun c => (h c).2.2.2, sem_eq_zero_of_no_sems (by decide) r.2⟩)
    (Cert.Reference21Ideal.Value.run (F := Ideal) m g)

theorem algebraic : Cert.algebraic_Kernel21Ideal_Reference21Ideal := by
  intro m g m' g' _ hargs
  refine ⟨_, _, _, run_blocks m g, (θ_run Cert.Reference21Ideal.defs _ _).mono (fun r h c => ?_) (Cert.Reference21Ideal.Value.run (F := Ideal) m' g')⟩
  obtain ⟨hres, hres', hres'', hrest⟩ := h c
  obtain ⟨e0, e1, e2, e3, e4⟩ := hargs c
  rw [e0, e1] at hres
  rw [e0, e1, e2, e3] at hres'
  rw [e0, e1, e2, e3, e4] at hres''
  have hg := host_nn_whole (φ₁ := .f32) (φ₂ := .f32) Cert.Reference21Ideal.dot_S4096x1024_S1024x1024_S4096x1024_1_0_0_1_n_n _ rfl
    (m ((c : Thread nD τ).loc main_arg0)) (m ((c : Thread nD τ).loc main_arg1))
  have hs := PleLast.reference (m ((c : Thread nD τ).loc main_arg2)) (m ((c : Thread nD τ).loc main_arg3)) _ _ hg
  refine ⟨hres.trans (Eq.trans ?_ (result m c).symm), hres'.trans (Eq.trans ?_ (result' m c).symm), hres''.trans (Eq.trans ?_ (result'' m c).symm), hrest⟩
  · exact hg
  · exact hs _
  · exact host_rms _ _ (hs _) _ (gain m c) (fun x => (cell_val (m := 1) (n := 1024) _ 0 x).symm) _ _ _ _ _ _

end Cert.Proof.PleGate

end
-- ==== Proof.Products.PleProj.lean ====
/-
  The projection of the per-layer embeddings.
-/
module

public import proofs.«01_k».proof.Defs
public import proofs.«01_k».proof.Proof.Product
public import proofs.«01_k».proof.Proof.Gen.Kernel23.Frame
public import proofs.«01_k».proof.Proof.Gen.Kernel23Ideal.Value
public import proofs.«01_k».proof.Proof.Gen.Reference23Ideal.Run
public import Idealize.ShloMosaic.Lib.Pipeline.ValueKit
public import Idealize.ShloMosaic.Lib.Claim

@[expose] public section

noncomputable section

namespace Cert.Proof.PleProj

open Idealize.ShloMosaic Idealize.ShloMosaic.TcCoe Idealize.SL.Sem Cert.Proof.Owns Cert.Proof.Product
open Cert.Kernel23Ideal Cert.Kernel23Ideal.Gen Cert.Kernel23Ideal.Value

theorem part (a b : ℕ → ℕ → EReal) :
    k0_pay1 (F := Ideal) (tab a) (tab b) = tab fun r x => ∑ k ∈ Finset.range 256, a r k * b k x :=
  mxu_nn (φ₁ := .bf16) (φ₂ := .bf16) dot_S1024x256_S256x1024_S1024x1024_1_0_0_1_n_n _ rfl a b

variable (m : (ℓ : Loc nD τ sig) → Buf (Elt Ideal) ℓ) (c : Dev nD)

/-- The arguments' entries. -/
abbrev e : ℕ → ℕ → EReal := cell (m := 4096) (n := 256) (m ((c : Thread nD τ).loc main_arg0))
abbrev w : ℕ → ℕ → EReal := cell (m := 256) (n := 1024) (m ((c : Thread nD τ).loc main_arg1))

/-- The products an entry sums. -/
abbrev terms (r x k : ℕ) : EReal := e m c r k * w m c k x

theorem index_a : ∀ t : Fin cfg0.N, win0_0.index t = ![t.val, 0] := (by decide +kernel : ∀ t : Fin grid0.N, _)
theorem index_b : ∀ t : Fin cfg0.N, win0_1.index t = ![0, 0] := (by decide +kernel : ∀ t : Fin grid0.N, _)
theorem index_o : ∀ t : Fin cfg0.N, win0_2.index t = ![t.val, 0] := (by decide +kernel : ∀ t : Fin grid0.N, _)

theorem block_a (t : Fin cfg0.N) :
    (iblk m c 0 t : S1024x256.Idx → EReal) = tab fun r k => e m c (1024 * t.val + r) (256 * 0 + k) :=
  (funext fun j => View.read_apply ..).trans (block_read _ _ (win0_0.index t) _ _ (index_a t) fun j => ⟨rfl, rfl⟩)

theorem block_b (t : Fin cfg0.N) :
    (iblk m c 1 t : S256x1024.Idx → EReal) = tab fun k x => w m c (256 * 0 + k) (1024 * 0 + x) :=
  (funext fun j => View.read_apply ..).trans (block_read _ _ (win0_1.index t) _ _ (index_b t) fun j => ⟨rfl, rfl⟩)

/-- What a point leaves. -/
theorem out (t : Fin cfg0.N) : (out0_2 (iblk m c 0 t) (iblk m c 1 t) : S1024x1024.Idx → EReal)
    = tab fun r x => upTo (terms m c) 256 (1024 * t.val + r) (1024 * 0 + x) := by
  unfold out0_2
  rw [View.canon_unit_zero zero2, View.ld_unit_zero (S := S1024x256) zero2, View.ld_unit_zero (S := S256x1024) zero2, block_a, block_b, part]
  exact tab_congr fun r _ x _ => Finset.sum_congr rfl fun k _ => by rw [Nat.mul_zero, Nat.zero_add]

/-- The kernel's array: the whole product. -/
theorem result : (dats m 0 c).arrAt 2 cfg0.N = (tab (upTo (terms m c) 256) : S4096x1024.Idx → EReal) := by
  refine (dats m 0 c).arrAt_eq_of_covers 2 _ (by decide +kernel) fun t _ y => ?_
  blk_simp
  rw [after0_2]
  exact block_write _ _ _ _ (win0_2.index t) _ _ (index_o t) (out m c t) ⟨rfl, rfl⟩

/-! ## The claims -/

theorem frame_p : Cert.quiescent_Kernel23 := fun m g _ => Cert.Kernel23.Gen.frame m g
theorem frame_pi : Cert.quiescent_Kernel23Ideal := fun m g _ => Cert.Kernel23Ideal.Gen.frame m g
theorem frame_ri : Cert.quiescent_Reference23Ideal := fun m g _ =>
  (θ_run Cert.Reference23Ideal.defs _ _).mono (fun r h => ⟨fun c => (h c).2, sem_eq_zero_of_no_sems (by decide) r.2⟩)
    (Cert.Reference23Ideal.Value.run (F := Ideal) m g)

theorem algebraic : Cert.algebraic_Kernel23Ideal_Reference23Ideal := by
  intro m g m' g' _ hargs
  refine ⟨_, run_blocks m g, (θ_run Cert.Reference23Ideal.defs _ _).mono (fun r h c => ?_) (Cert.Reference23Ideal.Value.run (F := Ideal) m' g')⟩
  obtain ⟨hres, hrest⟩ := h c
  obtain ⟨e0, e1⟩ := hargs c
  rw [e0, e1] at hres
  refine ⟨hres.trans (Eq.trans ?_ (result m c).symm), hrest⟩
  exact host_nn_whole (φ₁ := .f32) (φ₂ := .f32) _ _ rfl (m ((c : Thread nD τ).loc main_arg0)) (m ((c : Thread nD τ).loc main_arg1))

end Cert.Proof.PleProj

end
-- ==== Proof.Products.PleProjDw.lean ====
/-
  The gradient of the per-layer embeddings' projection: the two halves of the tokens add up to the whole product.
-/
module

public import proofs.«01_k».proof.Defs
public import proofs.«01_k».proof.Proof.Product
public import proofs.«01_k».proof.Proof.Gen.Kernel24.Frame
public import proofs.«01_k».proof.Proof.Gen.Kernel24Ideal.Value
public import proofs.«01_k».proof.Proof.Gen.Reference24Ideal.Run
public import Idealize.ShloMosaic.Lib.Claim

@[expose] public section

noncomputable section

namespace Cert.Proof.PleProjDw

open Idealize.ShloMosaic Idealize.ShloMosaic.TcCoe Idealize.SL.Sem Cert.Proof.Owns Cert.Proof.Product
open Cert.Kernel24Ideal Cert.Kernel24Ideal.Gen Cert.Kernel24Ideal.Value

/-! ## What a point leaves -/

section Cases
variable {F : FTy → Type} [FloatOps F] (c : Dev nD) (i : grid0.Coords)
  (a3 : Memref sig .tc .vmem S2048x256 .f32) (h3 : a3.IsWhole) (a4 : Memref sig .tc .vmem S2048x1024 .bf16) (h4 : a4.IsWhole)
  (a5 : Memref sig .tc .vmem S256x1024 .f32) (h5 : a5.IsWhole) (a6 : Memref sig .tc .vmem S256x1024 .f32) (h6 : a6.IsWhole)
  (x0 : Vec F S2048x256 .f32) (x1 : Vec F S2048x1024 .bf16) (xs : Vec F S256x1024 .f32)

theorem first_acc (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero zero2]
  simp only [View.readAt_eq_ld, h3.read_unread, h4.read_unread, View.ld_unit_zero (S := S2048x256) zero2, View.ld_unit_zero (S := S2048x1024) zero2]

theorem last_out (hc0 : ¬cond0_0 i) (hc1 : cond0_1 i) (hc2 : cond0_2 i) :
    out0_B_2 c i a3 h3 a4 h4 a5 h5 a6 h6 hc0 hc1 hc2 x0 x1 xs = k0_pay3 x0 x1 xs := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero zero2]
  simp only [View.readCov_unit_zero (S := S256x1024) _ zero2, View.readAt_eq_ld, h3.read_unread, h4.read_unread, h6.read_unread,
    View.ld_unit_zero (S := S2048x256) zero2, View.ld_unit_zero (S := S2048x1024) zero2, View.ld_unit_zero (S := S256x1024) zero2]

end Cases

/-! ## Over the extended reals -/

theorem part (a b : ℕ → ℕ → EReal) :
    k0_pay1 (F := Ideal) (tab a) (tab b) = tab fun r x => ∑ k ∈ Finset.range 2048, a k r * b k x :=
  mxu_tn (φ₁ := .bf16) (φ₂ := .bf16) dot_S2048x256_S2048x1024_S256x1024_0_0_1_1_n_n _ rfl a b

variable (m : (ℓ : Loc nD τ sig) → Buf (Elt Ideal) ℓ) (c : Dev nD)

/-- The arguments' entries. -/
abbrev e : ℕ → ℕ → EReal := cell (m := 4096) (n := 256) (m ((c : Thread nD τ).loc main_arg0))
abbrev d : ℕ → ℕ → EReal := cell (m := 4096) (n := 1024) (m ((c : Thread nD τ).loc main_arg1))

/-- The products an entry sums. -/
abbrev terms (r x k : ℕ) : EReal := e m c k r * d m c k x

theorem index_a : ∀ t : Fin cfg0.N, win0_0.index t = ![t.val, 0] := (by decide +kernel : ∀ t : Fin grid0.N, _)
theorem index_b : ∀ t : Fin cfg0.N, win0_1.index t = ![t.val, 0] := (by decide +kernel : ∀ t : Fin grid0.N, _)

theorem block_a (t : Fin cfg0.N) :
    (iblk m c 0 t : S2048x256.Idx → EReal) = tab fun k r => e m c (2048 * t.val + k) (256 * 0 + r) :=
  (funext fun j => View.read_apply ..).trans (block_read _ _ (win0_0.index t) _ _ (index_a t) fun j => ⟨rfl, rfl⟩)
theorem block_b (t : Fin cfg0.N) :
    (iblk m c 1 t : S2048x1024.Idx → EReal) = tab fun k x => d m c (2048 * t.val + k) (1024 * 0 + x) :=
  (funext fun j => View.read_apply ..).trans (block_read _ _ (win0_1.index t) _ _ (index_b t) fun j => ⟨rfl, rfl⟩)

theorem part_at (t : Fin cfg0.N) : k0_pay1 (F := Ideal) (iblk m c 0 t) (iblk m c 1 t)
    = tab fun r x => ∑ k ∈ Finset.range 2048, terms m c (256 * 0 + r) (1024 * 0 + x) (2048 * t.val + k) := by
  rw [block_a, block_b, part]

theorem acc (t : Fin cfg0.N) (h0 : t.val = 0) : (outsAt0 m c t.val t.isLt).2
    = (tab fun r x => upTo (terms m c) (2048 * (0 + 1)) (256 * 0 + r) (1024 * 0 + x) : S256x1024.Idx → EReal) := by
  rw [outsAt0_A m c t (by omega) (by omega) (by omega)]
  dsimp only
  rw [first_acc]
  refine (shapeCast_self _ _).trans ((part_at m c t).trans ?_)
  rw [h0]
  exact first_part (terms m c) 2048 (256 * 0) (1024 * 0)

/-- What the last point writes. -/
theorem out (t : Fin cfg0.N) (h1 : t.val = 1) : (outsAt0 m c t.val t.isLt).1
    = (tab fun r x => upTo (terms m c) 4096 (256 * 0 + r) (1024 * 0 + x) : S256x1024.Idx → EReal) := by
  rw [outsAt0_B m c t (by omega) (by omega) (by omega)]
  dsimp only
  rw [last_out, acc m c ⟨t.val - 1, by omega⟩ (by dsimp only; omega)]
  refine (shapeCast_self _ _).trans ((congrArg (addf (F := Ideal) _) (part_at m c t)).trans ?_)
  rw [h1]
  exact next_part (terms m c) 2048 1 (256 * 0) (1024 * 0)

/-- The kernel's array: the whole product. -/
theorem result : G2 m c = (tab (upTo (terms m c) 4096) : S256x1024.Idx → EReal) := by
  funext i
  have h0 : (i 0).val < 256 := (i 0).isLt
  have h1 : (i 1).val < 1024 := (i 1).isLt
  have hp : pt2Of i = 1 := by
    show 2 * (1 * ((i 0).val / 256 - 0) + 1 * ((i 1).val / 1024 - 0)) + 1 = _; omega
  have hb : pt2Of i < cfg0.N := by rw [hp, show cfg0.N = 2 from N_0]; omega
  unfold G2
  rw [dif_pos hb, ← outsAt0_sweep m c (pt2Of i) hb, out m c ⟨pt2Of i, hb⟩ hp]
  show upTo (terms m c) 4096 (256 * 0 + (i 0).val % 256) (1024 * 0 + (i 1).val % 1024) = upTo (terms m c) 4096 (i 0).val (i 1).val
  congr 1 <;> omega

/-! ## The claims -/

theorem frame_p : Cert.quiescent_Kernel24 := fun m g _ => Cert.Kernel24.Gen.frame m g
theorem frame_pi : Cert.quiescent_Kernel24Ideal := fun m g _ => Cert.Kernel24Ideal.Gen.frame m g
theorem frame_ri : Cert.quiescent_Reference24Ideal := fun m g _ =>
  (θ_run Cert.Reference24Ideal.defs _ _).mono (fun r h => ⟨fun c => (h c).2, sem_eq_zero_of_no_sems (by decide) r.2⟩)
    (Cert.Reference24Ideal.Value.run (F := Ideal) m g)

theorem algebraic : Cert.algebraic_Kernel24Ideal_Reference24Ideal := by
  intro m g m' g' _ hargs
  refine ⟨_, run m g, (θ_run Cert.Reference24Ideal.defs _ _).mono (fun r h c => ?_) (Cert.Reference24Ideal.Value.run (F := Ideal) m' g')⟩
  obtain ⟨hres, hrest⟩ := h c
  obtain ⟨e0, e1⟩ := hargs c
  rw [e0, e1] at hres
  refine ⟨hres.trans (Eq.trans ?_ (result m c).symm), hrest⟩
  exact host_tn_turned (φ₁ := .f32) (φ₂ := .f32) _ _ rfl (m ((c : Thread nD τ).loc main_arg0)) (m ((c : Thread nD τ).loc main_arg1)) _

end Cert.Proof.PleProjDw

end
-- ==== Proof.RmsBwd.lean ====
/-
  The gradients of the root-mean-square normalization: of its rows, added to what the residual carries, and of its gains, which the
  kernel adds up 256 rows at a time.
-/
module

public import proofs.«01_k».proof.Defs
public import proofs.«01_k».proof.Proof.Rms
public import proofs.«01_k».proof.Proof.Gen.Kernel25.Frame
public import proofs.«01_k».proof.Proof.Gen.Kernel25Ideal.Value
public import proofs.«01_k».proof.Proof.Gen.Reference25Ideal.Run
public import Idealize.ShloMosaic.Lib.Pipeline.ValueKit
public import Idealize.ShloMosaic.Lib.Claim

@[expose] public section

noncomputable section

namespace Cert.Proof.RmsBwd

open Idealize.ShloMosaic Idealize.ShloMosaic.TcCoe Idealize.SL.Sem Cert.Proof.Owns Cert.Proof.Product Cert.Proof.Rms
open Cert.Kernel25Ideal Cert.Kernel25Ideal.Gen Cert.Kernel25Ideal.Value

/-! ## The gradients -/

/-- A row's mean square, the small constant added. -/
def ms (X : ℕ → ℕ → EReal) (r : ℕ) : EReal :=
  Ideal.div (∑ k ∈ Finset.range 1024, X r k * X r k) (Ideal.ofBits .f32 0x44800000#32) + Ideal.ofBits .f32 0x358637BD#32

/-- What a row's mean square passes on to each of its entries, from the gradient `Y` that arrives and the gains `g`. -/
def back (X Y : ℕ → ℕ → EReal) (g : ℕ → EReal) (r : ℕ) : EReal :=
  Ideal.div ((∑ k ∈ Finset.range 1024, X r k * (Y r k * g k)) * (Ideal.ofBits .f32 0xBF000000#32 * Ideal.div (Rms.inv X r) (ms X r)))
    (Ideal.ofBits .f32 0x44800000#32)

/-- The gradient of the rows, with the residual's `Z`. -/
def rows (X Y Z : ℕ → ℕ → EReal) (g : ℕ → EReal) (r x : ℕ) : EReal :=
  Z r x + (Y r x * g x * Rms.inv X r + X r x * back X Y g r + back X Y g r * X r x)

/-- The terms of a gain's gradient, one a row. -/
def gains (X Y : ℕ → ℕ → EReal) (r x k : ℕ) : EReal := X k x * Rms.inv X k * Y k x

/-! ## What a point leaves -/

section Cases
variable {F : FTy → Type} [FloatOps F] (c : Dev nD) (i : grid0.Coords)
  (a2 : Memref sig .tc .vmem S256x1024 .f32) (h2 : a2.IsWhole) (a3 : Memref sig .tc .vmem S256x1024 .f32) (h3 : a3.IsWhole)
  (a4 : Memref sig .tc .vmem S256x1024 .f32) (h4 : a4.IsWhole) (a5 : Memref sig .tc .vmem S1x1024 .f32) (h5 : a5.IsWhole)
  (a6 : Memref sig .tc .vmem S256x1024 .f32) (h6 : a6.IsWhole) (a7 : Memref sig .tc .vmem S1x1024 .f32) (h7 : a7.IsWhole)
  (x0 : Vec F S256x1024 .f32) (x1 : Vec F S256x1024 .f32) (x2 : Vec F S256x1024 .f32) (x3 : Vec F S1x1024 .f32) (xo : Vec F S1x1024 .f32)

theorem first_rows (hc0 : cond0_0 i) (hc1 : ¬cond0_1 i) :
    out0_A_4 c i a2 h2 a3 h3 a4 h4 a5 h5 a6 h6 a7 h7 hc0 hc1 x0 x1 x2 x3 = k0_pay5 x0 x1 x2 x3 := by
  unfold out0_A_4
  rw [View.read_writes_eq_canon _ _ _ (cover0_A_4 c i a2 h2 a3 h3 a4 h4 a5 h5 a6 h6 a7 h7 hc0 hc1 x0 x1 x2 x3)]
  unfold kernelRun0_A
  dsimp only
  sl_unfold_words
  rw [View.canon_unit_zero zero2]
  simp only [View.readAt_eq_ld, h2.read_unread, h3.read_unread, h4.read_unread, h5.read_unread,
    View.ld_unit_zero (S := S256x1024) zero2, View.ld_unit_zero (S := S1x1024) zero2]

theorem first_gains (hc0 : cond0_0 i) (hc1 : ¬cond0_1 i) :
    out0_A_5 c i a2 h2 a3 h3 a4 h4 a5 h5 a6 h6 a7 h7 hc0 hc1 x0 x1 x2 x3 = k0_pay4 x0 x1 := by
  unfold out0_A_5
  rw [View.read_writes_eq_canon _ _ _ (cover0_A_5 c i a2 h2 a3 h3 a4 h4 a5 h5 a6 h6 a7 h7 hc0 hc1 x0 x1 x2 x3)]
  unfold kernelRun0_A
  dsimp only
  sl_unfold_words
  rw [View.canon_unit_zero zero2]
  simp only [View.readAt_eq_ld, h2.read_unread, h3.read_unread, View.ld_unit_zero (S := S256x1024) zero2]

theorem next_rows (hc0 : ¬cond0_0 i) (hc1 : cond0_1 i) :
    out0_B_4 c i a2 h2 a3 h3 a4 h4 a5 h5 a6 h6 a7 h7 hc0 hc1 x0 x1 x2 x3 xo = k0_pay5 x0 x1 x2 x3 := by
  unfold out0_B_4
  rw [View.read_writes_eq_canon _ _ _ (cover0_B_4 c i a2 h2 a3 h3 a4 h4 a5 h5 a6 h6 a7 h7 hc0 hc1 x0 x1 x2 x3 xo)]
  unfold kernelRun0_B
  dsimp only
  sl_unfold_words
  rw [View.canon_unit_zero zero2]
  simp only [View.readAt_eq_ld, h2.read_unread, h3.read_unread, h4.read_unread, h5.read_unread,
    View.ld_unit_zero (S := S256x1024) zero2, View.ld_unit_zero (S := S1x1024) zero2]

theorem next_gains (hc0 : ¬cond0_0 i) (hc1 : cond0_1 i) :
    out0_B_5 c i a2 h2 a3 h3 a4 h4 a5 h5 a6 h6 a7 h7 hc0 hc1 x0 x1 x2 x3 xo = k0_pay1 (k0_pay4 x0 x1) xo := by
  unfold out0_B_5
  rw [View.read_writes_eq_canon _ _ _ (cover0_B_5 c i a2 h2 a3 h3 a4 h4 a5 h5 a6 h6 a7 h7 hc0 hc1 x0 x1 x2 x3 xo)]
  unfold kernelRun0_B
  dsimp only
  sl_unfold_words
  rw [View.canon_unit_zero zero2]
  simp only [View.readAt_eq_ld, h2.read_unread, h3.read_unread, h7.read_unread,
    View.ld_unit_zero (S := S256x1024) zero2, View.ld_unit_zero (S := S1x1024) zero2]

end Cases

theorem block_rows (X Y Z : ℕ → ℕ → EReal) (v : S1x1024.Idx → EReal) (g : ℕ → EReal) (hv : ∀ x : Fin 1024, v (ix2 0 x) = g x.val) :
    (k0_pay5 (F := Ideal) (tab X) (tab Y) (tab Z) v : S256x1024.Idx → EReal) = tab (rows X Y Z g) := by
  refine eq_tab fun r x => ?_
  unfold k0_pay5 k0_pay3 k0_pay2
  pointwise
  simp only [hv, tab_ix2, Finset.univ_unique, Finset.sum_singleton, rows, back, ms, Rms.inv, Finset.sum_range]

theorem block_gains (X Y : ℕ → ℕ → EReal) :
    (k0_pay4 (F := Ideal) (tab X) (tab Y) : S1x1024.Idx → EReal) = tab fun r x => ∑ k ∈ Finset.range 256, gains X Y r x k := by
  refine eq_tab fun r x => ?_
  unfold k0_pay4 k0_pay3 k0_pay2
  pointwise
  simp only [tab_ix2, gains, Rms.inv, Finset.sum_range]

variable (m : (ℓ : Loc nD τ sig) → Buf (Elt Ideal) ℓ) (c : Dev nD)

/-- The arguments' entries. -/
abbrev h : ℕ → ℕ → EReal := cell (m := 4096) (n := 1024) (m ((c : Thread nD τ).loc main_arg0))
abbrev gain (x : ℕ) : EReal := cell (m := 1) (n := 1024) (m ((c : Thread nD τ).loc main_arg1)) 0 x
abbrev dhn : ℕ → ℕ → EReal := cell (m := 4096) (n := 1024) (m ((c : Thread nD τ).loc main_arg2))
abbrev dres : ℕ → ℕ → EReal := cell (m := 4096) (n := 1024) (m ((c : Thread nD τ).loc main_arg3))

theorem index_h : ∀ t : Fin cfg0.N, win0_0.index t = ![t.val, 0] := (by decide +kernel : ∀ t : Fin grid0.N, _)
theorem index_d : ∀ t : Fin cfg0.N, win0_1.index t = ![t.val, 0] := (by decide +kernel : ∀ t : Fin grid0.N, _)
theorem index_r : ∀ t : Fin cfg0.N, win0_2.index t = ![t.val, 0] := (by decide +kernel : ∀ t : Fin grid0.N, _)
theorem index_g : ∀ t : Fin cfg0.N, win0_3.index t = ![0, 0] := (by decide +kernel : ∀ t : Fin grid0.N, _)
theorem index_o : ∀ t : Fin cfg0.N, win0_4.index t = ![t.val, 0] := (by decide +kernel : ∀ t : Fin grid0.N, _)
theorem index_o' : ∀ t : Fin cfg0.N, win0_5.index t = ![0, 0] := (by decide +kernel : ∀ t : Fin grid0.N, _)

theorem block_h (t : Fin cfg0.N) :
    (iblk m c 0 t : S256x1024.Idx → EReal) = tab fun r x => h m c (256 * t.val + r) (1024 * 0 + x) :=
  (funext fun j => View.read_apply ..).trans (block_read _ _ (win0_0.index t) _ _ (index_h t) fun j => ⟨rfl, rfl⟩)
theorem block_d (t : Fin cfg0.N) :
    (iblk m c 1 t : S256x1024.Idx → EReal) = tab fun r x => dhn m c (256 * t.val + r) (1024 * 0 + x) :=
  (funext fun j => View.read_apply ..).trans (block_read _ _ (win0_1.index t) _ _ (index_d t) fun j => ⟨rfl, rfl⟩)
theorem block_r (t : Fin cfg0.N) :
    (iblk m c 2 t : S256x1024.Idx → EReal) = tab fun r x => dres m c (256 * t.val + r) (1024 * 0 + x) :=
  (funext fun j => View.read_apply ..).trans (block_read _ _ (win0_2.index t) _ _ (index_r t) fun j => ⟨rfl, rfl⟩)
theorem block_g (t : Fin cfg0.N) :
    (iblk m c 3 t : S1x1024.Idx → EReal) = tab fun r x => cell (m := 1) (n := 1024) (m ((c : Thread nD τ).loc main_arg1)) (1 * 0 + r) (1024 * 0 + x) :=
  (funext fun j => View.read_apply ..).trans (block_read _ _ (win0_3.index t) _ _ (index_g t) fun j => ⟨rfl, rfl⟩)

/-- A point's rows, and its part of the gains. -/
theorem rows_at (t : Fin cfg0.N) : (k0_pay5 (F := Ideal) (iblk m c 0 t) (iblk m c 1 t) (iblk m c 2 t) (iblk m c 3 t) : S256x1024.Idx → EReal)
    = tab fun r x => rows (h m c) (dhn m c) (dres m c) (gain m c) (256 * t.val + r) (1024 * 0 + x) := by
  rw [block_h, block_d, block_r, block_g]
  refine (block_rows _ _ _ _ (gain m c) fun x => by rw [tab_ix2]; congr 1; omega).trans (tab_congr fun r _ x _ => ?_)
  simp only [Nat.mul_zero, Nat.zero_add]
  rfl
theorem gains_at (t : Fin cfg0.N) : (k0_pay4 (F := Ideal) (iblk m c 0 t) (iblk m c 1 t) : S1x1024.Idx → EReal)
    = tab fun r x => ∑ k ∈ Finset.range 256, gains (h m c) (dhn m c) (1 * 0 + r) (1024 * 0 + x) (256 * t.val + k) := by
  rw [block_h, block_d, block_gains]
  refine tab_congr fun r _ x _ => Finset.sum_congr rfl fun k _ => ?_
  simp only [Nat.mul_zero, Nat.zero_add]
  rfl

theorem out (t : Fin cfg0.N) : (outsAt0 m c t.val t.isLt).1
    = (tab fun r x => rows (h m c) (dhn m c) (dres m c) (gain m c) (256 * t.val + r) (1024 * 0 + x) : S256x1024.Idx → EReal) := by
  have hN : t.val < 16 := lt_of_lt_of_eq t.isLt (show cfg0.N = 16 from N_0)
  by_cases h0 : t.val = 0
  · rw [outsAt0_A m c t (by omega) (by omega)]
    dsimp only
    rw [first_rows, rows_at]
  · rw [outsAt0_B m c t (by omega) (by omega)]
    dsimp only
    rw [next_rows, rows_at]

/-- The gains' gradients after a point: the rows so far. -/
theorem acc (n : ℕ) : ∀ hn : n < cfg0.N, (outsAt0 m c n hn).2
    = (tab fun r x => upTo (gains (h m c) (dhn m c)) (256 * (n + 1)) (1 * 0 + r) (1024 * 0 + x) : S1x1024.Idx → EReal) := by
  induction n with
  | zero =>
    intro hn
    rw [outsAt0_A m c ⟨0, hn⟩ rfl (by dsimp only; omega)]
    dsimp only
    rw [first_gains, gains_at]
    exact first_part (gains (h m c) (dhn m c)) 256 (1 * 0) (1024 * 0)
  | succ n ih =>
    intro hn
    have hN : n + 1 < 16 := lt_of_lt_of_eq hn (show cfg0.N = 16 from N_0)
    rw [outsAt0_B m c ⟨n + 1, hn⟩ (by dsimp only; omega) (by dsimp only; omega)]
    dsimp only
    rw [next_gains, gains_at]
    refine (congrArg (fun v => addf (F := Ideal) (φ := .f32) v _) ((shapeCast_self _ _).trans (ih (Nat.lt_of_succ_lt hn)))).trans ?_
    exact next_part (gains (h m c) (dhn m c)) 256 (n + 1) (1 * 0) (1024 * 0)

/-- The last point is the one that writes the gains back. -/
theorem last : ∀ t : Fin cfg0.N, (cfg0.win 5).flush t = true → t.val = 15 := (by decide +kernel : ∀ t : Fin grid0.N, _)

/-- The kernel's two arrays. -/
theorem result : (dats m 0 c).arrAt 4 cfg0.N = (tab (rows (h m c) (dhn m c) (dres m c) (gain m c)) : S4096x1024.Idx → EReal) := by
  refine (dats m 0 c).arrAt_eq_of_covers 4 _ (by decide +kernel) fun t _ y => ?_
  blk_simp
  rw [after0_4]
  exact block_write _ _ _ _ (win0_4.index t) _ _ (index_o t) (out m c t) ⟨rfl, rfl⟩
theorem result' : (dats m 0 c).arrAt 5 cfg0.N = (tab (upTo (gains (h m c) (dhn m c)) 4096) : S1x1024.Idx → EReal) := by
  refine (dats m 0 c).arrAt_eq_of_covers 5 _ (by decide +kernel) fun t hf y => ?_
  have ht := last t hf
  blk_simp
  rw [after0_5]
  refine block_write _ _ _ _ (win0_5.index t) _ _ (index_o' t) ((acc m c t.val t.isLt).trans ?_) ⟨rfl, rfl⟩
  rw [ht]

/-! ## The claims -/

theorem frame_p : Cert.quiescent_Kernel25 := fun m g _ => Cert.Kernel25.Gen.frame m g
theorem frame_pi : Cert.quiescent_Kernel25Ideal := fun m g _ => Cert.Kernel25Ideal.Gen.frame m g
theorem frame_ri : Cert.quiescent_Reference25Ideal := fun m g _ =>
  (θ_run Cert.Reference25Ideal.defs _ _).mono (fun r h => ⟨fun c => (h c).2.2, sem_eq_zero_of_no_sems (by decide) r.2⟩)
    (Cert.Reference25Ideal.Value.run (F := Ideal) m g)

theorem algebraic : Cert.algebraic_Kernel25Ideal_Reference25Ideal := by
  intro m g m' g' _ hargs
  refine ⟨_, _, run_blocks m g, (θ_run Cert.Reference25Ideal.defs _ _).mono (fun r h c => ?_) (Cert.Reference25Ideal.Value.run (F := Ideal) m' g')⟩
  obtain ⟨hres, hres', hrest⟩ := h c
  obtain ⟨e0, e1, e2, e3⟩ := hargs c
  rw [e0, e1, e2, e3] at hres
  rw [e0, e2] at hres'
  refine ⟨hres.trans (Eq.trans ?_ (result m c).symm), hres'.trans (Eq.trans ?_ (result' m c).symm), hrest⟩
  · unfold RmsBwd.h gain dhn dres
    generalize m ((c : Thread nD τ).loc main_arg0) = X
    generalize m ((c : Thread nD τ).loc main_arg1) = v
    generalize m ((c : Thread nD τ).loc main_arg2) = Y
    generalize m ((c : Thread nD τ).loc main_arg3) = Z
    refine eq_tab (m := 4096) (n := 1024) fun r x => ?_
    pointwise
    simp only [Finset.univ_unique, Finset.sum_singleton, rows, back, ms, Rms.inv, Finset.sum_range, cell_val]
    simp only [show (0 : ℕ) = (0 : Fin 1).val from rfl, cell_val]
  · unfold RmsBwd.h dhn
    generalize m ((c : Thread nD τ).loc main_arg0) = X
    generalize m ((c : Thread nD τ).loc main_arg2) = Y
    refine eq_tab (m := 1) (n := 1024) fun r x => ?_
    pointwise
    simp only [upTo, gains, Rms.inv, Finset.sum_range, cell_val]

end Cert.Proof.RmsBwd

end
-- ==== Proof.PleBwd.lean ====
/-
  The gradients of the gated per-layer embedding `pp * logistic gt`: of the embedding, and of the gate.
-/
module

public import proofs.«01_k».proof.Defs
public import proofs.«01_k».proof.Proof.Product
public import proofs.«01_k».proof.Proof.Ffn.Gate
public import proofs.«01_k».proof.Proof.Gen.Kernel26.Frame
public import proofs.«01_k».proof.Proof.Gen.Kernel26Ideal.Value
public import proofs.«01_k».proof.Proof.Gen.Reference26Ideal.Run
public import Idealize.ShloMosaic.Lib.Pipeline.ValueKit
public import Idealize.ShloMosaic.Lib.Claim

@[expose] public section

noncomputable section

namespace Cert.Proof.PleBwd

open Idealize.ShloMosaic Idealize.ShloMosaic.TcCoe Idealize.SL.Sem Cert.Proof.Owns Cert.Proof.Product Cert.Proof.Gate
open Cert.Kernel26Ideal Cert.Kernel26Ideal.Gen Cert.Kernel26Ideal.Value

/-- The gate's gradient at an entry: the embedding times what arrives, times the slope of `logistic`. -/
def slopeOf (d p g : EReal) : EReal := p * d * (logistic g * (1 - logistic g))

/-- The two gradients of a block, as the kernel writes them. -/
theorem through (d g : S512x1024.Idx → EReal) : (k0_pay2 (F := Ideal) d g : S512x1024.Idx → EReal) = fun i => d i * logistic (g i) := by
  unfold k0_pay2 k0_pay1
  dsimp only
  rw [kernel_logistic]
  rfl
theorem gate (d p g : S512x1024.Idx → EReal) : (k0_pay3 (F := Ideal) d p g : S512x1024.Idx → EReal) = fun i => slopeOf (d i) (p i) (g i) := by
  unfold k0_pay3 k0_pay1
  dsimp only
  rw [kernel_logistic]
  funext i
  show d i * p i * logistic (g i) * (Ideal.ofBits .f32 0x3F800000#32 - logistic (g i)) = _
  rw [Ideal.ofBits_one_f32, mul_assoc, mul_comm (d i)]
  rfl

variable (m : (ℓ : Loc nD τ sig) → Buf (Elt Ideal) ℓ) (c : Dev nD)

/-- The arguments' entries. -/
abbrev dh : ℕ → ℕ → EReal := cell (m := 4096) (n := 1024) (m ((c : Thread nD τ).loc main_arg0))
abbrev pp : ℕ → ℕ → EReal := cell (m := 4096) (n := 1024) (m ((c : Thread nD τ).loc main_arg1))
abbrev gt : ℕ → ℕ → EReal := cell (m := 4096) (n := 1024) (m ((c : Thread nD τ).loc main_arg2))

theorem index_d : ∀ t : Fin cfg0.N, win0_0.index t = ![t.val, 0] := (by decide +kernel : ∀ t : Fin grid0.N, _)
theorem index_p : ∀ t : Fin cfg0.N, win0_1.index t = ![t.val, 0] := (by decide +kernel : ∀ t : Fin grid0.N, _)
theorem index_g : ∀ t : Fin cfg0.N, win0_2.index t = ![t.val, 0] := (by decide +kernel : ∀ t : Fin grid0.N, _)
theorem index_o : ∀ t : Fin cfg0.N, win0_3.index t = ![t.val, 0] := (by decide +kernel : ∀ t : Fin grid0.N, _)
theorem index_o' : ∀ t : Fin cfg0.N, win0_4.index t = ![t.val, 0] := (by decide +kernel : ∀ t : Fin grid0.N, _)

theorem block_d (t : Fin cfg0.N) :
    (iblk m c 0 t : S512x1024.Idx → EReal) = tab fun r x => dh m c (512 * t.val + r) (1024 * 0 + x) :=
  (funext fun j => View.read_apply ..).trans (block_read _ _ (win0_0.index t) _ _ (index_d t) fun j => ⟨rfl, rfl⟩)
theorem block_p (t : Fin cfg0.N) :
    (iblk m c 1 t : S512x1024.Idx → EReal) = tab fun r x => pp m c (512 * t.val + r) (1024 * 0 + x) :=
  (funext fun j => View.read_apply ..).trans (block_read _ _ (win0_1.index t) _ _ (index_p t) fun j => ⟨rfl, rfl⟩)
theorem block_g (t : Fin cfg0.N) :
    (iblk m c 2 t : S512x1024.Idx → EReal) = tab fun r x => gt m c (512 * t.val + r) (1024 * 0 + x) :=
  (funext fun j => View.read_apply ..).trans (block_read _ _ (win0_2.index t) _ _ (index_g t) fun j => ⟨rfl, rfl⟩)

theorem out (t : Fin cfg0.N) : (out0_3 (iblk m c 0 t) (iblk m c 1 t) (iblk m c 2 t) : S512x1024.Idx → EReal)
    = tab fun r x => dh m c (512 * t.val + r) (1024 * 0 + x) * logistic (gt m c (512 * t.val + r) (1024 * 0 + x)) := by
  unfold out0_3
  rw [View.canon_unit_zero zero2, View.ld_unit_zero (S := S512x1024) zero2, View.ld_unit_zero (S := S512x1024) zero2, block_d, block_g]
  exact through _ _
theorem out' (t : Fin cfg0.N) : (out0_4 (iblk m c 0 t) (iblk m c 1 t) (iblk m c 2 t) : S512x1024.Idx → EReal)
    = tab fun r x => slopeOf (dh m c (512 * t.val + r) (1024 * 0 + x)) (pp m c (512 * t.val + r) (1024 * 0 + x)) (gt m c (512 * t.val + r) (1024 * 0 + x)) := by
  unfold out0_4
  rw [View.canon_unit_zero zero2, View.ld_unit_zero (S := S512x1024) zero2, View.ld_unit_zero (S := S512x1024) zero2,
    View.ld_unit_zero (S := S512x1024) zero2, block_d, block_p, block_g]
  exact gate _ _ _

/-- The kernel's two arrays. -/
theorem result : (dats m 0 c).arrAt 3 cfg0.N = (tab (fun r x => dh m c r x * logistic (gt m c r x)) : S4096x1024.Idx → EReal) := by
  refine (dats m 0 c).arrAt_eq_of_covers 3 _ (by decide +kernel) fun t _ y => ?_
  blk_simp
  rw [after0_3]
  exact block_write _ _ _ _ (win0_3.index t) _ _ (index_o t) (out m c t) ⟨rfl, rfl⟩
theorem result' : (dats m 0 c).arrAt 4 cfg0.N = (tab (fun r x => slopeOf (dh m c r x) (pp m c r x) (gt m c r x)) : S4096x1024.Idx → EReal) := by
  refine (dats m 0 c).arrAt_eq_of_covers 4 _ (by decide +kernel) fun t _ y => ?_
  blk_simp
  rw [after0_4]
  exact block_write _ _ _ _ (win0_4.index t) _ _ (index_o' t) (out' m c t) ⟨rfl, rfl⟩

/-! ## The reference, and the claims -/

/-- The reference's `logistic`, times `u`, and times its own slope. -/
abbrev sigma (v : S4096x1024.Idx → EReal) (h : (⟨0, ![]⟩ : Shape).BroadcastsInDim S4096x1024 ![]) : S4096x1024.Idx → EReal :=
  Host.divf (F := Ideal) (φ := .f32) (broadcastInDim S4096x1024 ![] h (constant ⟨0, ![]⟩ .f32 0x3F800000#32))
    (addf (broadcastInDim S4096x1024 ![] h (constant ⟨0, ![]⟩ .f32 0x3F800000#32)) (Host.exp (Host.negf v)))

theorem reference (u v : S4096x1024.Idx → EReal) (h) :
    mulf (F := Ideal) (φ := .f32) u (sigma v h)
      = tab fun r x => cell (m := 4096) (n := 1024) u r x * logistic (cell (m := 4096) (n := 1024) v r x) := by
  rw [sigma, host_logistic]
  exact congrArg₂ (fun a b => mulf (F := Ideal) (φ := .f32) a fun i => logistic (b i)) (tab_cell u).symm (tab_cell v).symm

theorem reference' (u p v : S4096x1024.Idx → EReal) (h) :
    mulf (F := Ideal) (φ := .f32) (mulf (F := Ideal) (φ := .f32) p u)
        (mulf (F := Ideal) (φ := .f32) (sigma v h) (subf (F := Ideal) (φ := .f32) (broadcastInDim S4096x1024 ![] h (constant ⟨0, ![]⟩ .f32 0x3F800000#32)) (sigma v h)))
      = tab fun r x => slopeOf (cell (m := 4096) (n := 1024) u r x) (cell (m := 4096) (n := 1024) p r x) (cell (m := 4096) (n := 1024) v r x) := by
  rw [sigma, host_logistic]
  refine Eq.trans (funext fun i => ?_) (congrArg₂ (fun (a : (S4096x1024.Idx → EReal) × (S4096x1024.Idx → EReal)) b => fun i => slopeOf (a.1 i) (a.2 i) (b i))
    (congrArg₂ Prod.mk (tab_cell u).symm (tab_cell p).symm) (tab_cell v).symm)
  show p i * u i * (logistic (v i) * (Ideal.ofBits .f32 0x3F800000#32 - logistic (v i))) = _
  rw [Ideal.ofBits_one_f32]
  rfl

theorem frame_p : Cert.quiescent_Kernel26 := fun m g _ => Cert.Kernel26.Gen.frame m g
theorem frame_pi : Cert.quiescent_Kernel26Ideal := fun m g _ => Cert.Kernel26Ideal.Gen.frame m g
theorem frame_ri : Cert.quiescent_Reference26Ideal := fun m g _ =>
  (θ_run Cert.Reference26Ideal.defs _ _).mono (fun r h => ⟨fun c => (h c).2.2, sem_eq_zero_of_no_sems (by decide) r.2⟩)
    (Cert.Reference26Ideal.Value.run (F := Ideal) m g)

theorem algebraic : Cert.algebraic_Kernel26Ideal_Reference26Ideal := by
  intro m g m' g' _ hargs
  refine ⟨_, _, run_blocks m g, (θ_run Cert.Reference26Ideal.defs _ _).mono (fun r h c => ?_) (Cert.Reference26Ideal.Value.run (F := Ideal) m' g')⟩
  obtain ⟨hres, hres', hrest⟩ := h c
  obtain ⟨e0, e1, e2⟩ := hargs c
  rw [e0, e2] at hres
  rw [e0, e1, e2] at hres'
  refine ⟨hres.trans (Eq.trans ?_ (result m c).symm), hres'.trans (Eq.trans ?_ (result' m c).symm), hrest⟩
  · exact reference (m ((c : Thread nD τ).loc main_arg0)) (m ((c : Thread nD τ).loc main_arg2)) _
  · exact reference' (m ((c : Thread nD τ).loc main_arg0)) (m ((c : Thread nD τ).loc main_arg1)) (m ((c : Thread nD τ).loc main_arg2)) _

end Cert.Proof.PleBwd

end
-- ==== Proof.ConvBwd.lean ====
/-
  The gradients of the short convolution with its gate.
-/
module

public import proofs.«01_k».proof.Defs
public import proofs.«01_k».proof.Proof.Product
public import proofs.«01_k».proof.Proof.Ffn.OutDx
public import proofs.«01_k».proof.Proof.Gen.Kernel27.Frame
public import proofs.«01_k».proof.Proof.Gen.Kernel27Ideal.Value
public import proofs.«01_k».proof.Proof.Gen.Reference27Ideal.Run
public import Idealize.ShloMosaic.Lib.Pipeline.ValueKit
public import Idealize.ShloMosaic.Lib.Claim

@[expose] public section

noncomputable section

namespace Cert.Proof.ConvBwd

open Idealize.ShloMosaic Idealize.ShloMosaic.TcCoe Idealize.SL.Sem Cert.Proof.Owns Cert.Proof.Product Cert.Proof.Gate
open Cert.Kernel27Ideal Cert.Kernel27Ideal.Gen Cert.Kernel27Ideal.Value

/-- Rows moved down by `d`, zeros before them. -/
def down (X : ℕ → ℕ → EReal) (d r x : ℕ) : EReal := if d ≤ r then X (r - d) x else 0
/-- Rows of 4096 moved up by `d`, zeros after them. -/
def up (X : ℕ → ℕ → EReal) (d r x : ℕ) : EReal := if r < 4096 - d then X (r + d) x else 0

/-- The product of the rows moved down with the four rows of weights. -/
def conv (X w : ℕ → ℕ → EReal) (r x : ℕ) : EReal := down X 3 r x * w 0 x + down X 2 r x * w 1 x + down X 1 r x * w 2 x + X r x * w 3 x
/-- The gradient before the gate. -/
def before (X w D : ℕ → ℕ → EReal) (r x : ℕ) : EReal :=
  D r x * (logistic (conv X w r x) + conv X w r x * logistic (conv X w r x) * (1 - logistic (conv X w r x)))
/-- The gradient of the rows, from that before the gate. -/
def rows (Y w : ℕ → ℕ → EReal) (r x : ℕ) : EReal := up Y 3 r x * w 0 x + up Y 2 r x * w 1 x + up Y 1 r x * w 2 x + Y r x * w 3 x
/-- The gradient of the weights, from that before the gate. -/
def weights (X Y : ℕ → ℕ → EReal) (j x : ℕ) : EReal := ∑ r ∈ Finset.range 4096, Y r x * down X (3 - j) r x

/-! ## A block -/

theorem select_down (d r : ℕ) (hd : d < 4096) (hr : r < 4096) (a b : EReal) :
    Scalar.select (IntOp.cmpi .sge (BitVec.ofNat 32 r) (BitVec.ofNat 32 d)) a b = if d ≤ r then a else b := by
  rw [WordCmp.cmpi_sge_ofNat (by omega) (by omega)]
  by_cases h : d ≤ r <;> simp [Scalar.select, h]

theorem select_up (d r : ℕ) (hd : d < 4096) (hr : r < 4096) (a b : EReal) :
    Scalar.select (IntOp.cmpi .slt (BitVec.ofNat 32 r) (BitVec.ofNat 32 d)) a b = if r < d then a else b := by
  rw [WordCmp.cmpi_slt_ofNat (by omega) (by omega)]
  by_cases h : r < d <;> simp [Scalar.select, h]

theorem moved_down (X : ℕ → ℕ → EReal) (d : ℕ) (hd : d < 4096) :
    (select (cmpi .sge (iota .tc S4096x256 32 [0] iota_S4096x256_d0_w32) (broadcast S4096x256 (BitVec.ofNat 32 d)))
      (dynamicRotate 0 (BitVec.ofNat 32 d) none (tab X) rotates_S4096x256_d0) (broadcast S4096x256 (Scalar.ofBits .f32 0x00000000#32 : Ideal .f32))
      : S4096x256.Idx → EReal) = tab (down X d) := by
  refine eq_tab (m := 4096) (n := 256) fun r x => ?_
  pointwise
  rw [select_down d r.val hd r.isLt]
  unfold down
  refine if_ctx_congr Iff.rfl (fun h => ?_) fun _ => rfl
  show X ((r.val + 4096 - (BitVec.ofNat 32 d).toNat % 4096) % 4096) x.val = _
  rw [BitVec.toNat_ofNat]
  congr 1
  have := r.isLt
  omega

theorem moved_up (X : ℕ → ℕ → EReal) (d : ℕ) (h0 : 0 < d) (hd : d < 4096) :
    (select (cmpi .slt (iota .tc S4096x256 32 [0] iota_S4096x256_d0_w32) (broadcast S4096x256 (BitVec.ofNat 32 (4096 - d))))
      (dynamicRotate 0 (BitVec.ofNat 32 (4096 - d)) none (tab X) rotates_S4096x256_d0) (broadcast S4096x256 (Scalar.ofBits .f32 0x00000000#32 : Ideal .f32))
      : S4096x256.Idx → EReal) = tab (up X d) := by
  refine eq_tab (m := 4096) (n := 256) fun r x => ?_
  pointwise
  rw [select_up (4096 - d) r.val (by omega) r.isLt]
  unfold up
  refine if_ctx_congr Iff.rfl (fun h => ?_) fun _ => rfl
  show X ((r.val + 4096 - (BitVec.ofNat 32 (4096 - d)).toNat % 4096) % 4096) x.val = _
  rw [BitVec.toNat_ofNat]
  congr 1
  have := r.isLt
  omega

/-- A row of weights, on every row of the block. -/
theorem row_of (w : ℕ → ℕ → EReal) (j : ℕ) (hj : j < 4) (h : S4x256.Slices ![j, 0] S1x256) :
    (broadcastTo S4096x256 (extractStridedSlice S1x256 ![j, 0] (tab w : S4x256.Idx → EReal) h) broadcasts_S1x256_S4096x256 : S4096x256.Idx → EReal)
      = tab fun _ x => w j x := by
  refine eq_tab (m := 4096) (n := 256) fun r x => ?_
  pointwise
  rfl

theorem block_conv (X w : ℕ → ℕ → EReal) : (k0_pay2 (F := Ideal) (tab X) (tab w) : S4096x256.Idx → EReal) = tab (conv X w) := by
  unfold k0_pay2 k0_pay1
  dsimp only
  rw [show extf (F := Ideal) .f32 (tab X : S4096x256.Idx → EReal) bitsLt_bf16_f32 = (tab X : S4096x256.Idx → EReal) from rfl,
    moved_down X 3 (by decide), moved_down X 2 (by decide), moved_down X 1 (by decide),
    row_of w 0 (by decide), row_of w 1 (by decide), row_of w 2 (by decide), row_of w 3 (by decide)]
  rfl

theorem block_logistic (X w : ℕ → ℕ → EReal) :
    (k0_pay3 (F := Ideal) (tab X) (tab w) : S4096x256.Idx → EReal) = tab fun r x => logistic (conv X w r x) := by
  unfold k0_pay3
  dsimp only
  rw [block_conv]
  exact kernel_logistic S4096x256 _

theorem block_before (X w D : ℕ → ℕ → EReal) (d : Vec Ideal S1x4096x256 .f32)
    (hd : d = fun i : S1x4096x256.Idx => D (i 1).val (i 2).val) :
    (k0_pay4 (F := Ideal) (tab (conv X w)) (tab fun r x => logistic (conv X w r x)) d : S4096x256.Idx → EReal) = tab (before X w D) := by
  subst hd
  refine eq_tab (m := 4096) (n := 256) fun r x => ?_
  pointwise [k0_pay4]
  rfl

/-- The gradient of the rows. -/
theorem block_rows (X w D : ℕ → ℕ → EReal) (d : Vec Ideal S1x4096x256 .f32)
    (hd : d = fun i : S1x4096x256.Idx => D (i 1).val (i 2).val) :
    (k0_pay12 (F := Ideal) (tab w) (k0_pay4 (k0_pay2 (tab X) (tab w)) (k0_pay3 (tab X) (tab w)) d)
        (k0_pay6 (tab w) (k0_pay2 (tab X) (tab w)) (k0_pay3 (tab X) (tab w)) d) : S4096x256.Idx → EReal)
      = tab (rows (before X w D) w) := by
  unfold k0_pay12 k0_pay6
  dsimp only
  rw [block_conv, block_logistic, block_before X w D d hd, moved_up _ 3 (by decide) (by decide), moved_up _ 2 (by decide) (by decide),
    moved_up _ 1 (by decide) (by decide), row_of w 0 (by decide), row_of w 1 (by decide), row_of w 2 (by decide), row_of w 3 (by decide)]
  rfl

/-- A row of the weights' gradient: the sum over the rows of a product. -/
theorem summed (a b : ℕ → ℕ → EReal) :
    (shapeCast S1x256 (multiReduction (F := Ideal) .add [0] S256 (mulf (F := Ideal) (φ := .f32) (tab a : S4096x256.Idx → EReal) (tab b)) 0x00000000#32
        reduces_S4096x256_S256 (.inl rfl) rfl) shapeCasts_S256_S1x256 : S1x256.Idx → EReal)
      = tab fun _ x => ∑ r ∈ Finset.range 4096, a r x * b r x := by
  refine eq_tab (m := 1) (n := 256) fun r x => ?_
  pointwise
  simp only [Finset.univ_unique, Finset.sum_singleton, Finset.sum_range]
  rfl

theorem block_weights (X w D : ℕ → ℕ → EReal) (d : Vec Ideal S1x4096x256 .f32)
    (hd : d = fun i : S1x4096x256.Idx => D (i 1).val (i 2).val) :
    (k0_pay5 (F := Ideal) (k0_pay1 (tab X)) (k0_pay2 (tab X) (tab w)) (k0_pay3 (tab X) (tab w)) d : S1x256.Idx → EReal)
        = tab (fun _ x => weights X (before X w D) 0 x)
      ∧ (k0_pay9 (F := Ideal) (k0_pay4 (k0_pay2 (tab X) (tab w)) (k0_pay3 (tab X) (tab w)) d) k0_pay7 (k0_pay8 (k0_pay1 (tab X))) : S1x256.Idx → EReal)
        = tab (fun _ x => weights X (before X w D) 1 x)
      ∧ (k0_pay10 (F := Ideal) (k0_pay1 (tab X)) (k0_pay4 (k0_pay2 (tab X) (tab w)) (k0_pay3 (tab X) (tab w)) d) : S1x256.Idx → EReal)
        = tab (fun _ x => weights X (before X w D) 2 x)
      ∧ (k0_pay11 (F := Ideal) (k0_pay1 (tab X)) (k0_pay4 (k0_pay2 (tab X) (tab w)) (k0_pay3 (tab X) (tab w)) d) : S1x256.Idx → EReal)
        = tab (fun _ x => weights X (before X w D) 3 x) := by
  unfold k0_pay5 k0_pay9 k0_pay7 k0_pay8 k0_pay10 k0_pay11 k0_pay1
  dsimp only
  rw [show extf (F := Ideal) .f32 (tab X : S4096x256.Idx → EReal) bitsLt_bf16_f32 = (tab X : S4096x256.Idx → EReal) from rfl,
    block_conv, block_logistic, block_before X w D d hd, moved_down X 3 (by decide), moved_down X 2 (by decide), moved_down X 1 (by decide)]
  exact ⟨summed _ _, summed _ _, summed _ _, summed _ _⟩

/-- A stored row of the weights' gradient. -/
theorem piece_row (f : ℕ → ℕ → EReal) (j : ℕ) (inb) (v : S1x256.Idx → EReal) (hv : v = tab fun _ x => f j x) (y : S1x256.Idx) :
    v y = (tab f : S4x256.Idx → EReal) ((Rect.unit (s := S4x256) ![j, 0] S1x256.size inb).emb y) := by
  subst hv
  have h0 : (y 0).val < 1 := (y 0).isLt
  show f j (y 1).val = f (j + 1 * (y 0).val) (0 + 1 * (y 1).val)
  congr 1 <;> omega

/-- The four rows together. -/
theorem four_rows (f : ℕ → ℕ → EReal) (v0 v1 v2 v3 : S1x256.Idx → EReal) (h0 : v0 = tab fun _ x => f 0 x) (h1 : v1 = tab fun _ x => f 1 x)
    (h2 : v2 = tab fun _ x => f 2 x) (h3 : v3 = tab fun _ x => f 3 x) (i0 i1 i2 i3) :
    View.canon (Val := Elt Ideal) (s := S4x256) (e := .f32) [⟨Rect.unit ![3, 0] S1x256.size i3, v3⟩, ⟨Rect.unit ![2, 0] S1x256.size i2, v2⟩,
      ⟨Rect.unit ![1, 0] S1x256.size i1, v1⟩, ⟨Rect.unit ![0, 0] S1x256.size i0, v0⟩] = (tab f : S4x256.Idx → EReal) := by
  funext y
  refine View.canon_apply_of_pieces (Val := Elt Ideal) (S := S4x256) (e := .f32) (tab f : S4x256.Idx → EReal) _ (fun p hp x => ?_) y
    (View.cover_of_tiledL (Val := Elt Ideal) (s := S4x256) (e := .f32) _ S1x256.size (by sl_kernel_rfl) y)
  simp only [List.mem_cons, List.not_mem_nil, or_false] at hp
  rcases hp with rfl | rfl | rfl | rfl
  · exact piece_row f 3 i3 _ h3 x
  · exact piece_row f 2 i2 _ h2 x
  · exact piece_row f 1 i1 _ h1 x
  · exact piece_row f 0 i0 _ h0 x

/-! ## What a point leaves -/

section Cases
variable (c : Dev nD) (i : grid0.Coords)
  (a1 : Memref sig .tc .vmem S4096x256 .bf16) (h1 : a1.IsWhole) (a2 : Memref sig .tc .vmem S4x256 .f32) (h2 : a2.IsWhole)
  (a3 : Memref sig .tc .vmem S1x4096x256 .f32) (h3 : a3.IsWhole) (a5 : Memref sig .tc .vmem S4096x256 .bf16) (h5 : a5.IsWhole)
  (a6 : Memref sig .tc .vmem S4x256 .f32) (h6 : a6.IsWhole)
  (X w D : ℕ → ℕ → EReal) (d : Vec Ideal S1x4096x256 .f32)

theorem point_rows (hd : d = fun i : S1x4096x256.Idx => D (i 1).val (i 2).val) :
    (out0_A_3 (F := Ideal) c i a1 h1 a2 h2 a3 h3 a5 h5 a6 h6 (tab X) (tab w) d : S4096x256.Idx → EReal) = tab (rows (before X w D) w) := by
  unfold out0_A_3
  rw [View.read_writes_eq_canon _ _ _ (cover0_A_3 c i a1 h1 a2 h2 a3 h3 a5 h5 a6 h6 (tab X) (tab w) d)]
  unfold kernelRun0_A
  dsimp only
  sl_unfold_words
  rw [View.canon_unit_zero zero2]
  simp only [View.readAt_eq_ld, h1.read_unread, h2.read_unread, h3.read_unread, View.ld_unit_zero (S := S4096x256) zero2,
    View.ld_unit_zero (S := S4x256) zero2, View.ld_unit_zero (S := S1x4096x256) zero3]
  exact block_rows X w D d hd

theorem point_weights (hd : d = fun i : S1x4096x256.Idx => D (i 1).val (i 2).val) :
    (out0_A_4 (F := Ideal) c i a1 h1 a2 h2 a3 h3 a5 h5 a6 h6 (tab X) (tab w) d : S4x256.Idx → EReal) = tab (weights X (before X w D)) := by
  have hc := cover0_A_4 (F := Ideal) c i a1 h1 a2 h2 a3 h3 a5 h5 a6 h6 (tab X) (tab w) d
  unfold out0_A_4
  rw [View.read_writes_eq_canon _ _ _ hc]
  unfold kernelRun0_A
  dsimp only
  sl_unfold_words
  simp only [View.readAt_eq_ld, h1.read_unread, h2.read_unread, h3.read_unread, View.ld_unit_zero (S := S4096x256) zero2,
    View.ld_unit_zero (S := S4x256) zero2, View.ld_unit_zero (S := S1x4096x256) zero3]
  obtain ⟨w0, w1, w2, w3⟩ := block_weights X w D d hd
  exact four_rows (weights X (before X w D)) _ _ _ _ w0 w1 w2 w3 _ _ _ _
end Cases

/-! ## The grid -/

/-- An array of three parts of 1024 columns, the parts laid side by side. -/
def parts (v : S3x4096x1024.Idx → EReal) (r x : ℕ) : EReal :=
  v (ix3 (n0 := 3) (n1 := 4096) (n2 := 1024) ⟨x / 1024 % 3, Nat.mod_lt _ (by decide)⟩ ⟨r % 4096, Nat.mod_lt _ (by decide)⟩ ⟨x % 1024, Nat.mod_lt _ (by decide)⟩)

variable (m : (ℓ : Loc nD τ sig) → Buf (Elt Ideal) ℓ) (c : Dev nD)

/-- The arguments' entries. -/
abbrev px : ℕ → ℕ → EReal := cell (m := 4096) (n := 4096) (m ((c : Thread nD τ).loc main_arg0))
abbrev wx : ℕ → ℕ → EReal := cell (m := 4) (n := 3072) (m ((c : Thread nD τ).loc main_arg1))
abbrev dx : ℕ → ℕ → EReal := parts (m ((c : Thread nD τ).loc main_arg2))
abbrev zx : ℕ → ℕ → EReal := cell (m := 4096) (n := 4096) (m ((c : Thread nD τ).loc main_arg3))

theorem index_p : ∀ t : Fin cfg0.N, win0_0.index t = ![0, t.val] := (by decide +kernel : ∀ t : Fin grid0.N, _)
theorem index_w : ∀ t : Fin cfg0.N, win0_1.index t = ![0, t.val] := (by decide +kernel : ∀ t : Fin grid0.N, _)
theorem index_d : ∀ t : Fin cfg0.N, win0_2.index t = ![t.val / 4, 0, t.val % 4] := (by decide +kernel : ∀ t : Fin grid0.N, _)
theorem index_x : ∀ t : Fin cfg0.N, win0_3.index t = ![0, t.val] := (by decide +kernel : ∀ t : Fin grid0.N, _)
theorem index_g : ∀ t : Fin cfg0.N, win0_4.index t = ![0, t.val] := (by decide +kernel : ∀ t : Fin grid0.N, _)

theorem block_p (t : Fin cfg0.N) : (iblk m c 0 t : S4096x256.Idx → EReal) = tab fun r x => px m c r (256 * t.val + x) :=
  ((funext fun j => View.read_apply ..).trans (block_read _ _ (win0_0.index t) _ _ (index_p t) fun j => ⟨rfl, rfl⟩)).trans
    (tab_congr fun r _ x _ => by rw [Nat.mul_zero, Nat.zero_add])

theorem block_w (t : Fin cfg0.N) : (iblk m c 1 t : S4x256.Idx → EReal) = tab fun j x => wx m c j (256 * t.val + x) :=
  ((funext fun j => View.read_apply ..).trans (block_read _ _ (win0_1.index t) _ _ (index_w t) fun j => ⟨rfl, rfl⟩)).trans
    (tab_congr fun r _ x _ => by rw [Nat.mul_zero, Nat.zero_add])

theorem block_d (t : Fin cfg0.N) :
    (iblk m c 2 t : S1x4096x256.Idx → EReal) = fun i => dx m c (i 1).val (256 * t.val + (i 2).val) := by
  funext i
  refine (View.read_apply ..).trans ?_
  show (m ((c : Thread nD τ).loc main_arg2) : S3x4096x1024.Idx → EReal) _ = parts _ _ _
  unfold parts
  have h0 : (i 0).val < 1 := (i 0).isLt
  have h1 : (i 1).val < 4096 := (i 1).isLt
  have h2 : (i 2).val < 256 := (i 2).isLt
  have ht : t.val < 12 := lt_of_lt_of_eq t.isLt N_0
  have e := index_d t
  refine congrArg _ (funext fun a => Fin.ext ?_)
  match a with
  | ⟨0, _⟩ =>
    show win0_2.index t 0 * 1 + 1 * (i 0).val = (256 * t.val + (i 2).val) / 1024 % 3
    rw [e]; show t.val / 4 * 1 + 1 * (i 0).val = _; omega
  | ⟨1, _⟩ =>
    show win0_2.index t 1 * 4096 + 1 * (i 1).val = (i 1).val % 4096
    rw [e]; show 0 * 4096 + 1 * (i 1).val = _; omega
  | ⟨2, _⟩ =>
    show win0_2.index t 2 * 256 + 1 * (i 2).val = (256 * t.val + (i 2).val) % 1024
    rw [e]; show t.val % 4 * 256 + 1 * (i 2).val = _; omega

/-- The two gradients. -/
abbrev gx : ℕ → ℕ → EReal := rows (before (px m c) (wx m c) (dx m c)) (wx m c)
abbrev gw : ℕ → ℕ → EReal := weights (px m c) (before (px m c) (wx m c) (dx m c))

theorem out_rows (t : Fin cfg0.N) : ((outsAt0 m c t).1 : S4096x256.Idx → EReal) = tab fun r x => gx m c (4096 * 0 + r) (256 * t.val + x) := by
  unfold outsAt0
  dsimp only
  rw [block_p, block_w]
  refine (point_rows c _ _ _ _ _ _ _ _ _ _ _ _ _ (fun r x => dx m c r (256 * t.val + x)) _ (block_d m c t)).trans (tab_congr fun r _ x _ => ?_)
  rw [Nat.mul_zero, Nat.zero_add]
  rfl

theorem out_weights (t : Fin cfg0.N) : ((outsAt0 m c t).2 : S4x256.Idx → EReal) = tab fun j x => gw m c (4 * 0 + j) (256 * t.val + x) := by
  unfold outsAt0
  dsimp only
  rw [block_p, block_w]
  refine (point_weights c _ _ _ _ _ _ _ _ _ _ _ _ _ (fun r x => dx m c r (256 * t.val + x)) _ (block_d m c t)).trans (tab_congr fun r _ x _ => ?_)
  rw [Nat.mul_zero, Nat.zero_add]
  rfl

/-- The kernel's gradient of the weights. -/
theorem result_weights : (dats m 0 c).arrAt 4 cfg0.N = (tab (gw m c) : S4x3072.Idx → EReal) := by
  refine (dats m 0 c).arrAt_eq_of_covers 4 _ (by decide +kernel) fun t _ y => ?_
  blk_simp
  rw [after0_4]
  exact block_write _ _ _ _ (win0_4.index t) _ _ (index_g t) (out_weights m c t) ⟨rfl, rfl⟩

theorem entry : V m c (Pipeline.arrRef spec0 3) = m ((c : Thread nD τ).loc main_arg3) := by
  rfl

theorem flush_x : ∀ t : Fin cfg0.N, (cfg0.win 3).flush t = true := (by decide +kernel : ∀ t : Fin grid0.N, _)

/-- The kernel's gradient of the rows, beside the columns it leaves as they were. -/
theorem result_rows : (dats m 0 c).arrAt 3 cfg0.N
    = (tab (fun r x => if x < 3072 then gx m c r x else zx m c r x) : S4096x4096.Idx → EReal) := by
  refine eq_tab (m := 4096) (n := 4096) fun r x => ?_
  have hr := r.isLt
  have hx := x.isLt
  by_cases h : x.val < 3072
  · rw [if_pos h]
    have ht : x.val / 256 < cfg0.N := by rw [show cfg0.N = 12 from N_0]; omega
    have e := congrFun (blocks3 m c ⟨x.val / 256, ht⟩ (flush_x _)) (ix2 (n0 := 4096) (n1 := 256) r ⟨x.val % 256, by omega⟩)
    rw [flushed3, View.read_apply, out_rows] at e
    have he : ((cfg0.win 3).blk ⟨x.val / 256, ht⟩).view.emb (ix2 (n0 := 4096) (n1 := 256) r ⟨x.val % 256, by omega⟩) = ix2 (n0 := 4096) (n1 := 4096) r x := by
      refine funext fun a => Fin.ext ?_
      match a with
      | ⟨0, _⟩ =>
        show win0_3.index ⟨x.val / 256, ht⟩ 0 * 4096 + 1 * r.val = r.val
        rw [index_x]; show 0 * 4096 + 1 * r.val = _; omega
      | ⟨1, _⟩ =>
        show win0_3.index ⟨x.val / 256, ht⟩ 1 * 256 + 1 * (x.val % 256) = x.val
        rw [index_x]; show x.val / 256 * 256 + 1 * (x.val % 256) = _; omega
    refine (congrArg ((dats m 0 c).arrAt 3 cfg0.N) he.symm).trans (Eq.trans (show _ = _ from e) ?_)
    exact congrArg₂ (gx m c) (show 4096 * 0 + r.val = r.val by omega) (show 256 * (x.val / 256) + x.val % 256 = x.val by omega)
  · rw [if_neg h]
    refine (entry3 m c _ fun t hf => ?_).trans ?_
    · mem_blk
      rw [index_x]
      show ¬((0 * 4096 ≤ r.val ∧ r.val < 0 * 4096 + 4096) ∧ t.val * 256 ≤ x.val ∧ x.val < t.val * 256 + 256)
      have := lt_of_lt_of_eq t.isLt N_0
      omega
    · rw [entry]
      exact (cell_apply _ _)

/-! ## The reference -/

abbrev Wide : Shape := Mat 4096 3072
abbrev Tall : Shape := Mat 4099 3072
abbrev Row : Shape := Mat 1 3072
abbrev Rows4 : Shape := Mat 4 3072
abbrev Line : Shape := ⟨1, ![3072]⟩
abbrev Cube : Shape := ⟨3, ![3, 4096, 1024]⟩
abbrev Turned : Shape := ⟨3, ![4096, 3, 1024]⟩
abbrev Point : Shape := ⟨0, ![]⟩
/-- The constant zero. -/
abbrev nought : Point.Idx → EReal := constant (F := Ideal) Point .f32 0x00000000#32

/-- Rows moved down, as the reference moves them: zeros before them, the rows from the `j`-th on. -/
theorem host_down (X : ℕ → ℕ → EReal) (j : ℕ) (hj : j ≤ 3) (hb) (hc) (hs : Tall.Slices ![j, 0] Wide) :
    (extractStridedSlice Wide ![j, 0] (concatenate Tall 0 [⟨Mat 3 3072, broadcastInDim (Mat 3 3072) ![] hb nought⟩,
      ⟨Wide, (tab X : Wide.Idx → EReal)⟩] hc) hs : Wide.Idx → EReal) = tab (down X (3 - j)) := by
  refine eq_tab (m := 4096) (n := 3072) fun r x => ?_
  pointwise
  unfold down
  by_cases h : j + r.val < 3
  · rw [dif_pos h, if_neg (by omega)]
  · rw [dif_neg h]
    have e : X (j + r.val - 3) x.val = if 3 - j ≤ r.val then X (r.val - (3 - j)) x.val else 0 := by
      rw [if_pos (by omega), show j + r.val - 3 = r.val - (3 - j) by omega]
    exact e

/-- A row of weights, on every row. -/
theorem host_row (w : Rows4.Idx → EReal) (j : ℕ) (hj : j < 4) (h1) (h2) (h3) (h : Rows4.Slices ![j, 0] Row) :
    (broadcastInDim Wide ![0, 1] h1 (broadcastInDim Row ![1] h2 (shapeCast Line (extractStridedSlice Row ![j, 0] w h) h3)) : Wide.Idx → EReal)
      = tab fun _ x => cell (m := 4) (n := 3072) w j x := by
  refine eq_tab (m := 4096) (n := 3072) fun r x => ?_
  pointwise
  exact (cell_val (m := 4) (n := 3072) w ⟨j, hj⟩ x).symm

theorem host_parts (v : Cube.Idx → EReal) (h1) (h2) :
    (shapeCast Wide (transpose Turned [1, 0, 2] v h1) h2 : Wide.Idx → EReal) = tab (parts v) := by
  refine eq_tab (m := 4096) (n := 3072) fun r x => ?_
  pointwise
  unfold parts
  have hr := r.isLt
  have hx := x.isLt
  congr 2
  · exact Fin.ext (show x.val / 1024 = x.val / 1024 % 3 by omega)
  · exact Fin.ext (show r.val = r.val % 4096 by omega)

/-- A matrix after `k` rows of zeros, its rows from the third on. -/
theorem host_up (Y : ℕ → ℕ → EReal) (k hi : ℕ) (hk : k ≤ 3) (r : Fin 4096) (x : Fin 3072) (h : Wide.Pads ![k, 0] ![hi, 0] ![0, 0] Tall) (hu) :
    (pad Tall ![k, 0] ![hi, 0] ![0, 0] (tab Y : Wide.Idx → EReal) nought h hu : Tall.Idx → EReal)
      (ix2 (n0 := 4099) (n1 := 3072) ⟨3 + r.val, by omega⟩ x) = up Y (3 - k) r.val x.val := by
  unfold pad up
  have hr := r.isLt
  split_ifs with h1 h2 h2
  · show Y ((3 + r.val - k) / 1) ((x.val - 0) / 1) = _
    rw [Nat.div_one, Nat.div_one, Nat.sub_zero]
    congr 1; omega
  · refine absurd (h1 0).2.2 ?_
    show ¬ (3 + r.val - k) / 1 < 4096
    omega
  · refine absurd (fun
      | ⟨0, _⟩ => ⟨by show k ≤ 3 + r.val; omega, Nat.mod_one _, by show (3 + r.val - k) / 1 < 4096; omega⟩
      | ⟨1, _⟩ => ⟨Nat.zero_le _, Nat.mod_one _, by show (x.val - 0) / 1 < 3072; have := x.isLt; omega⟩) h1
  · exact Ideal.ofBits_zero_f32

/-- A row of its own between rows of zeros. -/
theorem host_place (v : ℕ → EReal) (k hi : ℕ) (j : Fin 4) (x : Fin 3072) (h : Row.Pads ![k, 0] ![hi, 0] ![0, 0] Rows4) (hu) :
    (pad Rows4 ![k, 0] ![hi, 0] ![0, 0] (tab fun _ x => v x : Row.Idx → EReal) nought h hu : Rows4.Idx → EReal) (ix2 j x)
      = if j.val = k then v x.val else 0 := by
  unfold pad
  split_ifs with h1 h2 h2
  · show v ((x.val - 0) / 1) = _
    rw [Nat.div_one, Nat.sub_zero]
  · have a : k ≤ j.val := (h1 0).1
    have b : (j.val - k) / 1 < 1 := (h1 0).2.2
    omega
  · refine absurd (fun
      | ⟨0, _⟩ => ⟨by show k ≤ j.val; omega, Nat.mod_one _, by show (j.val - k) / 1 < 1; omega⟩
      | ⟨1, _⟩ => ⟨Nat.zero_le _, Nat.mod_one _, by show (x.val - 0) / 1 < 3072; have := x.isLt; omega⟩) h1
  · exact Ideal.ofBits_zero_f32

/-- The sums over the rows of a product, as a row. -/
theorem host_summed (X Y : ℕ → ℕ → EReal) (j : ℕ) (h1) (h2 : Wide.ReducesTo [0] Line) (h3) (h4) (h5 : Row.ReducesTo [0] Line) (h6) :
    (broadcastInDim Row ![1] h1 (Host.reduceAdd (F := Ideal) (φ := .f32) (shapeCast Row (Host.reduceAdd (F := Ideal) (φ := .f32)
        (mulf (F := Ideal) (φ := .f32) (tab (down X (3 - j)) : Wide.Idx → EReal) (tab Y)) nought h2 h3) h4) nought h5 h6 : Line.Idx → EReal) : Row.Idx → EReal)
      = tab fun _ x => weights X Y j x := by
  refine eq_tab (m := 1) (n := 3072) fun r x => ?_
  pointwise
  simp only [weights, Finset.univ_unique, Finset.sum_singleton, Finset.sum_range]
  exact Finset.sum_congr rfl fun k _ => mul_comm _ _

/-- The sum of the four products, begun at zero. -/
theorem host_conv (X w : ℕ → ℕ → EReal) (hb) :
    addf (F := Ideal) (φ := .f32) (addf (F := Ideal) (φ := .f32) (addf (F := Ideal) (φ := .f32) (addf (F := Ideal) (φ := .f32) (broadcastInDim Wide ![] hb nought)
        (mulf (F := Ideal) (φ := .f32) (tab (down X (3 - 0)) : Wide.Idx → EReal) (tab fun _ x => w 0 x)))
        (mulf (F := Ideal) (φ := .f32) (tab (down X (3 - 1)) : Wide.Idx → EReal) (tab fun _ x => w 1 x)))
        (mulf (F := Ideal) (φ := .f32) (tab (down X (3 - 2)) : Wide.Idx → EReal) (tab fun _ x => w 2 x)))
        (mulf (F := Ideal) (φ := .f32) (tab (down X (3 - 3)) : Wide.Idx → EReal) (tab fun _ x => w 3 x))
      = tab (conv X w) := by
  refine eq_tab (m := 4096) (n := 3072) fun r x => ?_
  show Ideal.ofBits .f32 0x00000000#32 + down X 3 r.val x.val * w 0 x.val + down X 2 r.val x.val * w 1 x.val
    + down X 1 r.val x.val * w 2 x.val + X r.val x.val * w 3 x.val = _
  rw [Ideal.ofBits_zero_f32, zero_add]
  rfl

/-- The reference's logistic function of an array. -/
abbrev sigma (X : Wide.Idx → EReal) (hb : Point.BroadcastsInDim Wide ![]) : Wide.Idx → EReal :=
  Host.divf (F := Ideal) (φ := .f32) (broadcastInDim Wide ![] hb (constant Point .f32 0x3F800000#32))
    (addf (broadcastInDim Wide ![] hb (constant Point .f32 0x3F800000#32)) (Host.exp (Host.negf X)))

/-- The gradient before the gate, its slope's two terms apart. -/
theorem host_before (X w D : ℕ → ℕ → EReal) (hn : ∀ r x, r < 4096 → x < 3072 → Num (D r x)) (hb) :
    addf (F := Ideal) (φ := .f32) (mulf (F := Ideal) (φ := .f32) (tab D : Wide.Idx → EReal) (sigma (tab (conv X w)) hb))
        (mulf (F := Ideal) (φ := .f32) (mulf (F := Ideal) (φ := .f32) (tab (conv X w) : Wide.Idx → EReal) (tab D))
          (mulf (F := Ideal) (φ := .f32) (sigma (tab (conv X w)) hb)
            (subf (F := Ideal) (φ := .f32) (broadcastInDim Wide ![] hb (constant Point .f32 0x3F800000#32)) (sigma (tab (conv X w)) hb))))
      = tab (before X w D) := by
  have hs : sigma (tab (conv X w)) hb = fun i => logistic (tab (conv X w) i) := host_logistic Wide (tab (conv X w)) hb
  rw [hs]
  refine eq_tab (m := 4096) (n := 3072) fun r x => ?_
  show D r.val x.val * logistic (conv X w r.val x.val) + conv X w r.val x.val * D r.val x.val * (logistic (conv X w r.val x.val)
    * (Ideal.ofBits .f32 0x3F800000#32 - logistic (conv X w r.val x.val))) = _
  rw [Ideal.ofBits_one_f32, ← slope _ _ (hn r.val x.val r.isLt x.isLt)]
  rfl

theorem sliced (v : Tall.Idx → EReal) (h : Tall.Slices ![3, 0] Wide) (r : Fin 4096) (x : Fin 3072) :
    extractStridedSlice Wide ![3, 0] v h (ix2 r x) = v (ix2 (n0 := 4099) (n1 := 3072) ⟨3 + r.val, by omega⟩ x) := by
  pointwise

theorem up_mul (Y : ℕ → ℕ → EReal) (v : ℕ → EReal) (d r x : ℕ) : up (fun r x => Y r x * v x) d r x = up Y d r x * v x := by
  unfold up
  split_ifs
  · rfl
  · exact (zero_mul _).symm

/-- The gradient of the rows, from products filled up with zeros. -/
theorem host_rows (Y w : ℕ → ℕ → EReal) (p3 p2 p1 p0) (hu hs) :
    (extractStridedSlice Wide ![3, 0] (addf (F := Ideal) (φ := .f32) (addf (F := Ideal) (φ := .f32) (addf (F := Ideal) (φ := .f32)
        (pad Tall ![3, 0] ![0, 0] ![0, 0] (mulf (F := Ideal) (φ := .f32) (tab Y : Wide.Idx → EReal) (tab fun _ x => w 3 x)) nought p3 hu)
        (pad Tall ![2, 0] ![1, 0] ![0, 0] (mulf (F := Ideal) (φ := .f32) (tab Y : Wide.Idx → EReal) (tab fun _ x => w 2 x)) nought p2 hu))
        (pad Tall ![1, 0] ![2, 0] ![0, 0] (mulf (F := Ideal) (φ := .f32) (tab Y : Wide.Idx → EReal) (tab fun _ x => w 1 x)) nought p1 hu))
        (pad Tall ![0, 0] ![3, 0] ![0, 0] (mulf (F := Ideal) (φ := .f32) (tab Y : Wide.Idx → EReal) (tab fun _ x => w 0 x)) nought p0 hu) : Tall.Idx → EReal) hs : Wide.Idx → EReal)
      = tab (rows Y w) := by
  refine eq_tab (m := 4096) (n := 3072) fun r x => ?_
  have e := fun (k hi : ℕ) (hk : k ≤ 3) (j : ℕ) h => host_up (fun r x => Y r x * w j x) k hi hk r x h hu
  refine (sliced _ hs r x).trans ((congrArg₂ (· + ·) (congrArg₂ (· + ·) (congrArg₂ (· + ·) (e 3 0 (by decide) 3 p3) (e 2 1 (by decide) 2 p2))
    (e 1 2 (by decide) 1 p1)) (e 0 3 (by decide) 0 p0)).trans ?_)
  unfold rows
  rw [up_mul, up_mul, up_mul, up_mul, show up Y (3 - 3) r.val x.val = Y r.val x.val from if_pos r.isLt]
  show Y r.val x.val * w 3 x.val + up Y 1 r.val x.val * w 2 x.val + up Y 2 r.val x.val * w 1 x.val + up Y 3 r.val x.val * w 0 x.val = _
  abel

/-- The gradient of the weights, from its rows placed one by one. -/
theorem host_weights (X Y : ℕ → ℕ → EReal) (p3 p2 p1 p0) (hu) :
    addf (F := Ideal) (φ := .f32) (addf (F := Ideal) (φ := .f32) (addf (F := Ideal) (φ := .f32)
        (pad Rows4 ![3, 0] ![0, 0] ![0, 0] (tab fun _ x => weights X Y 3 x : Row.Idx → EReal) nought p3 hu)
        (pad Rows4 ![2, 0] ![1, 0] ![0, 0] (tab fun _ x => weights X Y 2 x : Row.Idx → EReal) nought p2 hu))
        (pad Rows4 ![1, 0] ![2, 0] ![0, 0] (tab fun _ x => weights X Y 1 x : Row.Idx → EReal) nought p1 hu))
        (pad Rows4 ![0, 0] ![3, 0] ![0, 0] (tab fun _ x => weights X Y 0 x : Row.Idx → EReal) nought p0 hu)
      = tab (weights X Y) := by
  refine eq_tab (m := 4) (n := 3072) fun j x => ?_
  refine (congrArg₂ (· + ·) (congrArg₂ (· + ·) (congrArg₂ (· + ·) (host_place _ 3 0 j x p3 hu) (host_place _ 2 1 j x p2 hu))
    (host_place _ 1 2 j x p1 hu)) (host_place _ 0 3 j x p0 hu)).trans ?_
  match j with
  | ⟨0, _⟩ => simp
  | ⟨1, _⟩ => simp
  | ⟨2, _⟩ => simp
  | ⟨3, _⟩ => simp

/-- Two arrays side by side, the second the last columns of a wider one. -/
theorem host_beside (Y : ℕ → ℕ → EReal) (Z : (Mat 4096 4096).Idx → EReal) (hc : Shape.Concatenates [Wide, Mat 4096 1024] (Mat 4096 4096) 1)
    (hs : (Mat 4096 4096).Slices ![0, 3072] (Mat 4096 1024)) :
    (concatenate (Mat 4096 4096) 1 [⟨Wide, (tab Y : Wide.Idx → EReal)⟩, ⟨Mat 4096 1024, extractStridedSlice (Mat 4096 1024) ![0, 3072] Z hs⟩] hc : (Mat 4096 4096).Idx → EReal)
      = tab fun r x => if x < 3072 then Y r x else cell Z r x := by
  refine eq_tab (m := 4096) (n := 4096) fun r x => ?_
  pointwise
  by_cases h : x.val < 3072
  · rw [dif_pos h, if_pos h]
    rfl
  · rw [dif_neg h]
    have e : cell Z r.val (3072 + (x.val - 3072)) = if x.val < 3072 then Y r.val x.val else cell Z r.val x.val := by
      rw [if_neg h, show 3072 + (x.val - 3072) = x.val by omega]
    have hx := x.isLt
    exact (cell_val (m := 4096) (n := 4096) Z r ⟨3072 + (x.val - 3072), by omega⟩).symm.trans e

/-- The first columns of the wider matrix. -/
theorem host_columns (v : (Mat 4096 4096).Idx → EReal) (h : (Mat 4096 4096).Slices ![0, 0] Wide) (hb) :
    (extf (F := Ideal) (φ := .bf16) .f32 (extractStridedSlice Wide ![0, 0] v h) hb : Wide.Idx → EReal) = tab (cell v) := by
  refine eq_tab (m := 4096) (n := 3072) fun r x => ?_
  pointwise
  exact (cell_val (m := 4096) (n := 4096) v r ⟨x.val, by omega⟩).symm

theorem host_round (v : Wide.Idx → EReal) (h) : truncf (F := Ideal) (φ := .f32) .bf16 v h = v := rfl

/-! ## The precondition says that the gradient that arrives is a number everywhere -/

/-- The precondition's shape facts. -/
instance finite_facts : Cert.Pre_finite_dqkv.Facts := by constructor <;> decide

instance : Subsingleton Cert.Pre_finite_dqkv.S_.Idx := ⟨fun a b => funext fun i => i.elim0⟩

theorem pre_entries [Cert.Pre_finite_dqkv.Facts] (p) (w) (v : Cube.Idx → EReal) (z)
    (h : Cert.Pre_finite_dqkv.fn (F := Ideal) p w v z = fun _ => 1#1) : ∀ i, Num (v i) := fun i => by
  refine OutDx.entry_num _ ?_
  rw [← OutDx.f32_inf]
  exact Host.reduce_andi_all _ _ _ _ _ (congrFun h fun i => i.elim0) i

/-! ## The claims -/

theorem frame_p : Cert.quiescent_Kernel27 := fun m g _ => Cert.Kernel27.Gen.frame m g
theorem frame_pi : Cert.quiescent_Kernel27Ideal := fun m g _ => Cert.Kernel27Ideal.Gen.frame m g
theorem frame_ri : Cert.quiescent_Reference27Ideal := fun m g _ =>
  (θ_run Cert.Reference27Ideal.defs _ _).mono (fun r h => ⟨fun c => (h c).2.2, sem_eq_zero_of_no_sems (by decide) r.2⟩)
    (Cert.Reference27Ideal.Value.run (F := Ideal) m g)

section Runs
variable [Cert.Pre_finite_dqkv.Facts]

theorem frame_pi_finite : Cert.quiescent_Kernel27Ideal_pre_finite_dqkv := fun m g _ => Cert.Kernel27Ideal.Gen.frame m g
theorem frame_ri_finite : Cert.quiescent_Reference27Ideal_pre_finite_dqkv := fun m g _ => frame_ri m g trivial

theorem algebraic : Cert.algebraic_Kernel27Ideal_Reference27Ideal_pre_finite_dqkv := by
  intro m g m' g' hpre hargs
  refine ⟨_, _, run_blocks m g, (θ_run Cert.Reference27Ideal.defs _ _).mono (fun r h c => ?_) (Cert.Reference27Ideal.Value.run (F := Ideal) m' g')⟩
  obtain ⟨hres, hres', hrest⟩ := h c
  obtain ⟨e0, e1, e2, e3⟩ := hargs c
  have hn := pre_entries _ _ _ _ (hpre c)
  have hn' : ∀ r x, r < 4096 → x < 3072 → Num (dx m c r x) := fun r x _ _ => hn _
  refine ⟨hres.trans (Eq.trans ?_ (result_rows m c).symm), hres'.trans (Eq.trans ?_ (result_weights m c).symm), hrest⟩
  · unfold Cert.Reference27Ideal.Value.res_main_v86
    rw [e0, e1, e2, e3, host_columns, host_down _ 0 (by decide), host_down _ 1 (by decide), host_down _ 2 (by decide), host_down _ 3 (by decide),
      host_row _ 0 (by decide), host_row _ 1 (by decide), host_row _ 2 (by decide), host_row _ 3 (by decide), host_conv (px m c) (wx m c),
      host_parts, host_before (px m c) (wx m c) (dx m c) hn', host_rows _ (wx m c), host_round, host_beside]
  · unfold Cert.Reference27Ideal.Value.res_main_v79
    rw [e0, e1, e2, host_columns, host_down _ 0 (by decide), host_down _ 1 (by decide), host_down _ 2 (by decide), host_down _ 3 (by decide),
      host_row _ 0 (by decide), host_row _ 1 (by decide), host_row _ 2 (by decide), host_row _ 3 (by decide), host_conv (px m c) (wx m c),
      host_parts, host_before (px m c) (wx m c) (dx m c) hn', host_summed _ _ 0, host_summed _ _ 1, host_summed _ _ 2, host_summed _ _ 3, host_weights]

end Runs

end Cert.Proof.ConvBwd

end
-- ==== Proof.lean ====
/-
  The claims, each proved in the modules this one imports: for every call the frames of its three programs, and the equality of the
  kernel's results with the reference's over the extended reals. The calls stand in the order of their programs' numbers; the first
  is the backward pass of the stick-breaking attention.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import proofs.«01_k».proof.Proof.Ffn.OutDx
public import proofs.«01_k».proof.Proof.Ffn.InDx
public import proofs.«01_k».proof.Proof.Ffn.InDw
public import proofs.«01_k».proof.Proof.Ffn.OutDw
public import proofs.«01_k».proof.Proof.Products.GdnInDx
public import proofs.«01_k».proof.Proof.Products.GdnInDw
public import proofs.«01_k».proof.Proof.Products.SquareDx
public import proofs.«01_k».proof.Proof.Products.SquareDxF32
public import proofs.«01_k».proof.Proof.Products.SquareDw
public import proofs.«01_k».proof.Proof.Products.SquareDwF32
public import proofs.«01_k».proof.Proof.Products.SbOutDx
public import proofs.«01_k».proof.Proof.Products.KvDx
public import proofs.«01_k».proof.Proof.Products.KvDw
public import proofs.«01_k».proof.Proof.Products.MixOut
public import proofs.«01_k».proof.Proof.Products.Kv
public import proofs.«01_k».proof.Proof.Products.Square
public import proofs.«01_k».proof.Proof.Ffn.In
public import proofs.«01_k».proof.Proof.Ffn.Out
public import proofs.«01_k».proof.Proof.Products.GdnIn
public import proofs.«01_k».proof.Proof.Products.PleGate
public import proofs.«01_k».proof.Proof.Products.PleLast
public import proofs.«01_k».proof.Proof.Products.PleProj
public import proofs.«01_k».proof.Proof.Products.PleProjDw
public import proofs.«01_k».proof.Proof.RmsBwd
public import proofs.«01_k».proof.Proof.PleBwd
public import proofs.«01_k».proof.Proof.ConvBwd
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Algebraic.finite_facts, OutDx.finite_facts, ConvBwd.finite_facts,
  Frames.frame_p, Frames.frame_pi, Algebraic.frame_pi_finite, Frames.frame_ri, Algebraic.frame_ri_finite,
  OutDx.frame_p, OutDx.frame_pi, OutDx.frame_pi_finite, OutDx.frame_ri, OutDx.frame_ri_finite,
  InDx.frame_p, InDx.frame_pi, InDx.frame_ri,
  InDw.frame_p, InDw.frame_pi, InDw.frame_ri,
  OutDw.frame_p, OutDw.frame_pi, OutDw.frame_ri,
  GdnInDx.frame_p, GdnInDx.frame_pi, GdnInDx.frame_ri,
  GdnInDw.frame_p, GdnInDw.frame_pi, GdnInDw.frame_ri,
  SquareDx.frame_p, SquareDx.frame_pi, SquareDx.frame_ri,
  SquareDxF32.frame_p, SquareDxF32.frame_pi, SquareDxF32.frame_ri,
  SquareDw.frame_p, SquareDw.frame_pi, SquareDw.frame_ri,
  SquareDwF32.frame_p, SquareDwF32.frame_pi, SquareDwF32.frame_ri,
  SbOutDx.frame_p, SbOutDx.frame_pi, SbOutDx.frame_ri,
  KvDx.frame_p, KvDx.frame_pi, KvDx.frame_ri,
  KvDw.frame_p, KvDw.frame_pi, KvDw.frame_ri,
  MixOut.frame_p, MixOut.frame_pi, MixOut.frame_ri,
  Kv.frame_p, Kv.frame_pi, Kv.frame_ri,
  Square.frame_p, Square.frame_pi, Square.frame_ri,
  In.frame_p, In.frame_pi, In.frame_ri,
  Out.frame_p, Out.frame_pi, Out.frame_ri,
  GdnIn.frame_p, GdnIn.frame_pi, GdnIn.frame_ri,
  PleGate.frame_p, PleGate.frame_pi, PleGate.frame_ri,
  PleLast.frame_p, PleLast.frame_pi, PleLast.frame_ri,
  PleProj.frame_p, PleProj.frame_pi, PleProj.frame_ri,
  PleProjDw.frame_p, PleProjDw.frame_pi, PleProjDw.frame_ri,
  RmsBwd.frame_p, RmsBwd.frame_pi, RmsBwd.frame_ri,
  PleBwd.frame_p, PleBwd.frame_pi, PleBwd.frame_ri,
  ConvBwd.frame_p, ConvBwd.frame_pi, ConvBwd.frame_pi_finite, ConvBwd.frame_ri, ConvBwd.frame_ri_finite,
  Frames.preserves, Algebraic.algebraic,
  trivial, OutDx.algebraic,
  trivial, InDx.algebraic,
  trivial, InDw.algebraic,
  trivial, OutDw.algebraic,
  trivial, GdnInDx.algebraic,
  trivial, GdnInDw.algebraic,
  trivial, SquareDx.algebraic,
  trivial, SquareDxF32.algebraic,
  trivial, SquareDw.algebraic,
  trivial, SquareDwF32.algebraic,
  trivial, SbOutDx.algebraic,
  trivial, KvDx.algebraic,
  trivial, KvDw.algebraic,
  trivial, MixOut.algebraic,
  trivial, Kv.algebraic,
  trivial, Square.algebraic,
  trivial, In.algebraic,
  trivial, Out.algebraic,
  trivial, GdnIn.algebraic,
  trivial, PleGate.algebraic,
  trivial, PleLast.algebraic,
  trivial, PleProj.algebraic,
  trivial, PleProjDw.algebraic,
  trivial, RmsBwd.algebraic,
  trivial, PleBwd.algebraic,
  trivial, ConvBwd.algebraic⟩

end Cert.Proof

end
